-- ==== Defs.lean ====
def Pre_Kernel [hPre_triangle : Cert.Pre_triangle.Facts] (m : (ℓ : Loc Cert.Kernel.nD Cert.Kernel.τ Cert.Kernel.sig) → Buf (Elt Bits) ℓ) : Prop :=
  ∀ c : Dev Cert.Kernel.nD,
    (Cert.Pre_triangle.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_triangle : Cert.Pre_triangle.Facts] (m : (ℓ : Loc Cert.KernelIdeal.nD Cert.KernelIdeal.τ Cert.KernelIdeal.sig) → Buf (Elt Ideal) ℓ) : Prop :=
  ∀ c : Dev Cert.KernelIdeal.nD,
    (Cert.Pre_triangle.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_triangle_finite [hPre_triangle_finite : Cert.Pre_triangle_finite.Facts] (m : (ℓ : Loc Cert.KernelIdeal.nD Cert.KernelIdeal.τ Cert.KernelIdeal.sig) → Buf (Elt Ideal) ℓ) : Prop :=
  ∀ c : Dev Cert.KernelIdeal.nD,
    (Cert.Pre_triangle_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_triangle_finite [hPre_triangle_finite : Cert.Pre_triangle_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_triangle_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def Pre_Values (m : (ℓ : Loc Cert.Values.nD Cert.Values.τ Cert.Values.sig) → Buf (Elt Bits) ℓ) : Prop :=
  True

def Pre_ValuesIdeal (m : (ℓ : Loc Cert.ValuesIdeal.nD Cert.ValuesIdeal.τ Cert.ValuesIdeal.sig) → Buf (Elt Ideal) ℓ) : Prop :=
  True

def Pre_ValuesRefIdeal (m : (ℓ : Loc Cert.ValuesRefIdeal.nD Cert.ValuesRefIdeal.τ Cert.ValuesRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_out_finite [hPre_out_finite : Cert.Pre_out_finite.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_out_finite.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_out_finite [hPre_out_finite : Cert.Pre_out_finite.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_out_finite.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10))) = (fun _ => 1#1)

def quiescent_Kernel [hKernel : Cert.Kernel.Facts] [hPre_triangle : Cert.Pre_triangle.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_triangle : Cert.Pre_triangle.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_triangle_finite [hKernelIdeal : Cert.KernelIdeal.Facts] [hPre_triangle_finite : Cert.Pre_triangle_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_triangle_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_triangle_finite [hReferenceIdeal : Cert.ReferenceIdeal.Facts] [hPre_triangle_finite : Cert.Pre_triangle_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_triangle_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1))
      ∧ r.2.sem = fun _ => 0)

def quiescent_Values [hValues : Cert.Values.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjIdeal_pre_out_finite [hOutProjIdeal : Cert.OutProjIdeal.Facts] [hPre_out_finite : Cert.Pre_out_finite.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_out_finite m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_OutProjRefIdeal_pre_out_finite [hOutProjRefIdeal : Cert.OutProjRefIdeal.Facts] [hPre_out_finite : Cert.Pre_out_finite.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_out_finite m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10))
      ∧ r.2.sem = fun _ => 0)

def preserves_Kernel_KernelIdeal : Prop :=
  True

def algebraic_KernelIdeal_ReferenceIdeal_pre_triangle_finite [hKernelIdeal : Cert.KernelIdeal.Facts] [hReferenceIdeal : Cert.ReferenceIdeal.Facts] [hPre_triangle_finite : Cert.Pre_triangle_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_triangle_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Rwkv_RwkvIdeal : Prop :=
  True

def algebraic_RwkvIdeal_RwkvRefIdeal [hRwkvIdeal : Cert.RwkvIdeal.Facts] [hRwkvRefIdeal : Cert.RwkvRefIdeal.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)) →
    ∃ (v0 : (c : Dev Cert.RwkvIdeal.nD) → Buf (Elt Ideal) ((c.tc : Thread Cert.RwkvIdeal.nD Cert.RwkvIdeal.τ).loc Cert.RwkvIdeal.main_v3)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v3) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v4) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1))

def preserves_Values_ValuesIdeal : Prop :=
  True

def algebraic_ValuesIdeal_ValuesRefIdeal [hValuesIdeal : Cert.ValuesIdeal.Facts] [hValuesRefIdeal : Cert.ValuesRefIdeal.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)) →
    ∃ (v0 : (c : Dev Cert.ValuesIdeal.nD) → Buf (Elt Ideal) ((c.tc : Thread Cert.ValuesIdeal.nD Cert.ValuesIdeal.τ).loc Cert.ValuesIdeal.main_v3)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          r.2.mem ((c.tc : Thread Cert.ValuesRefIdeal.nD Cert.ValuesRefIdeal.τ).loc Cert.ValuesRefIdeal.main_v9) = v0 c
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v14)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v14) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v78) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_OutProj_OutProjIdeal : Prop :=
  True

def algebraic_OutProjIdeal_OutProjRefIdeal_pre_out_finite [hOutProjIdeal : Cert.OutProjIdeal.Facts] [hOutProjRefIdeal : Cert.OutProjRefIdeal.Facts] [hPre_out_finite : Cert.Pre_out_finite.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_out_finite m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v9_0)) (v1 : (c : Dev Cert.OutProjIdeal.nD) → Buf (Elt Ideal) ((c.tc : Thread Cert.OutProjIdeal.nD Cert.OutProjIdeal.τ).loc Cert.OutProjIdeal.main_v9_1)) (v2 : (c : Dev Cert.OutProjIdeal.nD) → Buf (Elt Ideal) ((c.tc : Thread Cert.OutProjIdeal.nD Cert.OutProjIdeal.τ).loc Cert.OutProjIdeal.main_v9_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9_0) = v0 c
          ∧ r.2.mem ((c.tc : Thread Cert.OutProjIdeal.nD Cert.OutProjIdeal.τ).loc Cert.OutProjIdeal.main_v9_1) = v1 c
          ∧ r.2.mem ((c.tc : Thread Cert.OutProjIdeal.nD Cert.OutProjIdeal.τ).loc Cert.OutProjIdeal.main_v9_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v28) = v0 c
          ∧ r.2.mem ((c.tc : Thread Cert.OutProjRefIdeal.nD Cert.OutProjRefIdeal.τ).loc Cert.OutProjRefIdeal.main_v29) = v1 c
          ∧ r.2.mem ((c.tc : Thread Cert.OutProjRefIdeal.nD Cert.OutProjRefIdeal.τ).loc Cert.OutProjRefIdeal.main_v30) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v21) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v5)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v5) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v32) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)) →
    ∃ (v0 : (c : Dev Cert.PrepIdeal.nD) → Buf (Elt Ideal) ((c.tc : Thread Cert.PrepIdeal.nD Cert.PrepIdeal.τ).loc Cert.PrepIdeal.main_v27_0)) (v1 : (c : Dev Cert.PrepIdeal.nD) → Buf (Elt Ideal) ((c.tc : Thread Cert.PrepIdeal.nD Cert.PrepIdeal.τ).loc Cert.PrepIdeal.main_v27_1)) (v2 : (c : Dev Cert.PrepIdeal.nD) → Buf (Elt Ideal) ((c.tc : Thread Cert.PrepIdeal.nD Cert.PrepIdeal.τ).loc Cert.PrepIdeal.main_v27_2)) (v3 : (c : Dev Cert.PrepIdeal.nD) → Buf (Elt Ideal) ((c.tc : Thread Cert.PrepIdeal.nD Cert.PrepIdeal.τ).loc Cert.PrepIdeal.main_v27_3)) (v4 : (c : Dev Cert.PrepIdeal.nD) → Buf (Elt Ideal) ((c.tc : Thread Cert.PrepIdeal.nD Cert.PrepIdeal.τ).loc Cert.PrepIdeal.main_v27_4)) (v5 : (c : Dev Cert.PrepIdeal.nD) → Buf (Elt Ideal) ((c.tc : Thread Cert.PrepIdeal.nD Cert.PrepIdeal.τ).loc Cert.PrepIdeal.main_v27_5)) (v6 : (c : Dev Cert.PrepIdeal.nD) → Buf (Elt Ideal) ((c.tc : Thread Cert.PrepIdeal.nD Cert.PrepIdeal.τ).loc Cert.PrepIdeal.main_v27_6)) (v7 : (c : Dev Cert.PrepIdeal.nD) → Buf (Elt Ideal) ((c.tc : Thread Cert.PrepIdeal.nD Cert.PrepIdeal.τ).loc Cert.PrepIdeal.main_v27_7)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v27_0) = v0 c
          ∧ r.2.mem ((c.tc : Thread Cert.PrepIdeal.nD Cert.PrepIdeal.τ).loc Cert.PrepIdeal.main_v27_1) = v1 c
          ∧ r.2.mem ((c.tc : Thread Cert.PrepIdeal.nD Cert.PrepIdeal.τ).loc Cert.PrepIdeal.main_v27_2) = v2 c
          ∧ r.2.mem ((c.tc : Thread Cert.PrepIdeal.nD Cert.PrepIdeal.τ).loc Cert.PrepIdeal.main_v27_3) = v3 c
          ∧ r.2.mem ((c.tc : Thread Cert.PrepIdeal.nD Cert.PrepIdeal.τ).loc Cert.PrepIdeal.main_v27_4) = v4 c
          ∧ r.2.mem ((c.tc : Thread Cert.PrepIdeal.nD Cert.PrepIdeal.τ).loc Cert.PrepIdeal.main_v27_5) = v5 c
          ∧ r.2.mem ((c.tc : Thread Cert.PrepIdeal.nD Cert.PrepIdeal.τ).loc Cert.PrepIdeal.main_v27_6) = v6 c
          ∧ r.2.mem ((c.tc : Thread Cert.PrepIdeal.nD Cert.PrepIdeal.τ).loc Cert.PrepIdeal.main_v27_7) = v7 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v85) = v0 c
          ∧ r.2.mem ((c.tc : Thread Cert.PrepRefIdeal.nD Cert.PrepRefIdeal.τ).loc Cert.PrepRefIdeal.main_v86) = v1 c
          ∧ r.2.mem ((c.tc : Thread Cert.PrepRefIdeal.nD Cert.PrepRefIdeal.τ).loc Cert.PrepRefIdeal.main_v87) = v2 c
          ∧ r.2.mem ((c.tc : Thread Cert.PrepRefIdeal.nD Cert.PrepRefIdeal.τ).loc Cert.PrepRefIdeal.main_v88) = v3 c
          ∧ r.2.mem ((c.tc : Thread Cert.PrepRefIdeal.nD Cert.PrepRefIdeal.τ).loc Cert.PrepRefIdeal.main_v90) = v4 c
          ∧ r.2.mem ((c.tc : Thread Cert.PrepRefIdeal.nD Cert.PrepRefIdeal.τ).loc Cert.PrepRefIdeal.main_v92) = v5 c
          ∧ r.2.mem ((c.tc : Thread Cert.PrepRefIdeal.nD Cert.PrepRefIdeal.τ).loc Cert.PrepRefIdeal.main_v93) = v6 c
          ∧ r.2.mem ((c.tc : Thread Cert.PrepRefIdeal.nD Cert.PrepRefIdeal.τ).loc Cert.PrepRefIdeal.main_v94) = v7 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10))

def Claim : Prop :=
  ∃ (hKernel : Cert.Kernel.Facts) (hKernelIdeal : Cert.KernelIdeal.Facts) (hReferenceIdeal : Cert.ReferenceIdeal.Facts) (hGate : Cert.Gate.Facts) (hGateIdeal : Cert.GateIdeal.Facts) (hGateRefIdeal : Cert.GateRefIdeal.Facts) (hRwkv : Cert.Rwkv.Facts) (hRwkvIdeal : Cert.RwkvIdeal.Facts) (hRwkvRefIdeal : Cert.RwkvRefIdeal.Facts) (hValues : Cert.Values.Facts) (hValuesIdeal : Cert.ValuesIdeal.Facts) (hValuesRefIdeal : Cert.ValuesRefIdeal.Facts) (hMerge : Cert.Merge.Facts) (hMergeIdeal : Cert.MergeIdeal.Facts) (hMergeRefIdeal : Cert.MergeRefIdeal.Facts) (hRope : Cert.Rope.Facts) (hRopeIdeal : Cert.RopeIdeal.Facts) (hRopeRefIdeal : Cert.RopeRefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hAda : Cert.Ada.Facts) (hAdaIdeal : Cert.AdaIdeal.Facts) (hAdaRefIdeal : Cert.AdaRefIdeal.Facts) (hPost : Cert.Post.Facts) (hPostIdeal : Cert.PostIdeal.Facts) (hPostRefIdeal : Cert.PostRefIdeal.Facts) (hPrep : Cert.Prep.Facts) (hPrepIdeal : Cert.PrepIdeal.Facts) (hPrepRefIdeal : Cert.PrepRefIdeal.Facts) (hPre_triangle : Cert.Pre_triangle.Facts) (hPre_triangle_finite : Cert.Pre_triangle_finite.Facts) (hPre_out_finite : Cert.Pre_out_finite.Facts) (hPre_prep_finite : Cert.Pre_prep_finite.Facts),
    quiescent_Kernel (hKernel := hKernel) (hPre_triangle := hPre_triangle)
    ∧ quiescent_KernelIdeal (hKernelIdeal := hKernelIdeal) (hPre_triangle := hPre_triangle)
    ∧ quiescent_KernelIdeal_pre_triangle_finite (hKernelIdeal := hKernelIdeal) (hPre_triangle_finite := hPre_triangle_finite)
    ∧ quiescent_ReferenceIdeal (hReferenceIdeal := hReferenceIdeal)
    ∧ quiescent_ReferenceIdeal_pre_triangle_finite (hReferenceIdeal := hReferenceIdeal) (hPre_triangle_finite := hPre_triangle_finite)
    ∧ quiescent_Gate (hGate := hGate)
    ∧ quiescent_GateIdeal (hGateIdeal := hGateIdeal)
    ∧ quiescent_GateRefIdeal (hGateRefIdeal := hGateRefIdeal)
    ∧ quiescent_Rwkv (hRwkv := hRwkv)
    ∧ quiescent_RwkvIdeal (hRwkvIdeal := hRwkvIdeal)
    ∧ quiescent_RwkvRefIdeal (hRwkvRefIdeal := hRwkvRefIdeal)
    ∧ quiescent_Values (hValues := hValues)
    ∧ quiescent_ValuesIdeal (hValuesIdeal := hValuesIdeal)
    ∧ quiescent_ValuesRefIdeal (hValuesRefIdeal := hValuesRefIdeal)
    ∧ quiescent_Merge (hMerge := hMerge)
    ∧ quiescent_MergeIdeal (hMergeIdeal := hMergeIdeal)
    ∧ quiescent_MergeRefIdeal (hMergeRefIdeal := hMergeRefIdeal)
    ∧ quiescent_Rope (hRope := hRope)
    ∧ quiescent_RopeIdeal (hRopeIdeal := hRopeIdeal)
    ∧ quiescent_RopeRefIdeal (hRopeRefIdeal := hRopeRefIdeal)
    ∧ quiescent_OutProj (hOutProj := hOutProj)
    ∧ quiescent_OutProjIdeal (hOutProjIdeal := hOutProjIdeal)
    ∧ quiescent_OutProjIdeal_pre_out_finite (hOutProjIdeal := hOutProjIdeal) (hPre_out_finite := hPre_out_finite)
    ∧ quiescent_OutProjRefIdeal (hOutProjRefIdeal := hOutProjRefIdeal)
    ∧ quiescent_OutProjRefIdeal_pre_out_finite (hOutProjRefIdeal := hOutProjRefIdeal) (hPre_out_finite := hPre_out_finite)
    ∧ quiescent_Norm (hNorm := hNorm)
    ∧ quiescent_NormIdeal (hNormIdeal := hNormIdeal)
    ∧ quiescent_NormRefIdeal (hNormRefIdeal := hNormRefIdeal)
    ∧ quiescent_Ada (hAda := hAda)
    ∧ quiescent_AdaIdeal (hAdaIdeal := hAdaIdeal)
    ∧ quiescent_AdaRefIdeal (hAdaRefIdeal := hAdaRefIdeal)
    ∧ quiescent_Post (hPost := hPost)
    ∧ quiescent_PostIdeal (hPostIdeal := hPostIdeal)
    ∧ quiescent_PostRefIdeal (hPostRefIdeal := hPostRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ preserves_Kernel_KernelIdeal
    ∧ algebraic_KernelIdeal_ReferenceIdeal_pre_triangle_finite (hKernelIdeal := hKernelIdeal) (hReferenceIdeal := hReferenceIdeal) (hPre_triangle_finite := hPre_triangle_finite)
    ∧ preserves_Gate_GateIdeal
    ∧ algebraic_GateIdeal_GateRefIdeal (hGateIdeal := hGateIdeal) (hGateRefIdeal := hGateRefIdeal)
    ∧ preserves_Rwkv_RwkvIdeal
    ∧ algebraic_RwkvIdeal_RwkvRefIdeal (hRwkvIdeal := hRwkvIdeal) (hRwkvRefIdeal := hRwkvRefIdeal)
    ∧ preserves_Values_ValuesIdeal
    ∧ algebraic_ValuesIdeal_ValuesRefIdeal (hValuesIdeal := hValuesIdeal) (hValuesRefIdeal := hValuesRefIdeal)
    ∧ preserves_Merge_MergeIdeal
    ∧ algebraic_MergeIdeal_MergeRefIdeal (hMergeIdeal := hMergeIdeal) (hMergeRefIdeal := hMergeRefIdeal)
    ∧ preserves_Rope_RopeIdeal
    ∧ algebraic_RopeIdeal_RopeRefIdeal (hRopeIdeal := hRopeIdeal) (hRopeRefIdeal := hRopeRefIdeal)
    ∧ preserves_OutProj_OutProjIdeal
    ∧ algebraic_OutProjIdeal_OutProjRefIdeal_pre_out_finite (hOutProjIdeal := hOutProjIdeal) (hOutProjRefIdeal := hOutProjRefIdeal) (hPre_out_finite := hPre_out_finite)
    ∧ preserves_Norm_NormIdeal
    ∧ algebraic_NormIdeal_NormRefIdeal (hNormIdeal := hNormIdeal) (hNormRefIdeal := hNormRefIdeal)
    ∧ preserves_Ada_AdaIdeal
    ∧ algebraic_AdaIdeal_AdaRefIdeal (hAdaIdeal := hAdaIdeal) (hAdaRefIdeal := hAdaRefIdeal)
    ∧ preserves_Post_PostIdeal
    ∧ algebraic_PostIdeal_PostRefIdeal (hPostIdeal := hPostIdeal) (hPostRefIdeal := hPostRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
-- ==== Pre_out_finite.lean ====
abbrev S8192x2048 : Shape := ⟨2, ![8192, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S1x2048x2048 : Shape := ⟨3, ![1, 2048, 2048]⟩
abbrev S2048x128 : Shape := ⟨2, ![2048, 128]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S2x1x2048 : S_.BroadcastsInDim S2x1x2048 (![] : Fin 0 → Fin S2x1x2048.rank)
  reducesTo_S2x1x2048_S_d0_1_2 : S2x1x2048.ReducesTo [0, 1, 2] S_
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S8192x2048 .bf16) (main_arg1 : FVec F S2x4096x2048 .f32) (main_arg2 : FVec F S2x1x2048 .f32) (main_arg3 : FVec F S1x2048 .f32) (main_arg4 : FVec F S2x1x2048 .f32) (main_arg5 : FVec F S2x1x2048 .f32) (main_arg6 : FVec F S1x2048x2048 .f32) (main_arg7 : FVec F S2048x128 .f32) : IVec S_ 1 :=
  let main_v0 : FVec F S1x2048 .f32 := Host.absf main_arg3
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S2x1x2048 .f32 := Host.absf main_arg4
  let main_cst_0 : FVec F S_ .f32 := constant S_ .f32 0x7F800000#32
  let main_v5 : FVec F S2x1x2048 .f32 := broadcastInDim S2x1x2048 ![] bcast_S_S2x1x2048 main_cst_0
  let main_v6 : IVec S2x1x2048 1 := cmpf .olt main_v4 main_v5
  let main_c_1 : IVec S_ 1 := constantI S_ 1 1#1
  let main_v7 : IVec S_ 1 := (fun x v => Host.reduce IntOp.andi x v reducesTo_S2x1x2048_S_d0_1_2 h_S_) main_v6 main_c_1
  let main_v8 : IVec S_ 1 := andi main_v3 main_v7
  let main_v9 : FVec F S2x1x2048 .f32 := Host.absf main_arg5
  let main_cst_2 : FVec F S_ .f32 := constant S_ .f32 0x7F800000#32
  let main_v10 : FVec F S2x1x2048 .f32 := broadcastInDim S2x1x2048 ![] bcast_S_S2x1x2048 main_cst_2
  let main_v11 : IVec S2x1x2048 1 := cmpf .olt main_v9 main_v10
  let main_c_3 : IVec S_ 1 := constantI S_ 1 1#1
  let main_v12 : IVec S_ 1 := (fun x v => Host.reduce IntOp.andi x v reducesTo_S2x1x2048_S_d0_1_2 h_S_) main_v11 main_c_3
  let main_v13 : IVec S_ 1 := andi main_v8 main_v12
  let main_v14 : FVec F S2048x128 .f32 := Host.absf main_arg7
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Pre_prep_finite.lean ====
abbrev S8192x3328 : Shape := ⟨2, ![8192, 3328]⟩
abbrev S1x3328 : Shape := ⟨2, ![1, 3328]⟩
abbrev S1x1024 : Shape := ⟨2, ![1, 1024]⟩
abbrev S1x64x1024 : Shape := ⟨3, ![1, 64, 1024]⟩
abbrev S1x128x1024 : Shape := ⟨3, ![1, 128, 1024]⟩
abbrev S1x16x64 : Shape := ⟨3, ![1, 16, 64]⟩
abbrev S_ : Shape := ⟨0, ![]⟩
abbrev S8192x2048 : Shape := ⟨2, ![8192, 2048]⟩
abbrev S1x2048 : Shape := ⟨2, ![1, 2048]⟩

class Facts : Prop where
  reducesTo_S8192x3328_S_d0_1 : S8192x3328.ReducesTo [0, 1] S_
  h_S_ : 0 < S_.numel
  slices_S8192x3328_S8192x2048_0_0 : S8192x3328.Slices ![0, 0] S8192x2048
  bcast_S_S8192x2048 : S_.BroadcastsInDim S8192x2048 (![] : Fin 0 → Fin S8192x2048.rank)
  reducesTo_S8192x2048_S_d0_1 : S8192x2048.ReducesTo [0, 1] S_
  slices_S1x3328_S1x2048_0_0 : S1x3328.Slices ![0, 0] S1x2048
  bcast_S_S1x2048 : S_.BroadcastsInDim S1x2048 (![] : Fin 0 → Fin S1x2048.rank)
  reducesTo_S1x2048_S_d0_1 : S1x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x16x64 : S_.BroadcastsInDim S1x16x64 (![] : Fin 0 → Fin S1x16x64.rank)
  reducesTo_S1x16x64_S_d0_1_2 : S1x16x64.ReducesTo [0, 1, 2] S_

variable [Facts]

def fn_part1 {F : FTy → Type} [FloatOps F] (main_arg9 : FVec F S1x1024 .f32) (main_arg10 : FVec F S1x16x64 .f32) (main_v13 : IVec S_ 1) (main_v16 : IVec S1x1024 1) (main_c_4 : IVec S_ 1) : IVec S_ 1 :=
  let main_v17 : IVec S_ 1 := (fun x v => Host.reduce IntOp.andi x v reducesTo_S1x1024_S_d0_1 h_S_) main_v16 main_c_4
  let main_v18 : IVec S_ 1 := andi main_v13 main_v17
  let main_v19 : FVec F S1x1024 .f32 := Host.absf main_arg9
  let main_cst_5 : FVec F S_ .f32 := constant S_ .f32 0x7F800000#32
  let main_v20 : FVec F S1x1024 .f32 := broadcastInDim S1x1024 ![] bcast_S_S1x1024 main_cst_5
  let main_v21 : IVec S1x1024 1 := cmpf .olt main_v19 main_v20
  let main_c_6 : IVec S_ 1 := constantI S_ 1 1#1
  let main_v22 : IVec S_ 1 := (fun x v => Host.reduce IntOp.andi x v reducesTo_S1x1024_S_d0_1 h_S_) main_v21 main_c_6
  let main_v23 : IVec S_ 1 := andi main_v18 main_v22
  let main_v24 : FVec F S1x16x64 .f32 := Host.absf main_arg10
  let main_cst_7 : FVec F S_ .f32 := constant S_ .f32 0x7F800000#32
  let main_v25 : FVec F S1x16x64 .f32 := broadcastInDim S1x16x64 ![] bcast_S_S1x16x64 main_cst_7
  let main_v26 : IVec S1x16x64 1 := cmpf .olt main_v24 main_v25
  let main_c_8 : IVec S_ 1 := constantI S_ 1 1#1
  let main_v27 : IVec S_ 1 := (fun x v => Host.reduce IntOp.andi x v reducesTo_S1x16x64_S_d0_1_2 h_S_) main_v26 main_c_8
  let main_v28 : IVec S_ 1 := andi main_v23 main_v27
  main_v28

def fn {F : FTy → Type} [FloatOps F] (main_arg0 : FVec F S8192x3328 .f32) (main_arg1 : FVec F S8192x3328 .f32) (main_arg2 : FVec F S1x3328 .f32) (main_arg3 : FVec F S1x1024 .f32) (main_arg4 : FVec F S1x64x1024 .f32) (main_arg5 : FVec F S1x1024 .f32) (main_arg6 : FVec F S1x64x1024 .f32) (main_arg7 : FVec F S1x128x1024 .f32) (main_arg8 : FVec F S1x1024 .f32) (main_arg9 : FVec F S1x1024 .f32) (main_arg10 : FVec F S1x16x64 .f32) : IVec S_ 1 :=
  let main_v0 : IVec S8192x3328 1 := cmpf .oeq main_arg0 main_arg1
  let main_c : IVec S_ 1 := constantI S_ 1 1#1
  let main_v1 : IVec S_ 1 := (fun x v => Host.reduce IntOp.andi x v reducesTo_S8192x3328_S_d0_1 h_S_) main_v0 main_c
  let main_v2 : FVec F S8192x2048 .f32 := (extractStridedSlice S8192x2048 ![0, 0] · slices_S8192x3328_S8192x2048_0_0) main_arg0
  let main_v3 : FVec F S8192x2048 .f32 := Host.absf main_v2
  let main_cst : FVec F S_ .f32 := constant S_ .f32 0x7F800000#32
  let main_v4 : FVec F S8192x2048 .f32 := broadcastInDim S8192x2048 ![] bcast_S_S8192x2048 main_cst
  let main_v5 : IVec S8192x2048 1 := cmpf .olt main_v3 main_v4
  let main_c_0 : IVec S_ 1 := constantI S_ 1 1#1
  let main_v6 : IVec S_ 1 := (fun x v => Host.reduce IntOp.andi x v reducesTo_S8192x2048_S_d0_1 h_S_) main_v5 main_c_0
  let main_v7 : IVec S_ 1 := andi main_v1 main_v6
  let main_v8 : FVec F S1x2048 .f32 := (extractStridedSlice S1x2048 ![0, 0] · slices_S1x3328_S1x2048_0_0) main_arg2
  let main_v9 : FVec F S1x2048 .f32 := Host.absf main_v8
  let main_cst_1 : FVec F S_ .f32 := constant S_ .f32 0x7F800000#32
  let main_v10 : FVec F S1x2048 .f32 := broadcastInDim S1x2048 ![] bcast_S_S1x2048 main_cst_1
  let main_v11 : IVec S1x2048 1 := cmpf .olt main_v9 main_v10
  let main_c_2 : IVec S_ 1 := constantI S_ 1 1#1
  let main_v12 : IVec S_ 1 := (fun x v => Host.reduce IntOp.andi x v reducesTo_S1x2048_S_d0_1 h_S_) main_v11 main_c_2
  let main_v13 : IVec S_ 1 := andi main_v7 main_v12
  let main_v14 : FVec F S1x1024 .f32 := Host.absf main_arg8
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_c_4 : IVec S_ 1 := constantI S_ 1 1#1
  fn_part1 (F := F) main_arg9 main_arg10 main_v13 main_v16 main_c_4
-- ==== Pre_triangle.lean ====
abbrev S36 : Shape := ⟨1, ![36]⟩
abbrev S2x4096x2048 : Shape := ⟨3, ![2, 4096, 2048]⟩
abbrev S2x4096x1024 : Shape := ⟨3, ![2, 4096, 1024]⟩
abbrev S1x64 : Shape := ⟨2, ![1, 64]⟩
abbrev S1x128 : Shape := ⟨2, ![1, 128]⟩
abbrev S_ : Shape := ⟨0, ![]⟩

class Facts : Prop where
  bcast_S_S36 : S_.BroadcastsInDim S36 (![] : Fin 0 → Fin S36.rank)

variable [Facts]

def fn_part2 {F : FTy → Type} [FloatOps F] (main_arg0 : IVec S36 32) (main_arg1 : IVec S36 32) (main_v0 : IVec S36 32) (main_v3 : IVec S36 32) (main_v32 : IVec S36 32) (main_v35 : IVec S36 32) : IVec S36 1 :=
  let main_v36 : IVec S36 32 := Host.divsi main_v35 main_v3
  let main_v37 : IVec S36 32 := subi main_v0 main_v36
  let main_v38 : IVec S36 1 := cmpi .eq main_arg0 main_v32
  let main_v39 : IVec S36 1 := cmpi .eq main_arg1 main_v37
  let main_v40 : IVec S36 1 := andi main_v38 main_v39
  main_v40

def fn_part1 {F : FTy → Type} [FloatOps F] (main_arg0 : IVec S36 32) (main_arg1 : IVec S36 32) (main_v0 : IVec S36 32) (main_v1 : IVec S36 32) (main_v2 : IVec S36 32) (main_v3 : IVec S36 32) (main_v16 : IVec S36 32) : IVec S36 1 :=
  let main_c_6 : IVec S_ 32 := constantI S_ 32 10#32
  let main_v17 : IVec S36 32 := broadcastInDim S36 ![] bcast_S_S36 main_c_6
  let main_v18 : IVec S36 1 := cmpi .sge main_v0 main_v17
  let main_v19 : IVec S36 32 := select main_v18 main_v1 main_v2
  let main_v20 : IVec S36 32 := addi main_v16 main_v19
  let main_c_7 : IVec S_ 32 := constantI S_ 32 15#32
  let main_v21 : IVec S36 32 := broadcastInDim S36 ![] bcast_S_S36 main_c_7
  let main_v22 : IVec S36 1 := cmpi .sge main_v0 main_v21
  let main_v23 : IVec S36 32 := select main_v22 main_v1 main_v2
  let main_v24 : IVec S36 32 := addi main_v20 main_v23
  let main_c_8 : IVec S_ 32 := constantI S_ 32 21#32
  let main_v25 : IVec S36 32 := broadcastInDim S36 ![] bcast_S_S36 main_c_8
  let main_v26 : IVec S36 1 := cmpi .sge main_v0 main_v25
  let main_v27 : IVec S36 32 := select main_v26 main_v1 main_v2
  let main_v28 : IVec S36 32 := addi main_v24 main_v27
  let main_c_9 : IVec S_ 32 := constantI S_ 32 28#32
  let main_v29 : IVec S36 32 := broadcastInDim S36 ![] bcast_S_S36 main_c_9
  let main_v30 : IVec S36 1 := cmpi .sge main_v0 main_v29
  let main_v31 : IVec S36 32 := select main_v30 main_v1 main_v2
  let main_v32 : IVec S36 32 := addi main_v28 main_v31
  let main_c_10 : IVec S_ 32 := constantI S_ 32 1#32
  let main_v33 : IVec S36 32 := broadcastInDim S36 ![] bcast_S_S36 main_c_10
  let main_v34 : IVec S36 32 := addi main_v32 main_v33
  let main_v35 : IVec S36 32 := muli main_v32 main_v34
  fn_part2 (F := F) main_arg0 main_arg1 main_v0 main_v3 main_v32 main_v35

def fn {F : FTy → Type} [FloatOps F] (main_arg0 : IVec S36 32) (main_arg1 : IVec S36 32) (main_arg2 : FVec F S2x4096x2048 .bf16) (main_arg3 : FVec F S2x4096x2048 .bf16) (main_arg4 : FVec F S2x4096x1024 .bf16) (main_arg5 : FVec F S1x64 .f32) (main_arg6 : FVec F S1x64 .f32) (main_arg7 : FVec F S1x64 .f32) (main_arg8 : FVec F S1x64 .f32) (main_arg9 : FVec F S1x128 .f32) : IVec S36 1 :=
  let main_v0 : IVec S36 32 := iotaInDim S36 32 0
  let main_c : IVec S_ 32 := constantI S_ 32 1#32
  let main_v1 : IVec S36 32 := broadcastInDim S36 ![] bcast_S_S36 main_c
  let main_c_0 : IVec S_ 32 := constantI S_ 32 0#32
  let main_v2 : IVec S36 32 := broadcastInDim S36 ![] bcast_S_S36 main_c_0
  let main_c_1 : IVec S_ 32 := constantI S_ 32 2#32
  let main_v3 : IVec S36 32 := broadcastInDim S36 ![] bcast_S_S36 main_c_1
  let main_c_2 : IVec S_ 32 := constantI S_ 32 1#32
  let main_v4 : IVec S36 32 := broadcastInDim S36 ![] bcast_S_S36 main_c_2
  let main_v5 : IVec S36 1 := cmpi .sge main_v0 main_v4
  let main_v6 : IVec S36 32 := select main_v5 main_v1 main_v2
  let main_c_3 : IVec S_ 32 := constantI S_ 32 0#32
  let main_v7 : IVec S36 32 := broadcastInDim S36 ![] bcast_S_S36 main_c_3
  let main_v8 : IVec S36 32 := addi main_v7 main_v6
  let main_c_4 : IVec S_ 32 := constantI S_ 32 3#32
  let main_v9 : IVec S36 32 := broadcastInDim S36 ![] bcast_S_S36 main_c_4
  let main_v10 : IVec S36 1 := cmpi .sge main_v0 main_v9
  let main_v11 : IVec S36 32 := select main_v10 main_v1 main_v2
  let main_v12 : IVec S36 32 := addi main_v8 main_v11
  let main_c_5 : IVec S_ 32 := constantI S_ 32 6#32
  let main_v13 : IVec S36 32 := broadcastInDim S36 ![] bcast_S_S36 main_c_5
  let main_v14 : IVec S36 1 := cmpi .sge main_v0 main_v13
  let main_v15 : IVec S36 32 := select main_v14 main_v1 main_v2
  let main_v16 : IVec S36 32 := addi main_v12 main_v15
  fn_part1 (F := F) main_arg0 main_arg1 main_v0 main_v1 main_v2 main_v3 main_v16
-- ==== Pre_triangle_finite.lean ====
abbrev S36 : Shape := ⟨1, ![36]⟩
abbrev S2x4096x2048 : Shape := ⟨3, ![2, 4096, 2048]⟩
abbrev S2x4096x1024 : Shape := ⟨3, ![2, 4096, 1024]⟩
abbrev S1x64 : Shape := ⟨2, ![1, 64]⟩
abbrev S1x128 : Shape := ⟨2, ![1, 128]⟩
abbrev S_ : Shape := ⟨0, ![]⟩

class Facts : Prop where
  bcast_S_S36 : S_.BroadcastsInDim S36 (![] : Fin 0 → Fin S36.rank)
  slices_S2x4096x2048_S2x4096x1024_0_0_0 : S2x4096x2048.Slices ![0, 0, 0] S2x4096x1024
  bitsLt_bf16_f32 : FTy.bits .bf16 < FTy.bits .f32
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  slices_S2x4096x2048_S2x4096x1024_0_0_1024 : S2x4096x2048.Slices ![0, 0, 1024] S2x4096x1024
  bcast_S_S1x64 : S_.BroadcastsInDim S1x64 (![] : Fin 0 → Fin S1x64.rank)
  reducesTo_S1x64_S_d0_1 : S1x64.ReducesTo [0, 1] S_

variable [Facts]

def fn_part4 {F : FTy → Type} [FloatOps F] (main_arg7 : FVec F S1x64 .f32) (main_arg8 : FVec F S1x64 .f32) (main_v69 : IVec S36 1) (main_v73 : IVec S_ 1) : IVec S36 1 :=
  let main_v74 : IVec S36 1 := broadcastInDim S36 ![] bcast_S_S36 main_v73
  let main_v75 : IVec S36 1 := andi main_v69 main_v74
  let main_v76 : FVec F S1x64 .f32 := Host.absf main_arg7
  let main_cst_20 : FVec F S_ .f32 := constant S_ .f32 0x7F800000#32
  let main_v77 : FVec F S1x64 .f32 := broadcastInDim S1x64 ![] bcast_S_S1x64 main_cst_20
  let main_v78 : IVec S1x64 1 := cmpf .olt main_v76 main_v77
  let main_c_21 : IVec S_ 1 := constantI S_ 1 1#1
  let main_v79 : IVec S_ 1 := (fun x v => Host.reduce IntOp.andi x v reducesTo_S1x64_S_d0_1 h_S_) main_v78 main_c_21
  let main_v80 : IVec S36 1 := broadcastInDim S36 ![] bcast_S_S36 main_v79
  let main_v81 : IVec S36 1 := andi main_v75 main_v80
  let main_v82 : FVec F S1x64 .f32 := Host.absf main_arg8
  let main_cst_22 : FVec F S_ .f32 := constant S_ .f32 0x7F800000#32
  let main_v83 : FVec F S1x64 .f32 := broadcastInDim S1x64 ![] bcast_S_S1x64 main_cst_22
  let main_v84 : IVec S1x64 1 := cmpf .olt main_v82 main_v83
  let main_c_23 : IVec S_ 1 := constantI S_ 1 1#1
  let main_v85 : IVec S_ 1 := (fun x v => Host.reduce IntOp.andi x v reducesTo_S1x64_S_d0_1 h_S_) main_v84 main_c_23
  let main_v86 : IVec S36 1 := broadcastInDim S36 ![] bcast_S_S36 main_v85
  let main_v87 : IVec S36 1 := andi main_v81 main_v86
  main_v87

def fn_part3 {F : FTy → Type} [FloatOps F] (main_arg4 : FVec F S2x4096x1024 .bf16) (main_arg5 : FVec F S1x64 .f32) (main_arg6 : FVec F S1x64 .f32) (main_arg7 : FVec F S1x64 .f32) (main_arg8 : FVec F S1x64 .f32) (main_v48 : IVec S36 1) (main_v55 : IVec S36 1) : IVec S36 1 :=
  let main_v56 : IVec S36 1 := andi main_v48 main_v55
  let main_v57 : FVec F S2x4096x1024 .f32 := (extf .f32 · bitsLt_bf16_f32) main_arg4
  let main_v58 : FVec F S2x4096x1024 .f32 := Host.absf main_v57
  let main_cst_14 : FVec F S_ .f32 := constant S_ .f32 0x7F800000#32
  let main_v59 : FVec F S2x4096x1024 .f32 := broadcastInDim S2x4096x1024 ![] bcast_S_S2x4096x1024 main_cst_14
  let main_v60 : IVec S2x4096x1024 1 := cmpf .olt main_v58 main_v59
  let main_c_15 : IVec S_ 1 := constantI S_ 1 1#1
  let main_v61 : IVec S_ 1 := (fun x v => Host.reduce IntOp.andi x v reducesTo_S2x4096x1024_S_d0_1_2 h_S_) main_v60 main_c_15
  let main_v62 : IVec S36 1 := broadcastInDim S36 ![] bcast_S_S36 main_v61
  let main_v63 : IVec S36 1 := andi main_v56 main_v62
  let main_v64 : FVec F S1x64 .f32 := Host.absf main_arg5
  let main_cst_16 : FVec F S_ .f32 := constant S_ .f32 0x7F800000#32
  let main_v65 : FVec F S1x64 .f32 := broadcastInDim S1x64 ![] bcast_S_S1x64 main_cst_16
  let main_v66 : IVec S1x64 1 := cmpf .olt main_v64 main_v65
  let main_c_17 : IVec S_ 1 := constantI S_ 1 1#1
  let main_v67 : IVec S_ 1 := (fun x v => Host.reduce IntOp.andi x v reducesTo_S1x64_S_d0_1 h_S_) main_v66 main_c_17
  let main_v68 : IVec S36 1 := broadcastInDim S36 ![] bcast_S_S36 main_v67
  let main_v69 : IVec S36 1 := andi main_v63 main_v68
  let main_v70 : FVec F S1x64 .f32 := Host.absf main_arg6
  let main_cst_18 : FVec F S_ .f32 := constant S_ .f32 0x7F800000#32
  let main_v71 : FVec F S1x64 .f32 := broadcastInDim S1x64 ![] bcast_S_S1x64 main_cst_18
  let main_v72 : IVec S1x64 1 := cmpf .olt main_v70 main_v71
  let main_c_19 : IVec S_ 1 := constantI S_ 1 1#1
  let main_v73 : IVec S_ 1 := (fun x v => Host.reduce IntOp.andi x v reducesTo_S1x64_S_d0_1 h_S_) main_v72 main_c_19
  fn_part4 (F := F) main_arg7 main_arg8 main_v69 main_v73

def fn_part2 {F : FTy → Type} [FloatOps F] (main_arg0 : IVec S36 32) (main_arg1 : IVec S36 32) (main_arg2 : FVec F S2x4096x2048 .bf16) (main_arg3 : FVec F S2x4096x2048 .bf16) (main_arg4 : FVec F S2x4096x1024 .bf16) (main_arg5 : FVec F S1x64 .f32) (main_arg6 : FVec F S1x64 .f32) (main_arg7 : FVec F S1x64 .f32) (main_arg8 : FVec F S1x64 .f32) (main_v0 : IVec S36 32) (main_v3 : IVec S36 32) (main_v32 : IVec S36 32) (main_v35 : IVec S36 32) : IVec S36 1 :=
  let main_v36 : IVec S36 32 := Host.divsi main_v35 main_v3
  let main_v37 : IVec S36 32 := subi main_v0 main_v36
  let main_v38 : IVec S36 1 := cmpi .eq main_arg0 main_v32
  let main_v39 : IVec S36 1 := cmpi .eq main_arg1 main_v37
  let main_v40 : IVec S36 1 := andi main_v38 main_v39
  let main_v41 : FVec F S2x4096x1024 .bf16 := (extractStridedSlice S2x4096x1024 ![0, 0, 0] · slices_S2x4096x2048_S2x4096x1024_0_0_0) main_arg2
  let main_v42 : FVec F S2x4096x1024 .f32 := (extf .f32 · bitsLt_bf16_f32) main_v41
  let main_v43 : FVec F S2x4096x1024 .f32 := Host.absf main_v42
  let main_cst : FVec F S_ .f32 := constant S_ .f32 0x7F800000#32
  let main_v44 : FVec F S2x4096x1024 .f32 := broadcastInDim S2x4096x1024 ![] bcast_S_S2x4096x1024 main_cst
  let main_v45 : IVec S2x4096x1024 1 := cmpf .olt main_v43 main_v44
  let main_c_11 : IVec S_ 1 := constantI S_ 1 1#1
  let main_v46 : IVec S_ 1 := (fun x v => Host.reduce IntOp.andi x v reducesTo_S2x4096x1024_S_d0_1_2 h_S_) main_v45 main_c_11
  let main_v47 : IVec S36 1 := broadcastInDim S36 ![] bcast_S_S36 main_v46
  let main_v48 : IVec S36 1 := andi main_v40 main_v47
  let main_v49 : FVec F S2x4096x1024 .bf16 := (extractStridedSlice S2x4096x1024 ![0, 0, 1024] · slices_S2x4096x2048_S2x4096x1024_0_0_1024) main_arg3
  let main_v50 : FVec F S2x4096x1024 .f32 := (extf .f32 · bitsLt_bf16_f32) main_v49
  let main_v51 : FVec F S2x4096x1024 .f32 := Host.absf main_v50
  let main_cst_12 : FVec F S_ .f32 := constant S_ .f32 0x7F800000#32
  let main_v52 : FVec F S2x4096x1024 .f32 := broadcastInDim S2x4096x1024 ![] bcast_S_S2x4096x1024 main_cst_12
  let main_v53 : IVec S2x4096x1024 1 := cmpf .olt main_v51 main_v52
  let main_c_13 : IVec S_ 1 := constantI S_ 1 1#1
  let main_v54 : IVec S_ 1 := (fun x v => Host.reduce IntOp.andi x v reducesTo_S2x4096x1024_S_d0_1_2 h_S_) main_v53 main_c_13
  let main_v55 : IVec S36 1 := broadcastInDim S36 ![] bcast_S_S36 main_v54
  fn_part3 (F := F) main_arg4 main_arg5 main_arg6 main_arg7 main_arg8 main_v48 main_v55

def fn_part1 {F : FTy → Type} [FloatOps F] (main_arg0 : IVec S36 32) (main_arg1 : IVec S36 32) (main_arg2 : FVec F S2x4096x2048 .bf16) (main_arg3 : FVec F S2x4096x2048 .bf16) (main_arg4 : FVec F S2x4096x1024 .bf16) (main_arg5 : FVec F S1x64 .f32) (main_arg6 : FVec F S1x64 .f32) (main_arg7 : FVec F S1x64 .f32) (main_arg8 : FVec F S1x64 .f32) (main_v0 : IVec S36 32) (main_v1 : IVec S36 32) (main_v2 : IVec S36 32) (main_v3 : IVec S36 32) (main_v16 : IVec S36 32) : IVec S36 1 :=
  let main_c_6 : IVec S_ 32 := constantI S_ 32 10#32
  let main_v17 : IVec S36 32 := broadcastInDim S36 ![] bcast_S_S36 main_c_6
  let main_v18 : IVec S36 1 := cmpi .sge main_v0 main_v17
  let main_v19 : IVec S36 32 := select main_v18 main_v1 main_v2
  let main_v20 : IVec S36 32 := addi main_v16 main_v19
  let main_c_7 : IVec S_ 32 := constantI S_ 32 15#32
  let main_v21 : IVec S36 32 := broadcastInDim S36 ![] bcast_S_S36 main_c_7
  let main_v22 : IVec S36 1 := cmpi .sge main_v0 main_v21
  let main_v23 : IVec S36 32 := select main_v22 main_v1 main_v2
  let main_v24 : IVec S36 32 := addi main_v20 main_v23
  let main_c_8 : IVec S_ 32 := constantI S_ 32 21#32
  let main_v25 : IVec S36 32 := broadcastInDim S36 ![] bcast_S_S36 main_c_8
  let main_v26 : IVec S36 1 := cmpi .sge main_v0 main_v25
  let main_v27 : IVec S36 32 := select main_v26 main_v1 main_v2
  let main_v28 : IVec S36 32 := addi main_v24 main_v27
  let main_c_9 : IVec S_ 32 := constantI S_ 32 28#32
  let main_v29 : IVec S36 32 := broadcastInDim S36 ![] bcast_S_S36 main_c_9
  let main_v30 : IVec S36 1 := cmpi .sge main_v0 main_v29
  let main_v31 : IVec S36 32 := select main_v30 main_v1 main_v2
  let main_v32 : IVec S36 32 := addi main_v28 main_v31
  let main_c_10 : IVec S_ 32 := constantI S_ 32 1#32
  let main_v33 : IVec S36 32 := broadcastInDim S36 ![] bcast_S_S36 main_c_10
  let main_v34 : IVec S36 32 := addi main_v32 main_v33
  let main_v35 : IVec S36 32 := muli main_v32 main_v34
  fn_part2 (F := F) main_arg0 main_arg1 main_arg2 main_arg3 main_arg4 main_arg5 main_arg6 main_arg7 main_arg8 main_v0 main_v3 main_v32 main_v35

def fn {F : FTy → Type} [FloatOps F] (main_arg0 : IVec S36 32) (main_arg1 : IVec S36 32) (main_arg2 : FVec F S2x4096x2048 .bf16) (main_arg3 : FVec F S2x4096x2048 .bf16) (main_arg4 : FVec F S2x4096x1024 .bf16) (main_arg5 : FVec F S1x64 .f32) (main_arg6 : FVec F S1x64 .f32) (main_arg7 : FVec F S1x64 .f32) (main_arg8 : FVec F S1x64 .f32) (main_arg9 : FVec F S1x128 .f32) : IVec S36 1 :=
  let main_v0 : IVec S36 32 := iotaInDim S36 32 0
  let main_c : IVec S_ 32 := constantI S_ 32 1#32
  let main_v1 : IVec S36 32 := broadcastInDim S36 ![] bcast_S_S36 main_c
  let main_c_0 : IVec S_ 32 := constantI S_ 32 0#32
  let main_v2 : IVec S36 32 := broadcastInDim S36 ![] bcast_S_S36 main_c_0
  let main_c_1 : IVec S_ 32 := constantI S_ 32 2#32
  let main_v3 : IVec S36 32 := broadcastInDim S36 ![] bcast_S_S36 main_c_1
  let main_c_2 : IVec S_ 32 := constantI S_ 32 1#32
  let main_v4 : IVec S36 32 := broadcastInDim S36 ![] bcast_S_S36 main_c_2
  let main_v5 : IVec S36 1 := cmpi .sge main_v0 main_v4
  let main_v6 : IVec S36 32 := select main_v5 main_v1 main_v2
  let main_c_3 : IVec S_ 32 := constantI S_ 32 0#32
  let main_v7 : IVec S36 32 := broadcastInDim S36 ![] bcast_S_S36 main_c_3
  let main_v8 : IVec S36 32 := addi main_v7 main_v6
  let main_c_4 : IVec S_ 32 := constantI S_ 32 3#32
  let main_v9 : IVec S36 32 := broadcastInDim S36 ![] bcast_S_S36 main_c_4
  let main_v10 : IVec S36 1 := cmpi .sge main_v0 main_v9
  let main_v11 : IVec S36 32 := select main_v10 main_v1 main_v2
  let main_v12 : IVec S36 32 := addi main_v8 main_v11
  let main_c_5 : IVec S_ 32 := constantI S_ 32 6#32
  let main_v13 : IVec S36 32 := broadcastInDim S36 ![] bcast_S_S36 main_c_5
  let main_v14 : IVec S36 1 := cmpi .sge main_v0 main_v13
  let main_v15 : IVec S36 32 := select main_v14 main_v1 main_v2
  let main_v16 : IVec S36 32 := addi main_v12 main_v15
  fn_part1 (F := F) main_arg0 main_arg1 main_arg2 main_arg3 main_arg4 main_arg5 main_arg6 main_arg7 main_arg8 main_v0 main_v1 main_v2 main_v3 main_v16
-- ==== Kernel.lean ====
abbrev S36 : Shape := ⟨1, ![36]⟩
abbrev S2x4096x2048 : Shape := ⟨3, ![2, 4096, 2048]⟩
abbrev S2x4096x1024 : Shape := ⟨3, ![2, 4096, 1024]⟩
abbrev S1x64 : Shape := ⟨2, ![1, 64]⟩
abbrev S1x128 : Shape := ⟨2, ![1, 128]⟩
abbrev S1x512x512 : Shape := ⟨3, ![1, 512, 512]⟩
abbrev S1 : Shape := ⟨1, ![1]⟩
abbrev S8x512x128 : Shape := ⟨3, ![8, 512, 128]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x1 : Shape := ⟨2, ![1, 1]⟩

abbrev nBuf : Space → Nat
  | .hbm => 9
  | .vmem => 17
  | .smem => 2
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S2x4096x1024, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S2x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | .local _ .vmem, ⟨13, _⟩ => ⟨S8x512x128, .bf16⟩
  | .local _ .vmem, ⟨14, _⟩ => ⟨S8x512x128, .f32⟩
  | .local _ .vmem, ⟨15, _⟩ => ⟨S8x512x128, .f32⟩
  | .local _ .vmem, ⟨16, _⟩ => ⟨S8x512x128, .f32⟩
  | .local _ .smem, ⟨0, _⟩ => ⟨S36, .i32⟩
  | .local _ .smem, ⟨1, _⟩ => ⟨S36, .i32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_v0 : Ref sig .tc := ⟨.hbm, 8, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 2, 36], ![false, false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c2_i32 : BitVec 32 := 2#32
  let v2 : BitVec 32 := Scalar.addi c2_i32 arg1
  let c0_i32 : BitVec 32 := 0#32
  ![arg0.toNat, v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S36) ![v0.toNat] S1.size (k0_off1_inb i)) numel1_S1
  let c0_i32 : BitVec 32 := 0#32
  ![arg0.toNat, v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S36) ![v0.toNat] S1.size (k0_off1_inb i)) numel1_S1
  let c0_i32 : BitVec 32 := 0#32
  ![arg0.toNat, v1.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S36 : Shape := ⟨1, ![36]⟩
abbrev S2x4096x2048 : Shape := ⟨3, ![2, 4096, 2048]⟩
abbrev S2x4096x1024 : Shape := ⟨3, ![2, 4096, 1024]⟩
abbrev S1x64 : Shape := ⟨2, ![1, 64]⟩
abbrev S1x128 : Shape := ⟨2, ![1, 128]⟩
abbrev S64 : Shape := ⟨1, ![64]⟩
abbrev S_ : Shape := ⟨0, ![]⟩
abbrev S2x4096x8x2x64 : Shape := ⟨5, ![2, 4096, 8, 2, 64]⟩
abbrev S2x8x2x4096x64 : Shape := ⟨5, ![2, 8, 2, 4096, 64]⟩
abbrev S2x4096x8x128 : Shape := ⟨4, ![2, 4096, 8, 128]⟩
abbrev S2x8x4096x128 : Shape := ⟨4, ![2, 8, 4096, 128]⟩
abbrev S2x8x2x4096x4096 : Shape := ⟨5, ![2, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x2x4096 : Shape := ⟨4, ![2, 8, 2, 4096]⟩
abbrev S2x8x2x4096x1 : Shape := ⟨5, ![2, 8, 2, 4096, 1]⟩
abbrev S2x8x1x4096x4096 : Shape := ⟨5, ![2, 8, 1, 4096, 4096]⟩
abbrev S2x8x4096x4096 : Shape := ⟨4, ![2, 8, 4096, 4096]⟩
abbrev S2x4096x8 : Shape := ⟨3, ![2, 4096, 8]⟩
abbrev S2x4096x8x1 : Shape := ⟨4, ![2, 4096, 8, 1]⟩
abbrev S128 : Shape := ⟨1, ![128]⟩
abbrev S1x1x1x128 : Shape := ⟨4, ![1, 1, 1, 128]⟩

abbrev nBuf : Space → Nat
  | .hbm => 93
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S2x4096x2048, .bf16⟩
  | .hbm, ⟨3, _⟩ => ⟨S2x4096x2048, .bf16⟩
  | .hbm, ⟨4, _⟩ => ⟨S2x4096x1024, .bf16⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x4096x2048, .f32⟩
  | .hbm, ⟨26, _⟩ => ⟨S2x4096x1024, .f32⟩
  | .hbm, ⟨27, _⟩ => ⟨S2x4096x2048, .f32⟩
  | .hbm, ⟨28, _⟩ => ⟨S2x4096x1024, .f32⟩
  | .hbm, ⟨29, _⟩ => ⟨S2x4096x8x2x64, .f32⟩
  | .hbm, ⟨30, _⟩ => ⟨S2x8x2x4096x64, .f32⟩
  | .hbm, ⟨31, _⟩ => ⟨S2x4096x8x2x64, .f32⟩
  | .hbm, ⟨32, _⟩ => ⟨S2x8x2x4096x64, .f32⟩
  | .hbm, ⟨33, _⟩ => ⟨S2x4096x1024, .f32⟩
  | .hbm, ⟨34, _⟩ => ⟨S2x4096x8x128, .f32⟩
  | .hbm, ⟨35, _⟩ => ⟨S2x8x4096x128, .f32⟩
  | .hbm, ⟨36, _⟩ => ⟨S2x8x2x4096x4096, .f32⟩
  | .hbm, ⟨37, _⟩ => ⟨S4096, .i32⟩
  | .hbm, ⟨38, _⟩ => ⟨S1x4096, .i32⟩
  | .hbm, ⟨39, _⟩ => ⟨S4096x1, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S_, .f32⟩
  | .hbm, ⟨44, _⟩ => ⟨S_, .f32⟩
  | .hbm, ⟨45, _⟩ => ⟨S2x8x2x4096x4096, .i1⟩
  | .hbm, ⟨46, _⟩ => ⟨S2x8x2x4096x4096, .f32⟩
  | .hbm, ⟨47, _⟩ => ⟨S2x8x2x4096x4096, .f32⟩
  | .hbm, ⟨48, _⟩ => ⟨S_, .f32⟩
  | .hbm, ⟨49, _⟩ => ⟨S2x8x2x4096, .f32⟩
  | .hbm, ⟨50, _⟩ => ⟨S_, .f32⟩
  | .hbm, ⟨51, _⟩ => ⟨S2x8x2x4096, .f32⟩
  | .hbm, ⟨52, _⟩ => ⟨S2x8x2x4096, .f32⟩
  | .hbm, ⟨53, _⟩ => ⟨S2x8x2x4096x1, .f32⟩
  | .hbm, ⟨54, _⟩ => ⟨S2x8x2x4096x4096, .f32⟩
  | .hbm, ⟨55, _⟩ => ⟨S2x8x2x4096x4096, .f32⟩
  | .hbm, ⟨56, _⟩ => ⟨S2x8x2x4096x4096, .f32⟩
  | .hbm, ⟨57, _⟩ => ⟨S_, .f32⟩
  | .hbm, ⟨58, _⟩ => ⟨S2x8x2x4096, .f32⟩
  | .hbm, ⟨59, _⟩ => ⟨S2x8x2x4096x1, .f32⟩
  | .hbm, ⟨60, _⟩ => ⟨S2x8x2x4096x4096, .f32⟩
  | .hbm, ⟨61, _⟩ => ⟨S2x8x2x4096x4096, .f32⟩
  | .hbm, ⟨62, _⟩ => ⟨S2x8x1x4096x4096, .f32⟩
  | .hbm, ⟨63, _⟩ => ⟨S2x8x4096x4096, .f32⟩
  | .hbm, ⟨64, _⟩ => ⟨S2x8x1x4096x4096, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S2x8x4096x4096, .f32⟩
  | .hbm, ⟨69, _⟩ => ⟨S2x8x4096x128, .f32⟩
  | .hbm, ⟨70, _⟩ => ⟨S2x4096x8x128, .f32⟩
  | .hbm, ⟨71, _⟩ => ⟨S2x4096x8x128, .f32⟩
  | .hbm, ⟨72, _⟩ => ⟨S_, .f32⟩
  | .hbm, ⟨73, _⟩ => ⟨S2x4096x8, .f32⟩
  | .hbm, ⟨74, _⟩ => ⟨S2x4096x8x1, .f32⟩
  | .hbm, ⟨75, _⟩ => ⟨S_, .f32⟩
  | .hbm, ⟨76, _⟩ => ⟨S2x4096x8x1, .f32⟩
  | .hbm, ⟨77, _⟩ => ⟨S2x4096x8x1, .f32⟩
  | .hbm, ⟨78, _⟩ => ⟨S_, .f32⟩
  | .hbm, ⟨79, _⟩ => ⟨S2x4096x8x1, .f32⟩
  | .hbm, ⟨80, _⟩ => ⟨S2x4096x8x1, .f32⟩
  | .hbm, ⟨81, _⟩ => ⟨S2x4096x8x1, .f32⟩
  | .hbm, ⟨82, _⟩ => ⟨S2x4096x8x128, .f32⟩
  | .hbm, ⟨83, _⟩ => ⟨S2x4096x8x128, .f32⟩
  | .hbm, ⟨84, _⟩ => ⟨S128, .f32⟩
  | .hbm, ⟨85, _⟩ => ⟨S1x1x1x128, .f32⟩
  | .hbm, ⟨86, _⟩ => ⟨S2x4096x8x128, .f32⟩
  | .hbm, ⟨87, _⟩ => ⟨S2x4096x8x128, .f32⟩
  | .hbm, ⟨88, _⟩ => ⟨S_, .f32⟩
  | .hbm, ⟨89, _⟩ => ⟨S2x4096x8x128, .f32⟩
  | .hbm, ⟨90, _⟩ => ⟨S2x4096x8x128, .f32⟩
  | .hbm, ⟨91, _⟩ => ⟨S2x4096x1024, .f32⟩
  | .hbm, ⟨92, _⟩ => ⟨S2x4096x1024, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_9 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Gate.lean ====
abbrev S8192x2048 : Shape := ⟨2, ![8192, 2048]⟩
abbrev S1x2048x10496 : Shape := ⟨3, ![1, 2048, 10496]⟩
abbrev S2048x10496 : Shape := ⟨2, ![2048, 10496]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x10496, .f32⟩
  | .hbm, ⟨2, _⟩ => ⟨S2048x10496, .f32⟩
  | .hbm, ⟨3, _⟩ => ⟨S2048x10496, .bf16⟩
  | .hbm, ⟨4, _⟩ => ⟨S2048x4096, .bf16⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S8192x2048 : Shape := ⟨2, ![8192, 2048]⟩
abbrev S1x2048x10496 : Shape := ⟨3, ![1, 2048, 10496]⟩
abbrev S2048x10496 : Shape := ⟨2, ![2048, 10496]⟩
abbrev S8192x10496 : Shape := ⟨2, ![8192, 10496]⟩
abbrev S8192x3072 : Shape := ⟨2, ![8192, 3072]⟩
abbrev S8192x3328 : Shape := ⟨2, ![8192, 3328]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10496, .f32⟩
  | .hbm, ⟨2, _⟩ => ⟨S8192x2048, .f32⟩
  | .hbm, ⟨3, _⟩ => ⟨S2048x10496, .f32⟩
  | .hbm, ⟨4, _⟩ => ⟨S8192x10496, .f32⟩
  | .hbm, ⟨5, _⟩ => ⟨S8192x3072, .f32⟩
  | .hbm, ⟨6, _⟩ => ⟨S8192x3328, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Rwkv.lean ====
abbrev S8192x2048 : Shape := ⟨2, ![8192, 2048]⟩
abbrev S1x2048x10496 : Shape := ⟨3, ![1, 2048, 10496]⟩
abbrev S2048x10496 : Shape := ⟨2, ![2048, 10496]⟩
abbrev S2048x3328 : Shape := ⟨2, ![2048, 3328]⟩
abbrev S8192x3328 : Shape := ⟨2, ![8192, 3328]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x10496, .f32⟩
  | .hbm, ⟨2, _⟩ => ⟨S2048x10496, .f32⟩
  | .hbm, ⟨3, _⟩ => ⟨S2048x10496, .bf16⟩
  | .hbm, ⟨4, _⟩ => ⟨S2048x3328, .bf16⟩
  | .hbm, ⟨5, _⟩ => ⟨S8192x3328, .f32⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RwkvRefIdeal.lean ====
abbrev S8192x2048 : Shape := ⟨2, ![8192, 2048]⟩
abbrev S1x2048x10496 : Shape := ⟨3, ![1, 2048, 10496]⟩
abbrev S2048x10496 : Shape := ⟨2, ![2048, 10496]⟩
abbrev S8192x10496 : Shape := ⟨2, ![8192, 10496]⟩
abbrev S8192x3072 : Shape := ⟨2, ![8192, 3072]⟩
abbrev S8192x3328 : Shape := ⟨2, ![8192, 3328]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10496, .f32⟩
  | .hbm, ⟨2, _⟩ => ⟨S8192x2048, .f32⟩
  | .hbm, ⟨3, _⟩ => ⟨S2048x10496, .f32⟩
  | .hbm, ⟨4, _⟩ => ⟨S8192x10496, .f32⟩
  | .hbm, ⟨5, _⟩ => ⟨S8192x3072, .f32⟩
  | .hbm, ⟨6, _⟩ => ⟨S8192x3328, .f32⟩
  | .hbm, ⟨7, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Values.lean ====
abbrev S8192x2048 : Shape := ⟨2, ![8192, 2048]⟩
abbrev S1x2048x10496 : Shape := ⟨3, ![1, 2048, 10496]⟩
abbrev S2048x10496 : Shape := ⟨2, ![2048, 10496]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S1x2048x10496, .f32⟩
  | .hbm, ⟨2, _⟩ => ⟨S2048x10496, .f32⟩
  | .hbm, ⟨3, _⟩ => ⟨S2048x10496, .bf16⟩
  | .hbm, ⟨4, _⟩ => ⟨S2048x1024, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesRefIdeal.lean ====
abbrev S8192x2048 : Shape := ⟨2, ![8192, 2048]⟩
abbrev S1x2048x10496 : Shape := ⟨3, ![1, 2048, 10496]⟩
abbrev S2048x10496 : Shape := ⟨2, ![2048, 10496]⟩
abbrev S8192x10496 : Shape := ⟨2, ![8192, 10496]⟩
abbrev S8192x3072 : Shape := ⟨2, ![8192, 3072]⟩
abbrev S8192x3328 : Shape := ⟨2, ![8192, 3328]⟩
abbrev S8192x4096 : Shape := ⟨2, ![8192, 4096]⟩
abbrev S8192x1024 : Shape := ⟨2, ![8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x10496, .f32⟩
  | .hbm, ⟨2, _⟩ => ⟨S8192x2048, .f32⟩
  | .hbm, ⟨3, _⟩ => ⟨S2048x10496, .f32⟩
  | .hbm, ⟨4, _⟩ => ⟨S8192x10496, .f32⟩
  | .hbm, ⟨5, _⟩ => ⟨S8192x3072, .f32⟩
  | .hbm, ⟨6, _⟩ => ⟨S8192x3328, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Merge.lean ====
abbrev S2x4096x1024 : Shape := ⟨3, ![2, 4096, 1024]⟩
abbrev S8192x4096 : Shape := ⟨2, ![8192, 4096]⟩
abbrev S1x1024x2048 : Shape := ⟨3, ![1, 1024, 2048]⟩
abbrev S8192x1024 : Shape := ⟨2, ![8192, 1024]⟩
abbrev S1024x2048 : Shape := ⟨2, ![1024, 2048]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 13
  | .vmem => 12
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S8192x4096, .f32⟩
  | .hbm, ⟨3, _⟩ => ⟨S8192x4096, .f32⟩
  | .hbm, ⟨4, _⟩ => ⟨S1x1024x2048, .f32⟩
  | .hbm, ⟨5, _⟩ => ⟨S1x1024x2048, .f32⟩
  | .hbm, ⟨6, _⟩ => ⟨S8192x1024, .bf16⟩
  | .hbm, ⟨7, _⟩ => ⟨S8192x1024, .bf16⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S512x2048, .bf16⟩
  | .local _ .vmem, ⟨11, _⟩ => ⟨S512x2048, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S2x4096x1024 : Shape := ⟨3, ![2, 4096, 1024]⟩
abbrev S8192x4096 : Shape := ⟨2, ![8192, 4096]⟩
abbrev S1x1024x2048 : Shape := ⟨3, ![1, 1024, 2048]⟩
abbrev S_ : Shape := ⟨0, ![]⟩
abbrev S8192x2048 : Shape := ⟨2, ![8192, 2048]⟩
abbrev S8192x1024 : Shape := ⟨2, ![8192, 1024]⟩
abbrev S1024x2048 : Shape := ⟨2, ![1024, 2048]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S8192x4096, .f32⟩
  | .hbm, ⟨3, _⟩ => ⟨S8192x4096, .f32⟩
  | .hbm, ⟨4, _⟩ => ⟨S1x1024x2048, .f32⟩
  | .hbm, ⟨5, _⟩ => ⟨S1x1024x2048, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x2048, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x2048, .f32⟩
  | .hbm, ⟨24, _⟩ => ⟨S2x4096x1024, .f32⟩
  | .hbm, ⟨25, _⟩ => ⟨S8192x1024, .f32⟩
  | .hbm, ⟨26, _⟩ => ⟨S2x4096x1024, .f32⟩
  | .hbm, ⟨27, _⟩ => ⟨S8192x1024, .f32⟩
  | .hbm, ⟨28, _⟩ => ⟨S1024x2048, .f32⟩
  | .hbm, ⟨29, _⟩ => ⟨S8192x2048, .f32⟩
  | .hbm, ⟨30, _⟩ => ⟨S8192x2048, .f32⟩
  | .hbm, ⟨31, _⟩ => ⟨S1024x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Rope.lean ====
abbrev S8192x2048 : Shape := ⟨2, ![8192, 2048]⟩
abbrev S2x4096 : Shape := ⟨2, ![2, 4096]⟩
abbrev S1x2048x10496 : Shape := ⟨3, ![1, 2048, 10496]⟩
abbrev S8 : Shape := ⟨1, ![8]⟩
abbrev S_ : Shape := ⟨0, ![]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S8192x1 : Shape := ⟨2, ![8192, 1]⟩
abbrev S2048x10496 : Shape := ⟨2, ![2048, 10496]⟩
abbrev S2048x2048 : Shape := ⟨2, ![2048, 2048]⟩
abbrev S1024x2048 : Shape := ⟨2, ![1024, 2048]⟩
abbrev S1024x1 : Shape := ⟨2, ![1024, 1]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 20
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2x4096, .i32⟩
  | .hbm, ⟨2, _⟩ => ⟨S1x2048x10496, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S1x8, .f32⟩
  | .hbm, ⟨12, _⟩ => ⟨S16x8, .f32⟩
  | .hbm, ⟨13, _⟩ => ⟨S128, .f32⟩
  | .hbm, ⟨14, _⟩ => ⟨S1x128, .f32⟩
  | .hbm, ⟨15, _⟩ => ⟨S8192x1, .i32⟩
  | .hbm, ⟨16, _⟩ => ⟨S2048x10496, .f32⟩
  | .hbm, ⟨17, _⟩ => ⟨S2048x10496, .bf16⟩
  | .hbm, ⟨18, _⟩ => ⟨S2048x2048, .bf16⟩
  | .hbm, ⟨19, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1, .i32⟩
  | .local _ .vmem, ⟨3, _⟩ => ⟨S1024x1, .i32⟩
  | .local _ .vmem, ⟨4, _⟩ => ⟨S1x128, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeRefIdeal.lean ====
abbrev S8192x2048 : Shape := ⟨2, ![8192, 2048]⟩
abbrev S2x4096 : Shape := ⟨2, ![2, 4096]⟩
abbrev S1x2048x10496 : Shape := ⟨3, ![1, 2048, 10496]⟩
abbrev S2048x10496 : Shape := ⟨2, ![2048, 10496]⟩
abbrev S8192x10496 : Shape := ⟨2, ![8192, 10496]⟩
abbrev S8192x3072 : Shape := ⟨2, ![8192, 3072]⟩
abbrev S8192x3328 : Shape := ⟨2, ![8192, 3328]⟩
abbrev S8192x4096 : Shape := ⟨2, ![8192, 4096]⟩
abbrev S8192x1024 : Shape := ⟨2, ![8192, 1024]⟩
abbrev S2x4096x8x2x64 : Shape := ⟨5, ![2, 4096, 8, 2, 64]⟩
abbrev S8 : Shape := ⟨1, ![8]⟩
abbrev S_ : Shape := ⟨0, ![]⟩
abbrev S2x4096x1 : Shape := ⟨3, ![2, 4096, 1]⟩
abbrev S1x1x8 : Shape := ⟨3, ![1, 1, 8]⟩
abbrev S2x4096x8 : Shape := ⟨3, ![2, 4096, 8]⟩
abbrev S2x4096x1x1x8 : Shape := ⟨5, ![2, 4096, 1, 1, 8]⟩
abbrev S2x4096x8x2x8 : Shape := ⟨5, ![2, 4096, 8, 2, 8]⟩
abbrev S2x4096x8x2x16 : Shape := ⟨5, ![2, 4096, 8, 2, 16]⟩
abbrev S2x4096x8x2x48 : Shape := ⟨5, ![2, 4096, 8, 2, 48]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4096, .i32⟩
  | .hbm, ⟨2, _⟩ => ⟨S1x2048x10496, .f32⟩
  | .hbm, ⟨3, _⟩ => ⟨S8192x2048, .f32⟩
  | .hbm, ⟨4, _⟩ => ⟨S2048x10496, .f32⟩
  | .hbm, ⟨5, _⟩ => ⟨S8192x10496, .f32⟩
  | .hbm, ⟨6, _⟩ => ⟨S8192x3072, .f32⟩
  | .hbm, ⟨7, _⟩ => ⟨S8192x3328, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S2x4096x8x2x64, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2x4096, .f32⟩
  | .hbm, ⟨22, _⟩ => ⟨S2x4096x1, .f32⟩
  | .hbm, ⟨23, _⟩ => ⟨S1x1x8, .f32⟩
  | .hbm, ⟨24, _⟩ => ⟨S2x4096x8, .f32⟩
  | .hbm, ⟨25, _⟩ => ⟨S2x4096x8, .f32⟩
  | .hbm, ⟨26, _⟩ => ⟨S2x4096x8, .f32⟩
  | .hbm, ⟨27, _⟩ => ⟨S2x4096x8, .f32⟩
  | .hbm, ⟨28, _⟩ => ⟨S2x4096x1x1x8, .f32⟩
  | .hbm, ⟨29, _⟩ => ⟨S2x4096x8, .f32⟩
  | .hbm, ⟨30, _⟩ => ⟨S2x4096x1x1x8, .f32⟩
  | .hbm, ⟨31, _⟩ => ⟨S2x4096x8x2x8, .f32⟩
  | .hbm, ⟨32, _⟩ => ⟨S2x4096x8x2x8, .f32⟩
  | .hbm, ⟨33, _⟩ => ⟨S2x4096x8x2x8, .f32⟩
  | .hbm, ⟨34, _⟩ => ⟨S2x4096x8x2x8, .f32⟩
  | .hbm, ⟨35, _⟩ => ⟨S2x4096x8x2x8, .f32⟩
  | .hbm, ⟨36, _⟩ => ⟨S2x4096x8x2x8, .f32⟩
  | .hbm, ⟨37, _⟩ => ⟨S2x4096x8x2x8, .f32⟩
  | .hbm, ⟨38, _⟩ => ⟨S2x4096x8x2x8, .f32⟩
  | .hbm, ⟨39, _⟩ => ⟨S2x4096x8x2x8, .f32⟩
  | .hbm, ⟨40, _⟩ => ⟨S2x4096x8x2x8, .f32⟩
  | .hbm, ⟨41, _⟩ => ⟨S2x4096x8x2x8, .f32⟩
  | .hbm, ⟨42, _⟩ => ⟨S2x4096x8x2x8, .f32⟩
  | .hbm, ⟨43, _⟩ => ⟨S2x4096x8x2x16, .f32⟩
  | .hbm, ⟨44, _⟩ => ⟨S2x4096x8x2x48, .f32⟩
  | .hbm, ⟨45, _⟩ => ⟨S2x4096x8x2x64, .f32⟩
  | .hbm, ⟨46, _⟩ => ⟨S_, .f32⟩
  | .hbm, ⟨47, _⟩ => ⟨S2x4096x8x2x64, .f32⟩
  | .hbm, ⟨48, _⟩ => ⟨S2x4096x8x2x64, .f32⟩
  | .hbm, ⟨49, _⟩ => ⟨S2x4096x8x2x64, .f32⟩
  | .hbm, ⟨50, _⟩ => ⟨S8, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S2x4096, .f32⟩
  | .hbm, ⟨59, _⟩ => ⟨S2x4096x1, .f32⟩
  | .hbm, ⟨60, _⟩ => ⟨S1x1x8, .f32⟩
  | .hbm, ⟨61, _⟩ => ⟨S2x4096x8, .f32⟩
  | .hbm, ⟨62, _⟩ => ⟨S2x4096x8, .f32⟩
  | .hbm, ⟨63, _⟩ => ⟨S2x4096x8, .f32⟩
  | .hbm, ⟨64, _⟩ => ⟨S2x4096x8, .f32⟩
  | .hbm, ⟨65, _⟩ => ⟨S2x4096x1x1x8, .f32⟩
  | .hbm, ⟨66, _⟩ => ⟨S2x4096x8, .f32⟩
  | .hbm, ⟨67, _⟩ => ⟨S2x4096x1x1x8, .f32⟩
  | .hbm, ⟨68, _⟩ => ⟨S2x4096x8x2x8, .f32⟩
  | .hbm, ⟨69, _⟩ => ⟨S2x4096x8x2x8, .f32⟩
  | .hbm, ⟨70, _⟩ => ⟨S2x4096x8x2x8, .f32⟩
  | .hbm, ⟨71, _⟩ => ⟨S2x4096x8x2x8, .f32⟩
  | .hbm, ⟨72, _⟩ => ⟨S2x4096x8x2x8, .f32⟩
  | .hbm, ⟨73, _⟩ => ⟨S2x4096x8x2x8, .f32⟩
  | .hbm, ⟨74, _⟩ => ⟨S2x4096x8x2x8, .f32⟩
  | .hbm, ⟨75, _⟩ => ⟨S2x4096x8x2x8, .f32⟩
  | .hbm, ⟨76, _⟩ => ⟨S2x4096x8x2x8, .f32⟩
  | .hbm, ⟨77, _⟩ => ⟨S2x4096x8x2x8, .f32⟩
  | .hbm, ⟨78, _⟩ => ⟨S2x4096x8x2x8, .f32⟩
  | .hbm, ⟨79, _⟩ => ⟨S2x4096x8x2x8, .f32⟩
  | .hbm, ⟨80, _⟩ => ⟨S2x4096x8x2x16, .f32⟩
  | .hbm, ⟨81, _⟩ => ⟨S2x4096x8x2x48, .f32⟩
  | .hbm, ⟨82, _⟩ => ⟨S2x4096x8x2x64, .f32⟩
  | .hbm, ⟨83, _⟩ => ⟨S8192x1024, .f32⟩
  | .hbm, ⟨84, _⟩ => ⟨S8192x1024, .f32⟩
  | .hbm, ⟨85, _⟩ => ⟨S8192x2048, .f32⟩
  | .hbm, ⟨86, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst_1 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩

abbrev nD : Nat := 1
abbrev τ : Topo := Topo.v7x

variable {F : FTy → Type} [FloatOps F]
-- ==== OutProj.lean ====
abbrev S8192x2048 : Shape := ⟨2, ![8192, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S1x2048x2048 : Shape := ⟨3, ![1, 2048, 2048]⟩
abbrev S2048x128 : Shape := ⟨2, ![2048, 128]⟩
abbrev S2048 : Shape := ⟨1, ![2048]⟩
abbrev S2048x2048 : Shape := ⟨2, ![2048, 2048]⟩
abbrev S131072x128 : Shape := ⟨2, ![131072, 128]⟩
abbrev S8192x128 : Shape := ⟨2, ![8192, 128]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩

abbrev nBuf : Space → Nat
  | .hbm => 20
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x1x2048, .f32⟩
  | .hbm, ⟨3, _⟩ => ⟨S1x2048, .f32⟩
  | .hbm, ⟨4, _⟩ => ⟨S2x1x2048, .f32⟩
  | .hbm, ⟨5, _⟩ => ⟨S2x1x2048, .f32⟩
  | .hbm, ⟨6, _⟩ => ⟨S1x2048x2048, .f32⟩
  | .hbm, ⟨7, _⟩ => ⟨S2048x128, .f32⟩
  | .hbm, ⟨8, _⟩ => ⟨S8192x2048, .f32⟩
  | .hbm, ⟨9, _⟩ => ⟨S2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S8192x2048, .f32⟩
  | .hbm, ⟨18, _⟩ => ⟨S131072x128, .f32⟩
  | .hbm, ⟨19, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S2048x2048, .bf16⟩
  | .local _ .vmem, ⟨12, _⟩ => ⟨S2048x128, .bf16⟩
  | .local _ .vmem, ⟨13, _⟩ => ⟨S2048x128, .bf16⟩
  | .local _ .vmem, ⟨14, _⟩ => ⟨S512x2048, .f32⟩
  | .local _ .vmem, ⟨15, _⟩ => ⟨S512x2048, .f32⟩
  | .local _ .vmem, ⟨16, _⟩ => ⟨S8192x128, .f32⟩
  | .local _ .vmem, ⟨17, _⟩ => ⟨S8192x128, .f32⟩
  | .local _ .vmem, ⟨18, _⟩ => ⟨S512x128, .f32⟩
  | .local _ .vmem, ⟨19, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjRefIdeal.lean ====
abbrev S8192x2048 : Shape := ⟨2, ![8192, 2048]⟩
abbrev S2x4096x2048 : Shape := ⟨3, ![2, 4096, 2048]⟩
abbrev S2x1x2048 : Shape := ⟨3, ![2, 1, 2048]⟩
abbrev S1x2048 : Shape := ⟨2, ![1, 2048]⟩
abbrev S1x2048x2048 : Shape := ⟨3, ![1, 2048, 2048]⟩
abbrev S2048x128 : Shape := ⟨2, ![2048, 128]⟩
abbrev S2048x2048 : Shape := ⟨2, ![2048, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S131072x128 : Shape := ⟨2, ![131072, 128]⟩
abbrev S8192x128 : Shape := ⟨2, ![8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x4096x2048, .f32⟩
  | .hbm, ⟨2, _⟩ => ⟨S2x1x2048, .f32⟩
  | .hbm, ⟨3, _⟩ => ⟨S1x2048, .f32⟩
  | .hbm, ⟨4, _⟩ => ⟨S2x1x2048, .f32⟩
  | .hbm, ⟨5, _⟩ => ⟨S2x1x2048, .f32⟩
  | .hbm, ⟨6, _⟩ => ⟨S1x2048x2048, .f32⟩
  | .hbm, ⟨7, _⟩ => ⟨S2048x128, .f32⟩
  | .hbm, ⟨8, _⟩ => ⟨S8192x2048, .f32⟩
  | .hbm, ⟨9, _⟩ => ⟨S2x4096x2048, .f32⟩
  | .hbm, ⟨10, _⟩ => ⟨S2048x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S8192x2048, .f32⟩
  | .hbm, ⟨40, _⟩ => ⟨S8192x2048, .f32⟩
  | .hbm, ⟨41, _⟩ => ⟨S131072x128, .f32⟩
  | .hbm, ⟨42, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Norm.lean ====
abbrev S2x4096x2048 : Shape := ⟨3, ![2, 4096, 2048]⟩
abbrev S1x2048 : Shape := ⟨2, ![1, 2048]⟩
abbrev S2x1x2048 : Shape := ⟨3, ![2, 1, 2048]⟩
abbrev S8192x2048 : Shape := ⟨2, ![8192, 2048]⟩
abbrev S2048 : Shape := ⟨1, ![2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S2x4096x2048 : Shape := ⟨3, ![2, 4096, 2048]⟩
abbrev S1x2048 : Shape := ⟨2, ![1, 2048]⟩
abbrev S2x1x2048 : Shape := ⟨3, ![2, 1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S2x1x2048, .f32⟩
  | .hbm, ⟨3, _⟩ => ⟨S2x1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S8192x2048, .f32⟩
  | .hbm, ⟨29, _⟩ => ⟨S8192x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Ada.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Post.lean ====
abbrev S64x16x64x128 : Shape := ⟨4, ![64, 16, 64, 128]⟩
abbrev S2x4096x1024 : Shape := ⟨3, ![2, 4096, 1024]⟩
abbrev S1x1024 : Shape := ⟨2, ![1, 1024]⟩
abbrev S1024 : Shape := ⟨1, ![1024]⟩
abbrev S64x2x8x64x128 : Shape := ⟨5, ![64, 2, 8, 64, 128]⟩
abbrev S1x1x8x64x128 : Shape := ⟨5, ![1, 1, 8, 64, 128]⟩
abbrev S1x64x1024 : Shape := ⟨3, ![1, 64, 1024]⟩
abbrev S1x1x1x64x128 : Shape := ⟨5, ![1, 1, 1, 64, 128]⟩
abbrev S64x128 : Shape := ⟨2, ![64, 128]⟩
abbrev S128 : Shape := ⟨1, ![128]⟩
abbrev S1x128 : Shape := ⟨2, ![1, 128]⟩
abbrev S128x64 : Shape := ⟨2, ![128, 64]⟩
abbrev S64x64 : Shape := ⟨2, ![64, 64]⟩
abbrev S1x64x128 : Shape := ⟨3, ![1, 64, 128]⟩

abbrev nBuf : Space → Nat
  | .hbm => 11
  | .vmem => 10
  | .smem => 0
  | _ => 0

abbrev bufTy : (tb : Table) → Fin (tcTables nBuf tb) → BufTy
  | .hbm, ⟨0, _⟩ => ⟨S64x16x64x128, .f32⟩
  | .hbm, ⟨1, _⟩ => ⟨S2x4096x1024, .f32⟩
  | .hbm, ⟨2, _⟩ => ⟨S2x4096x1024, .f32⟩
  | .hbm, ⟨3, _⟩ => ⟨S1x1024, .f32⟩
  | .hbm, ⟨4, _⟩ => ⟨S1x1024, .f32⟩
  | .hbm, ⟨5, _⟩ => ⟨S1024, .f32⟩
  | .hbm, ⟨6, _⟩ => ⟨S1024, .f32⟩
  | .hbm, ⟨7, _⟩ => ⟨S64x2x8x64x128, .f32⟩
  | .hbm, ⟨8, _⟩ => ⟨S1x1024, .f32⟩
  | .hbm, ⟨9, _⟩ => ⟨S1x1024, .f32⟩
  | .hbm, ⟨10, _⟩ => ⟨S2x4096x1024, .bf16⟩
  | .local _ .vmem, ⟨0, _⟩ => ⟨S1x1x8x64x128, .f32⟩
  | .local _ .vmem, ⟨1, _⟩ => ⟨S1x1x8x64x128, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1024, .f32⟩
  | .local _ .vmem, ⟨7, _⟩ => ⟨S1x1024, .f32⟩
  | .local _ .vmem, ⟨8, _⟩ => ⟨S1x64x1024, .bf16⟩
  | .local _ .vmem, ⟨9, _⟩ => ⟨S1x64x1024, .bf16⟩
  | _, _ => ⟨S64x16x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x8x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PostRefIdeal.lean ====
abbrev S64x16x64x128 : Shape := ⟨4, ![64, 16, 64, 128]⟩
abbrev S2x4096x1024 : Shape := ⟨3, ![2, 4096, 1024]⟩
abbrev S1x1024 : Shape := ⟨2, ![1, 1024]⟩
abbrev S64x2x8x64x2x64 : Shape := ⟨6, ![64, 2, 8, 64, 2, 64]⟩
abbrev S2x64x64x8x2x64 : Shape := ⟨6, ![2, 64, 64, 8, 2, 64]⟩
abbrev S2x4096x16x64 : Shape := ⟨4, ![2, 4096, 16, 64]⟩
abbrev S_ : Shape := ⟨0, ![]⟩
abbrev S2x4096x16 : Shape := ⟨3, ![2, 4096, 16]⟩
abbrev S2x4096x16x1 : Shape := ⟨4, ![2, 4096, 16, 1]⟩
abbrev S1024 : Shape := ⟨1, ![1024]⟩
abbrev S1x1x1024 : Shape := ⟨3, ![1, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S64x16x64x128, .f32⟩
  | .hbm, ⟨1, _⟩ => ⟨S2x4096x1024, .f32⟩
  | .hbm, ⟨2, _⟩ => ⟨S2x4096x1024, .f32⟩
  | .hbm, ⟨3, _⟩ => ⟨S1x1024, .f32⟩
  | .hbm, ⟨4, _⟩ => ⟨S1x1024, .f32⟩
  | .hbm, ⟨5, _⟩ => ⟨S64x2x8x64x2x64, .f32⟩
  | .hbm, ⟨6, _⟩ => ⟨S2x64x64x8x2x64, .f32⟩
  | .hbm, ⟨7, _⟩ => ⟨S2x4096x16x64, .f32⟩
  | .hbm, ⟨8, _⟩ => ⟨S_, .f32⟩
  | .hbm, ⟨9, _⟩ => ⟨S2x4096x16, .f32⟩
  | .hbm, ⟨10, _⟩ => ⟨S2x4096x16x1, .f32⟩
  | .hbm, ⟨11, _⟩ => ⟨S_, .f32⟩
  | .hbm, ⟨12, _⟩ => ⟨S2x4096x16x1, .f32⟩
  | .hbm, ⟨13, _⟩ => ⟨S2x4096x16x1, .f32⟩
  | .hbm, ⟨14, _⟩ => ⟨S2x4096x16x64, .f32⟩
  | .hbm, ⟨15, _⟩ => ⟨S2x4096x16x64, .f32⟩
  | .hbm, ⟨16, _⟩ => ⟨S2x4096x16x64, .f32⟩
  | .hbm, ⟨17, _⟩ => ⟨S_, .f32⟩
  | .hbm, ⟨18, _⟩ => ⟨S2x4096x16, .f32⟩
  | .hbm, ⟨19, _⟩ => ⟨S2x4096x16x1, .f32⟩
  | .hbm, ⟨20, _⟩ => ⟨S_, .f32⟩
  | .hbm, ⟨21, _⟩ => ⟨S2x4096x16x1, .f32⟩
  | .hbm, ⟨22, _⟩ => ⟨S2x4096x16x1, .f32⟩
  | .hbm, ⟨23, _⟩ => ⟨S2x4096x16x64, .f32⟩
  | .hbm, ⟨24, _⟩ => ⟨S2x4096x16x64, .f32⟩
  | .hbm, ⟨25, _⟩ => ⟨S_, .f32⟩
  | .hbm, ⟨26, _⟩ => ⟨S2x4096x16x1, .f32⟩
  | .hbm, ⟨27, _⟩ => ⟨S2x4096x16x1, .f32⟩
  | .hbm, ⟨28, _⟩ => ⟨S2x4096x16x1, .f32⟩
  | .hbm, ⟨29, _⟩ => ⟨S2x4096x16x64, .f32⟩
  | .hbm, ⟨30, _⟩ => ⟨S2x4096x16x64, .f32⟩
  | .hbm, ⟨31, _⟩ => ⟨S2x4096x1024, .f32⟩
  | .hbm, ⟨32, _⟩ => ⟨S1024, .f32⟩
  | .hbm, ⟨33, _⟩ => ⟨S1x1x1024, .f32⟩
  | .hbm, ⟨34, _⟩ => ⟨S2x4096x1024, .f32⟩
  | .hbm, ⟨35, _⟩ => ⟨S2x4096x1024, .f32⟩
  | .hbm, ⟨36, _⟩ => ⟨S1024, .f32⟩
  | .hbm, ⟨37, _⟩ => ⟨S1x1x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S2x4096x1024, .bf16⟩
  | _, _ => ⟨S64x16x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Prep.lean ====
abbrev S8192x3328 : Shape := ⟨2, ![8192, 3328]⟩
abbrev S1x3328 : Shape := ⟨2, ![1, 3328]⟩
abbrev S1x1024 : Shape := ⟨2, ![1, 1024]⟩
abbrev S1x64x1024 : Shape := ⟨3, ![1, 64, 1024]⟩
abbrev S1x128x1024 : Shape := ⟨3, ![1, 128, 1024]⟩
abbrev S1x16x64 : Shape := ⟨3, ![1, 16, 64]⟩
abbrev S_ : Shape := ⟨0, ![]⟩
abbrev S128x2048 : Shape := ⟨2, ![128, 2048]⟩
abbrev S64x1024 : Shape := ⟨2, ![64, 1024]⟩
abbrev S1 : Shape := ⟨1, ![1]⟩
abbrev S2 : Shape := ⟨1, ![2]⟩
abbrev S3328 : Shape := ⟨1, ![3328]⟩
abbrev S128x1024 : Shape := ⟨2, ![128, 1024]⟩
abbrev S1024 : Shape := ⟨1, ![1024]⟩
abbrev S16x64 : Shape := ⟨2, ![16, 64]⟩
abbrev S8192x1024 : Shape := ⟨2, ![8192, 1024]⟩
abbrev S256x3328 : Shape := ⟨2, ![256, 3328]⟩
abbrev S8x3328 : Shape := ⟨2, ![8, 3328]⟩
abbrev S256x1024 : Shape := ⟨2, ![256, 1024]⟩
abbrev S256x128 : Shape := ⟨2, ![256, 128]⟩
abbrev S256x2048 : Shape := ⟨2, ![256, 2048]⟩
abbrev S128x128 : Shape := ⟨2, ![128, 128]⟩
abbrev S1x128 : Shape := ⟨2, ![1, 128]⟩

abbrev nBuf : Space → Nat
  | .hbm => 51
  | .vmem => 28
  | .smem => 0
  | _ => 0

abbrev bufTy : (tb : Table) → Fin (tcTables nBuf tb) → BufTy
  | .hbm, ⟨0, _⟩ => ⟨S8192x3328, .f32⟩
  | .hbm, ⟨1, _⟩ => ⟨S8192x3328, .f32⟩
  | .hbm, ⟨2, _⟩ => ⟨S1x3328, .f32⟩
  | .hbm, ⟨3, _⟩ => ⟨S1x1024, .f32⟩
  | .hbm, ⟨4, _⟩ => ⟨S1x64x1024, .f32⟩
  | .hbm, ⟨5, _⟩ => ⟨S1x1024, .f32⟩
  | .hbm, ⟨6, _⟩ => ⟨S1x64x1024, .f32⟩
  | .hbm, ⟨7, _⟩ => ⟨S1x128x1024, .f32⟩
  | .hbm, ⟨8, _⟩ => ⟨S1x1024, .f32⟩
  | .hbm, ⟨9, _⟩ => ⟨S1x1024, .f32⟩
  | .hbm, ⟨10, _⟩ => ⟨S1x16x64, .f32⟩
  | .hbm, ⟨11, _⟩ => ⟨S_, .f32⟩
  | .hbm, ⟨12, _⟩ => ⟨S128x2048, .f32⟩
  | .hbm, ⟨13, _⟩ => ⟨S64x1024, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x2048, .f32⟩
  | .hbm, ⟨20, _⟩ => ⟨S64x1024, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S128x2048, .f32⟩
  | .hbm, ⟨27, _⟩ => ⟨S128x2048, .bf16⟩
  | .hbm, ⟨28, _⟩ => ⟨S3328, .f32⟩
  | .hbm, ⟨29, _⟩ => ⟨S128x1024, .f32⟩
  | .hbm, ⟨30, _⟩ => ⟨S128x1024, .bf16⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S16x64, .f32⟩
  | .hbm, ⟨36, _⟩ => ⟨S1024, .f32⟩
  | .hbm, ⟨37, _⟩ => ⟨S1x3328, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .local _ .vmem, ⟨0, _⟩ => ⟨S256x3328, .f32⟩
  | .local _ .vmem, ⟨1, _⟩ => ⟨S256x3328, .f32⟩
  | .local _ .vmem, ⟨2, _⟩ => ⟨S8x3328, .f32⟩
  | .local _ .vmem, ⟨3, _⟩ => ⟨S8x3328, .f32⟩
  | .local _ .vmem, ⟨4, _⟩ => ⟨S1x3328, .f32⟩
  | .local _ .vmem, ⟨5, _⟩ => ⟨S128x2048, .bf16⟩
  | .local _ .vmem, ⟨6, _⟩ => ⟨S128x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S8192x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev main_v27_5 : Ref sig .tc := ⟨.hbm, 48, rfl⟩
abbrev main_v27_6 : Ref sig .tc := ⟨.hbm, 49, rfl⟩
abbrev main_v27_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3328 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PrepRefIdeal.lean ====
abbrev S8192x3328 : Shape := ⟨2, ![8192, 3328]⟩
abbrev S1x3328 : Shape := ⟨2, ![1, 3328]⟩
abbrev S1x1024 : Shape := ⟨2, ![1, 1024]⟩
abbrev S1x64x1024 : Shape := ⟨3, ![1, 64, 1024]⟩
abbrev S1x128x1024 : Shape := ⟨3, ![1, 128, 1024]⟩
abbrev S1x16x64 : Shape := ⟨3, ![1, 16, 64]⟩
abbrev S2x4096x3328 : Shape := ⟨3, ![2, 4096, 3328]⟩
abbrev S2x4095x3328 : Shape := ⟨3, ![2, 4095, 3328]⟩
abbrev S_ : Shape := ⟨0, ![]⟩
abbrev S3328 : Shape := ⟨1, ![3328]⟩
abbrev S1x1x3328 : Shape := ⟨3, ![1, 1, 3328]⟩
abbrev S2x4096x1024 : Shape := ⟨3, ![2, 4096, 1024]⟩
abbrev S2x4096x64 : Shape := ⟨3, ![2, 4096, 64]⟩
abbrev S2x4096x128 : Shape := ⟨3, ![2, 4096, 128]⟩
abbrev S1024 : Shape := ⟨1, ![1024]⟩
abbrev S64x1024 : Shape := ⟨2, ![64, 1024]⟩
abbrev S1x1x1024 : Shape := ⟨3, ![1, 1, 1024]⟩
abbrev S128x1024 : Shape := ⟨2, ![128, 1024]⟩
abbrev S2x4096x16x64 : Shape := ⟨4, ![2, 4096, 16, 64]⟩
abbrev S2x4096x16 : Shape := ⟨3, ![2, 4096, 16]⟩
abbrev S2x4096x16x1 : Shape := ⟨4, ![2, 4096, 16, 1]⟩
abbrev S16x64 : Shape := ⟨2, ![16, 64]⟩
abbrev S1x1x16x64 : Shape := ⟨4, ![1, 1, 16, 64]⟩
abbrev S8192x1024 : Shape := ⟨2, ![8192, 1024]⟩

abbrev nBuf : Space → Nat
  | .hbm => 131
  | .vmem => 0
  | .smem => 0
  | _ => 0

abbrev hbmTy0_0 (i : Nat) : BufTy := match i % 128 with
  | 0 => ⟨S8192x3328, .f32⟩
  | 1 => ⟨S8192x3328, .f32⟩
  | 2 => ⟨S1x3328, .f32⟩
  | 3 => ⟨S1x1024, .f32⟩
  | 4 => ⟨S1x64x1024, .f32⟩
  | 5 => ⟨S1x1024, .f32⟩
  | 6 => ⟨S1x64x1024, .f32⟩
  | 7 => ⟨S1x128x1024, .f32⟩
  | 8 => ⟨S1x1024, .f32⟩
  | 9 => ⟨S1x1024, .f32⟩
  | 10 => ⟨S1x16x64, .f32⟩
  | 11 => ⟨S2x4096x3328, .f32⟩
  | 12 => ⟨S2x4095x3328, .f32⟩
  | 13 => ⟨S_, .i32⟩
  | 14 => ⟨S_, .f32⟩
  | 15 => ⟨S2x4096x3328, .f32⟩
  | 16 => ⟨S2x4096x3328, .f32⟩
  | 17 => ⟨S3328, .f32⟩
  | 18 => ⟨S1x1x3328, .f32⟩
  | 19 => ⟨S2x4096x3328, .f32⟩
  | 20 => ⟨S2x4096x3328, .f32⟩
  | 21 => ⟨S2x4096x3328, .f32⟩
  | 22 => ⟨S2x4096x1024, .f32⟩
  | 23 => ⟨S2x4096x1024, .f32⟩
  | 24 => ⟨S2x4096x1024, .f32⟩
  | 25 => ⟨S2x4096x64, .f32⟩
  | 26 => ⟨S2x4096x64, .f32⟩
  | 27 => ⟨S2x4096x128, .f32⟩
  | 28 => ⟨S1024, .f32⟩
  | 29 => ⟨S2x4096x64, .f32⟩
  | 30 => ⟨S64x1024, .f32⟩
  | 31 => ⟨S2x4096x1024, .f32⟩
  | 32 => ⟨S1x1x1024, .f32⟩
  | 33 => ⟨S2x4096x1024, .f32⟩
  | 34 => ⟨S2x4096x1024, .f32⟩
  | 35 => ⟨S2x4096x1024, .f32⟩
  | 36 => ⟨S_, .f32⟩
  | 37 => ⟨S2x4096x1024, .f32⟩
  | 38 => ⟨S2x4096x1024, .f32⟩
  | 39 => ⟨S2x4096x1024, .f32⟩
  | 40 => ⟨S2x4096x1024, .f32⟩
  | 41 => ⟨S2x4096x1024, .i1⟩
  | 42 => ⟨S2x4096x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S2x4096x1024, .f32⟩
  | 49 => ⟨S2x4096x1024, .f32⟩
  | 50 => ⟨S2x4096x1024, .f32⟩
  | 51 => ⟨S_, .f32⟩
  | 52 => ⟨S2x4096x1024, .f32⟩
  | 53 => ⟨S2x4096x1024, .f32⟩
  | 54 => ⟨S2x4096x1024, .f32⟩
  | 55 => ⟨S2x4096x1024, .f32⟩
  | 56 => ⟨S2x4096x1024, .f32⟩
  | 57 => ⟨S1024, .f32⟩
  | 58 => ⟨S64x1024, .f32⟩
  | 59 => ⟨S2x4096x1024, .f32⟩
  | 60 => ⟨S1x1x1024, .f32⟩
  | 61 => ⟨S2x4096x1024, .f32⟩
  | 62 => ⟨S2x4096x1024, .f32⟩
  | 63 => ⟨S2x4096x1024, .f32⟩
  | 64 => ⟨S2x4096x1024, .f32⟩
  | 65 => ⟨S_, .f32⟩
  | 66 => ⟨S2x4096x1024, .f32⟩
  | 67 => ⟨S2x4096x1024, .f32⟩
  | 68 => ⟨S_, .f32⟩
  | 69 => ⟨S2x4096x1024, .f32⟩
  | 70 => ⟨S2x4096x1024, .f32⟩
  | 71 => ⟨S2x4096x128, .f32⟩
  | 72 => ⟨S2x4096x128, .f32⟩
  | 73 => ⟨S_, .f32⟩
  | 74 => ⟨S2x4096x128, .f32⟩
  | 75 => ⟨S2x4096x128, .f32⟩
  | 76 => ⟨S_, .f32⟩
  | 77 => ⟨S2x4096x128, .f32⟩
  | 78 => ⟨S2x4096x128, .f32⟩
  | 79 => ⟨S128x1024, .f32⟩
  | 80 => ⟨S2x4096x1024, .f32⟩
  | 81 => ⟨S1024, .f32⟩
  | 82 => ⟨S1x1x1024, .f32⟩
  | 83 => ⟨S2x4096x1024, .f32⟩
  | 84 => ⟨S2x4096x1024, .f32⟩
  | 85 => ⟨S2x4096x16x64, .f32⟩
  | 86 => ⟨S2x4096x16x64, .f32⟩
  | 87 => ⟨S_, .f32⟩
  | 88 => ⟨S2x4096x16, .f32⟩
  | 89 => ⟨S2x4096x16x1, .f32⟩
  | 90 => ⟨S_, .f32⟩
  | 91 => ⟨S2x4096x16x1, .f32⟩
  | 92 => ⟨S2x4096x16x1, .f32⟩
  | 93 => ⟨S2x4096x16x1, .f32⟩
  | 94 => ⟨S2x4096x16x64, .f32⟩
  | 95 => ⟨S2x4096x16x64, .f32⟩
  | 96 => ⟨S_, .f32⟩
  | 97 => ⟨S2x4096x1024, .f32⟩
  | 98 => ⟨S2x4096x1024, .f32⟩
  | 99 => ⟨S1024, .f32⟩
  | 100 => ⟨S1x1x1024, .f32⟩
  | 101 => ⟨S2x4096x1024, .f32⟩
  | 102 => ⟨S2x4096x1024, .f32⟩
  | 103 => ⟨S_, .f32⟩
  | 104 => ⟨S2x4096x1024, .f32⟩
  | 105 => ⟨S2x4096x1024, .f32⟩
  | 106 => ⟨S2x4096x1024, .f32⟩
  | 107 => ⟨S2x4096x16x64, .f32⟩
  | 108 => ⟨S2x4096x16x64, .f32⟩
  | 109 => ⟨S2x4096x16x64, .f32⟩
  | 110 => ⟨S2x4096x16x64, .f32⟩
  | 111 => ⟨S2x4096x16x64, .f32⟩
  | 112 => ⟨S16x64, .f32⟩
  | 113 => ⟨S1x1x16x64, .f32⟩
  | 114 => ⟨S2x4096x16x64, .f32⟩
  | 115 => ⟨S2x4096x16x64, .f32⟩
  | 116 => ⟨S_, .f32⟩
  | 117 => ⟨S2x4096x16, .f32⟩
  | 118 => ⟨S2x4096x16x1, .f32⟩
  | 119 => ⟨S2x4096x16x64, .f32⟩
  | 120 => ⟨S2x4096x16x64, .f32⟩
  | 121 => ⟨S8192x1024, .f32⟩
  | 122 => ⟨S8192x1024, .f32⟩
  | 123 => ⟨S8192x1024, .f32⟩
  | 124 => ⟨S8192x1024, .f32⟩
  | 125 => ⟨S2x4096x16x64, .f32⟩
  | 126 => ⟨S8192x1024, .f32⟩
  | 127 => ⟨S2x4096x16x64, .f32⟩
  | _ => ⟨S8192x3328, .f32⟩

abbrev hbmTy0_1 (i : Nat) : BufTy := match i % 128 with
  | 0 => ⟨S8192x1024, .f32⟩
  | 1 => ⟨S8192x1024, .f32⟩
  | 2 => ⟨S8192x1024, .f32⟩
  | _ => ⟨S8192x3328, .f32⟩

abbrev hbmTy (i : Nat) : BufTy := match i / 128 with
  | 0 => hbmTy0_0 i
  | 1 => hbmTy0_1 i
  | _ => ⟨S8192x3328, .f32⟩

abbrev bufTy : (tb : Table) → Fin (tcTables nBuf tb) → BufTy
  | .hbm, ⟨i, _⟩ => hbmTy i
  | _, _ => ⟨S8192x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_v23 : Ref sig .tc := ⟨.hbm, 49, rfl⟩
abbrev main_v24 : Ref sig .tc := ⟨.hbm, 50, rfl⟩
abbrev main_cst : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_0 : Ref sig .tc := ⟨.hbm, 65, rfl⟩
abbrev main_v38 : Ref sig .tc := ⟨.hbm, 66, rfl⟩
abbrev main_v39 : Ref sig .tc := ⟨.hbm, 67, rfl⟩
abbrev main_cst_1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_2 : Ref sig .tc := ⟨.hbm, 73, rfl⟩
abbrev main_v44 : Ref sig .tc := ⟨.hbm, 74, rfl⟩
abbrev main_v45 : Ref sig .tc := ⟨.hbm, 75, rfl⟩
abbrev main_cst_3 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_4 : Ref sig .tc := ⟨.hbm, 87, rfl⟩
abbrev main_v56 : Ref sig .tc := ⟨.hbm, 88, rfl⟩
abbrev main_v57 : Ref sig .tc := ⟨.hbm, 89, rfl⟩
abbrev main_cst_5 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_6 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_7 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_8 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]
-- ==== Proof.Pins.lean ====
/-
  The precondition's tables, decoded: entry `k` of the two tables is the block row and the block column of the `k`-th block
  of the lower triangle, so the tables are the pinned ones.
-/
module

public import proofs.«01_k».proof.Proof.Gen.Kernel.Flash
public import proofs.«01_k».proof.Proof.Gen.KernelIdeal.Flash
public import proofs.«01_k».proof.Proof.Gen.Pre_triangle
public import proofs.«01_k».proof.Proof.Gen.Pre_triangle_finite
public import Idealize.ShloMosaic.Lib.Pointwise
public import Idealize.ShloMosaic.Lib.ReduceAll

@[expose] public section

noncomputable section

namespace Cert.Attn

open Idealize.ShloMosaic

/-- A conjunction of flags that is set has both set. -/
theorem andi_both {a b : BitVec 1} (h : IntOp.andi a b = 1#1) : a = 1#1 ∧ b = 1#1 := by
  revert a b; decide

/-- A set flag of an equality of words. -/
theorem eq_of_cmpi {a b : BitVec 32} (h : IntOp.cmpi .eq a b = 1#1) : a = b := by
  simp only [IntOp.cmpi] at h
  by_contra hne
  have : (a == b) = false := by simpa using hne
  rw [this] at h; exact absurd h (by decide)

/-- The tables at an entry, from the precondition that pins them. -/
theorem tables_of_triangle {F : FTy → Type} [FloatOps F] (a0 a1 : IVec Cert.Pre_triangle.S36 32) (a2 a3 a4 a5 a6 a7 a8 a9)
    (k : Fin 36) (h : @Cert.Pre_triangle.fn Cert.Pre_triangle.Gen.facts F _ a0 a1 a2 a3 a4 a5 a6 a7 a8 a9 (ix1 k) = 1#1) :
    a0 (ix1 k) = Cert.KernelIdeal.Gen.pinT_0 0 (ix1 k) ∧ a1 (ix1 k) = Cert.KernelIdeal.Gen.pinT_1 0 (ix1 k) := by
  have h0 := eq_of_cmpi (andi_both h).1
  have h1 := eq_of_cmpi (andi_both h).2
  refine ⟨h0.trans ?_, h1.trans ?_⟩
  · clear h0 h1 h; revert k; decide +kernel
  · clear h0 h1 h; revert k; decide +kernel

/-- The one index of a rank-0 shape. -/
instance : Subsingleton (⟨0, ![]⟩ : Shape).Idx := ⟨fun _ _ => funext fun a => a.elim0⟩

/-- An extended real of finite magnitude is a real number. -/
theorem coe_of_abs_lt {y : EReal} (h : Ideal.cmp .olt (max y (-y)) (Ideal.ofBits .f32 0x7F800000#32) = 1#1) : ((y.toReal : ℝ) : EReal) = y := by
  have ht : Ideal.ofBits .f32 0x7F800000#32 = ⊤ := by simp [Ideal.ofBits, Ideal.ieee]
  rw [ht] at h
  induction y with
  | bot => simp [Ideal.cmp] at h
  | top => simp [Ideal.cmp] at h
  | coe r => rfl

/-- What the precondition on the values says: the tables are the pinned ones, and the queries, the keys, the values and the
    four vectors of the second map's factor are real numbers where the kernel reads them. -/
theorem of_triangle_finite (a0 a1 : IVec Cert.Pre_triangle_finite.S36 32)
    (a2 a3 : FVec Ideal Cert.Pre_triangle_finite.S2x4096x2048 .bf16) (a4 : FVec Ideal Cert.Pre_triangle_finite.S2x4096x1024 .bf16)
    (a5 a6 a7 a8 : FVec Ideal Cert.Pre_triangle_finite.S1x64 .f32) (a9)
    (h : ∀ k : Fin 36, @Cert.Pre_triangle_finite.fn Cert.Pre_triangle_finite.Gen.facts Ideal _ a0 a1 a2 a3 a4 a5 a6 a7 a8 a9 (ix1 k) = 1#1) :
    (∀ k : Fin 36, a0 (ix1 k) = Cert.KernelIdeal.Gen.pinT_0 0 (ix1 k) ∧ a1 (ix1 k) = Cert.KernelIdeal.Gen.pinT_1 0 (ix1 k))
    ∧ (∀ (b : Fin 2) (r : Fin 4096) (l : Fin 1024), ((a2 (ix3 b r ⟨l.val, by omega⟩)).toReal : EReal) = a2 (ix3 b r ⟨l.val, by omega⟩))
    ∧ (∀ (b : Fin 2) (r : Fin 4096) (l : Fin 1024), ((a3 (ix3 b r ⟨1024 + l.val, by omega⟩)).toReal : EReal) = a3 (ix3 b r ⟨1024 + l.val, by omega⟩))
    ∧ (∀ (b : Fin 2) (r : Fin 4096) (l : Fin 1024), ((a4 (ix3 b r l)).toReal : EReal) = a4 (ix3 b r l))
    ∧ (∀ l : Fin 64, ((a5 (ix2 0 l)).toReal : EReal) = a5 (ix2 0 l)) ∧ (∀ l : Fin 64, ((a6 (ix2 0 l)).toReal : EReal) = a6 (ix2 0 l))
    ∧ (∀ l : Fin 64, ((a7 (ix2 0 l)).toReal : EReal) = a7 (ix2 0 l)) ∧ (∀ l : Fin 64, ((a8 (ix2 0 l)).toReal : EReal) = a8 (ix2 0 l)) := by
  have e0 := andi_both (h 0)
  have e1 := andi_both e0.1
  have e2 := andi_both e1.1
  have e3 := andi_both e2.1
  have e4 := andi_both e3.1
  have e5 := andi_both e4.1
  have e6 := andi_both e5.1
  refine ⟨fun k => ?_, fun b r l => ?_, fun b r l => ?_, fun b r l => ?_, fun l => ?_, fun l => ?_, fun l => ?_, fun l => ?_⟩
  · have t := andi_both (andi_both (andi_both (andi_both (andi_both (andi_both (andi_both (andi_both (h k)).1).1).1).1).1).1).1
    have h0 := eq_of_cmpi t.1
    have h1 := eq_of_cmpi t.2
    refine ⟨h0.trans ?_, h1.trans ?_⟩
    · clear t h0 h1 e0 e1 e2 e3 e4 e5 e6 h; revert k; decide +kernel
    · clear t h0 h1 e0 e1 e2 e3 e4 e5 e6 h; revert k; decide +kernel
  · refine coe_of_abs_lt ((?_ : _ = _).trans (Host.reduce_andi_all _ _ _ _ _ e6.2 (ix3 b r l)))
    pointwise
    rfl
  · refine coe_of_abs_lt ((?_ : _ = _).trans (Host.reduce_andi_all _ _ _ _ _ e5.2 (ix3 b r l)))
    pointwise
    rfl
  · refine coe_of_abs_lt ((?_ : _ = _).trans (Host.reduce_andi_all _ _ _ _ _ e4.2 (ix3 b r l)))
    pointwise
    rfl
  · refine coe_of_abs_lt ((?_ : _ = _).trans (Host.reduce_andi_all _ _ _ _ _ e3.2 (ix2 0 l)))
    pointwise
    rfl
  · refine coe_of_abs_lt ((?_ : _ = _).trans (Host.reduce_andi_all _ _ _ _ _ e2.2 (ix2 0 l)))
    pointwise
    rfl
  · refine coe_of_abs_lt ((?_ : _ = _).trans (Host.reduce_andi_all _ _ _ _ _ e1.2 (ix2 0 l)))
    pointwise
    rfl
  · refine coe_of_abs_lt ((?_ : _ = _).trans (Host.reduce_andi_all _ _ _ _ _ e0.2 (ix2 0 l)))
    pointwise
    rfl

end Cert.Attn

end
-- ==== Proof.Frames.lean ====
/-
  The frames of the three programs. The kernels' tables are the pinned ones by the precondition; the reference is host code
  without a semaphore.
-/
module

public import proofs.«01_k».proof.Proof.Pins
public import proofs.«01_k».proof.Proof.Gen.ReferenceIdeal.Run
public import Idealize.ShloMosaic.Lib.Quiescent

@[expose] public section

noncomputable section

namespace Cert.Attn

open Idealize.ShloMosaic Idealize.SL.Sem

/-- Every index of a table is `ix1` of its coordinate. -/
theorem table_idx (x : (⟨1, ![36]⟩ : Shape).Idx) : x = ix1 (x 0) := by
  funext a; fin_cases a; rfl

/-- The kernel's tables are the pinned ones. -/
theorem pinned_kernel (m : (ℓ : Loc Cert.Kernel.nD Cert.Kernel.τ Cert.Kernel.sig) → Buf (Elt Bits) ℓ)
    (h : Cert.Pre_Kernel (hPre_triangle := Cert.Pre_triangle.Gen.facts) m) : Cert.Kernel.Gen.Pinned 0 m := by
  refine ⟨fun c => funext fun x => ?_, fun c => funext fun x => ?_⟩
  · have t := (tables_of_triangle _ _ _ _ _ _ _ _ _ _ (x 0) (congrFun (h c) (ix1 (x 0)))).1
    rw [table_idx x]; exact t
  · have t := (tables_of_triangle _ _ _ _ _ _ _ _ _ _ (x 0) (congrFun (h c) (ix1 (x 0)))).2
    rw [table_idx x]; exact t

/-- The ideal kernel's tables are the pinned ones. -/
theorem pinned_ideal (m : (ℓ : Loc Cert.KernelIdeal.nD Cert.KernelIdeal.τ Cert.KernelIdeal.sig) → Buf (Elt Ideal) ℓ)
    (h : Cert.Pre_KernelIdeal (hPre_triangle := Cert.Pre_triangle.Gen.facts) m) : Cert.KernelIdeal.Gen.Pinned 0 m := by
  refine ⟨fun c => funext fun x => ?_, fun c => funext fun x => ?_⟩
  · have t := (tables_of_triangle _ _ _ _ _ _ _ _ _ _ (x 0) (congrFun (h c) (ix1 (x 0)))).1
    rw [table_idx x]; exact t
  · have t := (tables_of_triangle _ _ _ _ _ _ _ _ _ _ (x 0) (congrFun (h c) (ix1 (x 0)))).2
    rw [table_idx x]; exact t

/-- The same from the precondition that also bounds the values. -/
theorem pinned_finite (m : (ℓ : Loc Cert.KernelIdeal.nD Cert.KernelIdeal.τ Cert.KernelIdeal.sig) → Buf (Elt Ideal) ℓ)
    (h : Cert.Pre_KernelIdeal_triangle_finite (hPre_triangle_finite := Cert.Pre_triangle_finite.Gen.facts) m) :
    Cert.KernelIdeal.Gen.Pinned 0 m := by
  refine ⟨fun c => funext fun x => ?_, fun c => funext fun x => ?_⟩
  · have t := ((of_triangle_finite _ _ _ _ _ _ _ _ _ _ fun k => congrFun (h c) (ix1 k)).1 (x 0)).1
    rw [table_idx x]; exact t
  · have t := ((of_triangle_finite _ _ _ _ _ _ _ _ _ _ fun k => congrFun (h c) (ix1 k)).1 (x 0)).2
    rw [table_idx x]; exact t

/-- The kernel's frame. -/
theorem frame_kernel : Cert.quiescent_Kernel (hKernel := Cert.Kernel.Gen.facts) (hPre_triangle := Cert.Pre_triangle.Gen.facts) :=
  fun m ρ h => Cert.Kernel.Gen.frame 0 m ρ (pinned_kernel m h)

/-- The ideal kernel's frame. -/
theorem frame_ideal : Cert.quiescent_KernelIdeal (hKernelIdeal := Cert.KernelIdeal.Gen.facts) (hPre_triangle := Cert.Pre_triangle.Gen.facts) :=
  fun m ρ h => Cert.KernelIdeal.Gen.frame 0 m ρ (pinned_ideal m h)

/-- The ideal kernel's frame where the values are real numbers. -/
theorem frame_finite : Cert.quiescent_KernelIdeal_pre_triangle_finite (hKernelIdeal := Cert.KernelIdeal.Gen.facts)
    (hPre_triangle_finite := Cert.Pre_triangle_finite.Gen.facts) :=
  fun m ρ h => Cert.KernelIdeal.Gen.frame 0 m ρ (pinned_finite m h)

/-- The reference's frame. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

theorem frame_reference_finite : Cert.quiescent_ReferenceIdeal_pre_triangle_finite (hReferenceIdeal := Cert.ReferenceIdeal.Gen.facts)
    (hPre_triangle_finite := Cert.Pre_triangle_finite.Gen.facts) :=
  fun m ρ _ => frame_reference m ρ trivial

end Cert.Attn

end
-- ==== Proof.Steps.lean ====
/-
  One block of keys absorbed by one head map, as vector operations and read at an index.
-/
module

public import proofs.«01_k».proof.Proof.Gen.KernelIdeal.Skeleton
public import Idealize.ShloMosaic.Lib.Pointwise
public import Idealize.ShloMosaic.Lib.WordCmp

@[expose] public section

noncomputable section

namespace Cert.Attn

open Idealize.ShloMosaic
open Cert.KernelIdeal Cert.KernelIdeal.Gen

/-- The scores of 512 queries against 512 keys of one head map. -/
def scores (k q : Vec Ideal S1x512x128 .bf16) : FVec Ideal S512x512 .f32 :=
  matmul (φ₁ := .bf16) (φ₂ := .bf16) dot_S512x128_S512x128_S512x512_1_1_0_0_n_n none (shapeCast S512x128 q shapeCasts_S1x512x128_S512x128)
    (shapeCast S512x128 k shapeCasts_S1x512x128_S512x128) (constant S512x512 .f32 0x00000000#32)

/-- The scores of the diagonal block: a key behind its query is masked. -/
def masked (s : FVec Ideal S512x512 .f32) : FVec Ideal S512x512 .f32 :=
  select (cmpi .sle (iota .tc S512x512 32 [1] iota_S512x512_d1_w32) (iota .tc S512x512 32 [0] iota_S512x512_d0_w32)) s
    (broadcast S512x512 (Scalar.ofBits (F := Ideal) .f32 0xFF800000#32))

/-- The running maximum, on every lane. -/
def newM (s : FVec Ideal S512x512 .f32) (m : Vec Ideal S1x512x128 .f32) : FVec Ideal S512x128 .f32 :=
  maximumf (shapeCast S512x128 m shapeCasts_S1x512x128_S512x128)
    (broadcastTo S512x128 (shapeCast S512x1 (multiReduction .maximumf [1] S512 s 0xFF800000#32 reduces_S512x512_S512 (.inl rfl) rfl)
      shapeCasts_S512_S512x1) broadcasts_S512x1_S512x128)

/-- The factor that carries the old sums to the new maximum. -/
def scale (s : FVec Ideal S512x512 .f32) (m : Vec Ideal S1x512x128 .f32) : FVec Ideal S512x128 .f32 :=
  exp (subf (shapeCast S512x128 m shapeCasts_S1x512x128_S512x128) (newM s m))

/-- The block's weights. -/
def weights (s : FVec Ideal S512x512 .f32) (m : Vec Ideal S1x512x128 .f32) : FVec Ideal S512x512 .f32 :=
  exp (subf s (concatenate S512x512 1 [⟨S512x128, newM s m⟩, ⟨S512x128, newM s m⟩, ⟨S512x128, newM s m⟩, ⟨S512x128, newM s m⟩]
    concatenates_S512x128_S512x128_S512x128_S512x128_S512x512_d1))

/-- The running maximum as it is stored. -/
def putM (s : FVec Ideal S512x512 .f32) (m : Vec Ideal S1x512x128 .f32) : FVec Ideal S1x512x128 .f32 :=
  shapeCast S1x512x128 (newM s m) shapeCasts_S512x128_S1x512x128

/-- The running sum of weights as it is stored. -/
def putL (s : FVec Ideal S512x512 .f32) (m l : Vec Ideal S1x512x128 .f32) : FVec Ideal S1x512x128 .f32 :=
  shapeCast S1x512x128 (addf (mulf (scale s m) (shapeCast S512x128 l shapeCasts_S1x512x128_S512x128))
    (broadcastTo S512x128 (shapeCast S512x1 (multiReduction .add [1] S512 (weights s m) 0x00000000#32 reduces_S512x512_S512 (.inl rfl) rfl)
      shapeCasts_S512_S512x1) broadcasts_S512x1_S512x128)) shapeCasts_S512x128_S1x512x128

/-- The running weighted sum of values as it is stored. -/
def putA (s : FVec Ideal S512x512 .f32) (m a : Vec Ideal S1x512x128 .f32) (v : Vec Ideal S1x512x128 .bf16) : FVec Ideal S1x512x128 .f32 :=
  shapeCast S1x512x128 (addf (mulf (scale s m) (shapeCast S512x128 a shapeCasts_S1x512x128_S512x128))
    (matmul (φ₁ := .bf16) (φ₂ := .bf16) dot_S512x512_S512x128_S512x128_1_0_0_1_n_n none (truncf .bf16 (weights s m) bitsLt_bf16_f32)
      (shapeCast S512x128 v shapeCasts_S1x512x128_S512x128) (constant S512x128 .f32 0x00000000#32))) shapeCasts_S512x128_S1x512x128

/-- The word of minus infinity. -/
theorem ofBits_bot : Ideal.ofBits .f32 0xFF800000#32 = ⊥ := by simp [Ideal.ofBits, Ideal.ieee]

/-- A maximum folded from `⊥` is the supremum. -/
theorem fold_max_bot {ι : Type*} (t : Finset ι) (f : ι → EReal) : t.fold max ⊥ f = t.sup f := by
  classical
  induction t using Finset.induction_on with
  | empty => simp
  | insert a t ha ih => rw [Finset.fold_insert ha, Finset.sup_insert, ih]

theorem scores_apply (k q : Vec Ideal S1x512x128 .bf16) (r x : Fin 512) :
    scores k q (ix2 r x) = ∑ d : Fin 128, q (ix3 0 r d) * k (ix3 0 x d) := by
  pointwise [scores]

theorem masked_apply (s : FVec Ideal S512x512 .f32) (r x : Fin 512) :
    masked s (ix2 r x) = if x ≤ r then s (ix2 r x) else ⊥ := by
  pointwise [masked]
  rw [WordCmp.cmpi_sle_ofNat (by have := x.isLt; omega) (by have := r.isLt; omega), Scalar.select_decide, ofBits_bot]
  rfl

theorem newM_apply (s : FVec Ideal S512x512 .f32) (m : Vec Ideal S1x512x128 .f32) (r : Fin 512) (j : Fin 128) :
    newM s m (ix2 r j) = max (m (ix3 0 r j)) (Finset.univ.sup fun x : Fin 512 => s (ix2 r x)) := by
  pointwise [newM]
  rw [ofBits_bot, fold_max_bot]

theorem scale_apply (s : FVec Ideal S512x512 .f32) (m : Vec Ideal S1x512x128 .f32) (r : Fin 512) (j : Fin 128) :
    scale s m (ix2 r j) = Ideal.exp (m (ix3 0 r j) - newM s m (ix2 r j)) := by
  pointwise [scale]

theorem weights_apply (s : FVec Ideal S512x512 .f32) (m : Vec Ideal S1x512x128 .f32) (r x : Fin 512) :
    weights s m (ix2 r x) = Ideal.exp (s (ix2 r x) - newM s m (ix2 r ⟨x.val % 128, Nat.mod_lt _ (by omega)⟩)) := by
  pointwise [weights]
  congr 2
  have := x.isLt
  split
  · congr 2; ext; show x.val = x.val % 128; omega
  split
  · congr 2; ext; show x.val - 128 = x.val % 128; omega
  split
  · congr 2; ext; show x.val - 128 - 128 = x.val % 128; omega
  · congr 2; ext; show x.val - 128 - 128 - 128 = x.val % 128; omega

theorem putM_apply (s : FVec Ideal S512x512 .f32) (m : Vec Ideal S1x512x128 .f32) (r : Fin 512) (j : Fin 128) :
    putM s m (ix3 0 r j) = newM s m (ix2 r j) := by
  pointwise [putM]

theorem putL_apply (s : FVec Ideal S512x512 .f32) (m l : Vec Ideal S1x512x128 .f32) (r : Fin 512) (j : Fin 128) :
    putL s m l (ix3 0 r j) = scale s m (ix2 r j) * l (ix3 0 r j) + ∑ x : Fin 512, weights s m (ix2 r x) := by
  pointwise [putL]

theorem putA_apply (s : FVec Ideal S512x512 .f32) (m a : Vec Ideal S1x512x128 .f32) (v : Vec Ideal S1x512x128 .bf16) (r : Fin 512) (j : Fin 128) :
    putA s m a v (ix3 0 r j) = scale s m (ix2 r j) * a (ix3 0 r j) + ∑ x : Fin 512, weights s m (ix2 r x) * v (ix3 0 x j) := by
  pointwise [putA]

end Cert.Attn

end
-- ==== Proof.Slabs.lean ====
/-
  The scratch buffers hold eight slabs, one per head map; a block window holds four runs of 128 lanes, one per head. Loads
  and piece lists of those shapes, read at an index.
-/
module

public import proofs.«01_k».proof.Proof.Steps
public import proofs.«01_k».proof.Proof.Gen.KernelIdeal.Flash

@[expose] public section

noncomputable section

namespace Cert.Attn

open Idealize.ShloMosaic
open Cert.KernelIdeal Cert.KernelIdeal.Gen

/-- Slab `c` of a scratch buffer. -/
def slab {e : EltTy} (X : S8x512x128.Idx → Elt Ideal e) (c : Fin 8) : Vec Ideal S1x512x128 e :=
  fun j => X (ix3 c (j 1) (j 2))

/-- Lanes `128 h … 128 h + 127` of a block. -/
def lanes {e : EltTy} (X : S1x512x512.Idx → Elt Ideal e) (h : Fin 4) : Vec Ideal S1x512x128 e :=
  fun j => X (ix3 0 (j 1) ⟨128 * h.val + (j 2).val, by have := h.isLt; have := (j 2).isLt; change (j 2).val < 128 at this; omega⟩)

/-- The head, of a block's four, that head map `c` belongs to. -/
def pair (c : Fin 8) : Fin 4 := ⟨c.val / 2, by omega⟩

/-- A slab's piece on a list of pieces. -/
theorem canon_slab {e : EltTy} {n : ℕ} (inb : ∀ a, (![n, 0, 0] : Fin 3 → ℕ) a + S1x512x128.size a ≤ S8x512x128.size a)
    (w : Vec Ideal S1x512x128 e) (L : List (View.Piece (Elt Ideal) S8x512x128 e)) (c : Fin 8) (r : Fin 512) (j : Fin 128) :
    View.canon (⟨Rect.unit (s := S8x512x128) ![n, 0, 0] S1x512x128.size inb, w⟩ :: L) (ix3 c r j)
      = if c.val = n then w (ix3 0 r j) else View.canon L (ix3 c r j) := by
  by_cases h : c.val = n
  · rw [if_pos h]
    have e : (Rect.unit (s := S8x512x128) ![n, 0, 0] S1x512x128.size inb).emb (ix3 0 r j : S1x512x128.Idx) = (ix3 c r j : S8x512x128.Idx) := by
      apply Rect.emb_eq_of_coords
      intro a
      fin_cases a
      · show c.val = n + 1 * 0; omega
      · show r.val = 0 + 1 * r.val; omega
      · show j.val = 0 + 1 * j.val; omega
    rw [← e]; exact View.canon_cons_emb _ _ _ _
  · rw [if_neg h]
    refine View.canon_cons_of_not_mem _ _ ?_
    rw [Rect.mem_set_unit]
    intro hh
    have := hh 0
    change n ≤ c.val ∧ c.val < n + 1 at this
    omega

/-- A head's piece on a list of pieces. -/
theorem canon_lanes {e : EltTy} {n : ℕ} (inb : ∀ a, (![0, 0, n] : Fin 3 → ℕ) a + S1x512x128.size a ≤ S1x512x512.size a)
    (w : Vec Ideal S1x512x128 e) (L : List (View.Piece (Elt Ideal) S1x512x512 e)) (h : Fin 4) (r : Fin 512) (j : Fin 128)
    (hl : 128 * h.val + j.val < 512) (hn : n % 128 = 0) :
    View.canon (⟨Rect.unit (s := S1x512x512) ![0, 0, n] S1x512x128.size inb, w⟩ :: L) (ix3 0 r ⟨128 * h.val + j.val, hl⟩)
      = if 128 * h.val = n then w (ix3 0 r j) else View.canon L (ix3 0 r ⟨128 * h.val + j.val, hl⟩) := by
  by_cases hh : 128 * h.val = n
  · rw [if_pos hh]
    have e : (Rect.unit (s := S1x512x512) ![0, 0, n] S1x512x128.size inb).emb (ix3 0 r j : S1x512x128.Idx)
        = (ix3 0 r ⟨128 * h.val + j.val, hl⟩ : S1x512x512.Idx) := by
      apply Rect.emb_eq_of_coords
      intro a
      fin_cases a
      · show 0 = 0 + 1 * 0; omega
      · show r.val = 0 + 1 * r.val; omega
      · show 128 * h.val + j.val = n + 1 * j.val; omega
    rw [← e]; exact View.canon_cons_emb _ _ _ _
  · rw [if_neg hh]
    refine View.canon_cons_of_not_mem _ _ ?_
    rw [Rect.mem_set_unit]
    intro hc
    have := hc 2
    change n ≤ 128 * h.val + j.val ∧ 128 * h.val + j.val < n + 128 at this
    have := j.isLt
    omega

/-- A piece over the whole buffer. -/
theorem canon_whole {e : EltTy} (inb : ∀ a, (![0, 0, 0] : Fin 3 → ℕ) a + S8x512x128.size a ≤ S8x512x128.size a)
    (w : Vec Ideal S8x512x128 e) (L : List (View.Piece (Elt Ideal) S8x512x128 e)) (c : Fin 8) (r : Fin 512) (j : Fin 128) :
    View.canon (⟨Rect.unit (s := S8x512x128) ![0, 0, 0] S8x512x128.size inb, w⟩ :: L) (ix3 c r j) = w (ix3 c r j) := by
  have e : (Rect.unit (s := S8x512x128) ![0, 0, 0] S8x512x128.size inb).emb (ix3 c r j : S8x512x128.Idx) = (ix3 c r j : S8x512x128.Idx) := by
    apply Rect.emb_eq_of_coords
    intro a
    fin_cases a
    · show c.val = 0 + 1 * c.val; omega
    · show r.val = 0 + 1 * r.val; omega
    · show j.val = 0 + 1 * j.val; omega
  conv_lhs => rw [← e]
  exact View.canon_cons_emb _ _ _ _

/-- The load of a head's lanes from a block. -/
def ldHead (a : Memref sig .tc .vmem S1x512x512 .bf16) (x : Vec Ideal S1x512x512 .bf16) : Fin 4 → Vec Ideal S1x512x128 .bf16
  | 0 => View.readAt (Elt Ideal) a.view (Rect.unit (s := S1x512x512) ![0, 0, 0] S1x512x128.size inb_S1x512x512_S1x512x128_0_0_0).toLoadRect (a.view.rep x)
  | 1 => View.readAt (Elt Ideal) a.view (Rect.unit (s := S1x512x512) ![0, 0, 128] S1x512x128.size inb_S1x512x512_S1x512x128_0_0_128).toLoadRect (a.view.rep x)
  | 2 => View.readAt (Elt Ideal) a.view (Rect.unit (s := S1x512x512) ![0, 0, 256] S1x512x128.size inb_S1x512x512_S1x512x128_0_0_256).toLoadRect (a.view.rep x)
  | 3 => View.readAt (Elt Ideal) a.view (Rect.unit (s := S1x512x512) ![0, 0, 384] S1x512x128.size inb_S1x512x512_S1x512x128_0_0_384).toLoadRect (a.view.rep x)

theorem ldHead_eq (a : Memref sig .tc .vmem S1x512x512 .bf16) (x : Vec Ideal S1x512x512 .bf16) (h : Fin 4) : ldHead a x h = lanes x h := by
  fin_cases h <;>
  · refine (View.readAt_rep _ _ _).trans (funext fun j => congrArg x (funext fun b => Fin.ext ?_))
    fin_cases b
    · show 0 + 1 * (j 0).val = 0
      have := (j 0).isLt; change (j 0).val < 1 at this; omega
    · show 0 + 1 * (j 1).val = (j 1).val; omega
    · first
        | (show 0 + 1 * (j 2).val = 128 * 0 + (j 2).val; omega)
        | (show 128 + 1 * (j 2).val = 128 * 1 + (j 2).val; omega)
        | (show 256 + 1 * (j 2).val = 128 * 2 + (j 2).val; omega)
        | (show 384 + 1 * (j 2).val = 128 * 3 + (j 2).val; omega)

/-- The bounds of slab `c`'s rectangle. -/
theorem inb_slab (c : Fin 8) : ∀ a, (![c.val, 0, 0] : Fin 3 → ℕ) a + S1x512x128.size a ≤ S8x512x128.size a := by
  intro a; fin_cases a
  · show c.val + 1 ≤ 8; omega
  · show 0 + 512 ≤ 512; omega
  · show 0 + 128 ≤ 128; omega

theorem slab_idx (c : Fin 8) (j : S1x512x128.Idx) :
    (Rect.unit (s := S8x512x128) ![c.val, 0, 0] S1x512x128.size (inb_slab c)).toLoadRect.idx j = (ix3 c (j 1) (j 2) : S8x512x128.Idx) := by
  funext b; apply Fin.ext; fin_cases b
  · show c.val + 1 * (j 0).val = c.val
    have := (j 0).isLt; change (j 0).val < 1 at this; omega
  · show 0 + 1 * (j 1).val = (j 1).val; omega
  · show 0 + 1 * (j 2).val = (j 2).val; omega

/-- The load of slab `c` from a scratch buffer. -/
def ldSlab {e : EltTy} (v : Memref sig .tc .vmem S8x512x128 e) (X : v.view.ty.Contents (Elt Ideal)) (c : Fin 8) : Vec Ideal S1x512x128 e :=
  View.readAt (Elt Ideal) v.view (Rect.unit (s := S8x512x128) ![c.val, 0, 0] S1x512x128.size (inb_slab c)).toLoadRect X

theorem ldSlab_eq {e : EltTy} (v : Memref sig .tc .vmem S8x512x128 e) (X : v.view.ty.Contents (Elt Ideal)) (c : Fin 8) :
    ldSlab v X c = slab (v.view.read (Elt Ideal) X) c :=
  funext fun j => congrArg (v.view.read (Elt Ideal) X) (slab_idx c j)

/-- The load of slab `c` from a scratch buffer this point has written. -/
def ldCov {e : EltTy} (v : Memref sig .tc .vmem S8x512x128 e) (L : List (View.Piece (Elt Ideal) S8x512x128 e)) (c : Fin 8) : Vec Ideal S1x512x128 e :=
  v.view.readCov L (Rect.unit (s := S8x512x128) ![c.val, 0, 0] S1x512x128.size (inb_slab c)).toLoadRect

theorem ldCov_eq {e : EltTy} (v : Memref sig .tc .vmem S8x512x128 e) (L : List (View.Piece (Elt Ideal) S8x512x128 e)) (c : Fin 8) :
    ldCov v L c = slab (View.canon L) c := by
  unfold ldCov
  rw [View.readCov_eq_canon']
  exact funext fun j => congrArg (View.canon L) (slab_idx c j)

/-- The eight slabs stored one after the other, the last first, over an earlier list. -/
def eight {e : EltTy} (f : Fin 8 → Vec Ideal S1x512x128 e) (L : List (View.Piece (Elt Ideal) S8x512x128 e)) :
    List (View.Piece (Elt Ideal) S8x512x128 e) :=
  ⟨Rect.unit (s := S8x512x128) ![7, 0, 0] S1x512x128.size inb_S8x512x128_S1x512x128_7_0_0, f 7⟩ ::
  ⟨Rect.unit (s := S8x512x128) ![6, 0, 0] S1x512x128.size inb_S8x512x128_S1x512x128_6_0_0, f 6⟩ ::
  ⟨Rect.unit (s := S8x512x128) ![5, 0, 0] S1x512x128.size inb_S8x512x128_S1x512x128_5_0_0, f 5⟩ ::
  ⟨Rect.unit (s := S8x512x128) ![4, 0, 0] S1x512x128.size inb_S8x512x128_S1x512x128_4_0_0, f 4⟩ ::
  ⟨Rect.unit (s := S8x512x128) ![3, 0, 0] S1x512x128.size inb_S8x512x128_S1x512x128_3_0_0, f 3⟩ ::
  ⟨Rect.unit (s := S8x512x128) ![2, 0, 0] S1x512x128.size inb_S8x512x128_S1x512x128_2_0_0, f 2⟩ ::
  ⟨Rect.unit (s := S8x512x128) ![1, 0, 0] S1x512x128.size inb_S8x512x128_S1x512x128_1_0_0, f 1⟩ ::
  ⟨Rect.unit (s := S8x512x128) ![0, 0, 0] S1x512x128.size inb_S8x512x128_S1x512x128_0_0_0, f 0⟩ :: L

theorem canon_eight {e : EltTy} (f : Fin 8 → Vec Ideal S1x512x128 e) (L : List (View.Piece (Elt Ideal) S8x512x128 e))
    (c : Fin 8) (r : Fin 512) (j : Fin 128) : View.canon (eight f L) (ix3 c r j) = f c (ix3 0 r j) := by
  unfold eight
  rw [canon_slab, canon_slab, canon_slab, canon_slab, canon_slab, canon_slab, canon_slab, canon_slab]
  split_ifs with h7 h6 h5 h4 h3 h2 h1 h0
  · rw [show c = 7 from Fin.ext h7]
  · rw [show c = 6 from Fin.ext h6]
  · rw [show c = 5 from Fin.ext h5]
  · rw [show c = 4 from Fin.ext h4]
  · rw [show c = 3 from Fin.ext h3]
  · rw [show c = 2 from Fin.ext h2]
  · rw [show c = 1 from Fin.ext h1]
  · rw [show c = 0 from Fin.ext h0]
  · omega

/-- The four heads' lanes stored one after the other, the last first. -/
def four {e : EltTy} (f : Fin 4 → Vec Ideal S1x512x128 e) : List (View.Piece (Elt Ideal) S1x512x512 e) :=
  [⟨Rect.unit (s := S1x512x512) ![0, 0, 384] S1x512x128.size inb_S1x512x512_S1x512x128_0_0_384, f 3⟩,
   ⟨Rect.unit (s := S1x512x512) ![0, 0, 256] S1x512x128.size inb_S1x512x512_S1x512x128_0_0_256, f 2⟩,
   ⟨Rect.unit (s := S1x512x512) ![0, 0, 128] S1x512x128.size inb_S1x512x512_S1x512x128_0_0_128, f 1⟩,
   ⟨Rect.unit (s := S1x512x512) ![0, 0, 0] S1x512x128.size inb_S1x512x512_S1x512x128_0_0_0, f 0⟩]

theorem canon_four {e : EltTy} (f : Fin 4 → Vec Ideal S1x512x128 e) (h : Fin 4) (r : Fin 512) (j : Fin 128)
    (hl : 128 * h.val + j.val < 512) : View.canon (four f) (ix3 0 r ⟨128 * h.val + j.val, hl⟩) = f h (ix3 0 r j) := by
  unfold four
  rw [canon_lanes _ _ _ _ _ _ _ (by norm_num), canon_lanes _ _ _ _ _ _ _ (by norm_num), canon_lanes _ _ _ _ _ _ _ (by norm_num),
    canon_lanes _ _ _ _ _ _ _ (by norm_num)]
  split_ifs with h3 h2 h1 h0
  · rw [show h = 3 from Fin.ext (by change h.val = 3; omega)]
  · rw [show h = 2 from Fin.ext (by change h.val = 2; omega)]
  · rw [show h = 1 from Fin.ext (by change h.val = 1; omega)]
  · rw [show h = 0 from Fin.ext (by change h.val = 0; omega)]
  · omega

end Cert.Attn

end
-- ==== Proof.Tail.lean ====
/-
  What the kernel does around the running sums: the zeroed halves of a head's query lanes, and the finish of a head: the
  difference of its two maps, normalised.
-/
module

public import proofs.«01_k».proof.Proof.Steps

@[expose] public section

noncomputable section

namespace Cert.Attn

open Idealize.ShloMosaic
open Cert.KernelIdeal Cert.KernelIdeal.Gen

/-- A head's queries with the upper 64 lanes zeroed. -/
def lowHalf (q : Vec Ideal S1x512x128 .bf16) : FVec Ideal S1x512x128 .bf16 :=
  shapeCast S1x512x128 (select (cmpi .slt (iota .tc S512x128 32 [1] iota_S512x128_d1_w32) (broadcast S512x128 64#32))
    (shapeCast S512x128 q shapeCasts_S1x512x128_S512x128 : FVec Ideal S512x128 .bf16)
    (broadcast S512x128 (Scalar.ofBits (F := Ideal) .bf16 0x0000#16))) shapeCasts_S512x128_S1x512x128

/-- A head's queries with the lower 64 lanes zeroed. -/
def highHalf (q : Vec Ideal S1x512x128 .bf16) : FVec Ideal S1x512x128 .bf16 :=
  shapeCast S1x512x128 (select (cmpi .sge (iota .tc S512x128 32 [1] iota_S512x128_d1_w32) (broadcast S512x128 64#32))
    (shapeCast S512x128 q shapeCasts_S1x512x128_S512x128 : FVec Ideal S512x128 .bf16)
    (broadcast S512x128 (Scalar.ofBits (F := Ideal) .bf16 0x0000#16))) shapeCasts_S512x128_S1x512x128

/-- The factor of the second map. -/
def lam (q1 k1 q2 k2 : Vec Ideal S1x64 .f32) : FVec Ideal S1x1 .f32 :=
  addf (subf (exp (shapeCast S1x1 (multiReduction .add [1] S1 (mulf q1 k1) 0x00000000#32 reduces_S1x64_S1 (.inl rfl) rfl) shapeCasts_S1_S1x1))
    (exp (shapeCast S1x1 (multiReduction .add [1] S1 (mulf q2 k2) 0x00000000#32 reduces_S1x64_S1 (.inl rfl) rfl) shapeCasts_S1_S1x1)))
    (broadcast S1x1 (Scalar.ofBits (F := Ideal) .f32 0x3E4CCCCD#32))

/-- The difference of a head's two maps. -/
def diff (w : FVec Ideal S1x1 .f32) (a0 l0 a1 l1 : Vec Ideal S1x512x128 .f32) : FVec Ideal S512x128 .f32 :=
  subf (divf (shapeCast S512x128 a0 shapeCasts_S1x512x128_S512x128) (shapeCast S512x128 l0 shapeCasts_S1x512x128_S512x128))
    (mulf (broadcastTo S512x128 w broadcasts_S1x1_S512x128)
      (divf (shapeCast S512x128 a1 shapeCasts_S1x512x128_S512x128) (shapeCast S512x128 l1 shapeCasts_S1x512x128_S512x128)))

/-- The normalised head as it is stored. -/
def finish (o : FVec Ideal S512x128 .f32) (g : Vec Ideal S1x128 .f32) : FVec Ideal S1x512x128 .bf16 :=
  shapeCast S1x512x128 (truncf .bf16 (mulf (mulf (mulf o (broadcastTo S512x128 (rsqrt (addf
    (divf (shapeCast S512x1 (multiReduction .add [1] S512 (mulf o o) 0x00000000#32 reduces_S512x128_S512 (.inl rfl) rfl) shapeCasts_S512_S512x1)
      (broadcast S512x1 (Scalar.ofBits (F := Ideal) .f32 0x43000000#32)))
    (broadcast S512x1 (Scalar.ofBits (F := Ideal) .f32 0x3727C5AC#32)))) broadcasts_S512x1_S512x128))
    (broadcastTo S512x128 g broadcasts_S1x128_S512x128))
    (broadcast S512x128 (Scalar.ofBits (F := Ideal) .f32 0x3F4CCCCD#32))) bitsLt_bf16_f32) shapeCasts_S512x128_S1x512x128

end Cert.Attn

end
-- ==== Proof.PathD.lean ====
/-
  The piece lists of the points whose running sums are carried over: each slab is stored as one online-softmax step of the
  slab it was, at a point off the diagonal and at the diagonal point.
-/
module

public import proofs.«01_k».proof.Proof.Slabs
public import proofs.«01_k».proof.Proof.Tail

@[expose] public section

noncomputable section

namespace Cert.Attn

open Idealize.ShloMosaic
open Cert.KernelIdeal Cert.KernelIdeal.Gen

variable (d : Dev nD) (a5 a6 a7 : Memref sig .tc .vmem S1x512x512 .bf16) (a8 a9 a10 a11 : Memref sig .tc .vmem S1x64 .f32)
  (a12 : Memref sig .tc .vmem S1x128 .f32) (x0 x1 x2 : Vec Ideal S1x512x512 .bf16) (x3 x4 x5 x6 : Vec Ideal S1x64 .f32)
  (x7 : Vec Ideal S1x128 .f32) (X0 : Vec Ideal S8x512x128 .bf16) (X1 X2 X3 : Vec Ideal S8x512x128 .f32)

/-- The stored maxima off the diagonal. -/
theorem D_M : kernelRun0_D.sl.HS1_8 d a6 x1 X0 X1 = eight (fun c => putM (scores (ldHead a6 x1 (pair c)) (ldSlab scM0_0 X0 c)) (ldSlab scM0_1 X1 c)) [] := rfl

/-- The stored sums of weights off the diagonal. -/
theorem D_L : kernelRun0_D.sl.HS2_8 d a6 x1 X0 X1 X2
    = eight (fun c => putL (scores (ldHead a6 x1 (pair c)) (ldSlab scM0_0 X0 c)) (ldSlab scM0_1 X1 c) (ldSlab scM0_2 X2 c)) [] := rfl

/-- The stored weighted sums off the diagonal. -/
theorem D_A : kernelRun0_D.sl.HS3_8 d a6 a7 x1 x2 X0 X1 X3
    = eight (fun c => putA (scores (ldHead a6 x1 (pair c)) (ldSlab scM0_0 X0 c)) (ldSlab scM0_1 X1 c) (ldSlab scM0_3 X3 c) (ldHead a7 x2 (pair c))) [] := rfl

/-- The stored maxima on the diagonal. -/
theorem C_M : kernelRun0_C.sl.HS1_8 d a6 x1 X0 X1 = eight (fun c => putM (masked (scores (ldHead a6 x1 (pair c)) (ldSlab scM0_0 X0 c))) (ldSlab scM0_1 X1 c)) [] := rfl

/-- The stored sums of weights on the diagonal. -/
theorem C_L : kernelRun0_C.sl.HS2_8 d a6 x1 X0 X1 X2
    = eight (fun c => putL (masked (scores (ldHead a6 x1 (pair c)) (ldSlab scM0_0 X0 c))) (ldSlab scM0_1 X1 c) (ldSlab scM0_2 X2 c)) [] := rfl

/-- The stored weighted sums on the diagonal. -/
theorem C_A : kernelRun0_C.sl.HS3_8 d a6 a7 x1 x2 X0 X1 X3
    = eight (fun c => putA (masked (scores (ldHead a6 x1 (pair c)) (ldSlab scM0_0 X0 c))) (ldSlab scM0_1 X1 c) (ldSlab scM0_3 X3 c) (ldHead a7 x2 (pair c))) [] := rfl

/-- The load of a small vector. -/
def ldVec (a : Memref sig .tc .vmem S1x64 .f32) (x : Vec Ideal S1x64 .f32) : Vec Ideal S1x64 .f32 :=
  View.readAt (Elt Ideal) a.view (Rect.unit (s := S1x64) ![0, 0] S1x64.size inb_S1x64_S1x64_0_0).toLoadRect (a.view.rep x)

/-- The load of the norm's gain. -/
def ldGain (a : Memref sig .tc .vmem S1x128 .f32) (x : Vec Ideal S1x128 .f32) : Vec Ideal S1x128 .f32 :=
  View.readAt (Elt Ideal) a.view (Rect.unit (s := S1x128) ![0, 0] S1x128.size inb_S1x128_S1x128_0_0).toLoadRect (a.view.rep x)

theorem ldVec_eq (a : Memref sig .tc .vmem S1x64 .f32) (x : Vec Ideal S1x64 .f32) : ldVec a x = x := by
  refine (View.readAt_rep _ _ _).trans (funext fun j => congrArg x (funext fun b => Fin.ext ?_))
  fin_cases b
  · show 0 + 1 * (j 0).val = (j 0).val; omega
  · show 0 + 1 * (j 1).val = (j 1).val; omega

theorem ldGain_eq (a : Memref sig .tc .vmem S1x128 .f32) (x : Vec Ideal S1x128 .f32) : ldGain a x = x := by
  refine (View.readAt_rep _ _ _).trans (funext fun j => congrArg x (funext fun b => Fin.ext ?_))
  fin_cases b
  · show 0 + 1 * (j 0).val = (j 0).val; omega
  · show 0 + 1 * (j 1).val = (j 1).val; omega

/-- The first head map of a head, and the second. -/
def fst (h : Fin 4) : Fin 8 := ⟨2 * h.val, by omega⟩
def snd (h : Fin 4) : Fin 8 := ⟨2 * h.val + 1, by omega⟩

/-- The output block of a carried diagonal point, from the sums it has just stored. -/
theorem C_O : kernelRun0_C.sl.HO8_4 d a6 a7 a8 a9 a10 a11 a12 x1 x2 x3 x4 x5 x6 x7 X0 X1 X2 X3
    = four (fun h => finish (diff (lam (ldVec a8 x3) (ldVec a9 x4) (ldVec a10 x5) (ldVec a11 x6))
        (ldCov scM0_3 (kernelRun0_C.sl.HS3_8 d a6 a7 x1 x2 X0 X1 X3) (fst h)) (ldCov scM0_2 (kernelRun0_C.sl.HS2_8 d a6 x1 X0 X1 X2) (fst h))
        (ldCov scM0_3 (kernelRun0_C.sl.HS3_8 d a6 a7 x1 x2 X0 X1 X3) (snd h)) (ldCov scM0_2 (kernelRun0_C.sl.HS2_8 d a6 x1 X0 X1 X2) (snd h)))
        (ldGain a12 x7)) := rfl

end Cert.Attn

end
-- ==== Proof.PathB.lean ====
/-
  The piece lists of the points that start a row of blocks: each slab is stored as one online-softmax step from the empty
  state, at a point off the diagonal and at the first block of all.
-/
module

public import proofs.«01_k».proof.Proof.PathD

@[expose] public section

noncomputable section

namespace Cert.Attn

open Idealize.ShloMosaic
open Cert.KernelIdeal Cert.KernelIdeal.Gen

variable (d : Dev nD) (a5 a6 a7 : Memref sig .tc .vmem S1x512x512 .bf16) (a8 a9 a10 a11 : Memref sig .tc .vmem S1x64 .f32)
  (a12 : Memref sig .tc .vmem S1x128 .f32) (x0 x1 x2 : Vec Ideal S1x512x512 .bf16) (x3 x4 x5 x6 : Vec Ideal S1x64 .f32)
  (x7 : Vec Ideal S1x128 .f32) (X0 : Vec Ideal S8x512x128 .bf16) (X1 X2 X3 : Vec Ideal S8x512x128 .f32)

/-- The stored queries, off the diagonal: a head's first map keeps the lower lanes, its second the upper. -/
theorem B_Q : kernelRun0_B.sl.HS0_8 a5 x0
    = eight (fun c => match c with
      | 0 => lowHalf (ldHead a5 x0 0) | 1 => highHalf (ldHead a5 x0 0) | 2 => lowHalf (ldHead a5 x0 1) | 3 => highHalf (ldHead a5 x0 1)
      | 4 => lowHalf (ldHead a5 x0 2) | 5 => highHalf (ldHead a5 x0 2) | 6 => lowHalf (ldHead a5 x0 3) | 7 => highHalf (ldHead a5 x0 3)) [] := rfl

/-- The list of buffer 1 as it stands when slab `c` is read. -/
def B_atM : Fin 8 → List (View.Piece (Elt Ideal) S8x512x128 .f32)
  | 0 => kernelRun0_B.sl.HS1_1
  | 1 => kernelRun0_B.sl.HS1_2 a5 a6 x0 x1
  | 2 => kernelRun0_B.sl.HS1_3 a5 a6 x0 x1
  | 3 => kernelRun0_B.sl.HS1_4 a5 a6 x0 x1
  | 4 => kernelRun0_B.sl.HS1_5 a5 a6 x0 x1
  | 5 => kernelRun0_B.sl.HS1_6 a5 a6 x0 x1
  | 6 => kernelRun0_B.sl.HS1_7 a5 a6 x0 x1
  | 7 => kernelRun0_B.sl.HS1_8 a5 a6 x0 x1

/-- Slab `c` is still what the point stored first. -/
theorem B_atM_eq (c : Fin 8) : ldCov scM0_1 (B_atM a5 a6 x0 x1 c) c = slab (k0_pay2 (F := Ideal)) c := by
  rw [ldCov_eq]
  funext j
  have h : ∀ r : Fin 512, ∀ l : Fin 128, View.canon (B_atM a5 a6 x0 x1 c) (ix3 c r l) = k0_pay2 (F := Ideal) (ix3 c r l) := by
    intro r l
    match c with
    | 0 => show View.canon (kernelRun0_B.sl.HS1_1 ) _ = _; unfold kernelRun0_B.sl.HS1_1; rw [canon_whole]
    | 1 => show View.canon (kernelRun0_B.sl.HS1_2 a5 a6 x0 x1) _ = _; unfold kernelRun0_B.sl.HS1_2 kernelRun0_B.sl.HS1_1; rw [canon_slab, if_neg (by decide), canon_whole]
    | 2 => show View.canon (kernelRun0_B.sl.HS1_3 a5 a6 x0 x1) _ = _; unfold kernelRun0_B.sl.HS1_3 kernelRun0_B.sl.HS1_2 kernelRun0_B.sl.HS1_1; rw [canon_slab, if_neg (by decide), canon_slab, if_neg (by decide), canon_whole]
    | 3 => show View.canon (kernelRun0_B.sl.HS1_4 a5 a6 x0 x1) _ = _; unfold kernelRun0_B.sl.HS1_4 kernelRun0_B.sl.HS1_3 kernelRun0_B.sl.HS1_2 kernelRun0_B.sl.HS1_1; rw [canon_slab, if_neg (by decide), canon_slab, if_neg (by decide), canon_slab, if_neg (by decide), canon_whole]
    | 4 => show View.canon (kernelRun0_B.sl.HS1_5 a5 a6 x0 x1) _ = _; unfold kernelRun0_B.sl.HS1_5 kernelRun0_B.sl.HS1_4 kernelRun0_B.sl.HS1_3 kernelRun0_B.sl.HS1_2 kernelRun0_B.sl.HS1_1; rw [canon_slab, if_neg (by decide), canon_slab, if_neg (by decide), canon_slab, if_neg (by decide), canon_slab, if_neg (by decide), canon_whole]
    | 5 => show View.canon (kernelRun0_B.sl.HS1_6 a5 a6 x0 x1) _ = _; unfold kernelRun0_B.sl.HS1_6 kernelRun0_B.sl.HS1_5 kernelRun0_B.sl.HS1_4 kernelRun0_B.sl.HS1_3 kernelRun0_B.sl.HS1_2 kernelRun0_B.sl.HS1_1; rw [canon_slab, if_neg (by decide), canon_slab, if_neg (by decide), canon_slab, if_neg (by decide), canon_slab, if_neg (by decide), canon_slab, if_neg (by decide), canon_whole]
    | 6 => show View.canon (kernelRun0_B.sl.HS1_7 a5 a6 x0 x1) _ = _; unfold kernelRun0_B.sl.HS1_7 kernelRun0_B.sl.HS1_6 kernelRun0_B.sl.HS1_5 kernelRun0_B.sl.HS1_4 kernelRun0_B.sl.HS1_3 kernelRun0_B.sl.HS1_2 kernelRun0_B.sl.HS1_1; rw [canon_slab, if_neg (by decide), canon_slab, if_neg (by decide), canon_slab, if_neg (by decide), canon_slab, if_neg (by decide), canon_slab, if_neg (by decide), canon_slab, if_neg (by decide), canon_whole]
    | 7 => show View.canon (kernelRun0_B.sl.HS1_8 a5 a6 x0 x1) _ = _; unfold kernelRun0_B.sl.HS1_8 kernelRun0_B.sl.HS1_7 kernelRun0_B.sl.HS1_6 kernelRun0_B.sl.HS1_5 kernelRun0_B.sl.HS1_4 kernelRun0_B.sl.HS1_3 kernelRun0_B.sl.HS1_2 kernelRun0_B.sl.HS1_1; rw [canon_slab, if_neg (by decide), canon_slab, if_neg (by decide), canon_slab, if_neg (by decide), canon_slab, if_neg (by decide), canon_slab, if_neg (by decide), canon_slab, if_neg (by decide), canon_slab, if_neg (by decide), canon_whole]
  exact h _ _

/-- The list of buffer 2 as it stands when slab `c` is read. -/
def B_atL : Fin 8 → List (View.Piece (Elt Ideal) S8x512x128 .f32)
  | 0 => kernelRun0_B.sl.HS2_1
  | 1 => kernelRun0_B.sl.HS2_2 a5 a6 x0 x1
  | 2 => kernelRun0_B.sl.HS2_3 a5 a6 x0 x1
  | 3 => kernelRun0_B.sl.HS2_4 a5 a6 x0 x1
  | 4 => kernelRun0_B.sl.HS2_5 a5 a6 x0 x1
  | 5 => kernelRun0_B.sl.HS2_6 a5 a6 x0 x1
  | 6 => kernelRun0_B.sl.HS2_7 a5 a6 x0 x1
  | 7 => kernelRun0_B.sl.HS2_8 a5 a6 x0 x1

/-- Slab `c` is still what the point stored first. -/
theorem B_atL_eq (c : Fin 8) : ldCov scM0_2 (B_atL a5 a6 x0 x1 c) c = slab (k0_pay3 (F := Ideal)) c := by
  rw [ldCov_eq]
  funext j
  have h : ∀ r : Fin 512, ∀ l : Fin 128, View.canon (B_atL a5 a6 x0 x1 c) (ix3 c r l) = k0_pay3 (F := Ideal) (ix3 c r l) := by
    intro r l
    match c with
    | 0 => show View.canon (kernelRun0_B.sl.HS2_1 ) _ = _; unfold kernelRun0_B.sl.HS2_1; rw [canon_whole]
    | 1 => show View.canon (kernelRun0_B.sl.HS2_2 a5 a6 x0 x1) _ = _; unfold kernelRun0_B.sl.HS2_2 kernelRun0_B.sl.HS2_1; rw [canon_slab, if_neg (by decide), canon_whole]
    | 2 => show View.canon (kernelRun0_B.sl.HS2_3 a5 a6 x0 x1) _ = _; unfold kernelRun0_B.sl.HS2_3 kernelRun0_B.sl.HS2_2 kernelRun0_B.sl.HS2_1; rw [canon_slab, if_neg (by decide), canon_slab, if_neg (by decide), canon_whole]
    | 3 => show View.canon (kernelRun0_B.sl.HS2_4 a5 a6 x0 x1) _ = _; unfold kernelRun0_B.sl.HS2_4 kernelRun0_B.sl.HS2_3 kernelRun0_B.sl.HS2_2 kernelRun0_B.sl.HS2_1; rw [canon_slab, if_neg (by decide), canon_slab, if_neg (by decide), canon_slab, if_neg (by decide), canon_whole]
    | 4 => show View.canon (kernelRun0_B.sl.HS2_5 a5 a6 x0 x1) _ = _; unfold kernelRun0_B.sl.HS2_5 kernelRun0_B.sl.HS2_4 kernelRun0_B.sl.HS2_3 kernelRun0_B.sl.HS2_2 kernelRun0_B.sl.HS2_1; rw [canon_slab, if_neg (by decide), canon_slab, if_neg (by decide), canon_slab, if_neg (by decide), canon_slab, if_neg (by decide), canon_whole]
    | 5 => show View.canon (kernelRun0_B.sl.HS2_6 a5 a6 x0 x1) _ = _; unfold kernelRun0_B.sl.HS2_6 kernelRun0_B.sl.HS2_5 kernelRun0_B.sl.HS2_4 kernelRun0_B.sl.HS2_3 kernelRun0_B.sl.HS2_2 kernelRun0_B.sl.HS2_1; rw [canon_slab, if_neg (by decide), canon_slab, if_neg (by decide), canon_slab, if_neg (by decide), canon_slab, if_neg (by decide), canon_slab, if_neg (by decide), canon_whole]
    | 6 => show View.canon (kernelRun0_B.sl.HS2_7 a5 a6 x0 x1) _ = _; unfold kernelRun0_B.sl.HS2_7 kernelRun0_B.sl.HS2_6 kernelRun0_B.sl.HS2_5 kernelRun0_B.sl.HS2_4 kernelRun0_B.sl.HS2_3 kernelRun0_B.sl.HS2_2 kernelRun0_B.sl.HS2_1; rw [canon_slab, if_neg (by decide), canon_slab, if_neg (by decide), canon_slab, if_neg (by decide), canon_slab, if_neg (by decide), canon_slab, if_neg (by decide), canon_slab, if_neg (by decide), canon_whole]
    | 7 => show View.canon (kernelRun0_B.sl.HS2_8 a5 a6 x0 x1) _ = _; unfold kernelRun0_B.sl.HS2_8 kernelRun0_B.sl.HS2_7 kernelRun0_B.sl.HS2_6 kernelRun0_B.sl.HS2_5 kernelRun0_B.sl.HS2_4 kernelRun0_B.sl.HS2_3 kernelRun0_B.sl.HS2_2 kernelRun0_B.sl.HS2_1; rw [canon_slab, if_neg (by decide), canon_slab, if_neg (by decide), canon_slab, if_neg (by decide), canon_slab, if_neg (by decide), canon_slab, if_neg (by decide), canon_slab, if_neg (by decide), canon_slab, if_neg (by decide), canon_whole]
  exact h _ _

/-- The list of buffer 3 as it stands when slab `c` is read. -/
def B_atA : Fin 8 → List (View.Piece (Elt Ideal) S8x512x128 .f32)
  | 0 => kernelRun0_B.sl.HS3_1
  | 1 => kernelRun0_B.sl.HS3_2 a5 a6 a7 x0 x1 x2
  | 2 => kernelRun0_B.sl.HS3_3 a5 a6 a7 x0 x1 x2
  | 3 => kernelRun0_B.sl.HS3_4 a5 a6 a7 x0 x1 x2
  | 4 => kernelRun0_B.sl.HS3_5 a5 a6 a7 x0 x1 x2
  | 5 => kernelRun0_B.sl.HS3_6 a5 a6 a7 x0 x1 x2
  | 6 => kernelRun0_B.sl.HS3_7 a5 a6 a7 x0 x1 x2
  | 7 => kernelRun0_B.sl.HS3_8 a5 a6 a7 x0 x1 x2

/-- Slab `c` is still what the point stored first. -/
theorem B_atA_eq (c : Fin 8) : ldCov scM0_3 (B_atA a5 a6 a7 x0 x1 x2 c) c = slab (k0_pay4 (F := Ideal)) c := by
  rw [ldCov_eq]
  funext j
  have h : ∀ r : Fin 512, ∀ l : Fin 128, View.canon (B_atA a5 a6 a7 x0 x1 x2 c) (ix3 c r l) = k0_pay4 (F := Ideal) (ix3 c r l) := by
    intro r l
    match c with
    | 0 => show View.canon (kernelRun0_B.sl.HS3_1 ) _ = _; unfold kernelRun0_B.sl.HS3_1; rw [canon_whole]
    | 1 => show View.canon (kernelRun0_B.sl.HS3_2 a5 a6 a7 x0 x1 x2) _ = _; unfold kernelRun0_B.sl.HS3_2 kernelRun0_B.sl.HS3_1; rw [canon_slab, if_neg (by decide), canon_whole]
    | 2 => show View.canon (kernelRun0_B.sl.HS3_3 a5 a6 a7 x0 x1 x2) _ = _; unfold kernelRun0_B.sl.HS3_3 kernelRun0_B.sl.HS3_2 kernelRun0_B.sl.HS3_1; rw [canon_slab, if_neg (by decide), canon_slab, if_neg (by decide), canon_whole]
    | 3 => show View.canon (kernelRun0_B.sl.HS3_4 a5 a6 a7 x0 x1 x2) _ = _; unfold kernelRun0_B.sl.HS3_4 kernelRun0_B.sl.HS3_3 kernelRun0_B.sl.HS3_2 kernelRun0_B.sl.HS3_1; rw [canon_slab, if_neg (by decide), canon_slab, if_neg (by decide), canon_slab, if_neg (by decide), canon_whole]
    | 4 => show View.canon (kernelRun0_B.sl.HS3_5 a5 a6 a7 x0 x1 x2) _ = _; unfold kernelRun0_B.sl.HS3_5 kernelRun0_B.sl.HS3_4 kernelRun0_B.sl.HS3_3 kernelRun0_B.sl.HS3_2 kernelRun0_B.sl.HS3_1; rw [canon_slab, if_neg (by decide), canon_slab, if_neg (by decide), canon_slab, if_neg (by decide), canon_slab, if_neg (by decide), canon_whole]
    | 5 => show View.canon (kernelRun0_B.sl.HS3_6 a5 a6 a7 x0 x1 x2) _ = _; unfold kernelRun0_B.sl.HS3_6 kernelRun0_B.sl.HS3_5 kernelRun0_B.sl.HS3_4 kernelRun0_B.sl.HS3_3 kernelRun0_B.sl.HS3_2 kernelRun0_B.sl.HS3_1; rw [canon_slab, if_neg (by decide), canon_slab, if_neg (by decide), canon_slab, if_neg (by decide), canon_slab, if_neg (by decide), canon_slab, if_neg (by decide), canon_whole]
    | 6 => show View.canon (kernelRun0_B.sl.HS3_7 a5 a6 a7 x0 x1 x2) _ = _; unfold kernelRun0_B.sl.HS3_7 kernelRun0_B.sl.HS3_6 kernelRun0_B.sl.HS3_5 kernelRun0_B.sl.HS3_4 kernelRun0_B.sl.HS3_3 kernelRun0_B.sl.HS3_2 kernelRun0_B.sl.HS3_1; rw [canon_slab, if_neg (by decide), canon_slab, if_neg (by decide), canon_slab, if_neg (by decide), canon_slab, if_neg (by decide), canon_slab, if_neg (by decide), canon_slab, if_neg (by decide), canon_whole]
    | 7 => show View.canon (kernelRun0_B.sl.HS3_8 a5 a6 a7 x0 x1 x2) _ = _; unfold kernelRun0_B.sl.HS3_8 kernelRun0_B.sl.HS3_7 kernelRun0_B.sl.HS3_6 kernelRun0_B.sl.HS3_5 kernelRun0_B.sl.HS3_4 kernelRun0_B.sl.HS3_3 kernelRun0_B.sl.HS3_2 kernelRun0_B.sl.HS3_1; rw [canon_slab, if_neg (by decide), canon_slab, if_neg (by decide), canon_slab, if_neg (by decide), canon_slab, if_neg (by decide), canon_slab, if_neg (by decide), canon_slab, if_neg (by decide), canon_slab, if_neg (by decide), canon_whole]
  exact h _ _

/-- The stored maxima off the diagonal. -/
theorem B_M : kernelRun0_B.sl.HS1_9 a5 a6 x0 x1
    = eight (fun c => putM (scores (ldHead a6 x1 (pair c)) (ldCov scM0_0 (kernelRun0_B.sl.HS0_8 a5 x0) c)) (ldCov scM0_1 (B_atM a5 a6 x0 x1 c) c)) kernelRun0_B.sl.HS1_1 := rfl

/-- The stored sums of weights off the diagonal. -/
theorem B_L : kernelRun0_B.sl.HS2_9 a5 a6 x0 x1
    = eight (fun c => putL (scores (ldHead a6 x1 (pair c)) (ldCov scM0_0 (kernelRun0_B.sl.HS0_8 a5 x0) c)) (ldCov scM0_1 (B_atM a5 a6 x0 x1 c) c) (ldCov scM0_2 (B_atL a5 a6 x0 x1 c) c))
      kernelRun0_B.sl.HS2_1 := rfl

/-- The stored weighted sums off the diagonal. -/
theorem B_A : kernelRun0_B.sl.HS3_9 a5 a6 a7 x0 x1 x2
    = eight (fun c => putA (scores (ldHead a6 x1 (pair c)) (ldCov scM0_0 (kernelRun0_B.sl.HS0_8 a5 x0) c)) (ldCov scM0_1 (B_atM a5 a6 x0 x1 c) c) (ldCov scM0_3 (B_atA a5 a6 a7 x0 x1 x2 c) c)
      (ldHead a7 x2 (pair c))) kernelRun0_B.sl.HS3_1 := rfl

/-- The stored queries, on the diagonal: a head's first map keeps the lower lanes, its second the upper. -/
theorem A_Q : kernelRun0_A.sl.HS0_8 a5 x0
    = eight (fun c => match c with
      | 0 => lowHalf (ldHead a5 x0 0) | 1 => highHalf (ldHead a5 x0 0) | 2 => lowHalf (ldHead a5 x0 1) | 3 => highHalf (ldHead a5 x0 1)
      | 4 => lowHalf (ldHead a5 x0 2) | 5 => highHalf (ldHead a5 x0 2) | 6 => lowHalf (ldHead a5 x0 3) | 7 => highHalf (ldHead a5 x0 3)) [] := rfl

/-- The list of buffer 1 as it stands when slab `c` is read. -/
def A_atM : Fin 8 → List (View.Piece (Elt Ideal) S8x512x128 .f32)
  | 0 => kernelRun0_A.sl.HS1_1
  | 1 => kernelRun0_A.sl.HS1_2 a5 a6 x0 x1
  | 2 => kernelRun0_A.sl.HS1_3 a5 a6 x0 x1
  | 3 => kernelRun0_A.sl.HS1_4 a5 a6 x0 x1
  | 4 => kernelRun0_A.sl.HS1_5 a5 a6 x0 x1
  | 5 => kernelRun0_A.sl.HS1_6 a5 a6 x0 x1
  | 6 => kernelRun0_A.sl.HS1_7 a5 a6 x0 x1
  | 7 => kernelRun0_A.sl.HS1_8 a5 a6 x0 x1

/-- Slab `c` is still what the point stored first. -/
theorem A_atM_eq (c : Fin 8) : ldCov scM0_1 (A_atM a5 a6 x0 x1 c) c = slab (k0_pay2 (F := Ideal)) c := by
  rw [ldCov_eq]
  funext j
  have h : ∀ r : Fin 512, ∀ l : Fin 128, View.canon (A_atM a5 a6 x0 x1 c) (ix3 c r l) = k0_pay2 (F := Ideal) (ix3 c r l) := by
    intro r l
    match c with
    | 0 => show View.canon (kernelRun0_A.sl.HS1_1 ) _ = _; unfold kernelRun0_A.sl.HS1_1; rw [canon_whole]
    | 1 => show View.canon (kernelRun0_A.sl.HS1_2 a5 a6 x0 x1) _ = _; unfold kernelRun0_A.sl.HS1_2 kernelRun0_A.sl.HS1_1; rw [canon_slab, if_neg (by decide), canon_whole]
    | 2 => show View.canon (kernelRun0_A.sl.HS1_3 a5 a6 x0 x1) _ = _; unfold kernelRun0_A.sl.HS1_3 kernelRun0_A.sl.HS1_2 kernelRun0_A.sl.HS1_1; rw [canon_slab, if_neg (by decide), canon_slab, if_neg (by decide), canon_whole]
    | 3 => show View.canon (kernelRun0_A.sl.HS1_4 a5 a6 x0 x1) _ = _; unfold kernelRun0_A.sl.HS1_4 kernelRun0_A.sl.HS1_3 kernelRun0_A.sl.HS1_2 kernelRun0_A.sl.HS1_1; rw [canon_slab, if_neg (by decide), canon_slab, if_neg (by decide), canon_slab, if_neg (by decide), canon_whole]
    | 4 => show View.canon (kernelRun0_A.sl.HS1_5 a5 a6 x0 x1) _ = _; unfold kernelRun0_A.sl.HS1_5 kernelRun0_A.sl.HS1_4 kernelRun0_A.sl.HS1_3 kernelRun0_A.sl.HS1_2 kernelRun0_A.sl.HS1_1; rw [canon_slab, if_neg (by decide), canon_slab, if_neg (by decide), canon_slab, if_neg (by decide), canon_slab, if_neg (by decide), canon_whole]
    | 5 => show View.canon (kernelRun0_A.sl.HS1_6 a5 a6 x0 x1) _ = _; unfold kernelRun0_A.sl.HS1_6 kernelRun0_A.sl.HS1_5 kernelRun0_A.sl.HS1_4 kernelRun0_A.sl.HS1_3 kernelRun0_A.sl.HS1_2 kernelRun0_A.sl.HS1_1; rw [canon_slab, if_neg (by decide), canon_slab, if_neg (by decide), canon_slab, if_neg (by decide), canon_slab, if_neg (by decide), canon_slab, if_neg (by decide), canon_whole]
    | 6 => show View.canon (kernelRun0_A.sl.HS1_7 a5 a6 x0 x1) _ = _; unfold kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1; rw [canon_slab, if_neg (by decide), canon_slab, if_neg (by decide), canon_slab, if_neg (by decide), canon_slab, if_neg (by decide), canon_slab, if_neg (by decide), canon_slab, if_neg (by decide), canon_whole]
    | 7 => show View.canon (kernelRun0_A.sl.HS1_8 a5 a6 x0 x1) _ = _; unfold kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1; rw [canon_slab, if_neg (by decide), canon_slab, if_neg (by decide), canon_slab, if_neg (by decide), canon_slab, if_neg (by decide), canon_slab, if_neg (by decide), canon_slab, if_neg (by decide), canon_slab, if_neg (by decide), canon_whole]
  exact h _ _

/-- The list of buffer 2 as it stands when slab `c` is read. -/
def A_atL : Fin 8 → List (View.Piece (Elt Ideal) S8x512x128 .f32)
  | 0 => kernelRun0_A.sl.HS2_1
  | 1 => kernelRun0_A.sl.HS2_2 a5 a6 x0 x1
  | 2 => kernelRun0_A.sl.HS2_3 a5 a6 x0 x1
  | 3 => kernelRun0_A.sl.HS2_4 a5 a6 x0 x1
  | 4 => kernelRun0_A.sl.HS2_5 a5 a6 x0 x1
  | 5 => kernelRun0_A.sl.HS2_6 a5 a6 x0 x1
  | 6 => kernelRun0_A.sl.HS2_7 a5 a6 x0 x1
  | 7 => kernelRun0_A.sl.HS2_8 a5 a6 x0 x1

/-- Slab `c` is still what the point stored first. -/
theorem A_atL_eq (c : Fin 8) : ldCov scM0_2 (A_atL a5 a6 x0 x1 c) c = slab (k0_pay3 (F := Ideal)) c := by
  rw [ldCov_eq]
  funext j
  have h : ∀ r : Fin 512, ∀ l : Fin 128, View.canon (A_atL a5 a6 x0 x1 c) (ix3 c r l) = k0_pay3 (F := Ideal) (ix3 c r l) := by
    intro r l
    match c with
    | 0 => show View.canon (kernelRun0_A.sl.HS2_1 ) _ = _; unfold kernelRun0_A.sl.HS2_1; rw [canon_whole]
    | 1 => show View.canon (kernelRun0_A.sl.HS2_2 a5 a6 x0 x1) _ = _; unfold kernelRun0_A.sl.HS2_2 kernelRun0_A.sl.HS2_1; rw [canon_slab, if_neg (by decide), canon_whole]
    | 2 => show View.canon (kernelRun0_A.sl.HS2_3 a5 a6 x0 x1) _ = _; unfold kernelRun0_A.sl.HS2_3 kernelRun0_A.sl.HS2_2 kernelRun0_A.sl.HS2_1; rw [canon_slab, if_neg (by decide), canon_slab, if_neg (by decide), canon_whole]
    | 3 => show View.canon (kernelRun0_A.sl.HS2_4 a5 a6 x0 x1) _ = _; unfold kernelRun0_A.sl.HS2_4 kernelRun0_A.sl.HS2_3 kernelRun0_A.sl.HS2_2 kernelRun0_A.sl.HS2_1; rw [canon_slab, if_neg (by decide), canon_slab, if_neg (by decide), canon_slab, if_neg (by decide), canon_whole]
    | 4 => show View.canon (kernelRun0_A.sl.HS2_5 a5 a6 x0 x1) _ = _; unfold kernelRun0_A.sl.HS2_5 kernelRun0_A.sl.HS2_4 kernelRun0_A.sl.HS2_3 kernelRun0_A.sl.HS2_2 kernelRun0_A.sl.HS2_1; rw [canon_slab, if_neg (by decide), canon_slab, if_neg (by decide), canon_slab, if_neg (by decide), canon_slab, if_neg (by decide), canon_whole]
    | 5 => show View.canon (kernelRun0_A.sl.HS2_6 a5 a6 x0 x1) _ = _; unfold kernelRun0_A.sl.HS2_6 kernelRun0_A.sl.HS2_5 kernelRun0_A.sl.HS2_4 kernelRun0_A.sl.HS2_3 kernelRun0_A.sl.HS2_2 kernelRun0_A.sl.HS2_1; rw [canon_slab, if_neg (by decide), canon_slab, if_neg (by decide), canon_slab, if_neg (by decide), canon_slab, if_neg (by decide), canon_slab, if_neg (by decide), canon_whole]
    | 6 => show View.canon (kernelRun0_A.sl.HS2_7 a5 a6 x0 x1) _ = _; unfold kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1; rw [canon_slab, if_neg (by decide), canon_slab, if_neg (by decide), canon_slab, if_neg (by decide), canon_slab, if_neg (by decide), canon_slab, if_neg (by decide), canon_slab, if_neg (by decide), canon_whole]
    | 7 => show View.canon (kernelRun0_A.sl.HS2_8 a5 a6 x0 x1) _ = _; unfold kernelRun0_A.sl.HS2_8 kernelRun0_A.sl.HS2_7 kernelRun0_A.sl.HS2_6 kernelRun0_A.sl.HS2_5 kernelRun0_A.sl.HS2_4 kernelRun0_A.sl.HS2_3 kernelRun0_A.sl.HS2_2 kernelRun0_A.sl.HS2_1; rw [canon_slab, if_neg (by decide), canon_slab, if_neg (by decide), canon_slab, if_neg (by decide), canon_slab, if_neg (by decide), canon_slab, if_neg (by decide), canon_slab, if_neg (by decide), canon_slab, if_neg (by decide), canon_whole]
  exact h _ _

/-- The list of buffer 3 as it stands when slab `c` is read. -/
def A_atA : Fin 8 → List (View.Piece (Elt Ideal) S8x512x128 .f32)
  | 0 => kernelRun0_A.sl.HS3_1
  | 1 => kernelRun0_A.sl.HS3_2 a5 a6 a7 x0 x1 x2
  | 2 => kernelRun0_A.sl.HS3_3 a5 a6 a7 x0 x1 x2
  | 3 => kernelRun0_A.sl.HS3_4 a5 a6 a7 x0 x1 x2
  | 4 => kernelRun0_A.sl.HS3_5 a5 a6 a7 x0 x1 x2
  | 5 => kernelRun0_A.sl.HS3_6 a5 a6 a7 x0 x1 x2
  | 6 => kernelRun0_A.sl.HS3_7 a5 a6 a7 x0 x1 x2
  | 7 => kernelRun0_A.sl.HS3_8 a5 a6 a7 x0 x1 x2

/-- Slab `c` is still what the point stored first. -/
theorem A_atA_eq (c : Fin 8) : ldCov scM0_3 (A_atA a5 a6 a7 x0 x1 x2 c) c = slab (k0_pay4 (F := Ideal)) c := by
  rw [ldCov_eq]
  funext j
  have h : ∀ r : Fin 512, ∀ l : Fin 128, View.canon (A_atA a5 a6 a7 x0 x1 x2 c) (ix3 c r l) = k0_pay4 (F := Ideal) (ix3 c r l) := by
    intro r l
    match c with
    | 0 => show View.canon (kernelRun0_A.sl.HS3_1 ) _ = _; unfold kernelRun0_A.sl.HS3_1; rw [canon_whole]
    | 1 => show View.canon (kernelRun0_A.sl.HS3_2 a5 a6 a7 x0 x1 x2) _ = _; unfold kernelRun0_A.sl.HS3_2 kernelRun0_A.sl.HS3_1; rw [canon_slab, if_neg (by decide), canon_whole]
    | 2 => show View.canon (kernelRun0_A.sl.HS3_3 a5 a6 a7 x0 x1 x2) _ = _; unfold kernelRun0_A.sl.HS3_3 kernelRun0_A.sl.HS3_2 kernelRun0_A.sl.HS3_1; rw [canon_slab, if_neg (by decide), canon_slab, if_neg (by decide), canon_whole]
    | 3 => show View.canon (kernelRun0_A.sl.HS3_4 a5 a6 a7 x0 x1 x2) _ = _; unfold kernelRun0_A.sl.HS3_4 kernelRun0_A.sl.HS3_3 kernelRun0_A.sl.HS3_2 kernelRun0_A.sl.HS3_1; rw [canon_slab, if_neg (by decide), canon_slab, if_neg (by decide), canon_slab, if_neg (by decide), canon_whole]
    | 4 => show View.canon (kernelRun0_A.sl.HS3_5 a5 a6 a7 x0 x1 x2) _ = _; unfold kernelRun0_A.sl.HS3_5 kernelRun0_A.sl.HS3_4 kernelRun0_A.sl.HS3_3 kernelRun0_A.sl.HS3_2 kernelRun0_A.sl.HS3_1; rw [canon_slab, if_neg (by decide), canon_slab, if_neg (by decide), canon_slab, if_neg (by decide), canon_slab, if_neg (by decide), canon_whole]
    | 5 => show View.canon (kernelRun0_A.sl.HS3_6 a5 a6 a7 x0 x1 x2) _ = _; unfold kernelRun0_A.sl.HS3_6 kernelRun0_A.sl.HS3_5 kernelRun0_A.sl.HS3_4 kernelRun0_A.sl.HS3_3 kernelRun0_A.sl.HS3_2 kernelRun0_A.sl.HS3_1; rw [canon_slab, if_neg (by decide), canon_slab, if_neg (by decide), canon_slab, if_neg (by decide), canon_slab, if_neg (by decide), canon_slab, if_neg (by decide), canon_whole]
    | 6 => show View.canon (kernelRun0_A.sl.HS3_7 a5 a6 a7 x0 x1 x2) _ = _; unfold kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1; rw [canon_slab, if_neg (by decide), canon_slab, if_neg (by decide), canon_slab, if_neg (by decide), canon_slab, if_neg (by decide), canon_slab, if_neg (by decide), canon_slab, if_neg (by decide), canon_whole]
    | 7 => show View.canon (kernelRun0_A.sl.HS3_8 a5 a6 a7 x0 x1 x2) _ = _; unfold kernelRun0_A.sl.HS3_8 kernelRun0_A.sl.HS3_7 kernelRun0_A.sl.HS3_6 kernelRun0_A.sl.HS3_5 kernelRun0_A.sl.HS3_4 kernelRun0_A.sl.HS3_3 kernelRun0_A.sl.HS3_2 kernelRun0_A.sl.HS3_1; rw [canon_slab, if_neg (by decide), canon_slab, if_neg (by decide), canon_slab, if_neg (by decide), canon_slab, if_neg (by decide), canon_slab, if_neg (by decide), canon_slab, if_neg (by decide), canon_slab, if_neg (by decide), canon_whole]
  exact h _ _

/-- The stored maxima on the diagonal. -/
theorem A_M : kernelRun0_A.sl.HS1_9 a5 a6 x0 x1
    = eight (fun c => putM (masked (scores (ldHead a6 x1 (pair c)) (ldCov scM0_0 (kernelRun0_A.sl.HS0_8 a5 x0) c))) (ldCov scM0_1 (A_atM a5 a6 x0 x1 c) c)) kernelRun0_A.sl.HS1_1 := rfl

/-- The stored sums of weights on the diagonal. -/
theorem A_L : kernelRun0_A.sl.HS2_9 a5 a6 x0 x1
    = eight (fun c => putL (masked (scores (ldHead a6 x1 (pair c)) (ldCov scM0_0 (kernelRun0_A.sl.HS0_8 a5 x0) c))) (ldCov scM0_1 (A_atM a5 a6 x0 x1 c) c) (ldCov scM0_2 (A_atL a5 a6 x0 x1 c) c))
      kernelRun0_A.sl.HS2_1 := rfl

/-- The stored weighted sums on the diagonal. -/
theorem A_A : kernelRun0_A.sl.HS3_9 a5 a6 a7 x0 x1 x2
    = eight (fun c => putA (masked (scores (ldHead a6 x1 (pair c)) (ldCov scM0_0 (kernelRun0_A.sl.HS0_8 a5 x0) c))) (ldCov scM0_1 (A_atM a5 a6 x0 x1 c) c) (ldCov scM0_3 (A_atA a5 a6 a7 x0 x1 x2 c) c)
      (ldHead a7 x2 (pair c))) kernelRun0_A.sl.HS3_1 := rfl

/-- The output block of the first point of all, from the sums it has just stored. -/
theorem A_O : kernelRun0_A.sl.HO8_4 a5 a6 a7 a8 a9 a10 a11 a12 x0 x1 x2 x3 x4 x5 x6 x7
    = four (fun h => finish (diff (lam (ldVec a8 x3) (ldVec a9 x4) (ldVec a10 x5) (ldVec a11 x6))
        (ldCov scM0_3 (kernelRun0_A.sl.HS3_9 a5 a6 a7 x0 x1 x2) (fst h)) (ldCov scM0_2 (kernelRun0_A.sl.HS2_9 a5 a6 x0 x1) (fst h))
        (ldCov scM0_3 (kernelRun0_A.sl.HS3_9 a5 a6 a7 x0 x1 x2) (snd h)) (ldCov scM0_2 (kernelRun0_A.sl.HS2_9 a5 a6 x0 x1) (snd h)))
        (ldGain a12 x7)) := rfl

end Cert.Attn

end
-- ==== Proof.Blocks.lean ====
/-
  The grid: point `t` is batch `t / 72`, head group `t / 36 % 2` and the `t % 36`-th block of the lower triangle; which
  blocks its windows hold, and which branch it takes.
-/
module

public import proofs.«01_k».proof.Proof.Gen.KernelIdeal.Flash
public import Idealize.ShloMosaic.Lib.Pipeline.ValueKit
public import Idealize.ShloMosaic.Lib.Pointwise

@[expose] public section

noncomputable section

namespace Cert.Attn

open Idealize.ShloMosaic Idealize.ShloMosaic.TcCoe
open Cert.KernelIdeal Cert.KernelIdeal.Gen

/-- The block row of the `k`-th block of the lower triangle. -/
def qiTab (k : ℕ) : ℕ :=
  ([0, 1, 1, 2, 2, 2, 3, 3, 3, 3, 4, 4, 4, 4, 4, 5, 5, 5, 5, 5, 5, 6, 6, 6, 6, 6, 6, 6, 7, 7, 7, 7, 7, 7, 7, 7] : List ℕ).getD k 0
/-- Its block column. -/
def kiTab (k : ℕ) : ℕ :=
  ([0, 0, 1, 0, 1, 2, 0, 1, 2, 3, 0, 1, 2, 3, 4, 0, 1, 2, 3, 4, 5, 0, 1, 2, 3, 4, 5, 6, 0, 1, 2, 3, 4, 5, 6, 7] : List ℕ).getD k 0

/-- A point's batch, head group, block row and block column. -/
def bt (t : ℕ) : ℕ := t / 72
def hg (t : ℕ) : ℕ := t / 36 % 2
def qi (t : ℕ) : ℕ := qiTab (t % 36)
def ki (t : ℕ) : ℕ := kiTab (t % 36)

/-- The grid's points. -/
abbrev Pt := Fin (cfgA 0).N

theorem pt_lt (t : Pt) : t.val < 144 := t.isLt

theorem tab_bounds : ∀ t : Pt, bt t.val < 2 ∧ hg t.val < 2 ∧ qi t.val < 8 ∧ ki t.val ≤ qi t.val := by decide +kernel

theorem index_q : ∀ t : Pt, ((cfgA 0).win (0 : Fin 9)).index t 0 = bt t.val ∧ ((cfgA 0).win (0 : Fin 9)).index t 1 = qi t.val
    ∧ ((cfgA 0).win (0 : Fin 9)).index t 2 = hg t.val := by decide +kernel
theorem index_k : ∀ t : Pt, ((cfgA 0).win (1 : Fin 9)).index t 0 = bt t.val ∧ ((cfgA 0).win (1 : Fin 9)).index t 1 = ki t.val
    ∧ ((cfgA 0).win (1 : Fin 9)).index t 2 = 2 + hg t.val := by decide +kernel
theorem index_v : ∀ t : Pt, ((cfgA 0).win (2 : Fin 9)).index t 0 = bt t.val ∧ ((cfgA 0).win (2 : Fin 9)).index t 1 = ki t.val
    ∧ ((cfgA 0).win (2 : Fin 9)).index t 2 = hg t.val := by decide +kernel
theorem index_o : ∀ t : Pt, ((cfgA 0).win (8 : Fin 9)).index t 0 = bt t.val ∧ ((cfgA 0).win (8 : Fin 9)).index t 1 = qi t.val
    ∧ ((cfgA 0).win (8 : Fin 9)).index t 2 = hg t.val := by decide +kernel
theorem index_small : ∀ t : Pt, (∀ a, ((cfgA 0).win (3 : Fin 9)).index t a = 0) ∧ (∀ a, ((cfgA 0).win (4 : Fin 9)).index t a = 0)
    ∧ (∀ a, ((cfgA 0).win (5 : Fin 9)).index t a = 0) ∧ (∀ a, ((cfgA 0).win (6 : Fin 9)).index t a = 0)
    ∧ (∀ a, ((cfgA 0).win (7 : Fin 9)).index t a = 0) := by decide +kernel

/-- A point starts a row of blocks when its block column is zero; it is on the diagonal unless its column is below its row. -/
theorem start_iff : ∀ t : Pt, P0_0 0 t ↔ ki t.val = 0 := by decide +kernel
theorem below_iff : ∀ t : Pt, P0_1 0 t ↔ ki t.val < qi t.val := by decide +kernel

/-- Before a point that continues a row of blocks lies the point of the row's last block. -/
theorem prev_of_carry : ∀ t : Pt, ki t.val ≠ 0 → t.val ≠ 0 ∧ bt (t.val - 1) = bt t.val ∧ hg (t.val - 1) = hg t.val
    ∧ qi (t.val - 1) = qi t.val ∧ ki (t.val - 1) + 1 = ki t.val := by decide +kernel

/-- An output block is written back at the diagonal points. -/
theorem flush_iff : ∀ t : Pt, ((cfgA 0).win (8 : Fin 9)).flush t = true ↔ ki t.val = qi t.val := by decide +kernel

variable (m : (ℓ : Loc nD τ sig) → Buf (Elt Ideal) ℓ) (ρ : Dev nD → PrngReg) (c : Dev nD)

theorem blk_q (t : Pt) (r l : Fin 512) : iblk 0 m ρ c (0 : Fin 9) t (ix3 0 r l)
    = m (c.tc.loc main_arg2) (ix3 ⟨bt t.val, (tab_bounds t).1⟩ ⟨512 * qi t.val + r.val, by have := (tab_bounds t).2.2.1; omega⟩
        ⟨512 * hg t.val + l.val, by have := (tab_bounds t).2.1; omega⟩) := by
  obtain ⟨e0, e1, e2⟩ := index_q t
  blk_ext [iblk, e0, e1, e2]

theorem blk_k (t : Pt) (r l : Fin 512) : iblk 0 m ρ c (1 : Fin 9) t (ix3 0 r l)
    = m (c.tc.loc main_arg3) (ix3 ⟨bt t.val, (tab_bounds t).1⟩
        ⟨512 * ki t.val + r.val, by have := (tab_bounds t).2.2.1; have := (tab_bounds t).2.2.2; omega⟩
        ⟨1024 + (512 * hg t.val + l.val), by have := (tab_bounds t).2.1; omega⟩) := by
  obtain ⟨e0, e1, e2⟩ := index_k t
  blk_ext [iblk, e0, e1, e2]

theorem blk_v (t : Pt) (r l : Fin 512) : iblk 0 m ρ c (2 : Fin 9) t (ix3 0 r l)
    = m (c.tc.loc main_arg4) (ix3 ⟨bt t.val, (tab_bounds t).1⟩
        ⟨512 * ki t.val + r.val, by have := (tab_bounds t).2.2.1; have := (tab_bounds t).2.2.2; omega⟩
        ⟨512 * hg t.val + l.val, by have := (tab_bounds t).2.1; omega⟩) := by
  obtain ⟨e0, e1, e2⟩ := index_v t
  blk_ext [iblk, e0, e1, e2]

theorem blk_3 (t : Pt) (i : Fin 1) (l : Fin 64) : iblk 0 m ρ c (3 : Fin 9) t (ix2 i l) = m (c.tc.loc main_arg5) (ix2 i l) := by
  have e := (index_small t).1
  have e0 := e 0
  have e1 := e 1
  blk_ext [iblk, e0, e1]

theorem blk_4 (t : Pt) (i : Fin 1) (l : Fin 64) : iblk 0 m ρ c (4 : Fin 9) t (ix2 i l) = m (c.tc.loc main_arg6) (ix2 i l) := by
  have e := (index_small t).2.1
  have e0 := e 0
  have e1 := e 1
  blk_ext [iblk, e0, e1]

theorem blk_5 (t : Pt) (i : Fin 1) (l : Fin 64) : iblk 0 m ρ c (5 : Fin 9) t (ix2 i l) = m (c.tc.loc main_arg7) (ix2 i l) := by
  have e := (index_small t).2.2.1
  have e0 := e 0
  have e1 := e 1
  blk_ext [iblk, e0, e1]

theorem blk_6 (t : Pt) (i : Fin 1) (l : Fin 64) : iblk 0 m ρ c (6 : Fin 9) t (ix2 i l) = m (c.tc.loc main_arg8) (ix2 i l) := by
  have e := (index_small t).2.2.2.1
  have e0 := e 0
  have e1 := e 1
  blk_ext [iblk, e0, e1]

theorem blk_7 (t : Pt) (i : Fin 1) (l : Fin 128) : iblk 0 m ρ c (7 : Fin 9) t (ix2 i l) = m (c.tc.loc main_arg9) (ix2 i l) := by
  have e := (index_small t).2.2.2.2
  have e0 := e 0
  have e1 := e 1
  blk_ext [iblk, e0, e1]

end Cert.Attn

end
-- ==== Proof.Points.lean ====
/-
  What each kind of grid point leaves in the scratch buffers and in the output block, read entry by entry.
-/
module

public import proofs.«01_k».proof.Proof.PathD
public import proofs.«01_k».proof.Proof.PathB
public import proofs.«01_k».proof.Proof.Steps
public import proofs.«01_k».proof.Proof.Blocks

@[expose] public section

noncomputable section

namespace Cert.Attn

open Idealize.ShloMosaic
open Cert.KernelIdeal Cert.KernelIdeal.Gen

/-- The scratch buffers as arrays. -/
abbrev rdQ (X : scM0_0.view.ty.Contents (Elt Ideal)) : S8x512x128.Idx → Elt Ideal .bf16 := scM0_0.view.read (Elt Ideal) X
abbrev rdM (X : scM0_1.view.ty.Contents (Elt Ideal)) : S8x512x128.Idx → Elt Ideal .f32 := scM0_1.view.read (Elt Ideal) X
abbrev rdL (X : scM0_2.view.ty.Contents (Elt Ideal)) : S8x512x128.Idx → Elt Ideal .f32 := scM0_2.view.read (Elt Ideal) X
abbrev rdA (X : scM0_3.view.ty.Contents (Elt Ideal)) : S8x512x128.Idx → Elt Ideal .f32 := scM0_3.view.read (Elt Ideal) X

/-- The queries a row of blocks starts with. -/
def halves (x : Vec Ideal S1x512x512 .bf16) (c : Fin 8) : Vec Ideal S1x512x128 .bf16 := match c with
  | 0 => lowHalf (lanes x 0) | 1 => highHalf (lanes x 0) | 2 => lowHalf (lanes x 1) | 3 => highHalf (lanes x 1)
  | 4 => lowHalf (lanes x 2) | 5 => highHalf (lanes x 2) | 6 => lowHalf (lanes x 3) | 7 => highHalf (lanes x 3)

variable (m : (ℓ : Loc nD τ sig) → Buf (Elt Ideal) ℓ) (ρ : Dev nD → PrngReg) (d : Dev nD) (t : Pt)
  (prev : (S1x512x512.Idx → Elt Ideal .bf16) × Buf (Elt Ideal) (d.tc.loc cc0_scratch0)
    × Buf (Elt Ideal) (d.tc.loc cc0_scratch1) × Buf (Elt Ideal) (d.tc.loc cc0_scratch2)
    × Buf (Elt Ideal) (d.tc.loc cc0_scratch3))

/-- A point carried, off the diagonal: the queries stay. -/
theorem D_keep (q0 : ¬P0_0 0 t) (q1 : P0_1 0 t) : rdQ (step0 0 m ρ d t prev).2.1 = rdQ prev.2.1 := by
  rw [step0_D 0 m ρ d t prev q0 q1]; rfl

theorem D_rdM (q0 : ¬P0_0 0 t) (q1 : P0_1 0 t) : rdM (step0 0 m ρ d t prev).2.2.1 = View.canon (kernelRun0_D.sl.HS1_8 d (ms0_1 0 t) (iblk 0 m ρ d (1 : Fin 9) t) prev.2.1 prev.2.2.1) := by
  rw [step0_D 0 m ρ d t prev q0 q1]
  dsimp only
  unfold kernelRun0_D
  dsimp only
  exact View.read_writes_junk_eq_canon (Val := Elt Ideal) scM0_1.view (kernelRun0_D.sl.HS1_8 d (ms0_1 0 t) (iblk 0 m ρ d (1 : Fin 9) t) prev.2.1 prev.2.2.1)

theorem D_rdL (q0 : ¬P0_0 0 t) (q1 : P0_1 0 t) : rdL (step0 0 m ρ d t prev).2.2.2.1 = View.canon (kernelRun0_D.sl.HS2_8 d (ms0_1 0 t) (iblk 0 m ρ d (1 : Fin 9) t) prev.2.1 prev.2.2.1 prev.2.2.2.1) := by
  rw [step0_D 0 m ρ d t prev q0 q1]
  dsimp only
  unfold kernelRun0_D
  dsimp only
  exact View.read_writes_junk_eq_canon (Val := Elt Ideal) scM0_2.view (kernelRun0_D.sl.HS2_8 d (ms0_1 0 t) (iblk 0 m ρ d (1 : Fin 9) t) prev.2.1 prev.2.2.1 prev.2.2.2.1)

theorem D_rdA (q0 : ¬P0_0 0 t) (q1 : P0_1 0 t) : rdA (step0 0 m ρ d t prev).2.2.2.2 = View.canon (kernelRun0_D.sl.HS3_8 d (ms0_1 0 t) (ms0_2 0 t) (iblk 0 m ρ d (1 : Fin 9) t) (iblk 0 m ρ d (2 : Fin 9) t) prev.2.1 prev.2.2.1 prev.2.2.2.2) := by
  rw [step0_D 0 m ρ d t prev q0 q1]
  dsimp only
  unfold kernelRun0_D
  dsimp only
  exact View.read_writes_junk_eq_canon (Val := Elt Ideal) scM0_3.view (kernelRun0_D.sl.HS3_8 d (ms0_1 0 t) (ms0_2 0 t) (iblk 0 m ρ d (1 : Fin 9) t) (iblk 0 m ρ d (2 : Fin 9) t) prev.2.1 prev.2.2.1 prev.2.2.2.2)

theorem D_atM' (q0 : ¬P0_0 0 t) (q1 : P0_1 0 t) (c : Fin 8) (r : Fin 512) (j : Fin 128) : rdM (step0 0 m ρ d t prev).2.2.1 (ix3 c r j)
    = putM (scores (lanes (iblk 0 m ρ d (1 : Fin 9) t) (pair c)) (slab (rdQ prev.2.1) c)) (slab (rdM prev.2.2.1) c) (ix3 0 r j) := by
  rw [D_rdM m ρ d t prev q0 q1, D_M, canon_eight, ldHead_eq, ldSlab_eq, ldSlab_eq]

theorem D_atL' (q0 : ¬P0_0 0 t) (q1 : P0_1 0 t) (c : Fin 8) (r : Fin 512) (j : Fin 128) : rdL (step0 0 m ρ d t prev).2.2.2.1 (ix3 c r j)
    = putL (scores (lanes (iblk 0 m ρ d (1 : Fin 9) t) (pair c)) (slab (rdQ prev.2.1) c)) (slab (rdM prev.2.2.1) c) (slab (rdL prev.2.2.2.1) c) (ix3 0 r j) := by
  rw [D_rdL m ρ d t prev q0 q1, D_L, canon_eight, ldHead_eq, ldSlab_eq, ldSlab_eq, ldSlab_eq]

theorem D_atA' (q0 : ¬P0_0 0 t) (q1 : P0_1 0 t) (c : Fin 8) (r : Fin 512) (j : Fin 128) : rdA (step0 0 m ρ d t prev).2.2.2.2 (ix3 c r j)
    = putA (scores (lanes (iblk 0 m ρ d (1 : Fin 9) t) (pair c)) (slab (rdQ prev.2.1) c)) (slab (rdM prev.2.2.1) c) (slab (rdA prev.2.2.2.2) c) (lanes (iblk 0 m ρ d (2 : Fin 9) t) (pair c)) (ix3 0 r j) := by
  rw [D_rdA m ρ d t prev q0 q1, D_A, canon_eight, ldHead_eq, ldHead_eq, ldSlab_eq, ldSlab_eq, ldSlab_eq]

/-- A point carried, on the diagonal: the queries stay. -/
theorem C_keep (q0 : ¬P0_0 0 t) (q1 : ¬P0_1 0 t) : rdQ (step0 0 m ρ d t prev).2.1 = rdQ prev.2.1 := by
  rw [step0_C 0 m ρ d t prev q0 q1]; rfl

theorem C_rdM (q0 : ¬P0_0 0 t) (q1 : ¬P0_1 0 t) : rdM (step0 0 m ρ d t prev).2.2.1 = View.canon (kernelRun0_C.sl.HS1_8 d (ms0_1 0 t) (iblk 0 m ρ d (1 : Fin 9) t) prev.2.1 prev.2.2.1) := by
  rw [step0_C 0 m ρ d t prev q0 q1]
  dsimp only
  unfold kernelRun0_C
  dsimp only
  exact View.read_writes_junk_eq_canon (Val := Elt Ideal) scM0_1.view (kernelRun0_C.sl.HS1_8 d (ms0_1 0 t) (iblk 0 m ρ d (1 : Fin 9) t) prev.2.1 prev.2.2.1)

theorem C_rdL (q0 : ¬P0_0 0 t) (q1 : ¬P0_1 0 t) : rdL (step0 0 m ρ d t prev).2.2.2.1 = View.canon (kernelRun0_C.sl.HS2_8 d (ms0_1 0 t) (iblk 0 m ρ d (1 : Fin 9) t) prev.2.1 prev.2.2.1 prev.2.2.2.1) := by
  rw [step0_C 0 m ρ d t prev q0 q1]
  dsimp only
  unfold kernelRun0_C
  dsimp only
  exact View.read_writes_junk_eq_canon (Val := Elt Ideal) scM0_2.view (kernelRun0_C.sl.HS2_8 d (ms0_1 0 t) (iblk 0 m ρ d (1 : Fin 9) t) prev.2.1 prev.2.2.1 prev.2.2.2.1)

theorem C_rdA (q0 : ¬P0_0 0 t) (q1 : ¬P0_1 0 t) : rdA (step0 0 m ρ d t prev).2.2.2.2 = View.canon (kernelRun0_C.sl.HS3_8 d (ms0_1 0 t) (ms0_2 0 t) (iblk 0 m ρ d (1 : Fin 9) t) (iblk 0 m ρ d (2 : Fin 9) t) prev.2.1 prev.2.2.1 prev.2.2.2.2) := by
  rw [step0_C 0 m ρ d t prev q0 q1]
  dsimp only
  unfold kernelRun0_C
  dsimp only
  exact View.read_writes_junk_eq_canon (Val := Elt Ideal) scM0_3.view (kernelRun0_C.sl.HS3_8 d (ms0_1 0 t) (ms0_2 0 t) (iblk 0 m ρ d (1 : Fin 9) t) (iblk 0 m ρ d (2 : Fin 9) t) prev.2.1 prev.2.2.1 prev.2.2.2.2)

theorem C_atM' (q0 : ¬P0_0 0 t) (q1 : ¬P0_1 0 t) (c : Fin 8) (r : Fin 512) (j : Fin 128) : rdM (step0 0 m ρ d t prev).2.2.1 (ix3 c r j)
    = putM (masked (scores (lanes (iblk 0 m ρ d (1 : Fin 9) t) (pair c)) (slab (rdQ prev.2.1) c))) (slab (rdM prev.2.2.1) c) (ix3 0 r j) := by
  rw [C_rdM m ρ d t prev q0 q1, C_M, canon_eight, ldHead_eq, ldSlab_eq, ldSlab_eq]

theorem C_atL' (q0 : ¬P0_0 0 t) (q1 : ¬P0_1 0 t) (c : Fin 8) (r : Fin 512) (j : Fin 128) : rdL (step0 0 m ρ d t prev).2.2.2.1 (ix3 c r j)
    = putL (masked (scores (lanes (iblk 0 m ρ d (1 : Fin 9) t) (pair c)) (slab (rdQ prev.2.1) c))) (slab (rdM prev.2.2.1) c) (slab (rdL prev.2.2.2.1) c) (ix3 0 r j) := by
  rw [C_rdL m ρ d t prev q0 q1, C_L, canon_eight, ldHead_eq, ldSlab_eq, ldSlab_eq, ldSlab_eq]

theorem C_atA' (q0 : ¬P0_0 0 t) (q1 : ¬P0_1 0 t) (c : Fin 8) (r : Fin 512) (j : Fin 128) : rdA (step0 0 m ρ d t prev).2.2.2.2 (ix3 c r j)
    = putA (masked (scores (lanes (iblk 0 m ρ d (1 : Fin 9) t) (pair c)) (slab (rdQ prev.2.1) c))) (slab (rdM prev.2.2.1) c) (slab (rdA prev.2.2.2.2) c) (lanes (iblk 0 m ρ d (2 : Fin 9) t) (pair c)) (ix3 0 r j) := by
  rw [C_rdA m ρ d t prev q0 q1, C_A, canon_eight, ldHead_eq, ldHead_eq, ldSlab_eq, ldSlab_eq, ldSlab_eq]

theorem C_out (q0 : ¬P0_0 0 t) (q1 : ¬P0_1 0 t) (h : Fin 4) (r : Fin 512) (j : Fin 128) (hl : 128 * h.val + j.val < 512) :
    (step0 0 m ρ d t prev).1 (ix3 0 r ⟨128 * h.val + j.val, hl⟩)
      = finish (diff (lam (iblk 0 m ρ d (3 : Fin 9) t) (iblk 0 m ρ d (4 : Fin 9) t) (iblk 0 m ρ d (5 : Fin 9) t) (iblk 0 m ρ d (6 : Fin 9) t)) (slab (rdA (step0 0 m ρ d t prev).2.2.2.2) (fst h)) (slab (rdL (step0 0 m ρ d t prev).2.2.2.1) (fst h)) (slab (rdA (step0 0 m ρ d t prev).2.2.2.2) (snd h)) (slab (rdL (step0 0 m ρ d t prev).2.2.2.1) (snd h))) (iblk 0 m ρ d (7 : Fin 9) t) (ix3 0 r j) := by
  have e : (step0 0 m ρ d t prev).1 = View.canon (kernelRun0_C.sl.HO8_4 d (ms0_1 0 t) (ms0_2 0 t) (ms0_3 0 t) (ms0_4 0 t) (ms0_5 0 t) (ms0_6 0 t) (ms0_7 0 t) (iblk 0 m ρ d (1 : Fin 9) t) (iblk 0 m ρ d (2 : Fin 9) t) (iblk 0 m ρ d (3 : Fin 9) t) (iblk 0 m ρ d (4 : Fin 9) t) (iblk 0 m ρ d (5 : Fin 9) t) (iblk 0 m ρ d (6 : Fin 9) t) (iblk 0 m ρ d (7 : Fin 9) t) prev.2.1 prev.2.2.1 prev.2.2.2.1 prev.2.2.2.2) := by
    rw [step0_C 0 m ρ d t prev q0 q1]
    dsimp only
    unfold out0_C_8 kernelRun0_C
    dsimp only
    exact View.read_writes_junk_eq_canon (Val := Elt Ideal) VO0_8 (kernelRun0_C.sl.HO8_4 d (ms0_1 0 t) (ms0_2 0 t) (ms0_3 0 t) (ms0_4 0 t) (ms0_5 0 t) (ms0_6 0 t) (ms0_7 0 t) (iblk 0 m ρ d (1 : Fin 9) t) (iblk 0 m ρ d (2 : Fin 9) t) (iblk 0 m ρ d (3 : Fin 9) t) (iblk 0 m ρ d (4 : Fin 9) t) (iblk 0 m ρ d (5 : Fin 9) t) (iblk 0 m ρ d (6 : Fin 9) t) (iblk 0 m ρ d (7 : Fin 9) t) prev.2.1 prev.2.2.1 prev.2.2.2.1 prev.2.2.2.2)
  rw [e, C_O, canon_four, ldVec_eq, ldVec_eq, ldVec_eq, ldVec_eq, ldGain_eq, ldCov_eq, ldCov_eq, ldCov_eq, ldCov_eq,
    C_rdA m ρ d t prev q0 q1, C_rdL m ρ d t prev q0 q1]

theorem B_rdQ (q0 : P0_0 0 t) (q1 : P0_1 0 t) : rdQ (step0 0 m ρ d t prev).2.1 = View.canon (kernelRun0_B.sl.HS0_8 (ms0_0 0 t) (iblk 0 m ρ d (0 : Fin 9) t)) := by
  rw [step0_B 0 m ρ d t prev q0 q1]
  dsimp only
  unfold kernelRun0_B
  dsimp only
  exact View.read_writes_junk_eq_canon (Val := Elt Ideal) scM0_0.view (kernelRun0_B.sl.HS0_8 (ms0_0 0 t) (iblk 0 m ρ d (0 : Fin 9) t))

theorem B_rdM (q0 : P0_0 0 t) (q1 : P0_1 0 t) : rdM (step0 0 m ρ d t prev).2.2.1 = View.canon (kernelRun0_B.sl.HS1_9 (ms0_0 0 t) (ms0_1 0 t) (iblk 0 m ρ d (0 : Fin 9) t) (iblk 0 m ρ d (1 : Fin 9) t)) := by
  rw [step0_B 0 m ρ d t prev q0 q1]
  dsimp only
  unfold kernelRun0_B
  dsimp only
  exact View.read_writes_junk_eq_canon (Val := Elt Ideal) scM0_1.view (kernelRun0_B.sl.HS1_9 (ms0_0 0 t) (ms0_1 0 t) (iblk 0 m ρ d (0 : Fin 9) t) (iblk 0 m ρ d (1 : Fin 9) t))

theorem B_rdL (q0 : P0_0 0 t) (q1 : P0_1 0 t) : rdL (step0 0 m ρ d t prev).2.2.2.1 = View.canon (kernelRun0_B.sl.HS2_9 (ms0_0 0 t) (ms0_1 0 t) (iblk 0 m ρ d (0 : Fin 9) t) (iblk 0 m ρ d (1 : Fin 9) t)) := by
  rw [step0_B 0 m ρ d t prev q0 q1]
  dsimp only
  unfold kernelRun0_B
  dsimp only
  exact View.read_writes_junk_eq_canon (Val := Elt Ideal) scM0_2.view (kernelRun0_B.sl.HS2_9 (ms0_0 0 t) (ms0_1 0 t) (iblk 0 m ρ d (0 : Fin 9) t) (iblk 0 m ρ d (1 : Fin 9) t))

theorem B_rdA (q0 : P0_0 0 t) (q1 : P0_1 0 t) : rdA (step0 0 m ρ d t prev).2.2.2.2 = View.canon (kernelRun0_B.sl.HS3_9 (ms0_0 0 t) (ms0_1 0 t) (ms0_2 0 t) (iblk 0 m ρ d (0 : Fin 9) t) (iblk 0 m ρ d (1 : Fin 9) t) (iblk 0 m ρ d (2 : Fin 9) t)) := by
  rw [step0_B 0 m ρ d t prev q0 q1]
  dsimp only
  unfold kernelRun0_B
  dsimp only
  exact View.read_writes_junk_eq_canon (Val := Elt Ideal) scM0_3.view (kernelRun0_B.sl.HS3_9 (ms0_0 0 t) (ms0_1 0 t) (ms0_2 0 t) (iblk 0 m ρ d (0 : Fin 9) t) (iblk 0 m ρ d (1 : Fin 9) t) (iblk 0 m ρ d (2 : Fin 9) t))

theorem B_atQ (q0 : P0_0 0 t) (q1 : P0_1 0 t) (c : Fin 8) (r : Fin 512) (j : Fin 128) : rdQ (step0 0 m ρ d t prev).2.1 (ix3 c r j) = halves (iblk 0 m ρ d (0 : Fin 9) t) c (ix3 0 r j) := by
  rw [B_rdQ m ρ d t prev q0 q1, B_Q, canon_eight, ldHead_eq, ldHead_eq, ldHead_eq, ldHead_eq]
  rfl

theorem B_atM' (q0 : P0_0 0 t) (q1 : P0_1 0 t) (c : Fin 8) (r : Fin 512) (j : Fin 128) : rdM (step0 0 m ρ d t prev).2.2.1 (ix3 c r j)
    = putM (scores (lanes (iblk 0 m ρ d (1 : Fin 9) t) (pair c)) (slab (rdQ (step0 0 m ρ d t prev).2.1) c)) (slab (k0_pay2 (F := Ideal)) c) (ix3 0 r j) := by
  rw [B_rdM m ρ d t prev q0 q1, B_M, canon_eight, ldHead_eq, ldCov_eq, B_atM_eq, B_rdQ m ρ d t prev q0 q1]

theorem B_atL' (q0 : P0_0 0 t) (q1 : P0_1 0 t) (c : Fin 8) (r : Fin 512) (j : Fin 128) : rdL (step0 0 m ρ d t prev).2.2.2.1 (ix3 c r j)
    = putL (scores (lanes (iblk 0 m ρ d (1 : Fin 9) t) (pair c)) (slab (rdQ (step0 0 m ρ d t prev).2.1) c)) (slab (k0_pay2 (F := Ideal)) c) (slab (k0_pay3 (F := Ideal)) c) (ix3 0 r j) := by
  rw [B_rdL m ρ d t prev q0 q1, B_L, canon_eight, ldHead_eq, ldCov_eq, B_atM_eq, B_atL_eq, B_rdQ m ρ d t prev q0 q1]

theorem B_atA' (q0 : P0_0 0 t) (q1 : P0_1 0 t) (c : Fin 8) (r : Fin 512) (j : Fin 128) : rdA (step0 0 m ρ d t prev).2.2.2.2 (ix3 c r j)
    = putA (scores (lanes (iblk 0 m ρ d (1 : Fin 9) t) (pair c)) (slab (rdQ (step0 0 m ρ d t prev).2.1) c)) (slab (k0_pay2 (F := Ideal)) c) (slab (k0_pay4 (F := Ideal)) c) (lanes (iblk 0 m ρ d (2 : Fin 9) t) (pair c)) (ix3 0 r j) := by
  rw [B_rdA m ρ d t prev q0 q1, B_A, canon_eight, ldHead_eq, ldHead_eq, ldCov_eq, B_atM_eq, B_atA_eq, B_rdQ m ρ d t prev q0 q1]

theorem A_rdQ (q0 : P0_0 0 t) (q1 : ¬P0_1 0 t) : rdQ (step0 0 m ρ d t prev).2.1 = View.canon (kernelRun0_A.sl.HS0_8 (ms0_0 0 t) (iblk 0 m ρ d (0 : Fin 9) t)) := by
  rw [step0_A 0 m ρ d t prev q0 q1]
  dsimp only
  unfold kernelRun0_A
  dsimp only
  exact View.read_writes_junk_eq_canon (Val := Elt Ideal) scM0_0.view (kernelRun0_A.sl.HS0_8 (ms0_0 0 t) (iblk 0 m ρ d (0 : Fin 9) t))

theorem A_rdM (q0 : P0_0 0 t) (q1 : ¬P0_1 0 t) : rdM (step0 0 m ρ d t prev).2.2.1 = View.canon (kernelRun0_A.sl.HS1_9 (ms0_0 0 t) (ms0_1 0 t) (iblk 0 m ρ d (0 : Fin 9) t) (iblk 0 m ρ d (1 : Fin 9) t)) := by
  rw [step0_A 0 m ρ d t prev q0 q1]
  dsimp only
  unfold kernelRun0_A
  dsimp only
  exact View.read_writes_junk_eq_canon (Val := Elt Ideal) scM0_1.view (kernelRun0_A.sl.HS1_9 (ms0_0 0 t) (ms0_1 0 t) (iblk 0 m ρ d (0 : Fin 9) t) (iblk 0 m ρ d (1 : Fin 9) t))

theorem A_rdL (q0 : P0_0 0 t) (q1 : ¬P0_1 0 t) : rdL (step0 0 m ρ d t prev).2.2.2.1 = View.canon (kernelRun0_A.sl.HS2_9 (ms0_0 0 t) (ms0_1 0 t) (iblk 0 m ρ d (0 : Fin 9) t) (iblk 0 m ρ d (1 : Fin 9) t)) := by
  rw [step0_A 0 m ρ d t prev q0 q1]
  dsimp only
  unfold kernelRun0_A
  dsimp only
  exact View.read_writes_junk_eq_canon (Val := Elt Ideal) scM0_2.view (kernelRun0_A.sl.HS2_9 (ms0_0 0 t) (ms0_1 0 t) (iblk 0 m ρ d (0 : Fin 9) t) (iblk 0 m ρ d (1 : Fin 9) t))

theorem A_rdA (q0 : P0_0 0 t) (q1 : ¬P0_1 0 t) : rdA (step0 0 m ρ d t prev).2.2.2.2 = View.canon (kernelRun0_A.sl.HS3_9 (ms0_0 0 t) (ms0_1 0 t) (ms0_2 0 t) (iblk 0 m ρ d (0 : Fin 9) t) (iblk 0 m ρ d (1 : Fin 9) t) (iblk 0 m ρ d (2 : Fin 9) t)) := by
  rw [step0_A 0 m ρ d t prev q0 q1]
  dsimp only
  unfold kernelRun0_A
  dsimp only
  exact View.read_writes_junk_eq_canon (Val := Elt Ideal) scM0_3.view (kernelRun0_A.sl.HS3_9 (ms0_0 0 t) (ms0_1 0 t) (ms0_2 0 t) (iblk 0 m ρ d (0 : Fin 9) t) (iblk 0 m ρ d (1 : Fin 9) t) (iblk 0 m ρ d (2 : Fin 9) t))

theorem A_atQ (q0 : P0_0 0 t) (q1 : ¬P0_1 0 t) (c : Fin 8) (r : Fin 512) (j : Fin 128) : rdQ (step0 0 m ρ d t prev).2.1 (ix3 c r j) = halves (iblk 0 m ρ d (0 : Fin 9) t) c (ix3 0 r j) := by
  rw [A_rdQ m ρ d t prev q0 q1, A_Q, canon_eight, ldHead_eq, ldHead_eq, ldHead_eq, ldHead_eq]
  rfl

theorem A_atM' (q0 : P0_0 0 t) (q1 : ¬P0_1 0 t) (c : Fin 8) (r : Fin 512) (j : Fin 128) : rdM (step0 0 m ρ d t prev).2.2.1 (ix3 c r j)
    = putM (masked (scores (lanes (iblk 0 m ρ d (1 : Fin 9) t) (pair c)) (slab (rdQ (step0 0 m ρ d t prev).2.1) c))) (slab (k0_pay2 (F := Ideal)) c) (ix3 0 r j) := by
  rw [A_rdM m ρ d t prev q0 q1, A_M, canon_eight, ldHead_eq, ldCov_eq, A_atM_eq, A_rdQ m ρ d t prev q0 q1]

theorem A_atL' (q0 : P0_0 0 t) (q1 : ¬P0_1 0 t) (c : Fin 8) (r : Fin 512) (j : Fin 128) : rdL (step0 0 m ρ d t prev).2.2.2.1 (ix3 c r j)
    = putL (masked (scores (lanes (iblk 0 m ρ d (1 : Fin 9) t) (pair c)) (slab (rdQ (step0 0 m ρ d t prev).2.1) c))) (slab (k0_pay2 (F := Ideal)) c) (slab (k0_pay3 (F := Ideal)) c) (ix3 0 r j) := by
  rw [A_rdL m ρ d t prev q0 q1, A_L, canon_eight, ldHead_eq, ldCov_eq, A_atM_eq, A_atL_eq, A_rdQ m ρ d t prev q0 q1]

theorem A_atA' (q0 : P0_0 0 t) (q1 : ¬P0_1 0 t) (c : Fin 8) (r : Fin 512) (j : Fin 128) : rdA (step0 0 m ρ d t prev).2.2.2.2 (ix3 c r j)
    = putA (masked (scores (lanes (iblk 0 m ρ d (1 : Fin 9) t) (pair c)) (slab (rdQ (step0 0 m ρ d t prev).2.1) c))) (slab (k0_pay2 (F := Ideal)) c) (slab (k0_pay4 (F := Ideal)) c) (lanes (iblk 0 m ρ d (2 : Fin 9) t) (pair c)) (ix3 0 r j) := by
  rw [A_rdA m ρ d t prev q0 q1, A_A, canon_eight, ldHead_eq, ldHead_eq, ldCov_eq, A_atM_eq, A_atA_eq, A_rdQ m ρ d t prev q0 q1]

theorem A_out (q0 : P0_0 0 t) (q1 : ¬P0_1 0 t) (h : Fin 4) (r : Fin 512) (j : Fin 128) (hl : 128 * h.val + j.val < 512) :
    (step0 0 m ρ d t prev).1 (ix3 0 r ⟨128 * h.val + j.val, hl⟩)
      = finish (diff (lam (iblk 0 m ρ d (3 : Fin 9) t) (iblk 0 m ρ d (4 : Fin 9) t) (iblk 0 m ρ d (5 : Fin 9) t) (iblk 0 m ρ d (6 : Fin 9) t)) (slab (rdA (step0 0 m ρ d t prev).2.2.2.2) (fst h)) (slab (rdL (step0 0 m ρ d t prev).2.2.2.1) (fst h)) (slab (rdA (step0 0 m ρ d t prev).2.2.2.2) (snd h)) (slab (rdL (step0 0 m ρ d t prev).2.2.2.1) (snd h))) (iblk 0 m ρ d (7 : Fin 9) t) (ix3 0 r j) := by
  have e : (step0 0 m ρ d t prev).1 = View.canon (kernelRun0_A.sl.HO8_4 (ms0_0 0 t) (ms0_1 0 t) (ms0_2 0 t) (ms0_3 0 t) (ms0_4 0 t) (ms0_5 0 t) (ms0_6 0 t) (ms0_7 0 t) (iblk 0 m ρ d (0 : Fin 9) t) (iblk 0 m ρ d (1 : Fin 9) t) (iblk 0 m ρ d (2 : Fin 9) t) (iblk 0 m ρ d (3 : Fin 9) t) (iblk 0 m ρ d (4 : Fin 9) t) (iblk 0 m ρ d (5 : Fin 9) t) (iblk 0 m ρ d (6 : Fin 9) t) (iblk 0 m ρ d (7 : Fin 9) t)) := by
    rw [step0_A 0 m ρ d t prev q0 q1]
    dsimp only
    unfold out0_A_8 kernelRun0_A
    dsimp only
    exact View.read_writes_junk_eq_canon (Val := Elt Ideal) VO0_8 (kernelRun0_A.sl.HO8_4 (ms0_0 0 t) (ms0_1 0 t) (ms0_2 0 t) (ms0_3 0 t) (ms0_4 0 t) (ms0_5 0 t) (ms0_6 0 t) (ms0_7 0 t) (iblk 0 m ρ d (0 : Fin 9) t) (iblk 0 m ρ d (1 : Fin 9) t) (iblk 0 m ρ d (2 : Fin 9) t) (iblk 0 m ρ d (3 : Fin 9) t) (iblk 0 m ρ d (4 : Fin 9) t) (iblk 0 m ρ d (5 : Fin 9) t) (iblk 0 m ρ d (6 : Fin 9) t) (iblk 0 m ρ d (7 : Fin 9) t))
  rw [e, A_O, canon_four, ldVec_eq, ldVec_eq, ldVec_eq, ldVec_eq, ldGain_eq, ldCov_eq, ldCov_eq, ldCov_eq, ldCov_eq,
    A_rdA m ρ d t prev q0 q1, A_rdL m ρ d t prev q0 q1]

end Cert.Attn

end
-- ==== Proof.Online.lean ====
/-
  The running softmax of one row, over the extended reals: a state (maximum so far, sum of weights, weighted sum of
  values) that absorbs a block of keys at a time is, after any number of blocks, the plain maximum, sum and weighted sum
  over all the keys absorbed. Keys are numbered; a masked key has the score `⊥`.
-/
module

public import Idealize.ShloMosaic.PureOps.Ideal

@[expose] public section

noncomputable section

namespace Cert.Attn

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score `s` against a maximum `m`: `exp (s - m)`, a real number. -/
def wt (s m : EReal) : ℝ := (Ideal.exp (s - m)).toReal

theorem wt_nonneg (s m : EReal) : 0 ≤ wt s m := by
  unfold wt
  apply EReal.toReal_nonneg
  cases s - m with
  | bot => simp
  | top => simp
  | coe r => simpa using (Real.exp_pos r).le

/-- The exponential of a difference that is not `⊤` is the real weight. -/
theorem exp_eq_wt {s m : EReal} (h : s ≤ m) (hm : m ≠ ⊤) : Ideal.exp (s - m) = (wt s m : EReal) := by
  unfold wt
  induction m with
  | top => exact absurd rfl hm
  | bot => obtain rfl : s = ⊥ := le_bot_iff.1 h; simp
  | coe m =>
    induction s with
    | bot => simp
    | top => exact absurd (top_le_iff.1 h) hm
    | coe s => rw [← EReal.coe_sub, Ideal.exp_coe, EReal.toReal_coe]

/-- A masked key weighs nothing. -/
theorem wt_bot (m : EReal) : wt ⊥ m = 0 := by
  unfold wt; rw [EReal.bot_sub, Ideal.exp_bot, EReal.toReal_zero]

/-- The weight of the maximum itself, when it is a real number, is one. -/
theorem wt_self (r : ℝ) : wt (r : EReal) (r : EReal) = 1 := by
  unfold wt; rw [← EReal.coe_sub, sub_self, Ideal.exp_coe, Real.exp_zero]; simp

/-- Rescaling a weight to a larger maximum. -/
theorem wt_mul {s m m' : EReal} (h : s ≤ m) (h' : m ≤ m') (hm : m' ≠ ⊤) : wt m m' * wt s m = wt s m' := by
  induction m' with
  | top => exact absurd rfl hm
  | bot =>
    obtain rfl : m = ⊥ := le_bot_iff.1 h'
    obtain rfl : s = ⊥ := le_bot_iff.1 h
    simp [wt_bot]
  | coe m' =>
    induction m with
    | top => exact absurd (top_le_iff.1 h') hm
    | bot =>
      obtain rfl : s = ⊥ := le_bot_iff.1 h
      simp [wt_bot]
    | coe m =>
      induction s with
      | bot => simp [wt_bot]
      | top => exact absurd (top_le_iff.1 h) (EReal.coe_ne_top m)
      | coe s =>
        unfold wt
        simp only [← EReal.coe_sub, Ideal.exp_coe, EReal.toReal_coe, ← Real.exp_add]
        congr 1; ring

variable (S : ℕ → EReal) (V : ℕ → ℝ)

/-- The maximum of the first `n` scores. -/
def mx (n : ℕ) : EReal := (Finset.range n).sup S
/-- The sum of the first `n` weights, against the maximum of the same scores. -/
def den (n : ℕ) : ℝ := ∑ k ∈ Finset.range n, wt (S k) (mx S n)
/-- The weighted sum of the first `n` values. -/
def num (n : ℕ) : ℝ := ∑ k ∈ Finset.range n, wt (S k) (mx S n) * V k

theorem le_mx {n k : ℕ} (h : k < n) : S k ≤ mx S n := Finset.le_sup (f := S) (Finset.mem_range.2 h)

theorem mx_ne_top {n : ℕ} (h : ∀ k < n, S k ≠ ⊤) : mx S n ≠ ⊤ := by
  unfold mx
  rw [← lt_top_iff_ne_top, Finset.sup_lt_iff (by exact bot_lt_top)]
  intro k hk
  exact lt_top_iff_ne_top.2 (h k (Finset.mem_range.1 hk))

/-- The maximum of `n + b` scores is that of the first `n` and the next `b`. -/
theorem mx_add (n b : ℕ) : mx S (n + b) = max (mx S n) (Finset.univ.sup fun x : Fin b => S (n + x)) := by
  unfold mx
  apply le_antisymm
  · refine Finset.sup_le fun k hk => ?_
    rw [Finset.mem_range] at hk
    by_cases h : k < n
    · exact le_max_of_le_left (Finset.le_sup (f := S) (Finset.mem_range.2 h))
    · refine le_max_of_le_right ?_
      have := Finset.le_sup (f := fun x : Fin b => S (n + x)) (Finset.mem_univ (⟨k - n, by omega⟩ : Fin b))
      simpa [Nat.add_sub_cancel' (Nat.le_of_not_lt h)] using this
  · refine max_le ?_ ?_
    · exact Finset.sup_mono (Finset.range_mono (by omega))
    · refine Finset.sup_le fun x _ => Finset.le_sup (f := S) (Finset.mem_range.2 (by omega))

/-- One block absorbed: the new sum of weights. -/
theorem den_add (n b : ℕ) (h : ∀ k < n + b, S k ≠ ⊤) :
    Ideal.exp (mx S n - mx S (n + b)) * (den S n : EReal) + ∑ x : Fin b, Ideal.exp (S (n + x) - mx S (n + b))
      = (den S (n + b) : EReal) := by
  have ht := mx_ne_top S h
  have hle : mx S n ≤ mx S (n + b) := by rw [mx_add]; exact le_max_left _ _
  rw [exp_eq_wt hle ht, Finset.sum_congr rfl fun (x : Fin b) _ => exp_eq_wt (le_mx S (show n + x.val < n + b by omega)) ht,
    ← EReal.coe_mul, ← coe_sum, ← EReal.coe_add]
  congr 1
  unfold den
  rw [Finset.sum_range_add, Finset.mul_sum, Finset.sum_range fun x => wt (S (n + x)) (mx S (n + b))]
  congr 1
  exact Finset.sum_congr rfl fun k hk => wt_mul (le_mx S (Finset.mem_range.1 hk)) hle ht

/-- One block absorbed: the new weighted sum of values. -/
theorem num_add (n b : ℕ) (h : ∀ k < n + b, S k ≠ ⊤) :
    Ideal.exp (mx S n - mx S (n + b)) * (num S V n : EReal)
        + ∑ x : Fin b, Ideal.exp (S (n + x) - mx S (n + b)) * (V (n + x) : EReal)
      = (num S V (n + b) : EReal) := by
  have ht := mx_ne_top S h
  have hle : mx S n ≤ mx S (n + b) := by rw [mx_add]; exact le_max_left _ _
  rw [exp_eq_wt hle ht, Finset.sum_congr rfl fun (x : Fin b) _ => by
      rw [exp_eq_wt (le_mx S (show n + x.val < n + b by omega)) ht, ← EReal.coe_mul],
    ← EReal.coe_mul, ← coe_sum, ← EReal.coe_add]
  congr 1
  unfold num
  rw [Finset.sum_range_add, Finset.mul_sum, Finset.sum_range fun x => wt (S (n + x)) (mx S (n + b)) * V (n + x)]
  congr 1
  exact Finset.sum_congr rfl fun k hk => by rw [← mul_assoc, wt_mul (le_mx S (Finset.mem_range.1 hk)) hle ht]

theorem mx_zero : mx S 0 = ⊥ := by simp [mx]
theorem den_zero : den S 0 = 0 := by simp [den]
theorem num_zero : num S V 0 = 0 := by simp [num]

/-- Keys that are all masked change nothing. -/
theorem mx_masked (n b : ℕ) (h : ∀ k, n ≤ k → k < n + b → S k = ⊥) : mx S (n + b) = mx S n := by
  rw [mx_add]
  refine max_eq_left (Finset.sup_le fun x _ => ?_)
  rw [h (n + x) (by omega) (by omega)]; exact bot_le

theorem den_masked (n b : ℕ) (h : ∀ k, n ≤ k → k < n + b → S k = ⊥) : den S (n + b) = den S n := by
  unfold den
  rw [mx_masked S n b h, Finset.sum_range_add, Finset.sum_eq_zero (s := Finset.range b), add_zero]
  intro x hx
  rw [h (n + x) (by omega) (by have := Finset.mem_range.1 hx; omega), wt_bot]

theorem num_masked (n b : ℕ) (h : ∀ k, n ≤ k → k < n + b → S k = ⊥) : num S V (n + b) = num S V n := by
  unfold num
  rw [mx_masked S n b h, Finset.sum_range_add, Finset.sum_eq_zero (s := Finset.range b), add_zero]
  intro x hx
  rw [h (n + x) (by omega) (by have := Finset.mem_range.1 hx; omega), wt_bot, zero_mul]

/-- The maximum is attained: some weight is one. -/
theorem den_pos (n : ℕ) (h : ∀ k < n, S k ≠ ⊤) (q : ℕ) (hq : q < n) (hb : S q ≠ ⊥) : 0 < den S n := by
  have ht := mx_ne_top S h
  have hne : (Finset.range n).Nonempty := ⟨q, Finset.mem_range.2 hq⟩
  obtain ⟨k, hk, e⟩ := Finset.exists_mem_eq_sup _ hne S
  have hbot : mx S n ≠ ⊥ := fun e0 => hb (le_bot_iff.1 (e0 ▸ le_mx S hq))
  unfold den
  refine Finset.sum_pos' (fun k _ => wt_nonneg _ _) ⟨k, hk, ?_⟩
  have e' : S k = mx S n := e.symm
  rw [e']
  lift mx S n to ℝ using ⟨ht, hbot⟩ with r
  rw [wt_self]; exact one_pos

/-- A quotient of reals with a divisor off zero. -/
theorem div_real (x y : ℝ) (hy : y ≠ 0) : Ideal.div (x : EReal) (y : EReal) = ((x / y : ℝ) : EReal) := by
  rw [Ideal.div_coe hy, ← EReal.coe_mul]; congr 1; ring

end Cert.Attn

end
-- ==== Proof.SlabStep.lean ====
/-
  One online-softmax step of a slab carries the closed forms of its row sums from the first `n` keys to the next 512.
-/
module

public import proofs.«01_k».proof.Proof.Steps
public import proofs.«01_k».proof.Proof.Online

@[expose] public section

noncomputable section

namespace Cert.Attn

open Idealize.ShloMosaic
open Cert.KernelIdeal Cert.KernelIdeal.Gen

variable {s : FVec Ideal S512x512 .f32} {m l a : Vec Ideal S1x512x128 .f32} {v : Vec Ideal S1x512x128 .bf16}
  {S : ℕ → EReal} {V : ℕ → ℝ} {n : ℕ} {r : Fin 512}

theorem newM_step (hs : ∀ x : Fin 512, s (ix2 r x) = S (n + x)) (j : Fin 128) (hm : m (ix3 0 r j) = mx S n) :
    newM s m (ix2 r j) = mx S (n + 512) := by
  rw [newM_apply, hm, mx_add]
  congr 1
  exact Finset.sup_congr rfl fun x _ => hs x

theorem putM_step (hs : ∀ x : Fin 512, s (ix2 r x) = S (n + x)) (j : Fin 128) (hm : m (ix3 0 r j) = mx S n) :
    putM s m (ix3 0 r j) = mx S (n + 512) := by
  rw [putM_apply, newM_step hs j hm]

theorem weights_step (hs : ∀ x : Fin 512, s (ix2 r x) = S (n + x)) (hm : ∀ j, m (ix3 0 r j) = mx S n) (x : Fin 512) :
    weights s m (ix2 r x) = Ideal.exp (S (n + x) - mx S (n + 512)) := by
  rw [weights_apply, newM_step hs _ (hm _), hs]

theorem putL_step (hs : ∀ x : Fin 512, s (ix2 r x) = S (n + x)) (hm : ∀ j, m (ix3 0 r j) = mx S n) (j : Fin 128)
    (hl : l (ix3 0 r j) = (den S n : EReal)) (ht : ∀ k < n + 512, S k ≠ ⊤) :
    putL s m l (ix3 0 r j) = (den S (n + 512) : EReal) := by
  rw [putL_apply, scale_apply, newM_step hs j (hm j), hm, hl, ← den_add S n 512 ht]
  congr 1
  exact Finset.sum_congr rfl fun x _ => weights_step hs hm x

theorem putA_step (hs : ∀ x : Fin 512, s (ix2 r x) = S (n + x)) (hm : ∀ j, m (ix3 0 r j) = mx S n) (j : Fin 128)
    (ha : a (ix3 0 r j) = (num S V n : EReal)) (hv : ∀ x : Fin 512, v (ix3 0 x j) = (V (n + x) : EReal)) (ht : ∀ k < n + 512, S k ≠ ⊤) :
    putA s m a v (ix3 0 r j) = (num S V (n + 512) : EReal) := by
  rw [putA_apply, scale_apply, newM_step hs j (hm j), hm, ha, ← num_add S V n 512 ht]
  congr 1
  exact Finset.sum_congr rfl fun x _ => by rw [weights_step hs hm x, hv]

end Cert.Attn

end
-- ==== Proof.Model.lean ====
/-
  The attention in real numbers: a head map's scores of a query row over the keys, masked behind the row, and the values of
  a head; and how a slab's scores come to be those.
-/
module

public import proofs.«01_k».proof.Proof.SlabStep
public import proofs.«01_k».proof.Proof.Slabs

@[expose] public section

noncomputable section

namespace Cert.Attn

open Idealize.ShloMosaic
open Cert.KernelIdeal Cert.KernelIdeal.Gen

/-- An entry of an array of queries and keys, as a real number. -/
def rd (X : S2x4096x2048.Idx → EReal) (b : Fin 2) (r l : ℕ) : ℝ :=
  if h : r < 4096 ∧ l < 2048 then (X (ix3 b ⟨r, h.1⟩ ⟨l, h.2⟩)).toReal else 0

/-- An entry of the array of values, as a real number. -/
def rdv (X : S2x4096x1024.Idx → EReal) (b : Fin 2) (r l : ℕ) : ℝ :=
  if h : r < 4096 ∧ l < 1024 then (X (ix3 b ⟨r, h.1⟩ ⟨l, h.2⟩)).toReal else 0

theorem rd_eq (X : S2x4096x2048.Idx → EReal) (b : Fin 2) {r l : ℕ} (hr : r < 4096) (hl : l < 2048) :
    rd X b r l = (X (ix3 b ⟨r, hr⟩ ⟨l, hl⟩)).toReal := dif_pos ⟨hr, hl⟩

theorem rdv_eq (X : S2x4096x1024.Idx → EReal) (b : Fin 2) {r l : ℕ} (hr : r < 4096) (hl : l < 1024) :
    rdv X b r l = (X (ix3 b ⟨r, hr⟩ ⟨l, hl⟩)).toReal := dif_pos ⟨hr, hl⟩

/-- Head map `g`'s product of query row `r` and key `k`. -/
def dotp (Xq Xk : S2x4096x2048.Idx → EReal) (b : Fin 2) (g r k : ℕ) : ℝ :=
  ∑ d : Fin 64, rd Xq b r (64 * g + d.val) * rd Xk b k (1024 + (64 * g + d.val))

/-- Head map `g`'s scores of query row `r`, a key behind the row masked. -/
def sc (Xq Xk : S2x4096x2048.Idx → EReal) (b : Fin 2) (g r : ℕ) (k : ℕ) : EReal :=
  if k ≤ r then (dotp Xq Xk b g r k : EReal) else ⊥

theorem sc_ne_top (Xq Xk : S2x4096x2048.Idx → EReal) (b : Fin 2) (g r k : ℕ) : sc Xq Xk b g r k ≠ ⊤ := by
  unfold sc; split
  · exact EReal.coe_ne_top _
  · exact bot_ne_top

/-- Lane `l` of the values, over the keys. -/
def vl (Xv : S2x4096x1024.Idx → EReal) (b : Fin 2) (l : ℕ) (k : ℕ) : ℝ := rdv Xv b k l

/-- A product over 128 lanes of which the left factor keeps one half is the product over that half. -/
theorem half_dot (f g : ℕ → ℝ) (e : ℕ) (he : e < 2) :
    ∑ d : Fin 128, (if (d.val < 64 ↔ e = 0) then (f d.val : EReal) else 0) * (g d.val : EReal)
      = ((∑ d : Fin 64, f (64 * e + d.val) * g (64 * e + d.val) : ℝ) : EReal) := by
  rw [coe_sum, Fin.sum_univ_add (a := 64) (b := 64) (f := fun d : Fin (64 + 64) =>
    (if (d.val < 64 ↔ e = 0) then (f d.val : EReal) else 0) * (g d.val : EReal))]
  obtain rfl | rfl : e = 0 ∨ e = 1 := by omega
  · refine (congrArg₂ (· + ·) (Finset.sum_congr rfl fun d _ => ?_) (Finset.sum_eq_zero fun d _ => ?_)).trans (add_zero _)
    · rw [if_pos ⟨fun _ => rfl, fun _ => d.isLt⟩, EReal.coe_mul, Nat.mul_zero, Nat.zero_add]; rfl
    · rw [if_neg fun h => absurd (h.mpr rfl) (Nat.not_lt.mpr (Nat.le_add_right 64 d.val)), zero_mul]
  · refine (congrArg₂ (· + ·) (Finset.sum_eq_zero fun d _ => ?_) (Finset.sum_congr rfl fun d _ => ?_)).trans (zero_add _)
    · rw [if_neg fun h => absurd (h.mp d.isLt) Nat.one_ne_zero, zero_mul]
    · rw [if_pos ⟨fun h => absurd h (Nat.not_lt.mpr (Nat.le_add_right 64 d.val)), fun h => absurd h Nat.one_ne_zero⟩, EReal.coe_mul,
        Nat.mul_one]
      rfl

/-- What the query buffer holds: in each slab the row block's queries of a head, one half of the lanes zeroed. -/
def Queries (Xq : S2x4096x2048.Idx → EReal) (b : Fin 2) (hgr q : ℕ) (Q : S8x512x128.Idx → EReal) : Prop :=
  ∀ (c : Fin 8) (r : Fin 512) (j : Fin 128), Q (ix3 c r j)
    = if (j.val < 64 ↔ c.val % 2 = 0) then (rd Xq b (512 * q + r.val) (512 * hgr + 128 * (c.val / 2) + j.val) : EReal) else 0

/-- A slab's scores are the head map's products. -/
theorem scores_model {Xq Xk : S2x4096x2048.Idx → EReal} {b : Fin 2} {hgr q kb : ℕ} {Q : S8x512x128.Idx → Elt Ideal .bf16}
    {x1 : S1x512x512.Idx → Elt Ideal .bf16} (hQ : Queries Xq b hgr q Q)
    (hK : ∀ x l : Fin 512, x1 (ix3 0 x l) = (rd Xk b (512 * kb + x.val) (1024 + (512 * hgr + l.val)) : EReal))
    (c : Fin 8) (r x : Fin 512) :
    scores (lanes x1 (pair c)) (slab Q c) (ix2 r x)
      = (dotp Xq Xk b (8 * hgr + c.val) (512 * q + r.val) (512 * kb + x.val) : EReal) := by
  rw [scores_apply]
  have h := half_dot (fun d => rd Xq b (512 * q + r.val) (512 * hgr + 128 * (c.val / 2) + d))
    (fun d => rd Xk b (512 * kb + x.val) (1024 + (512 * hgr + (128 * (c.val / 2) + d)))) (c.val % 2) (Nat.mod_lt _ (by omega))
  refine (Finset.sum_congr rfl fun d _ => ?_).trans (h.trans ?_)
  · exact congrArg₂ (· * ·) (hQ c r d) (hK x _)
  · unfold dotp
    congr 1
    refine Finset.sum_congr rfl fun d _ => ?_
    congr 2 <;> omega

/-- Off the diagonal no key of the block is behind its row. -/
theorem scores_below {Xq Xk : S2x4096x2048.Idx → EReal} {b : Fin 2} {hgr q kb : ℕ} {Q : S8x512x128.Idx → Elt Ideal .bf16}
    {x1 : S1x512x512.Idx → Elt Ideal .bf16} (hQ : Queries Xq b hgr q Q)
    (hK : ∀ x l : Fin 512, x1 (ix3 0 x l) = (rd Xk b (512 * kb + x.val) (1024 + (512 * hgr + l.val)) : EReal)) (hlt : kb < q)
    (c : Fin 8) (r x : Fin 512) :
    scores (lanes x1 (pair c)) (slab Q c) (ix2 r x) = sc Xq Xk b (8 * hgr + c.val) (512 * q + r.val) (512 * kb + x.val) := by
  rw [scores_model hQ hK, sc, if_pos (by omega)]

/-- On the diagonal the mask is the one of the rows and keys counted from the start. -/
theorem scores_diag {Xq Xk : S2x4096x2048.Idx → EReal} {b : Fin 2} {hgr q kb : ℕ} {Q : S8x512x128.Idx → Elt Ideal .bf16}
    {x1 : S1x512x512.Idx → Elt Ideal .bf16} (hQ : Queries Xq b hgr q Q)
    (hK : ∀ x l : Fin 512, x1 (ix3 0 x l) = (rd Xk b (512 * kb + x.val) (1024 + (512 * hgr + l.val)) : EReal)) (he : kb = q)
    (c : Fin 8) (r x : Fin 512) :
    masked (scores (lanes x1 (pair c)) (slab Q c)) (ix2 r x)
      = sc Xq Xk b (8 * hgr + c.val) (512 * q + r.val) (512 * kb + x.val) := by
  rw [masked_apply, scores_model hQ hK, sc]
  congr 1
  exact propext ⟨fun h => by have : x.val ≤ r.val := h; omega, fun h => show x.val ≤ r.val by omega⟩

/-- What the three sum buffers hold after `n` keys: each row's running maximum, sum of weights and weighted sum of values. -/
structure Sums (S : Fin 8 → Fin 512 → ℕ → EReal) (V : Fin 8 → Fin 128 → ℕ → ℝ) (n : ℕ) (M L A : S8x512x128.Idx → EReal) : Prop where
  hm : ∀ (c : Fin 8) (r : Fin 512) (j : Fin 128), M (ix3 c r j) = mx (S c r) n
  hl : ∀ (c : Fin 8) (r : Fin 512) (j : Fin 128), L (ix3 c r j) = (den (S c r) n : EReal)
  ha : ∀ (c : Fin 8) (r : Fin 512) (j : Fin 128), A (ix3 c r j) = (num (S c r) (V c j) n : EReal)

/-- One step of all slabs. -/
theorem Sums.step {S : Fin 8 → Fin 512 → ℕ → EReal} {V : Fin 8 → Fin 128 → ℕ → ℝ} {n : ℕ} {M L A M' L' A' : S8x512x128.Idx → EReal}
    (h : Sums S V n M L A) (hS : ∀ c r k, S c r k ≠ ⊤) (s : Fin 8 → FVec Ideal S512x512 .f32) (v : Fin 8 → Vec Ideal S1x512x128 .bf16)
    (hs : ∀ c (r x : Fin 512), s c (ix2 r x) = S c r (n + x)) (hv : ∀ c (x : Fin 512) (j : Fin 128), v c (ix3 0 x j) = (V c j (n + x) : EReal))
    (hM : ∀ c r j, M' (ix3 c r j) = putM (s c) (slab (e := .f32) M c) (ix3 0 r j))
    (hL : ∀ c r j, L' (ix3 c r j) = putL (s c) (slab (e := .f32) M c) (slab (e := .f32) L c) (ix3 0 r j))
    (hA : ∀ c r j, A' (ix3 c r j) = putA (s c) (slab (e := .f32) M c) (slab (e := .f32) A c) (v c) (ix3 0 r j)) :
    Sums S V (n + 512) M' L' A' where
  hm c r j := (hM c r j).trans (putM_step (hs c r) j (h.hm c r j))
  hl c r j := (hL c r j).trans (putL_step (hs c r) (fun j => h.hm c r j) j (h.hl c r j) fun k _ => hS c r k)
  ha c r j := (hA c r j).trans (putA_step (hs c r) (fun j => h.hm c r j) j (h.ha c r j) (fun x => hv c x j) fun k _ => hS c r k)

/-- Before the first key. -/
theorem Sums.start (S : Fin 8 → Fin 512 → ℕ → EReal) (V : Fin 8 → Fin 128 → ℕ → ℝ) :
    Sums S V 0 (k0_pay2 (F := Ideal)) (k0_pay3 (F := Ideal)) (k0_pay4 (F := Ideal)) where
  hm c r j := by rw [mx_zero]; exact ofBits_bot
  hl c r j := by rw [den_zero]; exact (by simp [Ideal.ofBits, Ideal.ieee] : Ideal.ofBits .f32 0x00000000#32 = ((0 : ℝ) : EReal))
  ha c r j := by rw [num_zero]; exact (by simp [Ideal.ofBits, Ideal.ieee] : Ideal.ofBits .f32 0x00000000#32 = ((0 : ℝ) : EReal))

end Cert.Attn

end
-- ==== Proof.TailAt.lean ====
/-
  The stored head and the queries' halves, entry by entry.
-/
module

public import proofs.«01_k».proof.Proof.Tail
public import proofs.«01_k».proof.Proof.Steps
public import Idealize.ShloMosaic.Lib.Pointwise

@[expose] public section

noncomputable section

namespace Cert.Attn

open Idealize.ShloMosaic
open Cert.KernelIdeal Cert.KernelIdeal.Gen

theorem lowHalf_apply (q : Vec Ideal S1x512x128 .bf16) (r : Fin 512) (j : Fin 128) :
    lowHalf q (ix3 0 r j) = if j.val < 64 then q (ix3 0 r j) else 0 := by
  pointwise [lowHalf]
  rw [WordCmp.cmpi_slt_ofNat (by have := j.isLt; omega) (by omega), Scalar.select_decide]

theorem highHalf_apply (q : Vec Ideal S1x512x128 .bf16) (r : Fin 512) (j : Fin 128) :
    highHalf q (ix3 0 r j) = if 64 ≤ j.val then q (ix3 0 r j) else 0 := by
  pointwise [highHalf]
  rw [WordCmp.cmpi_sge_ofNat (by have := j.isLt; omega) (by omega), Scalar.select_decide]

theorem lam_apply (q1 k1 q2 k2 : Vec Ideal S1x64 .f32) : lam q1 k1 q2 k2 (ix2 0 0)
    = Ideal.exp (∑ l : Fin 64, q1 (ix2 0 l) * k1 (ix2 0 l)) - Ideal.exp (∑ l : Fin 64, q2 (ix2 0 l) * k2 (ix2 0 l))
      + Ideal.ofBits .f32 0x3E4CCCCD#32 := by
  pointwise [lam]

theorem diff_apply (w : FVec Ideal S1x1 .f32) (a0 l0 a1 l1 : Vec Ideal S1x512x128 .f32) (r : Fin 512) (j : Fin 128) :
    diff w a0 l0 a1 l1 (ix2 r j) = Ideal.div (a0 (ix3 0 r j)) (l0 (ix3 0 r j))
      - w (ix2 0 0) * Ideal.div (a1 (ix3 0 r j)) (l1 (ix3 0 r j)) := by
  pointwise [diff]

theorem finish_apply (o : FVec Ideal S512x128 .f32) (g : Vec Ideal S1x128 .f32) (r : Fin 512) (j : Fin 128) :
    finish o g (ix3 0 r j) = o (ix2 r j) * Ideal.rsqrt (Ideal.div (∑ l : Fin 128, o (ix2 r l) * o (ix2 r l)) (Ideal.ofBits .f32 0x43000000#32)
      + Ideal.ofBits .f32 0x3727C5AC#32) * g (ix2 0 j) * Ideal.ofBits .f32 0x3F4CCCCD#32 := by
  pointwise [finish]

end Cert.Attn

end
-- ==== Proof.State.lean ====
/-
  The scratch buffers along the grid: at every point they hold the running maxima and sums over the keys seen so far, and at a
  diagonal point the stored block is the normalised difference of the finished maps.
-/
module

public import proofs.«01_k».proof.Proof.Points
public import proofs.«01_k».proof.Proof.Model
public import proofs.«01_k».proof.Proof.TailAt

@[expose] public section

noncomputable section

namespace Cert.Attn

open Idealize.ShloMosaic
open Cert.KernelIdeal Cert.KernelIdeal.Gen

/-- The arrays' entries that the attention reads are real numbers. -/
structure Finite (Xq Xk : S2x4096x2048.Idx → EReal) (Xv : S2x4096x1024.Idx → EReal) : Prop where
  hq : ∀ (b : Fin 2) (r : Fin 4096) (l : Fin 1024), ((Xq (ix3 b r ⟨l.val, by omega⟩)).toReal : EReal) = Xq (ix3 b r ⟨l.val, by omega⟩)
  hk : ∀ (b : Fin 2) (r : Fin 4096) (l : Fin 1024), ((Xk (ix3 b r ⟨1024 + l.val, by omega⟩)).toReal : EReal) = Xk (ix3 b r ⟨1024 + l.val, by omega⟩)
  hv : ∀ (b : Fin 2) (r : Fin 4096) (l : Fin 1024), ((Xv (ix3 b r l)).toReal : EReal) = Xv (ix3 b r l)

variable (m : (ℓ : Loc nD τ sig) → Buf (Elt Ideal) ℓ) (ρ : Dev nD → PrngReg) (d : Dev nD) (t : Pt)

/-- The three arrays. -/
abbrev aq : S2x4096x2048.Idx → EReal := m (d.tc.loc main_arg2)
abbrev ak : S2x4096x2048.Idx → EReal := m (d.tc.loc main_arg3)
abbrev av : S2x4096x1024.Idx → EReal := m (d.tc.loc main_arg4)

/-- A point's batch. -/
def bat : Fin 2 := ⟨bt t.val, (tab_bounds t).1⟩

variable {m d}

theorem blk_q_real (hF : Finite (aq m d) (ak m d) (av m d)) (r l : Fin 512) : iblk 0 m ρ d (0 : Fin 9) t (ix3 0 r l)
    = (rd (aq m d) (bat t) (512 * qi t.val + r.val) (512 * hg t.val + l.val) : EReal) := by
  have h1 := (tab_bounds t).2.1
  have h2 := (tab_bounds t).2.2.1
  have h := hF.hq (bat t) ⟨512 * qi t.val + r.val, by omega⟩ ⟨512 * hg t.val + l.val, by omega⟩
  rw [blk_q, rd_eq _ _ (by omega) (by omega)]
  exact h.symm

theorem blk_k_real (hF : Finite (aq m d) (ak m d) (av m d)) (r l : Fin 512) : iblk 0 m ρ d (1 : Fin 9) t (ix3 0 r l)
    = (rd (ak m d) (bat t) (512 * ki t.val + r.val) (1024 + (512 * hg t.val + l.val)) : EReal) := by
  have h1 := (tab_bounds t).2.1
  have h2 := (tab_bounds t).2.2.1
  have h3 := (tab_bounds t).2.2.2
  have h := hF.hk (bat t) ⟨512 * ki t.val + r.val, by omega⟩ ⟨512 * hg t.val + l.val, by omega⟩
  rw [blk_k, rd_eq _ _ (by omega) (by omega)]
  exact h.symm

theorem blk_v_real (hF : Finite (aq m d) (ak m d) (av m d)) (r l : Fin 512) : iblk 0 m ρ d (2 : Fin 9) t (ix3 0 r l)
    = (rdv (av m d) (bat t) (512 * ki t.val + r.val) (512 * hg t.val + l.val) : EReal) := by
  have h1 := (tab_bounds t).2.1
  have h2 := (tab_bounds t).2.2.1
  have h3 := (tab_bounds t).2.2.2
  have h := hF.hv (bat t) ⟨512 * ki t.val + r.val, by omega⟩ ⟨512 * hg t.val + l.val, by omega⟩
  rw [blk_v, rdv_eq _ _ (by omega) (by omega)]
  exact h.symm

variable (m d)

/-- The scores and the values of a point's slabs. -/
def ptS (c : Fin 8) (r : Fin 512) : ℕ → EReal := sc (aq m d) (ak m d) (bat t) (8 * hg t.val + c.val) (512 * qi t.val + r.val)
def ptV (c : Fin 8) (j : Fin 128) : ℕ → ℝ := vl (av m d) (bat t) (512 * hg t.val + (128 * (c.val / 2) + j.val))

variable {m d}

/-- What the buffers hold after `n` keys of the point's row of blocks. -/
def Holds (m : (ℓ : Loc nD τ sig) → Buf (Elt Ideal) ℓ) (d : Dev nD) (t : Pt) (n : ℕ)
    (T : (S1x512x512.Idx → Elt Ideal .bf16) × Buf (Elt Ideal) ((d.tc : Thread nD τ).loc cc0_scratch0)
    × Buf (Elt Ideal) ((d.tc : Thread nD τ).loc cc0_scratch1) × Buf (Elt Ideal) ((d.tc : Thread nD τ).loc cc0_scratch2)
    × Buf (Elt Ideal) ((d.tc : Thread nD τ).loc cc0_scratch3)) : Prop :=
  Queries (aq m d) (bat t) (hg t.val) (qi t.val) (rdQ T.2.1)
    ∧ Sums (ptS m d t) (ptV m d t) n (rdM T.2.2.1) (rdL T.2.2.2.1) (rdA T.2.2.2.2)

theorem halves_queries {x0 : Vec Ideal S1x512x512 .bf16} {Xq : S2x4096x2048.Idx → EReal} {b : Fin 2} {hgr q : ℕ}
    (h : ∀ r l : Fin 512, x0 (ix3 0 r l) = (rd Xq b (512 * q + r.val) (512 * hgr + l.val) : EReal)) {Q : S8x512x128.Idx → EReal}
    (hQ : ∀ c r j, Q (ix3 c r j) = halves x0 c (ix3 0 r j)) : Queries Xq b hgr q Q := by
  intro c r j
  rw [hQ]
  have lo : ∀ (h' : Fin 4), lowHalf (lanes x0 h') (ix3 0 r j) = if j.val < 64 then (rd Xq b (512 * q + r.val) (512 * hgr + 128 * h'.val + j.val) : EReal) else 0 := by
    intro h'
    rw [lowHalf_apply]
    refine if_congr Iff.rfl ((h r _).trans ?_) rfl
    rw [Nat.add_assoc]; rfl
  have hi : ∀ (h' : Fin 4), highHalf (lanes x0 h') (ix3 0 r j) = if 64 ≤ j.val then (rd Xq b (512 * q + r.val) (512 * hgr + 128 * h'.val + j.val) : EReal) else 0 := by
    intro h'
    rw [highHalf_apply]
    refine if_congr Iff.rfl ((h r _).trans ?_) rfl
    rw [Nat.add_assoc]; rfl
  match c with
  | 0 => exact (lo 0).trans (if_congr (by simp) rfl rfl)
  | 1 => exact (hi 0).trans (if_congr (by simp) rfl rfl)
  | 2 => exact (lo 1).trans (if_congr (by simp) rfl rfl)
  | 3 => exact (hi 1).trans (if_congr (by simp) rfl rfl)
  | 4 => exact (lo 2).trans (if_congr (by simp) rfl rfl)
  | 5 => exact (hi 2).trans (if_congr (by simp) rfl rfl)
  | 6 => exact (lo 3).trans (if_congr (by simp) rfl rfl)
  | 7 => exact (hi 3).trans (if_congr (by simp) rfl rfl)

/-- One point. -/
theorem holds_step (hF : Finite (aq m d) (ak m d) (av m d))
    (prev : (S1x512x512.Idx → Elt Ideal .bf16) × Buf (Elt Ideal) ((d.tc : Thread nD τ).loc cc0_scratch0)
    × Buf (Elt Ideal) ((d.tc : Thread nD τ).loc cc0_scratch1) × Buf (Elt Ideal) ((d.tc : Thread nD τ).loc cc0_scratch2)
    × Buf (Elt Ideal) ((d.tc : Thread nD τ).loc cc0_scratch3)) (hprev : ki t.val ≠ 0 → Holds m d t (512 * ki t.val) prev) :
    Holds m d t (512 * ki t.val + 512) (step0 0 m ρ d t prev) := by
  have hK := blk_k_real ρ t hF
  have hT : ∀ c r k, ptS m d t c r k ≠ ⊤ := fun c r k => sc_ne_top _ _ _ _ _ _
  have hV : ∀ c (x : Fin 512) (j : Fin 128), lanes (iblk 0 m ρ d (2 : Fin 9) t) (pair c) (ix3 0 x j)
      = (ptV m d t c j (512 * ki t.val + x) : EReal) := fun c x j => blk_v_real ρ t hF x _
  by_cases q0 : P0_0 0 t
  · have k0 := (start_iff t).mp q0
    by_cases q1 : P0_1 0 t
    · have lt := (below_iff t).mp q1
      have hQ := halves_queries (blk_q_real ρ t hF) (B_atQ m ρ d t prev q0 q1)
      refine ⟨hQ, ?_⟩
      have st := Sums.start (ptS m d t) (ptV m d t)
      rw [show (0 : ℕ) = 512 * ki t.val by omega] at st
      exact st.step hT _ _ (fun c r x => scores_below hQ hK lt c r x) hV (B_atM' m ρ d t prev q0 q1) (B_atL' m ρ d t prev q0 q1)
        (B_atA' m ρ d t prev q0 q1)
    · have le : ¬ki t.val < qi t.val := fun h => q1 ((below_iff t).mpr h)
      have hQ := halves_queries (blk_q_real ρ t hF) (A_atQ m ρ d t prev q0 q1)
      refine ⟨hQ, ?_⟩
      have st := Sums.start (ptS m d t) (ptV m d t)
      rw [show (0 : ℕ) = 512 * ki t.val by omega] at st
      exact st.step hT _ _ (fun c r x => scores_diag hQ hK (by have := (tab_bounds t).2.2.2; omega) c r x) hV
        (A_atM' m ρ d t prev q0 q1) (A_atL' m ρ d t prev q0 q1) (A_atA' m ρ d t prev q0 q1)
  · have k0 : ki t.val ≠ 0 := fun h => q0 ((start_iff t).mpr h)
    obtain ⟨hQ, st⟩ := hprev k0
    by_cases q1 : P0_1 0 t
    · have lt := (below_iff t).mp q1
      refine ⟨by rw [D_keep m ρ d t prev q0 q1]; exact hQ, ?_⟩
      exact st.step hT _ _ (fun c r x => scores_below hQ hK lt c r x) hV (D_atM' m ρ d t prev q0 q1) (D_atL' m ρ d t prev q0 q1)
        (D_atA' m ρ d t prev q0 q1)
    · have le : ¬ki t.val < qi t.val := fun h => q1 ((below_iff t).mpr h)
      refine ⟨by rw [C_keep m ρ d t prev q0 q1]; exact hQ, ?_⟩
      exact st.step hT _ _ (fun c r x => scores_diag hQ hK (by have := (tab_bounds t).2.2.2; omega) c r x) hV
        (C_atM' m ρ d t prev q0 q1) (C_atL' m ρ d t prev q0 q1) (C_atA' m ρ d t prev q0 q1)

/-- Every point. -/
theorem holds (hF : Finite (aq m d) (ak m d) (av m d)) :
    ∀ (n : ℕ) (hn : n < (cfgA 0).N), Holds m d ⟨n, hn⟩ (512 * ki n + 512) (traj0 0 m ρ d n hn) := by
  intro n
  induction n with
  | zero =>
    intro hn
    rw [traj0_eq 0 m ρ d ⟨0, hn⟩]
    exact holds_step ρ ⟨0, hn⟩ hF _ fun h => absurd rfl (prev_of_carry ⟨0, hn⟩ h).1
  | succ n ih =>
    intro hn
    rw [traj0_eq 0 m ρ d ⟨n + 1, hn⟩]
    refine holds_step ρ ⟨n + 1, hn⟩ hF _ fun h => ?_
    obtain ⟨-, e1, e2, e3, e4⟩ := prev_of_carry ⟨n + 1, hn⟩ h
    have hp := ih (Nat.lt_of_succ_lt hn)
    simp only [Nat.add_one_sub_one] at e1 e2 e3 e4
    have e : prev0 0 m ρ d ⟨n + 1, hn⟩ = traj0 0 m ρ d n (Nat.lt_of_succ_lt hn) := by
      unfold prev0; rw [dif_neg (Nat.succ_ne_zero n)]; rfl
    rw [e]
    unfold Holds ptS ptV bat at hp ⊢
    simp only [← e4, ← e1, ← e2, ← e3]
    exact hp

end Cert.Attn

end
-- ==== Proof.Output.lean ====
/-
  The attention's output in closed form, and the block a diagonal point stores.
-/
module

public import proofs.«01_k».proof.Proof.State

@[expose] public section

noncomputable section

namespace Cert.Attn

open Idealize.ShloMosaic
open Cert.KernelIdeal Cert.KernelIdeal.Gen

/-- The factor of the second map, from the four vectors. -/
def lamE (q1 k1 q2 k2 : S1x64.Idx → EReal) : EReal :=
  Ideal.exp (∑ l : Fin 64, q1 (ix2 0 l) * k1 (ix2 0 l)) - Ideal.exp (∑ l : Fin 64, q2 (ix2 0 l) * k2 (ix2 0 l))
    + Ideal.ofBits .f32 0x3E4CCCCD#32

theorem exp_dot {q k : S1x64.Idx → EReal} (hq : ∀ l : Fin 64, ((q (ix2 0 l)).toReal : EReal) = q (ix2 0 l))
    (hk : ∀ l : Fin 64, ((k (ix2 0 l)).toReal : EReal) = k (ix2 0 l)) :
    Ideal.exp (∑ l : Fin 64, q (ix2 0 l) * k (ix2 0 l))
      = ((Real.exp (∑ l : Fin 64, (q (ix2 0 l)).toReal * (k (ix2 0 l)).toReal) : ℝ) : EReal) := by
  have e : ∑ l : Fin 64, q (ix2 0 l) * k (ix2 0 l) = ((∑ l : Fin 64, (q (ix2 0 l)).toReal * (k (ix2 0 l)).toReal : ℝ) : EReal) := by
    rw [coe_sum]
    exact Finset.sum_congr rfl fun l _ => by rw [EReal.coe_mul, hq, hk]
  rw [e]; rfl

/-- With real vectors it is a real number. -/
theorem lamE_real {q1 k1 q2 k2 : S1x64.Idx → EReal} (h1 : ∀ l : Fin 64, ((q1 (ix2 0 l)).toReal : EReal) = q1 (ix2 0 l))
    (h2 : ∀ l : Fin 64, ((k1 (ix2 0 l)).toReal : EReal) = k1 (ix2 0 l)) (h3 : ∀ l : Fin 64, ((q2 (ix2 0 l)).toReal : EReal) = q2 (ix2 0 l))
    (h4 : ∀ l : Fin 64, ((k2 (ix2 0 l)).toReal : EReal) = k2 (ix2 0 l)) : ((lamE q1 k1 q2 k2).toReal : EReal) = lamE q1 k1 q2 k2 := by
  obtain ⟨z, hz⟩ : ∃ z : ℝ, Ideal.ofBits .f32 0x3E4CCCCD#32 = (z : EReal) := by
    simp only [Ideal.ofBits, Ideal.ieee]
    norm_num
    exact ⟨_, rfl⟩
  unfold lamE
  rw [exp_dot h1 h2, exp_dot h3 h4, hz, ← EReal.coe_sub, ← EReal.coe_add, EReal.toReal_coe]

/-- A head's output of a row at lane `l`, before the norm: the first map's weighted mean less `w` times the second's. -/
def ov (Xq Xk : S2x4096x2048.Idx → EReal) (Xv : S2x4096x1024.Idx → EReal) (w : ℝ) (b : Fin 2) (h row l : ℕ) : ℝ :=
  num (sc Xq Xk b (2 * h) row) (vl Xv b (128 * h + l)) 4096 / den (sc Xq Xk b (2 * h) row) 4096
    - w * (num (sc Xq Xk b (2 * h + 1) row) (vl Xv b (128 * h + l)) 4096 / den (sc Xq Xk b (2 * h + 1) row) 4096)

/-- The norm of a head's output. -/
def normed (o : Fin 128 → ℝ) (g : S1x128.Idx → EReal) (j : Fin 128) : EReal :=
  (o j : EReal) * Ideal.rsqrt (Ideal.div (∑ l : Fin 128, (o l : EReal) * (o l : EReal)) (Ideal.ofBits .f32 0x43000000#32)
      + Ideal.ofBits .f32 0x3727C5AC#32) * g (ix2 0 j) * Ideal.ofBits .f32 0x3F4CCCCD#32

theorem sc_behind (Xq Xk : S2x4096x2048.Idx → EReal) (b : Fin 2) (g row n : ℕ) (hn : row < n) (k : ℕ) (hk : n ≤ k) : sc Xq Xk b g row k = ⊥ := by
  unfold sc; rw [if_neg (by omega)]

theorem den_all (Xq Xk : S2x4096x2048.Idx → EReal) (b : Fin 2) (g row n : ℕ) (hn : row < n) (h4 : n ≤ 4096) :
    den (sc Xq Xk b g row) n = den (sc Xq Xk b g row) 4096 := by
  have h := den_masked (sc Xq Xk b g row) n (4096 - n) fun k hk _ => sc_behind Xq Xk b g row n hn k hk
  rw [← h, Nat.add_sub_cancel' h4]

theorem num_all (Xq Xk : S2x4096x2048.Idx → EReal) (V : ℕ → ℝ) (b : Fin 2) (g row n : ℕ) (hn : row < n) (h4 : n ≤ 4096) :
    num (sc Xq Xk b g row) V n = num (sc Xq Xk b g row) V 4096 := by
  have h := num_masked (sc Xq Xk b g row) V n (4096 - n) fun k hk _ => sc_behind Xq Xk b g row n hn k hk
  rw [← h, Nat.add_sub_cancel' h4]

theorem den_sc_pos (Xq Xk : S2x4096x2048.Idx → EReal) (b : Fin 2) (g row : ℕ) (hr : row < 4096) : 0 < den (sc Xq Xk b g row) 4096 :=
  den_pos _ 4096 (fun k _ => sc_ne_top _ _ _ _ _ k) row hr (by unfold sc; rw [if_pos le_rfl]; exact EReal.coe_ne_bot _)

variable {m : (ℓ : Loc nD τ sig) → Buf (Elt Ideal) ℓ} (ρ : Dev nD → PrngReg) {d : Dev nD} (t : Pt)

/-- What the sums of a finished row of blocks give. -/
theorem finished {M L A : S8x512x128.Idx → Elt Ideal .f32} {n : ℕ} (hn : 512 * qi t.val + 512 = n)
    (hs : Sums (ptS m d t) (ptV m d t) n M L A) (w : FVec Ideal S1x1 .f32) (W : ℝ) (hw : w (ix2 0 0) = (W : EReal))
    (g : Vec Ideal S1x128 .f32) (h : Fin 4) (r : Fin 512) (j : Fin 128) :
    finish (diff w (slab A (fst h)) (slab L (fst h)) (slab A (snd h)) (slab L (snd h))) g (ix3 0 r j)
      = normed (fun l => ov (aq m d) (ak m d) (av m d) W (bat t) (4 * hg t.val + h.val) (512 * qi t.val + r.val) l.val) g j := by
  have hq8 := (tab_bounds t).2.2.1
  have ho : ∀ l : Fin 128, diff w (slab A (fst h)) (slab L (fst h)) (slab A (snd h)) (slab L (snd h)) (ix2 r l)
      = (ov (aq m d) (ak m d) (av m d) W (bat t) (4 * hg t.val + h.val) (512 * qi t.val + r.val) l.val : EReal) := by
    intro l
    rw [diff_apply, hw]
    have a0 : slab A (fst h) (ix3 0 r l) = _ := hs.ha (fst h) r l
    have l0 : slab L (fst h) (ix3 0 r l) = _ := hs.hl (fst h) r l
    have a1 : slab A (snd h) (ix3 0 r l) = _ := hs.ha (snd h) r l
    have l1 : slab L (snd h) (ix3 0 r l) = _ := hs.hl (snd h) r l
    rw [a0, l0, a1, l1]
    unfold ptS ptV
    rw [den_all _ _ _ _ _ n (by omega) (by omega), den_all _ _ _ _ _ n (by omega) (by omega),
      num_all _ _ _ _ _ _ n (by omega) (by omega), num_all _ _ _ _ _ _ n (by omega) (by omega),
      div_real _ _ (den_sc_pos _ _ _ _ _ (by omega)).ne', div_real _ _ (den_sc_pos _ _ _ _ _ (by omega)).ne',
      ← EReal.coe_mul, ← EReal.coe_sub]
    have g0 : 8 * hg t.val + (fst h).val = 2 * (4 * hg t.val + h.val) := by show 8 * hg t.val + 2 * h.val = _; omega
    have g1 : 8 * hg t.val + (snd h).val = 2 * (4 * hg t.val + h.val) + 1 := by show 8 * hg t.val + (2 * h.val + 1) = _; omega
    have v0 : 512 * hg t.val + (128 * ((fst h).val / 2) + l.val) = 128 * (4 * hg t.val + h.val) + l.val := by
      show 512 * hg t.val + (128 * (2 * h.val / 2) + l.val) = _; omega
    have v1 : 512 * hg t.val + (128 * ((snd h).val / 2) + l.val) = 128 * (4 * hg t.val + h.val) + l.val := by
      show 512 * hg t.val + (128 * ((2 * h.val + 1) / 2) + l.val) = _; omega
    rw [g0, g1, v0, v1]
    rfl
  rw [finish_apply]
  unfold normed
  simp only [ho]

/-- The factor, as a diagonal point reads it. -/
theorem lam_blk : lam (iblk 0 m ρ d (3 : Fin 9) t) (iblk 0 m ρ d (4 : Fin 9) t) (iblk 0 m ρ d (5 : Fin 9) t) (iblk 0 m ρ d (6 : Fin 9) t) (ix2 0 0)
    = lamE (m (d.tc.loc main_arg5)) (m (d.tc.loc main_arg6)) (m (d.tc.loc main_arg7)) (m (d.tc.loc main_arg8)) := by
  rw [lam_apply]
  unfold lamE
  simp only [blk_3, blk_4, blk_5, blk_6]

theorem gain_blk : (iblk 0 m ρ d (7 : Fin 9) t : S1x128.Idx → EReal) = m (d.tc.loc main_arg9) := by
  funext i
  rw [eq_ix2 i]
  exact blk_7 m ρ d t _ _

/-- The block stored at a diagonal point. -/
theorem out_block (hF : Finite (aq m d) (ak m d) (av m d))
    (hw : ((lamE (m (d.tc.loc main_arg5)) (m (d.tc.loc main_arg6)) (m (d.tc.loc main_arg7)) (m (d.tc.loc main_arg8))).toReal : EReal)
      = lamE (m (d.tc.loc main_arg5)) (m (d.tc.loc main_arg6)) (m (d.tc.loc main_arg7)) (m (d.tc.loc main_arg8)))
    (hd : ki t.val = qi t.val) (h : Fin 4) (r : Fin 512) (j : Fin 128) (hl : 128 * h.val + j.val < 512) :
    (traj0 0 m ρ d t.val t.isLt).1 (ix3 0 r ⟨128 * h.val + j.val, hl⟩)
      = normed (fun l => ov (aq m d) (ak m d) (av m d)
          (lamE (m (d.tc.loc main_arg5)) (m (d.tc.loc main_arg6)) (m (d.tc.loc main_arg7)) (m (d.tc.loc main_arg8))).toReal
          (bat t) (4 * hg t.val + h.val) (512 * qi t.val + r.val) l.val) (m (d.tc.loc main_arg9)) j := by
  have hs := (holds ρ hF t.val t.isLt).2
  rw [traj0_eq] at hs ⊢
  have q1 : ¬P0_1 0 t := fun h => absurd ((below_iff t).mp h) (by omega)
  by_cases q0 : P0_0 0 t
  · rw [A_out m ρ d t _ q0 q1, finished t (by omega) hs _ _ ((lam_blk ρ t).trans hw.symm), gain_blk]
  · rw [C_out m ρ d t _ q0 q1, finished t (by omega) hs _ _ ((lam_blk ρ t).trans hw.symm), gain_blk]

end Cert.Attn

end
-- ==== Proof.Ref.lean ====
/-
  The reference, entry by entry: its softmax over all keys is the closed form of the attention's output.
-/
module

public import proofs.«01_k».proof.Proof.Gen.ReferenceIdeal.Read
public import proofs.«01_k».proof.Proof.Output

@[expose] public section

noncomputable section

namespace Cert.Attn

open Idealize.ShloMosaic
open Cert.ReferenceIdeal Cert.ReferenceIdeal.Gen Cert.ReferenceIdeal.Read

variable (x2 x3 : S2x4096x2048.Idx → EReal) (x4 : S2x4096x1024.Idx → EReal) (x5 x6 x7 x8 : S1x64.Idx → EReal) (x9 : S1x128.Idx → EReal)

theorem ref_q (b : Fin 2) (h : Fin 8) (c : Fin 2) (r : Fin 4096) (e : Fin 64) : val_main_v17 (F := Ideal) x2 (ix5 b h c r e)
    = x2 (ix3 b r ⟨128 * h.val + 64 * c.val + e.val, by omega⟩) := by
  rw [val_main_v17_apply, val_main_v16_apply, val_main_v13_apply, val_main_v12_apply]
  refine congrArg x2 (funext fun a => Fin.ext ?_)
  match a with
  | ⟨0, _⟩ => show ((((b.val * 4096 + r.val) * 8 + h.val) * 2 + c.val) * 64 + e.val) / 4194304 = b.val; omega
  | ⟨1, _⟩ => show ((((b.val * 4096 + r.val) * 8 + h.val) * 2 + c.val) * 64 + e.val) / 1024 % 4096 = r.val; omega
  | ⟨2, _⟩ => show ((((b.val * 4096 + r.val) * 8 + h.val) * 2 + c.val) * 64 + e.val) % 1024 = 128 * h.val + 64 * c.val + e.val; omega

theorem ref_k (b : Fin 2) (h : Fin 8) (c : Fin 2) (r : Fin 4096) (e : Fin 64) : val_main_v19 (F := Ideal) x3 (ix5 b h c r e)
    = x3 (ix3 b r ⟨1024 + (128 * h.val + 64 * c.val + e.val), by omega⟩) := by
  rw [val_main_v19_apply, val_main_v18_apply, val_main_v15_apply, val_main_v14_apply]
  refine congrArg x3 (funext fun a => Fin.ext ?_)
  match a with
  | ⟨0, _⟩ => show ((((b.val * 4096 + r.val) * 8 + h.val) * 2 + c.val) * 64 + e.val) / 4194304 = b.val; omega
  | ⟨1, _⟩ => show ((((b.val * 4096 + r.val) * 8 + h.val) * 2 + c.val) * 64 + e.val) / 1024 % 4096 = r.val; omega
  | ⟨2, _⟩ =>
    show 1024 + ((((b.val * 4096 + r.val) * 8 + h.val) * 2 + c.val) * 64 + e.val) % 1024 = 1024 + (128 * h.val + 64 * c.val + e.val); omega

theorem ref_v (b : Fin 2) (h : Fin 8) (r : Fin 4096) (l : Fin 128) : val_main_v22 (F := Ideal) x4 (ix4 b h r l)
    = x4 (ix3 b r ⟨128 * h.val + l.val, by omega⟩) := by
  rw [val_main_v22_apply, val_main_v21_apply, val_main_v20_apply]
  refine congrArg x4 (funext fun a => Fin.ext ?_)
  match a with
  | ⟨0, _⟩ => show (((b.val * 4096 + r.val) * 8 + h.val) * 128 + l.val) / 4194304 = b.val; omega
  | ⟨1, _⟩ => show (((b.val * 4096 + r.val) * 8 + h.val) * 128 + l.val) / 1024 % 4096 = r.val; omega
  | ⟨2, _⟩ => show (((b.val * 4096 + r.val) * 8 + h.val) * 128 + l.val) % 1024 = 128 * h.val + l.val; omega

variable {x2 x3 x4}

theorem ref_dot (hF : Finite x2 x3 x4) (b : Fin 2) (h : Fin 8) (c : Fin 2) (r k : Fin 4096) :
    val_main_v23 (F := Ideal) x2 x3 (ix5 b h c r k) = (dotp x2 x3 b (2 * h.val + c.val) r.val k.val : EReal) := by
  rw [val_main_v23_apply]
  unfold dotp
  rw [coe_sum]
  refine Finset.sum_congr rfl fun e _ => ?_
  have hl : lidx_main_v23 (ix5 b h c r k) e = ix5 b h c r e := by
    funext a; match a with | ⟨0, _⟩ => rfl | ⟨1, _⟩ => rfl | ⟨2, _⟩ => rfl | ⟨3, _⟩ => rfl | ⟨4, _⟩ => rfl
  have hr : ridx_main_v23 (ix5 b h c r k) e = ix5 b h c k e := by
    funext a; match a with | ⟨0, _⟩ => rfl | ⟨1, _⟩ => rfl | ⟨2, _⟩ => rfl | ⟨3, _⟩ => rfl | ⟨4, _⟩ => rfl
  rw [hl, hr, ref_q, ref_k, EReal.coe_mul]
  refine congrArg₂ (· * ·) ?_ ?_
  · rw [rd_eq _ _ r.isLt (show 64 * (2 * h.val + c.val) + e.val < 2048 by omega)]
    have q := hF.hq b r ⟨128 * h.val + 64 * c.val + e.val, by omega⟩
    rw [show (⟨128 * h.val + 64 * c.val + e.val, by omega⟩ : Fin 2048) = ⟨64 * (2 * h.val + c.val) + e.val, by omega⟩ from
      Fin.ext (by show 128 * h.val + 64 * c.val + e.val = 64 * (2 * h.val + c.val) + e.val; omega)] at q ⊢
    exact q.symm
  · rw [rd_eq _ _ k.isLt (show 1024 + (64 * (2 * h.val + c.val) + e.val) < 2048 by omega)]
    have q := hF.hk b k ⟨128 * h.val + 64 * c.val + e.val, by omega⟩
    rw [show (⟨1024 + (128 * h.val + 64 * c.val + e.val), by omega⟩ : Fin 2048) = ⟨1024 + (64 * (2 * h.val + c.val) + e.val), by omega⟩ from
      Fin.ext (by show 1024 + (128 * h.val + 64 * c.val + e.val) = 1024 + (64 * (2 * h.val + c.val) + e.val); omega)] at q ⊢
    exact q.symm

theorem ref_score (hF : Finite x2 x3 x4) (b : Fin 2) (h : Fin 8) (c : Fin 2) (r k : Fin 4096) :
    val_main_v30 (F := Ideal) x2 x3 (ix5 b h c r k) = sc x2 x3 b (2 * h.val + c.val) r.val k.val := by
  rw [val_main_v30_apply, ref_dot hF, val_main_call0_v1_apply, val_main_call0_v2_apply, val_main_v29_apply, val_main_v27_apply,
    val_main_v25_apply, val_main_v28_apply, val_main_v26_apply, val_main_v24_apply, val_main_v24_apply]
  show Scalar.select (IntOp.cmpi .sle (BitVec.ofNat 32 k.val) (BitVec.ofNat 32 r.val)) _ (Ideal.ofBits .f32 0xFF800000#32) = _
  rw [WordCmp.cmpi_sle_ofNat (by have := k.isLt; omega) (by have := r.isLt; omega), Scalar.select_decide, ofBits_bot]
  rfl

theorem sup_fin (S : ℕ → EReal) (n : ℕ) : (Finset.univ.sup fun k : Fin n => S k.val) = mx S n := by
  unfold mx
  refine le_antisymm (Finset.sup_le fun k _ => Finset.le_sup (f := S) (Finset.mem_range.2 k.isLt)) (Finset.sup_le fun k hk => ?_)
  exact Finset.le_sup (f := fun k : Fin n => S k.val) (Finset.mem_univ ⟨k, Finset.mem_range.1 hk⟩)

theorem ref_max (hF : Finite x2 x3 x4) (b : Fin 2) (h : Fin 8) (c : Fin 2) (r : Fin 4096) :
    val_main_v33 (F := Ideal) x2 x3 (ix4 b h c r) = mx (sc x2 x3 b (2 * h.val + c.val) r.val) 4096 := by
  have e : val_main_v31 (F := Ideal) x2 x3 (ix4 b h c r) = mx (sc x2 x3 b (2 * h.val + c.val) r.val) 4096 := by
    unfold val_main_v31
    have hh := ref_score hF b h c r
    generalize val_main_v30 (F := Ideal) x2 x3 = y at hh ⊢
    simp only [pointwise]
    rw [val_main_cst_3_apply]
    show Finset.fold max (Ideal.ofBits .f32 0xFF800000#32) (fun k : Fin 4096 => y (ix5 b h c r k)) Finset.univ = _
    rw [ofBits_bot, fold_max_bot, ← sup_fin]
    simp only [hh]
  rw [val_main_v33_apply, e, val_main_v32_apply, val_main_cst_4_apply]
  show max (Ideal.ofBits .f32 0xFF800000#32) _ = _
  rw [ofBits_bot]
  exact max_eq_right bot_le

theorem ref_weight (hF : Finite x2 x3 x4) (b : Fin 2) (h : Fin 8) (c : Fin 2) (r k : Fin 4096) :
    val_main_v37 (F := Ideal) x2 x3 (ix5 b h c r k)
      = (wt (sc x2 x3 b (2 * h.val + c.val) r.val k.val) (mx (sc x2 x3 b (2 * h.val + c.val) r.val) 4096) : EReal) := by
  rw [val_main_v37_apply, val_main_v36_apply, ref_score hF, val_main_v35_apply, val_main_v34_apply]
  have e : idx_main_v34 (idx_main_v35 (ix5 b h c r k)) = ix4 b h c r := by
    funext a; match a with | ⟨0, _⟩ => rfl | ⟨1, _⟩ => rfl | ⟨2, _⟩ => rfl | ⟨3, _⟩ => rfl
  rw [e, ref_max hF]
  exact exp_eq_wt (le_mx _ k.isLt) (mx_ne_top _ fun k _ => sc_ne_top _ _ _ _ _ k)

theorem ofBits_zero : Ideal.ofBits .f32 0x00000000#32 = 0 := by simp [Ideal.ofBits, Ideal.ieee]

theorem ref_den (hF : Finite x2 x3 x4) (b : Fin 2) (h : Fin 8) (c : Fin 2) (r : Fin 4096) :
    val_main_v38 (F := Ideal) x2 x3 (ix4 b h c r) = (den (sc x2 x3 b (2 * h.val + c.val) r.val) 4096 : EReal) := by
  rw [val_main_v38_apply, val_main_cst_5_apply]
  show Ideal.ofBits .f32 0x00000000#32 + _ = _
  rw [ofBits_zero, zero_add]
  unfold den
  rw [coe_sum, ← Fin.sum_univ_eq_sum_range (fun k => (wt (sc x2 x3 b (2 * h.val + c.val) r.val k) (mx (sc x2 x3 b (2 * h.val + c.val) r.val) 4096) : EReal)) 4096]
  refine Finset.sum_congr rfl fun k _ => ?_
  have e : idx_main_v38 (ix4 b h c r) k = ix5 b h c r k := by
    funext a; match a with | ⟨0, _⟩ => rfl | ⟨1, _⟩ => rfl | ⟨2, _⟩ => rfl | ⟨3, _⟩ => rfl | ⟨4, _⟩ => rfl
  rw [e, ref_weight hF]

theorem ref_prob (hF : Finite x2 x3 x4) (b : Fin 2) (h : Fin 8) (c : Fin 2) (r k : Fin 4096) :
    val_main_v41 (F := Ideal) x2 x3 (ix5 b h c r k)
      = ((wt (sc x2 x3 b (2 * h.val + c.val) r.val k.val) (mx (sc x2 x3 b (2 * h.val + c.val) r.val) 4096)
          / den (sc x2 x3 b (2 * h.val + c.val) r.val) 4096 : ℝ) : EReal) := by
  rw [val_main_v41_apply, ref_weight hF, val_main_v40_apply, val_main_v39_apply]
  have e : idx_main_v39 (idx_main_v40 (ix5 b h c r k)) = ix4 b h c r := by
    funext a; match a with | ⟨0, _⟩ => rfl | ⟨1, _⟩ => rfl | ⟨2, _⟩ => rfl | ⟨3, _⟩ => rfl
  rw [e, ref_den hF]
  exact div_real _ _ (den_sc_pos _ _ _ _ _ r.isLt).ne'

/-- The factor of the second map, as the reference computes it. -/
theorem ref_lam (i : S_.Idx) : val_main_v11 (F := Ideal) x5 x6 x7 x8 i = lamE x5 x6 x7 x8 := by
  have s64 : ∀ f : S64.Idx → EReal, ∑ j : S64.Idx, f j = ∑ l : Fin 64, f (ix1 l) := fun f => sum_idx1 f
  have e1 : val_main_v3 (F := Ideal) x5 x6 i = ∑ l : Fin 64, x5 (ix2 0 l) * x6 (ix2 0 l) := by
    rw [val_main_v3_apply, val_main_cst_apply, s64]
    show Ideal.ofBits .f32 0x00000000#32 + _ = _
    rw [ofBits_zero, zero_add]
    refine Finset.sum_congr rfl fun l _ => ?_
    rw [val_main_v2_apply, val_main_v0_apply, val_main_v1_apply]
    refine congrArg₂ (· * ·) (congrArg x5 ?_) (congrArg x6 ?_) <;>
    · funext a
      match a with
      | ⟨0, _⟩ => rfl
      | ⟨1, _⟩ => exact Fin.ext (Nat.mod_eq_of_lt l.isLt)
  have e2 : val_main_v8 (F := Ideal) x7 x8 i = ∑ l : Fin 64, x7 (ix2 0 l) * x8 (ix2 0 l) := by
    rw [val_main_v8_apply, val_main_cst_0_apply, s64]
    show Ideal.ofBits .f32 0x00000000#32 + _ = _
    rw [ofBits_zero, zero_add]
    refine Finset.sum_congr rfl fun l _ => ?_
    rw [val_main_v7_apply, val_main_v5_apply, val_main_v6_apply]
    refine congrArg₂ (· * ·) (congrArg x7 ?_) (congrArg x8 ?_) <;>
    · funext a
      match a with
      | ⟨0, _⟩ => rfl
      | ⟨1, _⟩ => exact Fin.ext (Nat.mod_eq_of_lt l.isLt)
  rw [val_main_v11_apply, val_main_v10_apply, val_main_v4_apply, val_main_v9_apply, e1, e2, val_main_cst_1_apply]
  rfl

variable {x5 x6 x7 x8}

theorem ref_diff (hF : Finite x2 x3 x4) (hw : ((lamE x5 x6 x7 x8).toReal : EReal) = lamE x5 x6 x7 x8)
    (b : Fin 2) (h : Fin 8) (r k : Fin 4096) :
    val_main_v48 (F := Ideal) x2 x3 x5 x6 x7 x8 (ix4 b h r k)
      = ((wt (sc x2 x3 b (2 * h.val) r.val k.val) (mx (sc x2 x3 b (2 * h.val) r.val) 4096) / den (sc x2 x3 b (2 * h.val) r.val) 4096
        - (lamE x5 x6 x7 x8).toReal * (wt (sc x2 x3 b (2 * h.val + 1) r.val k.val) (mx (sc x2 x3 b (2 * h.val + 1) r.val) 4096)
          / den (sc x2 x3 b (2 * h.val + 1) r.val) 4096) : ℝ) : EReal) := by
  have i0 : idx_main_v42 (idx_main_v43 (ix4 b h r k)) = ix5 b h 0 r k := by
    funext a
    refine Fin.ext ?_
    match a with
    | ⟨0, _⟩ => show (((b.val * 8 + h.val) * 4096 + r.val) * 4096 + k.val) / 134217728 = b.val; omega
    | ⟨1, _⟩ => show (((b.val * 8 + h.val) * 4096 + r.val) * 4096 + k.val) / 16777216 % 8 = h.val; omega
    | ⟨2, _⟩ => rfl
    | ⟨3, _⟩ => show (((b.val * 8 + h.val) * 4096 + r.val) * 4096 + k.val) / 4096 % 4096 = r.val; omega
    | ⟨4, _⟩ => show (((b.val * 8 + h.val) * 4096 + r.val) * 4096 + k.val) % 4096 = k.val; omega
  have i1 : idx_main_v44 (idx_main_v45 (ix4 b h r k)) = ix5 b h 1 r k := by
    funext a
    refine Fin.ext ?_
    match a with
    | ⟨0, _⟩ => show (((b.val * 8 + h.val) * 4096 + r.val) * 4096 + k.val) / 134217728 = b.val; omega
    | ⟨1, _⟩ => show (((b.val * 8 + h.val) * 4096 + r.val) * 4096 + k.val) / 16777216 % 8 = h.val; omega
    | ⟨2, _⟩ => rfl
    | ⟨3, _⟩ => show (((b.val * 8 + h.val) * 4096 + r.val) * 4096 + k.val) / 4096 % 4096 = r.val; omega
    | ⟨4, _⟩ => show (((b.val * 8 + h.val) * 4096 + r.val) * 4096 + k.val) % 4096 = k.val; omega
  rw [val_main_v48_apply, val_main_v43_apply, val_main_v42_apply, val_main_v47_apply, val_main_v46_apply, ref_lam, val_main_v45_apply,
    val_main_v44_apply, i0, i1, ref_prob hF, ref_prob hF, ← hw, EReal.coe_sub, EReal.coe_mul, EReal.toReal_coe]
  rfl

theorem ref_ov (hF : Finite x2 x3 x4) (hw : ((lamE x5 x6 x7 x8).toReal : EReal) = lamE x5 x6 x7 x8)
    (b : Fin 2) (h : Fin 8) (r : Fin 4096) (l : Fin 128) :
    val_main_v49 (F := Ideal) x2 x3 x4 x5 x6 x7 x8 (ix4 b h r l)
      = (ov x2 x3 x4 (lamE x5 x6 x7 x8).toReal b h.val r.val l.val : EReal) := by
  rw [val_main_v49_apply]
  have e : ∀ k : Fin 4096, val_main_v48 (F := Ideal) x2 x3 x5 x6 x7 x8 (lidx_main_v49 (ix4 b h r l) k) * val_main_v22 (F := Ideal) x4 (ridx_main_v49 (ix4 b h r l) k)
      = (((wt (sc x2 x3 b (2 * h.val) r.val k.val) (mx (sc x2 x3 b (2 * h.val) r.val) 4096) / den (sc x2 x3 b (2 * h.val) r.val) 4096
        - (lamE x5 x6 x7 x8).toReal * (wt (sc x2 x3 b (2 * h.val + 1) r.val k.val) (mx (sc x2 x3 b (2 * h.val + 1) r.val) 4096)
          / den (sc x2 x3 b (2 * h.val + 1) r.val) 4096)) * vl x4 b (128 * h.val + l.val) k.val : ℝ) : EReal) := by
    intro k
    have hl : lidx_main_v49 (ix4 b h r l) k = ix4 b h r k := by
      funext a; match a with | ⟨0, _⟩ => rfl | ⟨1, _⟩ => rfl | ⟨2, _⟩ => rfl | ⟨3, _⟩ => rfl
    have hr : ridx_main_v49 (ix4 b h r l) k = ix4 b h k l := by
      funext a; match a with | ⟨0, _⟩ => rfl | ⟨1, _⟩ => rfl | ⟨2, _⟩ => rfl | ⟨3, _⟩ => rfl
    rw [hl, hr, ref_diff hF hw, ref_v, EReal.coe_mul]
    refine congrArg (_ * ·) ?_
    unfold vl
    rw [rdv_eq _ _ k.isLt (by omega)]
    exact (hF.hv b k ⟨128 * h.val + l.val, by omega⟩).symm
  rw [Finset.sum_congr rfl fun k _ => e k, ← coe_sum]
  congr 1
  unfold ov num
  rw [← Fin.sum_univ_eq_sum_range (fun k => wt (sc x2 x3 b (2 * h.val) r.val k) (mx (sc x2 x3 b (2 * h.val) r.val) 4096) * vl x4 b (128 * h.val + l.val) k) 4096,
    ← Fin.sum_univ_eq_sum_range (fun k => wt (sc x2 x3 b (2 * h.val + 1) r.val k) (mx (sc x2 x3 b (2 * h.val + 1) r.val) 4096) * vl x4 b (128 * h.val + l.val) k) 4096,
    Finset.sum_div, Finset.sum_div, Finset.mul_sum, ← Finset.sum_sub_distrib]
  exact Finset.sum_congr rfl fun k _ => by ring

/-- The reference's result. -/
theorem ref_out (hF : Finite x2 x3 x4) (hw : ((lamE x5 x6 x7 x8).toReal : EReal) = lamE x5 x6 x7 x8)
    (b : Fin 2) (r : Fin 4096) (h : Fin 8) (j : Fin 128) :
    val_main_v68 (F := Ideal) x2 x3 x4 x5 x6 x7 x8 x9 (ix3 b r ⟨128 * h.val + j.val, by omega⟩)
      = normed (fun l => ov x2 x3 x4 (lamE x5 x6 x7 x8).toReal b h.val r.val l.val) x9 j := by
  have o : ∀ l : Fin 128, val_main_v50 (F := Ideal) x2 x3 x4 x5 x6 x7 x8 (ix4 b r h l)
      = (ov x2 x3 x4 (lamE x5 x6 x7 x8).toReal b h.val r.val l.val : EReal) := by
    intro l
    rw [val_main_v50_apply]
    have e : idx_main_v50 (ix4 b r h l) = ix4 b h r l := by
      funext a; match a with | ⟨0, _⟩ => rfl | ⟨1, _⟩ => rfl | ⟨2, _⟩ => rfl | ⟨3, _⟩ => rfl
    rw [e, ref_ov hF hw]
  have e67 : idx_main_v67 (ix3 b r ⟨128 * h.val + j.val, by omega⟩) = ix4 b r h j := by
    funext a
    refine Fin.ext ?_
    match a with
    | ⟨0, _⟩ => show ((b.val * 4096 + r.val) * 1024 + (128 * h.val + j.val)) / 4194304 = b.val; omega
    | ⟨1, _⟩ => show ((b.val * 4096 + r.val) * 1024 + (128 * h.val + j.val)) / 1024 % 4096 = r.val; omega
    | ⟨2, _⟩ => show ((b.val * 4096 + r.val) * 1024 + (128 * h.val + j.val)) / 128 % 8 = h.val; omega
    | ⟨3, _⟩ => show ((b.val * 4096 + r.val) * 1024 + (128 * h.val + j.val)) % 128 = j.val; omega
  have ms : val_main_v52 (F := Ideal) x2 x3 x4 x5 x6 x7 x8 (ix3 b r h) = ∑ l : Fin 128,
      (ov x2 x3 x4 (lamE x5 x6 x7 x8).toReal b h.val r.val l.val : EReal) * (ov x2 x3 x4 (lamE x5 x6 x7 x8).toReal b h.val r.val l.val : EReal) := by
    rw [val_main_v52_apply, val_main_cst_6_apply]
    show Ideal.ofBits .f32 0x00000000#32 + _ = _
    rw [ofBits_zero, zero_add]
    refine Finset.sum_congr rfl fun l _ => ?_
    have e : idx_main_v52 (ix3 b r h) l = ix4 b r h l := by
      funext a; match a with | ⟨0, _⟩ => rfl | ⟨1, _⟩ => rfl | ⟨2, _⟩ => rfl | ⟨3, _⟩ => rfl
    rw [e, val_main_v51_apply, o]
    rfl
  have e53 : idx_main_v53 (idx_main_v59 (ix4 b r h j)) = ix3 b r h := by
    funext a; match a with | ⟨0, _⟩ => rfl | ⟨1, _⟩ => rfl | ⟨2, _⟩ => rfl
  have e61 : idx_main_v61 (idx_main_v62 (idx_main_v63 (ix4 b r h j))) = ix2 0 j := by
    funext a
    match a with
    | ⟨0, _⟩ => rfl
    | ⟨1, _⟩ => exact Fin.ext (Nat.mod_eq_of_lt j.isLt)
  rw [val_main_v68_apply, val_main_v67_apply, e67, val_main_v66_apply, val_main_v64_apply, val_main_v60_apply, o, val_main_v59_apply,
    val_main_v58_apply, val_main_v57_apply, val_main_v55_apply, val_main_v53_apply, e53, ms, val_main_v54_apply, val_main_cst_7_apply,
    val_main_v56_apply, val_main_cst_8_apply, val_main_v63_apply, val_main_v62_apply, val_main_v61_apply, e61, val_main_v65_apply,
    val_main_cst_9_apply]
  rfl

end Cert.Attn

end
-- ==== Proof.Value.lean ====
/-
  The output array after the run is the closed form, and so is the reference's result.
-/
module

public import proofs.«01_k».proof.Proof.Ref
public import proofs.«01_k».proof.Proof.Frames

@[expose] public section

noncomputable section

namespace Cert.Attn

open Idealize.ShloMosaic Idealize.SL.Sem
open Cert.KernelIdeal Cert.KernelIdeal.Gen

/-- The attention's output. -/
def attnOut (Xq Xk : S2x4096x2048.Idx → EReal) (Xv : S2x4096x1024.Idx → EReal) (q1 k1 q2 k2 : S1x64.Idx → EReal) (g : S1x128.Idx → EReal) :
    S2x4096x1024.Idx → EReal := fun i =>
  normed (fun l => ov Xq Xk Xv (lamE q1 k1 q2 k2).toReal (i 0) ((i 2).val / 128) (i 1).val l.val) g
    ⟨(i 2).val % 128, Nat.mod_lt _ (by omega)⟩

variable {m : (ℓ : Loc nD τ sig) → Buf (Elt Ideal) ℓ} (ρ : Dev nD → PrngReg) {d : Dev nD}

theorem kernel_out (hF : Finite (aq m d) (ak m d) (av m d))
    (hw : ((lamE (m (d.tc.loc main_arg5)) (m (d.tc.loc main_arg6)) (m (d.tc.loc main_arg7)) (m (d.tc.loc main_arg8))).toReal : EReal)
      = lamE (m (d.tc.loc main_arg5)) (m (d.tc.loc main_arg6)) (m (d.tc.loc main_arg7)) (m (d.tc.loc main_arg8))) :
    (dats 0 m ρ 0 d).arrAt (8 : Fin 9) (cfgA 0).N
      = attnOut (aq m d) (ak m d) (av m d) (m (d.tc.loc main_arg5)) (m (d.tc.loc main_arg6)) (m (d.tc.loc main_arg7)) (m (d.tc.loc main_arg8)) (m (d.tc.loc main_arg9)) := by
  refine (dats 0 m ρ 0 d).arrAt_eq_of_covers (8 : Fin 9) _ (by decide +kernel) fun t hf y => ?_
  have hd := (flush_iff t).mp hf
  obtain ⟨e0, e1, e2⟩ := index_o t
  have y1 : (y 1).val < 512 := (y 1).isLt
  have y2 : (y 2).val < 512 := (y 2).isLt
  have y0 : (y 0).val < 1 := (y 0).isLt
  have hb := tab_bounds t
  have key := out_block ρ t hF hw hd ⟨(y 2).val / 128, by omega⟩ ⟨(y 1).val, y1⟩ ⟨(y 2).val % 128, by omega⟩
    (by show 128 * ((y 2).val / 128) + (y 2).val % 128 < 512; omega)
  have ey : (ix3 0 ⟨(y 1).val, y1⟩ ⟨128 * ((y 2).val / 128) + (y 2).val % 128, by omega⟩ : S1x512x512.Idx) = y := by
    funext a
    match a with
    | ⟨0, _⟩ => exact Fin.ext (by show 0 = (y 0).val; omega)
    | ⟨1, _⟩ => rfl
    | ⟨2, _⟩ => exact Fin.ext (by show 128 * ((y 2).val / 128) + (y 2).val % 128 = (y 2).val; omega)
  have g0 : ((((cfgA 0).win (8 : Fin 9)).blk t).view.emb y 0 : ℕ) = bt t.val := by blk_simp [e0]
  have g1 : ((((cfgA 0).win (8 : Fin 9)).blk t).view.emb y 1 : ℕ) = 512 * qi t.val + (y 1).val := by blk_simp [e1]; omega
  have g2 : ((((cfgA 0).win (8 : Fin 9)).blk t).view.emb y 2 : ℕ) = 512 * hg t.val + (y 2).val := by blk_simp [e2]; omega
  generalize (((cfgA 0).win (8 : Fin 9)).blk t).view.emb y = z at g0 g1 g2 ⊢
  have z0 : z 0 = bat t := Fin.ext g0
  have z1 : (z 1).val = 512 * qi t.val + (y 1).val := g1
  have z2 : (z 2).val / 128 = 4 * hg t.val + (y 2).val / 128 := by
    have : (z 2).val = 512 * hg t.val + (y 2).val := g2
    omega
  have z3 : (z 2).val % 128 = (y 2).val % 128 := by
    have : (z 2).val = 512 * hg t.val + (y 2).val := g2
    omega
  have hout : attnOut (aq m d) (ak m d) (av m d) (m (d.tc.loc main_arg5)) (m (d.tc.loc main_arg6)) (m (d.tc.loc main_arg7)) (m (d.tc.loc main_arg8)) (m (d.tc.loc main_arg9)) z
      = normed (fun l => ov (aq m d) (ak m d) (av m d) (lamE (m (d.tc.loc main_arg5)) (m (d.tc.loc main_arg6)) (m (d.tc.loc main_arg7)) (m (d.tc.loc main_arg8))).toReal
          (bat t) (4 * hg t.val + (y 2).val / 128) (512 * qi t.val + (y 1).val) l.val) (m (d.tc.loc main_arg9)) ⟨(y 2).val % 128, Nat.mod_lt _ (by omega)⟩ := by
    unfold attnOut
    have hj : (⟨(z 2).val % 128, Nat.mod_lt _ (by omega)⟩ : Fin 128) = ⟨(y 2).val % 128, Nat.mod_lt _ (by omega)⟩ := Fin.ext z3
    rw [z0, z1, z2, hj]
  refine Eq.trans ?_ hout.symm
  refine Eq.trans ?_ key
  rw [after0_8]
  refine congrArg (traj0 0 m ρ d t.val t.isLt).1 ?_
  exact ey.symm

theorem reference_out {Xq Xk : S2x4096x2048.Idx → EReal} {Xv : S2x4096x1024.Idx → EReal} {q1 k1 q2 k2 : S1x64.Idx → EReal}
    (g : S1x128.Idx → EReal) (hF : Finite Xq Xk Xv) (hw : ((lamE q1 k1 q2 k2).toReal : EReal) = lamE q1 k1 q2 k2) :
    Cert.ReferenceIdeal.Read.val_main_v68 (F := Ideal) Xq Xk Xv q1 k1 q2 k2 g = attnOut Xq Xk Xv q1 k1 q2 k2 g := by
  funext i
  have i2 : (i 2).val < 1024 := (i 2).isLt
  have e : (ix3 (i 0) (i 1) ⟨128 * ((i 2).val / 128) + (i 2).val % 128, by omega⟩ : S2x4096x1024.Idx) = i := by
    funext a
    match a with
    | ⟨0, _⟩ => rfl
    | ⟨1, _⟩ => rfl
    | ⟨2, _⟩ => exact Fin.ext (by show 128 * ((i 2).val / 128) + (i 2).val % 128 = (i 2).val; omega)
  have h := ref_out (x9 := g) hF hw (i 0) (i 1) ⟨(i 2).val / 128, by omega⟩ ⟨(i 2).val % 128, Nat.mod_lt _ (by omega)⟩
  refine Eq.trans (congrArg _ e.symm) h

/-- The data a run starts from is finite, by the precondition. -/
theorem start_finite (m : (ℓ : Loc nD τ sig) → Buf (Elt Ideal) ℓ) (d : Dev nD)
    (h : Cert.Pre_KernelIdeal_triangle_finite (hPre_triangle_finite := Cert.Pre_triangle_finite.Gen.facts) m) :
    Finite (aq m d) (ak m d) (av m d)
    ∧ ((lamE (m (d.tc.loc main_arg5)) (m (d.tc.loc main_arg6)) (m (d.tc.loc main_arg7)) (m (d.tc.loc main_arg8))).toReal : EReal)
      = lamE (m (d.tc.loc main_arg5)) (m (d.tc.loc main_arg6)) (m (d.tc.loc main_arg7)) (m (d.tc.loc main_arg8)) := by
  obtain ⟨_, hq, hk, hv, h5, h6, h7, h8⟩ := of_triangle_finite _ _ _ _ _ _ _ _ _ _ fun k => congrFun (h d) (ix1 k)
  exact ⟨⟨hq, hk, hv⟩, lamE_real h5 h6 h7 h8⟩

/-- From finite data, kernel and reference leave the same output. -/
theorem algebraic : Cert.algebraic_KernelIdeal_ReferenceIdeal_pre_triangle_finite (hKernelIdeal := Cert.KernelIdeal.Gen.facts)
    (hReferenceIdeal := Cert.ReferenceIdeal.Gen.facts) (hPre_triangle_finite := Cert.Pre_triangle_finite.Gen.facts) := by
  intro m g m' g' hp hin
  refine ⟨fun c => attnOut (aq m c) (ak m c) (av m c) (m (c.tc.loc main_arg5)) (m (c.tc.loc main_arg6)) (m (c.tc.loc main_arg7)) (m (c.tc.loc main_arg8)) (m (c.tc.loc main_arg9)), ?_, ?_⟩
  · refine (θ_run defs _ _).mono (fun r h c => ⟨?_, h.2 c⟩) (θ_run_and (run_main 0 m g (pinned_finite m hp)) (unchanged 0 m g (pinned_finite m hp)))
    have e := (h.1 c).1 (8 : Fin 9)
    obtain ⟨hF, hw⟩ := start_finite m c hp
    exact e.trans (kernel_out g hF hw)
  · refine (θ_run Cert.ReferenceIdeal.defs _ _).mono (fun r h c => ⟨?_, (h c).2⟩) (Cert.ReferenceIdeal.Value.run (F := Ideal) m' g')
    obtain ⟨hF, hw⟩ := start_finite m c hp
    obtain ⟨_, _, i2, i3, i4, i5, i6, i7, i8, i9⟩ := hin c
    refine (h c).1.trans ?_
    rw [Cert.ReferenceIdeal.Read.val_main_v68_eq, i2, i3, i4, i5, i6, i7, i8, i9]
    exact reference_out _ hF hw

end Cert.Attn

end
-- ==== Proof.Columns.lean ====
/-
  The columns of a product: what the three plain projections compute.
-/
module

public import proofs.«01_k».proof.Defs
public import Idealize.ShloMosaic.Lib.Pointwise

@[expose] public section

noncomputable section

namespace Cert.Columns

open Idealize.ShloMosaic

/-- The normed activations, all rows of both batches. -/
abbrev Rows := (⟨2, ![8192, 2048]⟩ : Shape).Idx → EReal
/-- The input projection's weights. -/
abbrev Weights := (⟨3, ![1, 2048, 10496]⟩ : Shape).Idx → EReal

/-- The projection: row times column, `n` columns from column `off` on. -/
def proj (off n : ℕ) (h : off + n ≤ 10496) (U : Rows) (W : Weights) : (⟨2, ![8192, n]⟩ : Shape).Idx → EReal := fun i =>
  ∑ k : Fin 2048, U (ix2 (i 0) k) * W (ix3 0 k ⟨off + (i 1).val, lt_of_lt_of_le (Nat.add_lt_add_left (i 1).isLt off) h⟩)

end Cert.Columns

end
-- ==== Proof.Gates.lean ====
/-
  The projection of the two merge gates.
-/
module

public import proofs.«01_k».proof.Proof.Columns
public import proofs.«01_k».proof.Proof.Gen.Gate
public import proofs.«01_k».proof.Proof.Gen.Gate.Frame
public import proofs.«01_k».proof.Proof.Gen.GateIdeal
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Gates

open Idealize.ShloMosaic Idealize.SL.Sem
open Cert.GateIdeal Cert.GateIdeal.Gen Cert.GateIdeal.Value

/-- The gates' projection. -/
abbrev proj := Columns.proj 6400 4096 (by decide)

variable {m : (ℓ : Loc nD τ sig) → Buf (Elt Ideal) ℓ} {d : Dev nD}

/-- The weights that the call reads, at an index. -/
theorem weights (k : Fin 2048) (j : Fin 4096) :
    (V m d main_v2 : S2048x4096.Idx → EReal) (ix2 k j) = (m (d.tc.loc main_arg1) : S1x2048x10496.Idx → EReal) (ix3 0 k ⟨6400 + j.val, by omega⟩) := by
  entry_read
  pointwise

theorem index0 (t : Fin cfg0.N) : (cfg0.win 0).index t 0 = t.val / 4 ∧ (cfg0.win 0).index t 1 = 0 := by
  revert t; decide +kernel
theorem index1 (t : Fin cfg0.N) : (cfg0.win 1).index t 0 = 0 ∧ (cfg0.win 1).index t 1 = t.val % 4 := by
  revert t; decide +kernel
theorem index2 (t : Fin cfg0.N) : (cfg0.win 2).index t 0 = t.val / 4 ∧ (cfg0.win 2).index t 1 = t.val % 4 := by
  revert t; decide +kernel

/-- The block of rows at a grid point. -/
theorem rows_at (t : Fin cfg0.N) (r : Fin 1024) (k : Fin 2048) : iblk m d (0 : Fin 3) t (ix2 r k)
    = (m (d.tc.loc main_arg0) : S8192x2048.Idx → EReal) (ix2 ⟨1024 * (t.val / 4) + r.val, by have : t.val < 32 := t.isLt; omega⟩ k) := by
  obtain ⟨e0, e1⟩ := index0 t
  rw [← V_main_arg0 m d]
  blk_ext [iblk, e0, e1]

/-- The block of columns at a grid point. -/
theorem cols_at (t : Fin cfg0.N) (k : Fin 2048) (j : Fin 1024) : iblk m d (1 : Fin 3) t (ix2 k j)
    = (V m d main_v2 : S2048x4096.Idx → EReal) (ix2 k ⟨1024 * (t.val % 4) + j.val, by omega⟩) := by
  obtain ⟨e0, e1⟩ := index1 t
  blk_ext [iblk, e0, e1]

/-- What one grid point writes: the product of its two blocks. -/
theorem block_at (x : FVec Ideal S1024x2048 .bf16) (w : FVec Ideal S2048x1024 .bf16) (r j : Fin 1024) :
    (out0_2 (F := Ideal) x w : S1024x1024.Idx → EReal) (ix2 r j) = ∑ k : Fin 2048, (x : S1024x2048.Idx → EReal) (ix2 r k) * (w : S2048x1024.Idx → EReal) (ix2 k j) := by
  unfold out0_2
  rw [View.canon_unit_zero (by decide), View.ld_unit_zero (by decide), View.ld_unit_zero (by decide)]
  pointwise [k0_pay1]

/-- What a grid point writes is the projection at the block's place. -/
theorem block_value (t : Fin cfg0.N) (r j : Fin 1024) : (out0_2 (F := Ideal) (iblk m d 0 t) (iblk m d 1 t) : S1024x1024.Idx → EReal) (ix2 r j)
    = proj (m (d.tc.loc main_arg0)) (m (d.tc.loc main_arg1))
      (ix2 ⟨1024 * (t.val / 4) + r.val, by have : t.val < 32 := t.isLt; omega⟩ ⟨1024 * (t.val % 4) + j.val, by omega⟩) := by
  refine (block_at _ _ r j).trans (Finset.sum_congr rfl fun k _ => ?_)
  rw [rows_at, cols_at, weights]
  rfl

/-- The array after the run is the projection. -/
theorem kernel_out : (dats m 0 d).arrAt 2 cfg0.N = proj (m (d.tc.loc main_arg0)) (m (d.tc.loc main_arg1)) := by
  refine (dats m 0 d).arrAt_eq_of_covers 2 _ (by decide +kernel) fun t hf y => ?_
  obtain ⟨e0, e1⟩ := index2 t
  have ey : y = (ix2 (y 0) (y 1) : S1024x1024.Idx) := by funext a; match a with | ⟨0, _⟩ => rfl | ⟨1, _⟩ => rfl
  have g0 : (((cfg0.win 2).blk t).view.emb y 0 : ℕ) = 1024 * (t.val / 4) + (y 0).val := by blk_simp [e0]; omega
  have g1 : (((cfg0.win 2).blk t).view.emb y 1 : ℕ) = 1024 * (t.val % 4) + (y 1).val := by blk_simp [e1]; omega
  have ez : (ix2 ⟨1024 * (t.val / 4) + (y 0).val, by have : t.val < 32 := t.isLt; have : (y 0).val < 1024 := (y 0).isLt; omega⟩
      ⟨1024 * (t.val % 4) + (y 1).val, by have : (y 1).val < 1024 := (y 1).isLt; omega⟩ : S8192x4096.Idx) = ((cfg0.win 2).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  rw [after0_2]
  exact h

/-- The reference's result is the projection. -/
theorem reference_out (U : S8192x2048.Idx → EReal) (W : S1x2048x10496.Idx → EReal) :
    Cert.GateRefIdeal.Read.val_main_v5 (F := Ideal) U W = proj U W := by
  funext i
  pointwise [Cert.GateRefIdeal.Read.val_main_v5, Cert.GateRefIdeal.Read.val_main_v2, Cert.GateRefIdeal.Read.val_main_v1, Cert.GateRefIdeal.Read.val_main_v0, proj, Columns.proj]

/-- Kernel and reference leave the same projection. -/
theorem algebraic : Cert.algebraic_GateIdeal_GateRefIdeal (hGateIdeal := Cert.GateIdeal.Gen.facts) (hGateRefIdeal := Cert.GateRefIdeal.Gen.facts) := by
  intro m g m' g' _ hin
  refine ⟨fun c => proj (m (c.tc.loc main_arg0)) (m (c.tc.loc main_arg1)), ?_, ?_⟩
  · exact (θ_run defs _ _).mono (fun r h c => ⟨(h c).1.trans kernel_out, (h c).2⟩) (run_blocks m g)
  · refine (θ_run Cert.GateRefIdeal.defs _ _).mono (fun r h c => ⟨?_, (h c).2⟩) (Cert.GateRefIdeal.Value.run (F := Ideal) m' g')
    obtain ⟨i0, i1⟩ := hin c
    refine (h c).1.trans ?_
    rw [Cert.GateRefIdeal.Read.val_main_v5_eq, i0, i1]
    exact reference_out _ _

/-- The frames. -/
theorem frame : Cert.quiescent_Gate (hGate := Cert.Gate.Gen.facts) := fun m ρ _ => Cert.Gate.Gen.frame m ρ
theorem frame_ideal : Cert.quiescent_GateIdeal (hGateIdeal := Cert.GateIdeal.Gen.facts) := fun m ρ _ => Cert.GateIdeal.Gen.frame m ρ

/-- So does the reference over the reals. -/
theorem frame_reference : Cert.quiescent_GateRefIdeal (hGateRefIdeal := Cert.GateRefIdeal.Gen.facts) :=
  fun m ρ _ => (θ_run Cert.GateRefIdeal.defs _ _).mono
    (fun r h => ⟨fun c => (h c).2, sem_eq_zero_of_no_sems (by decide) r.2⟩) (Cert.GateRefIdeal.Value.run m ρ)

end Cert.Gates

end
-- ==== Proof.RwkvCols.lean ====
/-
  The projection of the recurrence's columns.
-/
module

public import proofs.«01_k».proof.Proof.Columns
public import proofs.«01_k».proof.Proof.Gen.Rwkv
public import proofs.«01_k».proof.Proof.Gen.Rwkv.Frame
public import proofs.«01_k».proof.Proof.Gen.RwkvIdeal
public import proofs.«01_k».proof.Proof.Gen.RwkvIdeal.Value
public import proofs.«01_k».proof.Proof.Gen.RwkvRefIdeal
public import proofs.«01_k».proof.Proof.Gen.RwkvRefIdeal.Run
public import proofs.«01_k».proof.Proof.Gen.RwkvRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.RwkvCols

open Idealize.ShloMosaic Idealize.SL.Sem
open Cert.RwkvIdeal Cert.RwkvIdeal.Gen Cert.RwkvIdeal.Value

/-- The recurrence's projection. -/
abbrev proj := Columns.proj 3072 3328 (by decide)

variable {m : (ℓ : Loc nD τ sig) → Buf (Elt Ideal) ℓ} {d : Dev nD}

/-- The weights that the call reads, at an index. -/
theorem weights (k : Fin 2048) (j : Fin 3328) :
    (V m d main_v2 : S2048x3328.Idx → EReal) (ix2 k j) = (m (d.tc.loc main_arg1) : S1x2048x10496.Idx → EReal) (ix3 0 k ⟨3072 + j.val, by omega⟩) := by
  entry_read
  pointwise

theorem index0 (t : Fin cfg0.N) : (cfg0.win 0).index t 0 = t.val / 2 ∧ (cfg0.win 0).index t 1 = 0 := by
  revert t; decide +kernel
theorem index1 (t : Fin cfg0.N) : (cfg0.win 1).index t 0 = 0 ∧ (cfg0.win 1).index t 1 = t.val % 2 := by
  revert t; decide +kernel
theorem index2 (t : Fin cfg0.N) : (cfg0.win 2).index t 0 = t.val / 2 ∧ (cfg0.win 2).index t 1 = t.val % 2 := by
  revert t; decide +kernel

/-- The block of rows at a grid point. -/
theorem rows_at (t : Fin cfg0.N) (r : Fin 1024) (k : Fin 2048) : iblk m d (0 : Fin 3) t (ix2 r k)
    = (m (d.tc.loc main_arg0) : S8192x2048.Idx → EReal) (ix2 ⟨1024 * (t.val / 2) + r.val, by have : t.val < 16 := t.isLt; omega⟩ k) := by
  obtain ⟨e0, e1⟩ := index0 t
  rw [← V_main_arg0 m d]
  blk_ext [iblk, e0, e1]

/-- The block of columns at a grid point. -/
theorem cols_at (t : Fin cfg0.N) (k : Fin 2048) (j : Fin 1664) : iblk m d (1 : Fin 3) t (ix2 k j)
    = (V m d main_v2 : S2048x3328.Idx → EReal) (ix2 k ⟨1664 * (t.val % 2) + j.val, by omega⟩) := by
  obtain ⟨e0, e1⟩ := index1 t
  blk_ext [iblk, e0, e1]

/-- What one grid point writes: the product of its two blocks. -/
theorem block_at (x : FVec Ideal S1024x2048 .bf16) (w : FVec Ideal S2048x1664 .bf16) (r : Fin 1024) (j : Fin 1664) :
    (out0_2 (F := Ideal) x w : S1024x1664.Idx → EReal) (ix2 r j) = ∑ k : Fin 2048, (x : S1024x2048.Idx → EReal) (ix2 r k) * (w : S2048x1664.Idx → EReal) (ix2 k j) := by
  unfold out0_2
  rw [View.canon_unit_zero (by decide), View.ld_unit_zero (by decide), View.ld_unit_zero (by decide)]
  pointwise [k0_pay1]

/-- What a grid point writes is the projection at the block's place. -/
theorem block_value (t : Fin cfg0.N) (r : Fin 1024) (j : Fin 1664) : (out0_2 (F := Ideal) (iblk m d 0 t) (iblk m d 1 t) : S1024x1664.Idx → EReal) (ix2 r j)
    = proj (m (d.tc.loc main_arg0)) (m (d.tc.loc main_arg1))
      (ix2 ⟨1024 * (t.val / 2) + r.val, by have : t.val < 16 := t.isLt; omega⟩ ⟨1664 * (t.val % 2) + j.val, by omega⟩) := by
  refine (block_at _ _ r j).trans (Finset.sum_congr rfl fun k _ => ?_)
  rw [rows_at, cols_at, weights]
  rfl

/-- The array after the run is the projection. -/
theorem kernel_out : (dats m 0 d).arrAt 2 cfg0.N = proj (m (d.tc.loc main_arg0)) (m (d.tc.loc main_arg1)) := by
  refine (dats m 0 d).arrAt_eq_of_covers 2 _ (by decide +kernel) fun t hf y => ?_
  obtain ⟨e0, e1⟩ := index2 t
  have ey : y = (ix2 (y 0) (y 1) : S1024x1664.Idx) := by funext a; match a with | ⟨0, _⟩ => rfl | ⟨1, _⟩ => rfl
  have g0 : (((cfg0.win 2).blk t).view.emb y 0 : ℕ) = 1024 * (t.val / 2) + (y 0).val := by blk_simp [e0]; omega
  have g1 : (((cfg0.win 2).blk t).view.emb y 1 : ℕ) = 1664 * (t.val % 2) + (y 1).val := by blk_simp [e1]; omega
  have ez : (ix2 ⟨1024 * (t.val / 2) + (y 0).val, by have : t.val < 16 := t.isLt; have : (y 0).val < 1024 := (y 0).isLt; omega⟩
      ⟨1664 * (t.val % 2) + (y 1).val, by have : (y 1).val < 1664 := (y 1).isLt; omega⟩ : S8192x3328.Idx) = ((cfg0.win 2).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  rw [after0_2]
  exact h

/-- The reference's result is the projection. -/
theorem reference_out (U : S8192x2048.Idx → EReal) (W : S1x2048x10496.Idx → EReal) :
    Cert.RwkvRefIdeal.Read.val_main_v4 (F := Ideal) U W = proj U W := by
  funext i
  pointwise [Cert.RwkvRefIdeal.Read.val_main_v4, Cert.RwkvRefIdeal.Read.val_main_v2, Cert.RwkvRefIdeal.Read.val_main_v1, Cert.RwkvRefIdeal.Read.val_main_v0, proj, Columns.proj]

/-- Kernel and reference leave the same projection. -/
theorem algebraic : Cert.algebraic_RwkvIdeal_RwkvRefIdeal (hRwkvIdeal := Cert.RwkvIdeal.Gen.facts) (hRwkvRefIdeal := Cert.RwkvRefIdeal.Gen.facts) := by
  intro m g m' g' _ hin
  refine ⟨fun c => proj (m (c.tc.loc main_arg0)) (m (c.tc.loc main_arg1)), ?_, ?_⟩
  · exact (θ_run defs _ _).mono (fun r h c => ⟨(h c).1.trans kernel_out, (h c).2⟩) (run_blocks m g)
  · refine (θ_run Cert.RwkvRefIdeal.defs _ _).mono (fun r h c => ⟨?_, (h c).2⟩) (Cert.RwkvRefIdeal.Value.run (F := Ideal) m' g')
    obtain ⟨i0, i1⟩ := hin c
    refine (h c).1.trans ?_
    rw [Cert.RwkvRefIdeal.Read.val_main_v4_eq, i0, i1]
    exact reference_out _ _

/-- The frames. -/
theorem frame : Cert.quiescent_Rwkv (hRwkv := Cert.Rwkv.Gen.facts) := fun m ρ _ => Cert.Rwkv.Gen.frame m ρ
theorem frame_ideal : Cert.quiescent_RwkvIdeal (hRwkvIdeal := Cert.RwkvIdeal.Gen.facts) := fun m ρ _ => Cert.RwkvIdeal.Gen.frame m ρ

/-- So does the reference over the reals. -/
theorem frame_reference : Cert.quiescent_RwkvRefIdeal (hRwkvRefIdeal := Cert.RwkvRefIdeal.Gen.facts) :=
  fun m ρ _ => (θ_run Cert.RwkvRefIdeal.defs _ _).mono
    (fun r h => ⟨fun c => (h c).2, sem_eq_zero_of_no_sems (by decide) r.2⟩) (Cert.RwkvRefIdeal.Value.run m ρ)

end Cert.RwkvCols

end
-- ==== Proof.ValueCols.lean ====
/-
  The projection of the attention's values.
-/
module

public import proofs.«01_k».proof.Proof.Columns
public import proofs.«01_k».proof.Proof.Gen.Values
public import proofs.«01_k».proof.Proof.Gen.Values.Frame
public import proofs.«01_k».proof.Proof.Gen.ValuesIdeal
public import proofs.«01_k».proof.Proof.Gen.ValuesIdeal.Value
public import proofs.«01_k».proof.Proof.Gen.ValuesRefIdeal
public import proofs.«01_k».proof.Proof.Gen.ValuesRefIdeal.Run
public import proofs.«01_k».proof.Proof.Gen.ValuesRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.ValueCols

open Idealize.ShloMosaic Idealize.SL.Sem
open Cert.ValuesIdeal Cert.ValuesIdeal.Gen Cert.ValuesIdeal.Value

/-- The values' projection. -/
abbrev proj := Columns.proj 2048 1024 (by decide)

variable {m : (ℓ : Loc nD τ sig) → Buf (Elt Ideal) ℓ} {d : Dev nD}

/-- The weights that the call reads, at an index. -/
theorem weights (k : Fin 2048) (j : Fin 1024) :
    (V m d main_v2 : S2048x1024.Idx → EReal) (ix2 k j) = (m (d.tc.loc main_arg1) : S1x2048x10496.Idx → EReal) (ix3 0 k ⟨2048 + j.val, by omega⟩) := by
  entry_read
  pointwise

theorem index0 (t : Fin cfg0.N) : (cfg0.win 0).index t 0 = t.val / 1 ∧ (cfg0.win 0).index t 1 = 0 := by
  revert t; decide +kernel
theorem index1 (t : Fin cfg0.N) : (cfg0.win 1).index t 0 = 0 ∧ (cfg0.win 1).index t 1 = t.val % 1 := by
  revert t; decide +kernel
theorem index2 (t : Fin cfg0.N) : (cfg0.win 2).index t 0 = t.val / 1 ∧ (cfg0.win 2).index t 1 = t.val % 1 := by
  revert t; decide +kernel

/-- The block of rows at a grid point. -/
theorem rows_at (t : Fin cfg0.N) (r : Fin 1024) (k : Fin 2048) : iblk m d (0 : Fin 3) t (ix2 r k)
    = (m (d.tc.loc main_arg0) : S8192x2048.Idx → EReal) (ix2 ⟨1024 * (t.val / 1) + r.val, by have : t.val < 8 := t.isLt; omega⟩ k) := by
  obtain ⟨e0, e1⟩ := index0 t
  rw [← V_main_arg0 m d]
  blk_ext [iblk, e0, e1]

/-- The block of columns at a grid point. -/
theorem cols_at (t : Fin cfg0.N) (k : Fin 2048) (j : Fin 1024) : iblk m d (1 : Fin 3) t (ix2 k j)
    = (V m d main_v2 : S2048x1024.Idx → EReal) (ix2 k ⟨1024 * (t.val % 1) + j.val, by omega⟩) := by
  obtain ⟨e0, e1⟩ := index1 t
  blk_ext [iblk, e0, e1]

/-- What one grid point writes: the product of its two blocks. -/
theorem block_at (x : FVec Ideal S1024x2048 .bf16) (w : FVec Ideal S2048x1024 .bf16) (r j : Fin 1024) :
    (out0_2 (F := Ideal) x w : S1024x1024.Idx → EReal) (ix2 r j) = ∑ k : Fin 2048, (x : S1024x2048.Idx → EReal) (ix2 r k) * (w : S2048x1024.Idx → EReal) (ix2 k j) := by
  unfold out0_2
  rw [View.canon_unit_zero (by decide), View.ld_unit_zero (by decide), View.ld_unit_zero (by decide)]
  pointwise [k0_pay1]

/-- What a grid point writes is the projection at the block's place. -/
theorem block_value (t : Fin cfg0.N) (r j : Fin 1024) : (out0_2 (F := Ideal) (iblk m d 0 t) (iblk m d 1 t) : S1024x1024.Idx → EReal) (ix2 r j)
    = proj (m (d.tc.loc main_arg0)) (m (d.tc.loc main_arg1))
      (ix2 ⟨1024 * (t.val / 1) + r.val, by have : t.val < 8 := t.isLt; omega⟩ ⟨1024 * (t.val % 1) + j.val, by omega⟩) := by
  refine (block_at _ _ r j).trans (Finset.sum_congr rfl fun k _ => ?_)
  rw [rows_at, cols_at, weights]
  rfl

/-- The array after the run is the projection. -/
theorem kernel_out : (dats m 0 d).arrAt 2 cfg0.N = proj (m (d.tc.loc main_arg0)) (m (d.tc.loc main_arg1)) := by
  refine (dats m 0 d).arrAt_eq_of_covers 2 _ (by decide +kernel) fun t hf y => ?_
  obtain ⟨e0, e1⟩ := index2 t
  have ey : y = (ix2 (y 0) (y 1) : S1024x1024.Idx) := by funext a; match a with | ⟨0, _⟩ => rfl | ⟨1, _⟩ => rfl
  have g0 : (((cfg0.win 2).blk t).view.emb y 0 : ℕ) = 1024 * (t.val / 1) + (y 0).val := by blk_simp [e0]; omega
  have g1 : (((cfg0.win 2).blk t).view.emb y 1 : ℕ) = 1024 * (t.val % 1) + (y 1).val := by blk_simp [e1]; omega
  have ez : (ix2 ⟨1024 * (t.val / 1) + (y 0).val, by have : t.val < 8 := t.isLt; have : (y 0).val < 1024 := (y 0).isLt; omega⟩
      ⟨1024 * (t.val % 1) + (y 1).val, by have : (y 1).val < 1024 := (y 1).isLt; omega⟩ : S8192x1024.Idx) = ((cfg0.win 2).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  rw [after0_2]
  exact h

/-- The reference's result is the projection. -/
theorem reference_out (U : S8192x2048.Idx → EReal) (W : S1x2048x10496.Idx → EReal) :
    Cert.ValuesRefIdeal.Read.val_main_v9 (F := Ideal) U W = proj U W := by
  funext i
  pointwise [Cert.ValuesRefIdeal.Read.val_main_v9, Cert.ValuesRefIdeal.Read.val_main_v8, Cert.ValuesRefIdeal.Read.val_main_v3, Cert.ValuesRefIdeal.Read.val_main_v2, Cert.ValuesRefIdeal.Read.val_main_v1, Cert.ValuesRefIdeal.Read.val_main_v0, proj, Columns.proj]

/-- Kernel and reference leave the same projection. -/
theorem algebraic : Cert.algebraic_ValuesIdeal_ValuesRefIdeal (hValuesIdeal := Cert.ValuesIdeal.Gen.facts) (hValuesRefIdeal := Cert.ValuesRefIdeal.Gen.facts) := by
  intro m g m' g' _ hin
  refine ⟨fun c => proj (m (c.tc.loc main_arg0)) (m (c.tc.loc main_arg1)), ?_, ?_⟩
  · exact (θ_run defs _ _).mono (fun r h c => ⟨(h c).1.trans kernel_out, (h c).2⟩) (run_blocks m g)
  · refine (θ_run Cert.ValuesRefIdeal.defs _ _).mono (fun r h c => ⟨?_, (h c).2⟩) (Cert.ValuesRefIdeal.Value.run (F := Ideal) m' g')
    obtain ⟨i0, i1⟩ := hin c
    refine (h c).1.trans ?_
    rw [Cert.ValuesRefIdeal.Read.val_main_v9_eq, i0, i1]
    exact reference_out _ _

/-- The frames. -/
theorem frame : Cert.quiescent_Values (hValues := Cert.Values.Gen.facts) := fun m ρ _ => Cert.Values.Gen.frame m ρ
theorem frame_ideal : Cert.quiescent_ValuesIdeal (hValuesIdeal := Cert.ValuesIdeal.Gen.facts) := fun m ρ _ => Cert.ValuesIdeal.Gen.frame m ρ

/-- So does the reference over the reals. -/
theorem frame_reference : Cert.quiescent_ValuesRefIdeal (hValuesRefIdeal := Cert.ValuesRefIdeal.Gen.facts) :=
  fun m ρ _ => (θ_run Cert.ValuesRefIdeal.defs _ _).mono
    (fun r h => ⟨fun c => (h c).2, sem_eq_zero_of_no_sems (by decide) r.2⟩) (Cert.ValuesRefIdeal.Value.run m ρ)

end Cert.ValueCols

end
-- ==== Proof.Merged.lean ====
/-
  The gated merge of the two branches.
-/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Merged

open Idealize.ShloMosaic Idealize.SL.Sem
open Cert.MergeIdeal Cert.MergeIdeal.Gen Cert.MergeIdeal.Value

/-- A gate value: `1 / (1 + exp (-x))`. -/
def gate (x : EReal) : EReal := Ideal.div 1 (1 + Ideal.exp (-x))

/-- Entry `(r, j)` of an up-projection: row `r` of the flattened sequence against column `j`. -/
def up (Y : S2x4096x1024.Idx → EReal) (U : S1x1024x2048.Idx → EReal) (r : Fin 8192) (j : Fin 2048) : EReal :=
  ∑ k : Fin 1024, Y (ix3 ⟨r.val / 4096, by omega⟩ ⟨r.val % 4096, by omega⟩ k) * U (ix3 0 k j)

/-- The two branches, each up-projected and gated by its half of the gate's columns, added. -/
def merged (ya yb : S2x4096x1024.Idx → EReal) (ga gb : S8192x4096.Idx → EReal) (ua ub : S1x1024x2048.Idx → EReal) : S8192x2048.Idx → EReal := fun i =>
  gate (ga (ix2 (i 0) ⟨(i 1).val, by have := (i 1).isLt; simp at this; omega⟩)) * up ya ua (i 0) (i 1)
    + gate (gb (ix2 (i 0) ⟨2048 + (i 1).val, by have := (i 1).isLt; simp at this; omega⟩)) * up yb ub (i 0) (i 1)

variable {m : (ℓ : Loc nD τ sig) → Buf (Elt Ideal) ℓ} {d : Dev nD}

/-- The attention branch, flattened, that the call is given. -/
theorem flat_a (r : Fin 8192) (k : Fin 1024) :
    (V m d main_v0 : S8192x1024.Idx → EReal) (ix2 r k)
      = (m (d.tc.loc main_arg0) : S2x4096x1024.Idx → EReal) (ix3 ⟨r.val / 4096, by omega⟩ ⟨r.val % 4096, by omega⟩ k) := by
  entry_read
  pointwise

/-- The recurrent branch, flattened, that the call is given. -/
theorem flat_b (r : Fin 8192) (k : Fin 1024) :
    (V m d main_v1 : S8192x1024.Idx → EReal) (ix2 r k)
      = (m (d.tc.loc main_arg1) : S2x4096x1024.Idx → EReal) (ix3 ⟨r.val / 4096, by omega⟩ ⟨r.val % 4096, by omega⟩ k) := by
  entry_read
  pointwise

/-- The attention branch's up-projection that the call is given. -/
theorem weights_a (k : Fin 1024) (j : Fin 2048) :
    (V m d main_v3 : S1024x2048.Idx → EReal) (ix2 k j)
      = (m (d.tc.loc main_arg4) : S1x1024x2048.Idx → EReal) (ix3 0 k j) := by
  entry_read
  pointwise

/-- The recurrent branch's up-projection that the call is given. -/
theorem weights_b (k : Fin 1024) (j : Fin 2048) :
    (V m d main_v5 : S1024x2048.Idx → EReal) (ix2 k j)
      = (m (d.tc.loc main_arg5) : S1x1024x2048.Idx → EReal) (ix3 0 k j) := by
  entry_read
  pointwise

/-! Where each window's block stands. -/

theorem index0 (t : Fin cfg0.N) : (cfg0.win 0).index t 0 = t.val ∧ (cfg0.win 0).index t 1 = 0 := by
  revert t
  decide +kernel

theorem index1 (t : Fin cfg0.N) : (cfg0.win 1).index t 0 = t.val ∧ (cfg0.win 1).index t 1 = 0 := by
  revert t
  decide +kernel

theorem index2 (t : Fin cfg0.N) : (cfg0.win 2).index t 0 = t.val ∧ (cfg0.win 2).index t 1 = 0 := by
  revert t
  decide +kernel

theorem index3 (t : Fin cfg0.N) : (cfg0.win 3).index t 0 = t.val ∧ (cfg0.win 3).index t 1 = 1 := by
  revert t
  decide +kernel

theorem index4 (t : Fin cfg0.N) : (cfg0.win 4).index t 0 = 0 ∧ (cfg0.win 4).index t 1 = 0 := by
  revert t
  decide +kernel

theorem index5 (t : Fin cfg0.N) : (cfg0.win 5).index t 0 = 0 ∧ (cfg0.win 5).index t 1 = 0 := by
  revert t
  decide +kernel

theorem index6 (t : Fin cfg0.N) : (cfg0.win 6).index t 0 = t.val ∧ (cfg0.win 6).index t 1 = 0 := by
  revert t
  decide +kernel

theorem row_lt (t : Fin cfg0.N) (r : Fin 512) : 512 * t.val + r.val < 8192 := by
  have : t.val < 16 := t.isLt
  omega

/-- Step `t` holds rows `512 t …` of the attention branch. -/
theorem rows_a (t : Fin cfg0.N) (r : Fin 512) (k : Fin 1024) :
    (iblk m d (0 : Fin 7) t : S512x1024.Idx → EReal) (ix2 r k)
      = (V m d main_v0 : S8192x1024.Idx → EReal) (ix2 ⟨512 * t.val + r.val, row_lt t r⟩ k) := by
  obtain ⟨e0, e1⟩ := index0 t
  blk_ext [iblk, e0, e1]

/-- Step `t` holds rows `512 t …` of the recurrent branch. -/
theorem rows_b (t : Fin cfg0.N) (r : Fin 512) (k : Fin 1024) :
    (iblk m d (1 : Fin 7) t : S512x1024.Idx → EReal) (ix2 r k)
      = (V m d main_v1 : S8192x1024.Idx → EReal) (ix2 ⟨512 * t.val + r.val, row_lt t r⟩ k) := by
  obtain ⟨e0, e1⟩ := index1 t
  blk_ext [iblk, e0, e1]

/-- Step `t` holds rows `512 t …` of the first half of the gate. -/
theorem gate_a (t : Fin cfg0.N) (r : Fin 512) (j : Fin 2048) :
    (iblk m d (2 : Fin 7) t : S512x2048.Idx → EReal) (ix2 r j)
      = (m (d.tc.loc main_arg2) : S8192x4096.Idx → EReal) (ix2 ⟨512 * t.val + r.val, row_lt t r⟩ ⟨j.val, by omega⟩) := by
  obtain ⟨e0, e1⟩ := index2 t
  rw [← V_main_arg2 m d]
  blk_ext [iblk, e0, e1]

/-- Step `t` holds rows `512 t …` of the second half of the gate. -/
theorem gate_b (t : Fin cfg0.N) (r : Fin 512) (j : Fin 2048) :
    (iblk m d (3 : Fin 7) t : S512x2048.Idx → EReal) (ix2 r j)
      = (m (d.tc.loc main_arg3) : S8192x4096.Idx → EReal) (ix2 ⟨512 * t.val + r.val, row_lt t r⟩ ⟨2048 + j.val, by omega⟩) := by
  obtain ⟨e0, e1⟩ := index3 t
  rw [← V_main_arg3 m d]
  blk_ext [iblk, e0, e1]

/-- Every step holds the whole up-projection of the attention branch. -/
theorem whole_a (t : Fin cfg0.N) (k : Fin 1024) (j : Fin 2048) :
    (iblk m d (4 : Fin 7) t : S1024x2048.Idx → EReal) (ix2 k j)
      = (V m d main_v3 : S1024x2048.Idx → EReal) (ix2 k j) := by
  obtain ⟨e0, e1⟩ := index4 t
  blk_ext [iblk, e0, e1]

/-- Every step holds the whole up-projection of the recurrent branch. -/
theorem whole_b (t : Fin cfg0.N) (k : Fin 1024) (j : Fin 2048) :
    (iblk m d (5 : Fin 7) t : S1024x2048.Idx → EReal) (ix2 k j)
      = (V m d main_v5 : S1024x2048.Idx → EReal) (ix2 k j) := by
  obtain ⟨e0, e1⟩ := index5 t
  blk_ext [iblk, e0, e1]

/-- The step's body: an entry of the block it stores. -/
theorem block_at (ya yb : FVec Ideal S512x1024 .bf16) (ga gb : FVec Ideal S512x2048 .f32) (wa wb : FVec Ideal S1024x2048 .bf16) (r : Fin 512) (j : Fin 2048) :
    (out0_6 (F := Ideal) ya yb ga gb wa wb : S512x2048.Idx → EReal) (ix2 r j)
      = gate ((ga : S512x2048.Idx → EReal) (ix2 r j)) * (∑ k : Fin 1024, (ya : S512x1024.Idx → EReal) (ix2 r k) * (wa : S1024x2048.Idx → EReal) (ix2 k j))
        + gate ((gb : S512x2048.Idx → EReal) (ix2 r j)) * (∑ k : Fin 1024, (yb : S512x1024.Idx → EReal) (ix2 r k) * (wb : S1024x2048.Idx → EReal) (ix2 k j)) := by
  unfold out0_6 gate
  simp only [View.canon_unit_zero (S := S512x2048) (off := ![0, 0]) (by decide), View.ld_unit_zero (S := S512x1024) (off := ![0, 0]) (by decide), View.ld_unit_zero (S := S512x2048) (off := ![0, 0]) (by decide), View.ld_unit_zero (S := S1024x2048) (off := ![0, 0]) (by decide)]
  pointwise [k0_pay1]
  simp only [zero_sub]

/-- The block step `t` writes is that part of `merged`. -/
theorem block_value (t : Fin cfg0.N) (r : Fin 512) (j : Fin 2048) :
    (out0_6 (F := Ideal) (iblk m d (0 : Fin 7) t) (iblk m d (1 : Fin 7) t) (iblk m d (2 : Fin 7) t) (iblk m d (3 : Fin 7) t) (iblk m d (4 : Fin 7) t) (iblk m d (5 : Fin 7) t) : S512x2048.Idx → EReal) (ix2 r j)
      = merged (m (d.tc.loc main_arg0)) (m (d.tc.loc main_arg1)) (m (d.tc.loc main_arg2)) (m (d.tc.loc main_arg3)) (m (d.tc.loc main_arg4)) (m (d.tc.loc main_arg5))
          (ix2 ⟨512 * t.val + r.val, row_lt t r⟩ j) := by
  refine (block_at _ _ _ _ _ _ r j).trans ?_
  rw [gate_a, gate_b]
  refine congrArg₂ (· + ·) (congrArg (_ * ·) (Finset.sum_congr rfl fun k _ => ?_)) (congrArg (_ * ·) (Finset.sum_congr rfl fun k _ => ?_))
  · rw [rows_a, whole_a, flat_a, weights_a]
    rfl
  · rw [rows_b, whole_b, flat_b, weights_b]
    rfl

/-- The array the kernel returns. -/
theorem kernel_out :
    (dats m 0 d).arrAt 6 cfg0.N
      = merged (m (d.tc.loc main_arg0)) (m (d.tc.loc main_arg1)) (m (d.tc.loc main_arg2)) (m (d.tc.loc main_arg3)) (m (d.tc.loc main_arg4)) (m (d.tc.loc main_arg5)) := by
  refine (dats m 0 d).arrAt_eq_of_covers 6 _ (by decide +kernel) fun t hf y => ?_
  obtain ⟨e0, e1⟩ := index6 t
  have ey : y = (ix2 (y 0) (y 1) : S512x2048.Idx) := by
    funext a
    match a with
    | ⟨0, _⟩ => rfl
    | ⟨1, _⟩ => rfl
  have g0 : (((cfg0.win 6).blk t).view.emb y 0 : ℕ) = 512 * t.val + (y 0).val := by
    blk_simp [e0]
    omega
  have g1 : (((cfg0.win 6).blk t).view.emb y 1 : ℕ) = (y 1).val := by
    blk_simp [e1]
  have ez : (ix2 ⟨512 * t.val + (y 0).val, row_lt t (y 0)⟩ (y 1) : S8192x2048.Idx) = ((cfg0.win 6).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  rw [after0_6]
  exact h

open Cert.MergeRefIdeal.Read in
/-- The reference's result. -/
theorem reference_out (ya yb : S2x4096x1024.Idx → EReal) (ga gb : S8192x4096.Idx → EReal) (ua ub : S1x1024x2048.Idx → EReal) :
    val_main_v25 (F := Ideal) ya yb ga gb ua ub = merged ya yb ga gb ua ub := by
  funext i
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, merged, up, gate]

/-- The kernel over the reals equals the reference over the reals. -/
theorem algebraic : Cert.algebraic_MergeIdeal_MergeRefIdeal (hMergeIdeal := Cert.MergeIdeal.Gen.facts) (hMergeRefIdeal := Cert.MergeRefIdeal.Gen.facts) := by
  intro m g m' g' _ hin
  refine ⟨fun c => merged (m (c.tc.loc main_arg0)) (m (c.tc.loc main_arg1)) (m (c.tc.loc main_arg2)) (m (c.tc.loc main_arg3)) (m (c.tc.loc main_arg4)) (m (c.tc.loc main_arg5)), ?_, ?_⟩
  · exact (θ_run defs _ _).mono (fun r h c => ⟨(h c).1.trans kernel_out, (h c).2⟩) (run_blocks m g)
  · refine (θ_run Cert.MergeRefIdeal.defs _ _).mono (fun r h c => ⟨?_, (h c).2⟩) (Cert.MergeRefIdeal.Value.run (F := Ideal) m' g')
    obtain ⟨i0, i1, i2, i3, i4, i5⟩ := hin c
    refine (h c).1.trans ?_
    rw [Cert.MergeRefIdeal.Read.val_main_v25_eq, i0, i1, i2, i3, i4, i5]
    exact reference_out _ _ _ _ _ _

/-- The printed kernel runs to its end and leaves its arguments as they were. -/
theorem frame : Cert.quiescent_Merge (hMerge := Cert.Merge.Gen.facts) := fun m ρ _ => Cert.Merge.Gen.frame m ρ

/-- So does the kernel over the reals. -/
theorem frame_ideal : Cert.quiescent_MergeIdeal (hMergeIdeal := Cert.MergeIdeal.Gen.facts) := fun m ρ _ => Cert.MergeIdeal.Gen.frame m ρ

/-- So does the reference over the reals. -/
theorem frame_reference : Cert.quiescent_MergeRefIdeal (hMergeRefIdeal := Cert.MergeRefIdeal.Gen.facts) :=
  fun m ρ _ => (θ_run Cert.MergeRefIdeal.defs _ _).mono
    (fun r h => ⟨fun c => (h c).2, sem_eq_zero_of_no_sems (by decide) r.2⟩) (Cert.MergeRefIdeal.Value.run m ρ)

end Cert.Merged

end
-- ==== Proof.RopeStep.lean ====
/-
  The projection of queries and keys: what one step of the kernel stores.
-/
module

public import proofs.«01_k».proof.Defs
public import proofs.«01_k».proof.Proof.Gen.Rope
public import proofs.«01_k».proof.Proof.Gen.Rope.Frame
public import proofs.«01_k».proof.Proof.Gen.RopeIdeal
public import proofs.«01_k».proof.Proof.Gen.RopeIdeal.Value
public import Idealize.ShloMosaic.Lib.Pointwise
public import Idealize.ShloMosaic.Lib.Pipeline.ValueKit
public import Idealize.ShloMosaic.Lib.Tactic

@[expose] public section

noncomputable section

namespace Cert.Roped

open Idealize.ShloMosaic Idealize.SL.Sem
open Cert.RopeIdeal Cert.RopeIdeal.Gen Cert.RopeIdeal.Value

/-! The tables. -/

/-- A column's place within its head of 64. -/
theorem lane_at (r : Fin 1024) (l : Fin 128) :
    (k0_pay3 : S1024x128.Idx → BitVec 32) (ix2 r l) = BitVec.ofNat 32 (l.val % 64) := by
  pointwise [k0_pay3]
  revert l
  decide +kernel

theorem lt8 (l : Fin 128) : IntOp.cmpi .slt (BitVec.ofNat 32 (l.val % 64)) 8#32 = if l.val % 64 < 8 then 1#1 else 0#1 := by
  revert l
  decide +kernel

theorem lt16 (l : Fin 128) : IntOp.cmpi .slt (BitVec.ofNat 32 (l.val % 64)) 16#32 = if l.val % 64 < 16 then 1#1 else 0#1 := by
  revert l
  decide +kernel

theorem ge8 (l : Fin 128) : IntOp.cmpi .sge (BitVec.ofNat 32 (l.val % 64)) 8#32 = if l.val % 64 < 8 then 0#1 else 1#1 := by
  revert l
  decide +kernel

/-- The angle of row `r` and column `l`. -/
def angle (x1 : S1024x1.Idx → BitVec 32) (x2 : S1x128.Idx → EReal) (r : Fin 1024) (l : Fin 128) : EReal :=
  FloatOps.sitofp (F := Ideal) .f32 (x1 (ix2 r 0)) * x2 (ix2 0 l)

/-- The rotation's first table: the cosine on the first 16 columns of a head, 1 on the others. -/
theorem cos_table (x1 : Vec Ideal S1024x1 .i32) (x2 : Vec Ideal S1x128 .f32) (r : Fin 1024) (l : Fin 128) :
    (k0_pay5 (F := Ideal) x1 x2 : S1024x128.Idx → EReal) (ix2 r l)
      = if l.val % 64 < 16 then Ideal.cos (angle x1 x2 r l) else 1 := by
  pointwise [k0_pay5, k0_pay2]
  rw [lane_at, lt16]
  by_cases h : l.val % 64 < 16 <;> simp [h, Scalar.select, angle]

/-- The second: the negated sine on the first 8. -/
theorem sin_table (x1 : Vec Ideal S1024x1 .i32) (x2 : Vec Ideal S1x128 .f32) (r : Fin 1024) (l : Fin 128) :
    (k0_pay7 (k0_pay6 (F := Ideal) x1 x2) : S1024x128.Idx → EReal) (ix2 r l)
      = if l.val % 64 < 8 then -Ideal.sin (angle x1 x2 r l) else 0 := by
  pointwise [k0_pay7, k0_pay6, k0_pay4, k0_pay2]
  rw [lane_at, lt8]
  by_cases h : l.val % 64 < 8 <;> simp [h, Scalar.select, angle]

/-- The third: the sine on the next 8. -/
theorem sin_table' (x1 : Vec Ideal S1024x1 .i32) (x2 : Vec Ideal S1x128 .f32) (r : Fin 1024) (l : Fin 128) :
    (k0_pay8 (F := Ideal) k0_pay3 (k0_pay4 x1 x2) : S1024x128.Idx → EReal) (ix2 r l)
      = if l.val % 64 < 8 then 0 else if l.val % 64 < 16 then Ideal.sin (angle x1 x2 r l) else 0 := by
  pointwise [k0_pay8, k0_pay4, k0_pay2]
  rw [lane_at, lt16, ge8]
  by_cases h : l.val % 64 < 8
  · simp [h, Scalar.select, IntOp.andi]
  · by_cases h' : l.val % 64 < 16 <;> simp [h, h', Scalar.select, IntOp.andi, angle]

/-! The body. -/

/-- A strip of 128 columns times the first table, its two shifts by 8 columns times the others, scaled. -/
def strip (s : Ideal .f32) (t : FVec Ideal S1024x128 .f32) (c0 c1 c2 : Vec Ideal S1024x128 .f32) : FVec Ideal S1024x128 .bf16 :=
  truncf .bf16 (mulf (addf (addf (mulf t c0) (mulf (dynamicRotate 1 120#32 none t rotates_S1024x128_d1) c1))
    (mulf (dynamicRotate 1 8#32 none t rotates_S1024x128_d1) c2)) (broadcast S1024x128 s)) bitsLt_bf16_f32

theorem strip_at (s : Ideal .f32) (t : FVec Ideal S1024x128 .f32) (c0 c1 c2 : Vec Ideal S1024x128 .f32) (r : Fin 1024) (l : Fin 128) :
    (strip s t c0 c1 c2 : S1024x128.Idx → EReal) (ix2 r l)
      = ((t : S1024x128.Idx → EReal) (ix2 r l) * (c0 : S1024x128.Idx → EReal) (ix2 r l)
        + (t : S1024x128.Idx → EReal) (ix2 r ⟨(l.val + 128 - 120) % 128, by omega⟩) * (c1 : S1024x128.Idx → EReal) (ix2 r l)
        + (t : S1024x128.Idx → EReal) (ix2 r ⟨(l.val + 128 - 8) % 128, by omega⟩) * (c2 : S1024x128.Idx → EReal) (ix2 r l)) * (s : EReal) := by
  pointwise [strip]

/-- Strip `g` of the step's product. -/
def part (A : FVec Ideal S1024x1024 .f32) (g : Fin 8) : FVec Ideal S1024x128 .f32 :=
  extractStridedSlice S1024x128 ![0, 128 * g.val] A (by revert g; decide)

theorem part_at (A : FVec Ideal S1024x1024 .f32) (g : Fin 8) (r : Fin 1024) (l : Fin 128) :
    (part A g : S1024x128.Idx → EReal) (ix2 r l) = (A : S1024x1024.Idx → EReal) (ix2 r ⟨128 * g.val + l.val, by omega⟩) := by
  pointwise [part]

theorem joined_at {α : Type} (f : Fin 8 → S1024x128.Idx → α) (xs : List ((s : Shape) × (s.Idx → α)))
    (hx : xs = List.ofFn fun g : Fin 8 => (⟨S1024x128, f g⟩ : (s : Shape) × (s.Idx → α)))
    (h : Shape.Concatenates (xs.map (·.1)) S1024x1024 1) (r : Fin 1024) (g : Fin 8) (l : Fin 128) :
    concatenate S1024x1024 1 xs h (ix2 r ⟨128 * g.val + l.val, by omega⟩) = f g (ix2 r l) := by
  subst hx
  refine concatenate_ofFn_apply (t := S1024x1024) 1 f h rfl 128 rfl _ g ?_ _ ?_ ?_
  · show (128 * g.val + l.val) / 128 = g.val
    omega
  · show l.val = (128 * g.val + l.val) % 128
    omega
  · intro b hb
    match b with
    | ⟨0, _⟩ => rfl
    | ⟨1, _⟩ => exact absurd rfl hb

/-- What a step stores, from its block of the input, its block of the weights and the three tables. -/
def rotated (i : grid0.Coords) (x0 : Vec Ideal S1024x2048 .bf16) (x3 : Vec Ideal S2048x1024 .bf16) (c0 c1 c2 : Vec Ideal S1024x128 .f32) : Vec Ideal S1024x1024 .bf16 :=
  k0_pay1 (k0_pay10 i) (k0_pay11 i x0 x3 c0 c1 c2) (k0_pay15 (k0_pay10 i) (k0_pay13 x0 x3 c0 c1) (k0_pay14 x0 x3) c2)
    (k0_pay16 (k0_pay9 x0 x3) (k0_pay10 i) c0 c1 c2) (k0_pay17 (k0_pay9 x0 x3) (k0_pay10 i) c0 c1 c2)
    (k0_pay21 (k0_pay10 i) (k0_pay18 (k0_pay9 x0 x3)) (k0_pay19 (k0_pay9 x0 x3) c0) (k0_pay20 (k0_pay9 x0 x3)) c1 c2)
    (k0_pay22 (k0_pay9 x0 x3) (k0_pay10 i) c0 c1 c2) (k0_pay23 (k0_pay9 x0 x3) (k0_pay10 i) c0 c1 c2)
    (k0_pay24 (k0_pay9 x0 x3)) c0 c1 c2

theorem rotated_strip (i : grid0.Coords) (x0 : Vec Ideal S1024x2048 .bf16) (x3 : Vec Ideal S2048x1024 .bf16) (c0 c1 c2 : Vec Ideal S1024x128 .f32) (r : Fin 1024) (g : Fin 8) (l : Fin 128) :
    (rotated i x0 x3 c0 c1 c2 : S1024x1024.Idx → EReal) (ix2 r ⟨128 * g.val + l.val, by omega⟩)
      = (strip (k0_pay10 i) (part (k0_pay9 x0 x3) g) c0 c1 c2 : S1024x128.Idx → EReal) (ix2 r l) :=
  joined_at (fun g => strip (k0_pay10 i) (part (k0_pay9 x0 x3) g) c0 c1 c2) _ rfl
    concatenates_S1024x128_S1024x128_S1024x128_S1024x128_S1024x128_S1024x128_S1024x128_S1024x128_S1024x1024_d1 r g l

theorem product_at (x0 : Vec Ideal S1024x2048 .bf16) (x3 : Vec Ideal S2048x1024 .bf16) (r j : Fin 1024) :
    (k0_pay9 x0 x3 : S1024x1024.Idx → EReal) (ix2 r j)
      = ∑ k : Fin 2048, (x0 : S1024x2048.Idx → EReal) (ix2 r k) * (x3 : S2048x1024.Idx → EReal) (ix2 k j) := by
  pointwise [k0_pay9]

theorem scale_at (i : grid0.Coords) :
    (k0_pay10 (F := Ideal) i : EReal) = if (i 1).val = 0 then Ideal.ofBits .f32 0x3E000000#32 else 1 := by
  have h : (i 1).val < 2 := (i 1).isLt
  pointwise [k0_pay10]
  generalize (i 1).val = n at h
  interval_cases n
  · rfl
  · rfl

end Cert.Roped

end
-- ==== Proof.Roped.lean ====
/-
  The projection of queries and keys: the array the kernel returns.
-/
module

public import proofs.«01_k».proof.Proof.RopeStep

@[expose] public section

noncomputable section

namespace Cert.Roped

open Idealize.ShloMosaic Idealize.SL.Sem
open Cert.RopeIdeal Cert.RopeIdeal.Gen Cert.RopeIdeal.Value

/-! The result, as a formula. -/

/-- Entry `(r, j)` of the projection. -/
def proj (u : S8192x2048.Idx → EReal) (w : S1x2048x10496.Idx → EReal) (r : Fin 8192) (j : Fin 10496) : EReal :=
  ∑ k : Fin 2048, u (ix2 r k) * w (ix3 0 k j)

/-- The frequency of a pair of columns. -/
def freq (l : Nat) : EReal :=
  Ideal.pow (Ideal.ofBits .f32 0x48F42400#32) (Ideal.div (-FloatOps.sitofp (F := Ideal) .f32 (BitVec.ofNat 32 l)) (Ideal.ofBits .f32 0x41000000#32))

/-- The angle of row `r` at pair `l`. -/
def theta (p : S2x4096.Idx → BitVec 32) (r : Fin 8192) (l : Nat) : EReal :=
  FloatOps.sitofp (F := Ideal) .f32 (p (ix2 ⟨r.val / 4096, by omega⟩ ⟨r.val % 4096, by omega⟩)) * freq l

/-- An entry at place `l` of its head, turned by `θ` with its partner 8 places above or below; from place 16 on it stays. -/
def turned (θ : EReal) (l : Nat) (x above below : EReal) : EReal :=
  if l < 8 then x * Ideal.cos θ - above * Ideal.sin θ else if l < 16 then below * Ideal.sin θ + x * Ideal.cos θ else x

/-- Queries are scaled by 1/8, keys are not. -/
def scale (b : Nat) : EReal := if b = 0 then Ideal.ofBits .f32 0x3E000000#32 else 1

/-- The queries and keys. -/
def roped (u : S8192x2048.Idx → EReal) (p : S2x4096.Idx → BitVec 32) (w : S1x2048x10496.Idx → EReal) : S8192x2048.Idx → EReal := fun i =>
  have h : (i 1).val < 2048 := (i 1).isLt
  turned (theta p (i 0) ((i 1).val % 8)) ((i 1).val % 64) (proj u w (i 0) ⟨(i 1).val, by omega⟩)
    (proj u w (i 0) ⟨(i 1).val + 8, by omega⟩) (proj u w (i 0) ⟨(i 1).val - 8, by omega⟩) * scale ((i 1).val / 1024)

/-! One step. -/

/-- What a step stores, from its blocks, if it makes the tables itself. -/
theorem rotated_at (i : grid0.Coords) (x0 : Vec Ideal S1024x2048 .bf16) (x1 : Vec Ideal S1024x1 .i32) (x2 : Vec Ideal S1x128 .f32) (x3 : Vec Ideal S2048x1024 .bf16) (r j : Fin 1024) :
    (rotated i x0 x3 (k0_pay5 x1 x2) (k0_pay7 (k0_pay6 x1 x2)) (k0_pay8 k0_pay3 (k0_pay4 x1 x2)) : S1024x1024.Idx → EReal) (ix2 r j)
      = turned (angle x1 x2 r ⟨j.val % 128, by omega⟩) (j.val % 64)
          ((k0_pay9 x0 x3 : S1024x1024.Idx → EReal) (ix2 r j))
          ((k0_pay9 x0 x3 : S1024x1024.Idx → EReal) (ix2 r ⟨(j.val + 8) % 1024, by omega⟩))
          ((k0_pay9 x0 x3 : S1024x1024.Idx → EReal) (ix2 r ⟨j.val - 8, by omega⟩)) * scale (i 1).val := by
  have hj : j = ⟨128 * (⟨j.val / 128, by omega⟩ : Fin 8).val + (⟨j.val % 128, by omega⟩ : Fin 128).val, by simp only []; omega⟩ := Fin.ext (by simp only []; omega)
  have h := rotated_strip i x0 x3 (k0_pay5 x1 x2) (k0_pay7 (k0_pay6 x1 x2)) (k0_pay8 k0_pay3 (k0_pay4 x1 x2)) r ⟨j.val / 128, by omega⟩ ⟨j.val % 128, by omega⟩
  rw [← hj] at h
  rw [h, strip_at, part_at, part_at, part_at, cos_table, sin_table, sin_table', scale_at, ← hj]
  have e : j.val % 128 % 64 = j.val % 64 := by omega
  simp only [e]
  unfold turned scale
  refine congrArg (· * _) ?_
  by_cases h8 : j.val % 64 < 8
  · have e1 : 128 * (j.val / 128) + (j.val % 128 + 128 - 120) % 128 = (j.val + 8) % 1024 := by omega
    have h16 : j.val % 64 < 16 := by omega
    simp only [h8, h16, if_true, mul_zero, add_zero, e1, mul_neg, sub_eq_add_neg]
  · by_cases h16 : j.val % 64 < 16
    · have e1 : 128 * (j.val / 128) + (j.val % 128 + 128 - 8) % 128 = j.val - 8 := by omega
      simp only [h8, h16, if_true, if_false, mul_zero, add_zero, e1]
      exact add_comm _ _
    · simp only [h8, h16, if_false, mul_zero, add_zero, mul_one]

theorem origin : (![0, 0] : Fin 2 → Nat) = fun _ => 0 := funext fun a => by fin_cases a <;> rfl

section Body

variable (c : Dev nD) (i : grid0.Coords) (a2 : Memref sig .tc .vmem S1024x2048 .bf16) (h2 : a2.IsWhole) (a3 : Memref sig .tc .vmem S1024x1 .i32) (h3 : a3.IsWhole)
  (a4 : Memref sig .tc .vmem S1x128 .f32) (h4 : a4.IsWhole) (a5 : Memref sig .tc .vmem S2048x1024 .bf16) (h5 : a5.IsWhole) (a6 : Memref sig .tc .vmem S1024x1024 .bf16) (h6 : a6.IsWhole)
  (a7 : Memref sig .tc .vmem S1024x128 .f32) (h7 : a7.IsWhole) (a8 : Memref sig .tc .vmem S1024x128 .f32) (h8 : a8.IsWhole) (a9 : Memref sig .tc .vmem S1024x128 .f32) (h9 : a9.IsWhole)
  (x0 : Vec Ideal S1024x2048 .bf16) (x1 : Vec Ideal S1024x1 .i32) (x2 : Vec Ideal S1x128 .f32) (x3 : Vec Ideal S2048x1024 .bf16)

/-- The first step of a block of rows makes the tables and uses them. -/
theorem out_A (hc : cond0_0 i) :
    out0_A_4 c i a2 h2 a3 h3 a4 h4 a5 h5 a6 h6 a7 h7 a8 h8 a9 h9 hc x0 x1 x2 x3
      = rotated i x0 x3 (k0_pay5 x1 x2) (k0_pay7 (k0_pay6 x1 x2)) (k0_pay8 k0_pay3 (k0_pay4 x1 x2)) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  simp only [View.canon_unit_zero (S := S1024x1024) origin, View.readCov_unit_zero (S := S1024x128) _ origin, View.readAt_eq_ld, h2.read_unread, h3.read_unread, h4.read_unread, h5.read_unread, View.ld_unit_zero (S := S1024x2048) origin, View.ld_unit_zero (S := S1024x1) origin, View.ld_unit_zero (S := S1x128) origin, View.ld_unit_zero (S := S2048x1024) origin]
  rfl

theorem sout_A_0 (hc : cond0_0 i) :
    sout0_A_0 c i a2 h2 a3 h3 a4 h4 a5 h5 a6 h6 a7 h7 a8 h8 a9 h9 hc x0 x1 x2 x3 = k0_pay5 x1 x2 := by
  unfold sout0_A_0
  rw [View.read_writes_eq_canon _ _ _ (scover0_A_0 c i a2 h2 a3 h3 a4 h4 a5 h5 a6 h6 a7 h7 a8 h8 a9 h9 hc x0 x1 x2 x3)]
  unfold kernelRun0_A
  dsimp only
  sl_unfold_words
  simp only [View.canon_unit_zero (S := S1024x128) origin, View.readAt_eq_ld, h3.read_unread, h4.read_unread, View.ld_unit_zero (S := S1024x1) origin, View.ld_unit_zero (S := S1x128) origin]

theorem sout_A_1 (hc : cond0_0 i) :
    sout0_A_1 c i a2 h2 a3 h3 a4 h4 a5 h5 a6 h6 a7 h7 a8 h8 a9 h9 hc x0 x1 x2 x3 = k0_pay7 (k0_pay6 x1 x2) := by
  unfold sout0_A_1
  rw [View.read_writes_eq_canon _ _ _ (scover0_A_1 c i a2 h2 a3 h3 a4 h4 a5 h5 a6 h6 a7 h7 a8 h8 a9 h9 hc x0 x1 x2 x3)]
  unfold kernelRun0_A
  dsimp only
  sl_unfold_words
  simp only [View.canon_unit_zero (S := S1024x128) origin, View.readAt_eq_ld, h3.read_unread, h4.read_unread, View.ld_unit_zero (S := S1024x1) origin, View.ld_unit_zero (S := S1x128) origin]

theorem sout_A_2 (hc : cond0_0 i) :
    sout0_A_2 c i a2 h2 a3 h3 a4 h4 a5 h5 a6 h6 a7 h7 a8 h8 a9 h9 hc x0 x1 x2 x3 = k0_pay8 k0_pay3 (k0_pay4 x1 x2) := by
  unfold sout0_A_2
  rw [View.read_writes_eq_canon _ _ _ (scover0_A_2 c i a2 h2 a3 h3 a4 h4 a5 h5 a6 h6 a7 h7 a8 h8 a9 h9 hc x0 x1 x2 x3)]
  unfold kernelRun0_A
  dsimp only
  sl_unfold_words
  simp only [View.canon_unit_zero (S := S1024x128) origin, View.readAt_eq_ld, h3.read_unread, h4.read_unread, View.ld_unit_zero (S := S1024x1) origin, View.ld_unit_zero (S := S1x128) origin]

/-- The other steps use the tables they find. -/
theorem out_B (hc : ¬cond0_0 i) (c0 c1 c2 : Vec Ideal S1024x128 .f32) :
    out0_B_4 c i a2 h2 a3 h3 a4 h4 a5 h5 a6 h6 a7 h7 a8 h8 a9 h9 hc x0 x1 x2 x3 c0 c1 c2 = rotated i x0 x3 c0 c1 c2 := by
  unfold out0_B_4
  rw [View.read_writes_eq_canon _ _ _ (cover0_B_4 c i a2 h2 a3 h3 a4 h4 a5 h5 a6 h6 a7 h7 a8 h8 a9 h9 hc x0 x1 x2 x3 c0 c1 c2)]
  unfold kernelRun0_B
  dsimp only
  sl_unfold_words
  simp only [View.canon_unit_zero (S := S1024x1024) origin, View.readAt_eq_ld, h2.read_unread, h3.read_unread, h4.read_unread, h5.read_unread, h7.read_unread, h8.read_unread, h9.read_unread, View.ld_unit_zero (S := S1024x2048) origin, View.ld_unit_zero (S := S1024x1) origin, View.ld_unit_zero (S := S1x128) origin, View.ld_unit_zero (S := S2048x1024) origin, View.ld_unit_zero (S := S1024x128) origin]
  rfl

end Body

variable {m : (ℓ : Loc nD τ sig) → Buf (Elt Ideal) ℓ} {d : Dev nD}

/-- The step of point `t` whose tables point `t` uses: its own, or the one before it. -/
def maker (t : Fin cfg0.N) : Fin cfg0.N := ⟨2 * (t.val / 2), by have := t.isLt; omega⟩

/-- What point `t` stores. -/
theorem stored (t : Fin cfg0.N) :
    (dats m 0 d).after 4 t = rotated (grid0.coords t) (iblk m d 0 t) (iblk m d 3 t)
      (k0_pay5 (iblk m d 1 (maker t)) (iblk m d 2 (maker t))) (k0_pay7 (k0_pay6 (iblk m d 1 (maker t)) (iblk m d 2 (maker t))))
      (k0_pay8 k0_pay3 (k0_pay4 (iblk m d 1 (maker t)) (iblk m d 2 (maker t)))) := by
  rw [after0_4]
  by_cases h : t.val % 2 = 0
  · have e : maker t = t := Fin.ext (by show 2 * (t.val / 2) = t.val; omega)
    rw [e, outsAt0_A m d t h]
    dsimp only
    rw [out_A]
  · have e : t.val - 1 = (maker t).val := by show t.val - 1 = 2 * (t.val / 2); omega
    have h' : (maker t).val % 2 = 0 := by show 2 * (t.val / 2) % 2 = 0; omega
    rw [outsAt0_B m d t h]
    dsimp only
    rw [out_B]
    simp only [e, outsAt0_A m d (maker t) h', sout_A_0, sout_A_1, sout_A_2]

/-! Where each window's block stands. -/

theorem index0 (t : Fin cfg0.N) : (cfg0.win 0).index t 0 = t.val / 2 ∧ (cfg0.win 0).index t 1 = 0 := by
  revert t
  decide +kernel

theorem index1 (t : Fin cfg0.N) : (cfg0.win 1).index t 0 = t.val / 2 ∧ (cfg0.win 1).index t 1 = 0 := by
  revert t
  decide +kernel

theorem index2 (t : Fin cfg0.N) : (cfg0.win 2).index t 0 = 0 ∧ (cfg0.win 2).index t 1 = 0 := by
  revert t
  decide +kernel

theorem index3 (t : Fin cfg0.N) : (cfg0.win 3).index t 0 = 0 ∧ (cfg0.win 3).index t 1 = t.val % 2 := by
  revert t
  decide +kernel

theorem index4 (t : Fin cfg0.N) : (cfg0.win 4).index t 0 = t.val / 2 ∧ (cfg0.win 4).index t 1 = t.val % 2 := by
  revert t
  decide +kernel

theorem column_block (t : Fin cfg0.N) : (grid0.coords t 1).val = t.val % 2 := by
  revert t
  decide +kernel

/-! What the call is given, and what each point reads of it. -/

/-- The frequencies, one copy of the eight for each eight columns. -/
theorem freqs (l : Fin 128) : (V m d main_v9 : S1x128.Idx → EReal) (ix2 0 l) = freq (l.val % 8) := by
  entry_read
  pointwise [freq]

/-- The positions, flattened. -/
theorem positions (r : Fin 8192) :
    (V m d main_v10 : S8192x1.Idx → BitVec 32) (ix2 r 0)
      = (m (d.tc.loc main_arg1) : S2x4096.Idx → BitVec 32) (ix2 ⟨r.val / 4096, by omega⟩ ⟨r.val % 4096, by omega⟩) := by
  entry_read
  pointwise

/-- The weights of the queries and keys. -/
theorem weights (k j : Fin 2048) :
    (V m d main_v13 : S2048x2048.Idx → EReal) (ix2 k j) = (m (d.tc.loc main_arg2) : S1x2048x10496.Idx → EReal) (ix3 0 k ⟨j.val, by omega⟩) := by
  entry_read
  pointwise

theorem row_lt (t : Fin cfg0.N) (r : Fin 1024) : 1024 * (t.val / 2) + r.val < 8192 := by
  have : t.val < 16 := t.isLt
  omega

theorem rows_at (t : Fin cfg0.N) (r : Fin 1024) (k : Fin 2048) :
    (iblk m d (0 : Fin 5) t : S1024x2048.Idx → EReal) (ix2 r k)
      = (m (d.tc.loc main_arg0) : S8192x2048.Idx → EReal) (ix2 ⟨1024 * (t.val / 2) + r.val, row_lt t r⟩ k) := by
  obtain ⟨e0, e1⟩ := index0 t
  rw [← V_main_arg0 m d]
  blk_ext [iblk, e0, e1]

theorem positions_at (t : Fin cfg0.N) (r : Fin 1024) :
    (iblk m d (1 : Fin 5) t : S1024x1.Idx → BitVec 32) (ix2 r 0)
      = (V m d main_v10 : S8192x1.Idx → BitVec 32) (ix2 ⟨1024 * (t.val / 2) + r.val, row_lt t r⟩ 0) := by
  obtain ⟨e0, e1⟩ := index1 t
  blk_ext [iblk, e0, e1]

theorem freqs_at (t : Fin cfg0.N) (l : Fin 128) :
    (iblk m d (2 : Fin 5) t : S1x128.Idx → EReal) (ix2 0 l) = (V m d main_v9 : S1x128.Idx → EReal) (ix2 0 l) := by
  obtain ⟨e0, e1⟩ := index2 t
  blk_ext [iblk, e0, e1]

theorem cols_at (t : Fin cfg0.N) (k : Fin 2048) (j : Fin 1024) :
    (iblk m d (3 : Fin 5) t : S2048x1024.Idx → EReal) (ix2 k j)
      = (V m d main_v13 : S2048x2048.Idx → EReal) (ix2 k ⟨1024 * (t.val % 2) + j.val, by omega⟩) := by
  obtain ⟨e0, e1⟩ := index3 t
  blk_ext [iblk, e0, e1]

/-- The angles point `t` uses are those of its rows. -/
theorem angle_at (t : Fin cfg0.N) (r : Fin 1024) (l : Fin 128) :
    angle (iblk m d (1 : Fin 5) (maker t)) (iblk m d (2 : Fin 5) (maker t)) r l
      = theta (m (d.tc.loc main_arg1)) ⟨1024 * (t.val / 2) + r.val, row_lt t r⟩ (l.val % 8) := by
  have e : (⟨1024 * ((maker t).val / 2) + r.val, row_lt (maker t) r⟩ : Fin 8192) = ⟨1024 * (t.val / 2) + r.val, row_lt t r⟩ :=
    Fin.ext (by show 1024 * (2 * (t.val / 2) / 2) + r.val = 1024 * (t.val / 2) + r.val; omega)
  unfold angle theta
  rw [positions_at, freqs_at, e, positions, freqs]

/-- The product of point `t` is that block of the projection. -/
theorem product_block (t : Fin cfg0.N) (r j : Fin 1024) :
    (k0_pay9 (F := Ideal) (iblk m d (0 : Fin 5) t) (iblk m d (3 : Fin 5) t) : S1024x1024.Idx → EReal) (ix2 r j)
      = proj (m (d.tc.loc main_arg0)) (m (d.tc.loc main_arg2)) ⟨1024 * (t.val / 2) + r.val, row_lt t r⟩ ⟨1024 * (t.val % 2) + j.val, by omega⟩ := by
  refine (product_at _ _ r j).trans (Finset.sum_congr rfl fun k _ => ?_)
  rw [rows_at, cols_at, weights]

/-- The block point `t` stores is that part of `roped`. -/
theorem block_value (t : Fin cfg0.N) (r j : Fin 1024) :
    ((dats m 0 d).after 4 t : S1024x1024.Idx → EReal) (ix2 r j)
      = roped (m (d.tc.loc main_arg0)) (m (d.tc.loc main_arg1)) (m (d.tc.loc main_arg2))
          (ix2 ⟨1024 * (t.val / 2) + r.val, row_lt t r⟩ ⟨1024 * (t.val % 2) + j.val, by omega⟩) := by
  rw [stored]
  refine (rotated_at _ _ _ _ _ r j).trans ?_
  rw [angle_at, product_block, product_block, product_block, column_block]
  show turned _ _ _ _ _ * _ = turned (theta _ _ ((1024 * (t.val % 2) + j.val) % 8)) ((1024 * (t.val % 2) + j.val) % 64) _ _ _ * scale ((1024 * (t.val % 2) + j.val) / 1024)
  have e1 : (1024 * (t.val % 2) + j.val) % 8 = j.val % 128 % 8 := by omega
  have e2 : (1024 * (t.val % 2) + j.val) % 64 = j.val % 64 := by omega
  have e3 : (1024 * (t.val % 2) + j.val) / 1024 = t.val % 2 := by omega
  rw [e1, e2, e3]
  refine congrArg (· * _) ?_
  unfold turned
  by_cases h8 : j.val % 64 < 8
  · rw [if_pos h8, if_pos h8]
    refine congrArg₂ (· - ·) rfl (congrArg (· * _) (congrArg (proj _ _ _) (Fin.ext ?_)))
    show 1024 * (t.val % 2) + (j.val + 8) % 1024 = 1024 * (t.val % 2) + j.val + 8
    omega
  · rw [if_neg h8, if_neg h8]
    by_cases h16 : j.val % 64 < 16
    · rw [if_pos h16, if_pos h16]
      refine congrArg₂ (· + ·) (congrArg (· * _) (congrArg (proj _ _ _) (Fin.ext ?_))) rfl
      show 1024 * (t.val % 2) + (j.val - 8) = 1024 * (t.val % 2) + j.val - 8
      omega
    · rw [if_neg h16, if_neg h16]
      rfl

/-- The array the kernel returns. -/
theorem kernel_out :
    (dats m 0 d).arrAt 4 cfg0.N = roped (m (d.tc.loc main_arg0)) (m (d.tc.loc main_arg1)) (m (d.tc.loc main_arg2)) := by
  refine (dats m 0 d).arrAt_eq_of_covers 4 _ (by decide +kernel) fun t hf y => ?_
  obtain ⟨e0, e1⟩ := index4 t
  have ey : y = (ix2 (y 0) (y 1) : S1024x1024.Idx) := by
    funext a
    match a with
    | ⟨0, _⟩ => rfl
    | ⟨1, _⟩ => rfl
  have g0 : (((cfg0.win 4).blk t).view.emb y 0 : ℕ) = 1024 * (t.val / 2) + (y 0).val := by
    blk_simp [e0]
    omega
  have g1 : (((cfg0.win 4).blk t).view.emb y 1 : ℕ) = 1024 * (t.val % 2) + (y 1).val := by
    blk_simp [e1]
    omega
  have h1 : (y 1).val < 1024 := (y 1).isLt
  have ez : (ix2 ⟨1024 * (t.val / 2) + (y 0).val, row_lt t (y 0)⟩ ⟨1024 * (t.val % 2) + (y 1).val, by omega⟩ : S8192x2048.Idx) = ((cfg0.win 4).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  exact h

end Cert.Roped

end
-- ==== Proof.RopedRef.lean ====
/-
  The projection of queries and keys: the reference's result.
-/
module

public import proofs.«01_k».proof.Proof.Roped
public import proofs.«01_k».proof.Proof.Gen.RopeRefIdeal
public import proofs.«01_k».proof.Proof.Gen.RopeRefIdeal.Run
public import proofs.«01_k».proof.Proof.Gen.RopeRefIdeal.Read
public import Idealize.ShloMosaic.Lib.Quiescent
public import Idealize.ShloMosaic.Lib.Claim

@[expose] public section

noncomputable section

namespace Cert.Roped

open Idealize.ShloMosaic Idealize.SL.Sem
open Cert.RopeRefIdeal Cert.RopeRefIdeal.Read

/-- The product with the whole of the weights. -/
theorem product_ref (u : S8192x2048.Idx → EReal) (w : S1x2048x10496.Idx → EReal) (r : Fin 8192) (j : Fin 10496) :
    val_main_v2 (F := Ideal) u w (ix2 r j) = proj u w r j := by
  pointwise [val_main_v2, val_main_v1, val_main_v0, proj]

/-- Its queries, by sequence, position, head, half and place. -/
theorem queries_ref (u : S8192x2048.Idx → EReal) (w : S1x2048x10496.Idx → EReal) (b : Fin 2) (n : Fin 4096) (h : Fin 8) (s : Fin 2) (l : Fin 64) :
    val_main_v9 (F := Ideal) u w (ix5 b n h s l) = proj u w ⟨4096 * b.val + n.val, by omega⟩ ⟨128 * h.val + 64 * s.val + l.val, by omega⟩ := by
  pointwise [val_main_v9, val_main_v6, val_main_v3]
  rw [product_ref]
  refine congrArg₂ (proj u w) (Fin.ext ?_) (Fin.ext ?_)
  · show b.val * 4096 + n.val = 4096 * b.val + n.val
    omega
  · show h.val * 128 + s.val * 64 + l.val = 128 * h.val + 64 * s.val + l.val
    omega

/-- Its keys. -/
theorem keys_ref (u : S8192x2048.Idx → EReal) (w : S1x2048x10496.Idx → EReal) (b : Fin 2) (n : Fin 4096) (h : Fin 8) (s : Fin 2) (l : Fin 64) :
    val_main_v43 (F := Ideal) u w (ix5 b n h s l) = proj u w ⟨4096 * b.val + n.val, by omega⟩ ⟨1024 + (128 * h.val + 64 * s.val + l.val), by omega⟩ := by
  pointwise [val_main_v43, val_main_v7, val_main_v3]
  rw [product_ref]
  refine congrArg₂ (proj u w) (Fin.ext ?_) (Fin.ext ?_)
  · show b.val * 4096 + n.val = 4096 * b.val + n.val
    omega
  · show 1024 + (h.val * 128 + s.val * 64 + l.val) = 1024 + (128 * h.val + 64 * s.val + l.val)
    omega

/-- The angle of a pair of columns, as the reference has it for the queries. -/
theorem angle_ref (p : S2x4096.Idx → BitVec 32) (b : Fin 2) (n : Fin 4096) (l : Fin 8) :
    val_main_v21 (F := Ideal) p (ix3 b n l) = FloatOps.sitofp (F := Ideal) .f32 (p (ix2 b n)) * freq l.val := by
  pointwise [val_main_v21, val_main_v20, val_main_v19, val_main_v18, val_main_v17, val_main_v16, val_main_v15, val_main_v14, val_main_v13, val_main_v12, val_main_v11, val_main_v10, val_main_cst, val_main_cst_0, freq]

/-- The same for the keys. -/
theorem angle_ref' (p : S2x4096.Idx → BitVec 32) (b : Fin 2) (n : Fin 4096) (l : Fin 8) :
    val_main_v55 (F := Ideal) p (ix3 b n l) = FloatOps.sitofp (F := Ideal) .f32 (p (ix2 b n)) * freq l.val := by
  pointwise [val_main_v55, val_main_v54, val_main_v53, val_main_v52, val_main_v51, val_main_v50, val_main_v49, val_main_v48, val_main_v47, val_main_v46, val_main_v45, val_main_v44, val_main_cst_2, val_main_cst_3, freq]

/-- One head turned: what both halves of the reference come to, over a head's 64 entries and its 8 angles. -/
theorem turned_eq (x : Fin 64 → EReal) (θ : Fin 8 → EReal) (l : Fin 64) :
    (if h1 : l.val < 16 then
        if h2 : l.val < 8 then x l * Ideal.cos (θ ⟨l.val, h2⟩) - x ⟨8 + l.val, by omega⟩ * Ideal.sin (θ ⟨l.val, h2⟩)
        else x ⟨l.val - 8, by omega⟩ * Ideal.sin (θ ⟨l.val - 8, by omega⟩) + x ⟨8 + (l.val - 8), by omega⟩ * Ideal.cos (θ ⟨l.val - 8, by omega⟩)
      else x ⟨16 + (l.val - 16), by omega⟩)
      = turned (θ ⟨l.val % 8, by omega⟩) l.val (x l) (x ⟨(l.val + 8) % 64, by omega⟩) (x ⟨l.val - 8, by omega⟩) := by
  unfold turned
  by_cases h8 : l.val < 8
  · have h16 : l.val < 16 := by omega
    have e1 : (⟨8 + l.val, by omega⟩ : Fin 64) = ⟨(l.val + 8) % 64, by omega⟩ := Fin.ext (by simp only []; omega)
    have e2 : (⟨l.val, h8⟩ : Fin 8) = ⟨l.val % 8, by omega⟩ := Fin.ext (by simp only []; omega)
    rw [dif_pos h16, dif_pos h8, if_pos h8, e1, e2]
  · by_cases h16 : l.val < 16
    · have e1 : (⟨8 + (l.val - 8), by omega⟩ : Fin 64) = l := Fin.ext (by simp only []; omega)
      have e2 : (⟨l.val - 8, by omega⟩ : Fin 8) = ⟨l.val % 8, by omega⟩ := Fin.ext (by simp only []; omega)
      rw [dif_pos h16, dif_neg h8, if_neg h8, if_pos h16, e1, e2]
    · have e1 : (⟨16 + (l.val - 16), by omega⟩ : Fin 64) = l := Fin.ext (by simp only []; omega)
      rw [dif_neg h16, if_neg h8, if_neg h16, e1]

/-- The queries, turned. -/
theorem turned_queries (u : S8192x2048.Idx → EReal) (p : S2x4096.Idx → BitVec 32) (w : S1x2048x10496.Idx → EReal) (b : Fin 2) (n : Fin 4096) (h : Fin 8) (s : Fin 2) (l : Fin 64) :
    val_main_v40 (F := Ideal) u p w (ix5 b n h s l)
      = turned (val_main_v21 (F := Ideal) p (ix3 b n ⟨l.val % 8, by omega⟩)) l.val (val_main_v9 (F := Ideal) u w (ix5 b n h s l))
          (val_main_v9 (F := Ideal) u w (ix5 b n h s ⟨(l.val + 8) % 64, by omega⟩)) (val_main_v9 (F := Ideal) u w (ix5 b n h s ⟨l.val - 8, by omega⟩)) := by
  refine Eq.trans ?_ (turned_eq (fun l => val_main_v9 (F := Ideal) u w (ix5 b n h s l)) (fun l => val_main_v21 (F := Ideal) p (ix3 b n l)) l)
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22]

/-- The keys, turned. -/
theorem turned_keys (u : S8192x2048.Idx → EReal) (p : S2x4096.Idx → BitVec 32) (w : S1x2048x10496.Idx → EReal) (b : Fin 2) (n : Fin 4096) (h : Fin 8) (s : Fin 2) (l : Fin 64) :
    val_main_v74 (F := Ideal) u p w (ix5 b n h s l)
      = turned (val_main_v55 (F := Ideal) p (ix3 b n ⟨l.val % 8, by omega⟩)) l.val (val_main_v43 (F := Ideal) u w (ix5 b n h s l))
          (val_main_v43 (F := Ideal) u w (ix5 b n h s ⟨(l.val + 8) % 64, by omega⟩)) (val_main_v43 (F := Ideal) u w (ix5 b n h s ⟨l.val - 8, by omega⟩)) := by
  refine Eq.trans ?_ (turned_eq (fun l => val_main_v43 (F := Ideal) u w (ix5 b n h s l)) (fun l => val_main_v55 (F := Ideal) p (ix3 b n l)) l)
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56]

/-- Two turned entries are one if their angle, place and value are, and their partners are where they count. -/
theorem turned_congr {θ θ' x x' a a' b b' : EReal} {l l' : Nat} (hl : l = l') (hθ : θ = θ') (hx : x = x') (ha : l < 8 → a = a') (hb : 8 ≤ l → b = b') :
    turned θ l x a b = turned θ' l' x' a' b' := by
  subst hl hθ hx
  unfold turned
  by_cases h8 : l < 8
  · rw [if_pos h8, if_pos h8, ha h8]
  · rw [if_neg h8, if_neg h8, hb (by omega)]

/-- The reference's result. -/
theorem reference_out (u : S8192x2048.Idx → EReal) (p : S2x4096.Idx → BitVec 32) (w : S1x2048x10496.Idx → EReal) :
    val_main_v78 (F := Ideal) u p w = roped u p w := by
  funext i
  obtain ⟨r, j, rfl⟩ : ∃ (r : Fin 8192) (j : Fin 2048), i = ix2 r j := ⟨i 0, i 1, by
    funext a
    match a with
    | ⟨0, _⟩ => rfl
    | ⟨1, _⟩ => rfl⟩
  have er : (⟨4096 * (r.val / 4096) + r.val % 4096, by omega⟩ : Fin 8192) = r := Fin.ext (by simp only []; omega)
  pointwise [val_main_v78, val_main_v77, val_main_v76, val_main_v75, val_main_v42, val_main_v41, val_main_cst_1]
  show _ = turned (theta p r (j.val % 8)) (j.val % 64) (proj u w r ⟨j.val, by omega⟩) (proj u w r ⟨j.val + 8, by omega⟩) (proj u w r ⟨j.val - 8, by omega⟩) * scale (j.val / 1024)
  by_cases hj : j.val < 1024
  · have e0 : j.val / 1024 = 0 := by omega
    rw [dif_pos hj, e0, turned_queries, angle_ref, queries_ref, queries_ref, queries_ref]
    simp only [er]
    refine congrArg (· * _) (turned_congr rfl ?_ ?_ (fun hl => ?_) (fun hl => ?_))
    · unfold theta
      refine congrArg (_ * freq ·) ?_
      omega
    all_goals
      refine congrArg (proj u w r) (Fin.ext ?_)
      simp only []
      omega
  · have e0 : j.val / 1024 = 1 := by omega
    have e1 : (j.val - 1024) % 64 = j.val % 64 := by omega
    rw [dif_neg hj, e0, turned_keys, angle_ref', keys_ref, keys_ref, keys_ref]
    simp only [er]
    refine Eq.trans ?_ (mul_one _).symm
    refine turned_congr e1 ?_ ?_ (fun hl => ?_) (fun hl => ?_)
    · unfold theta
      refine congrArg (_ * freq ·) ?_
      omega
    all_goals
      refine congrArg (proj u w r) (Fin.ext ?_)
      simp only []
      omega

/-- The kernel over the reals equals the reference over the reals. -/
theorem algebraic : Cert.algebraic_RopeIdeal_RopeRefIdeal (hRopeIdeal := Cert.RopeIdeal.Gen.facts) (hRopeRefIdeal := Cert.RopeRefIdeal.Gen.facts) := by
  intro m g m' g' _ hin
  refine ⟨fun c => roped (m (c.tc.loc Cert.RopeIdeal.main_arg0)) (m (c.tc.loc Cert.RopeIdeal.main_arg1)) (m (c.tc.loc Cert.RopeIdeal.main_arg2)), ?_, ?_⟩
  · exact (θ_run Cert.RopeIdeal.defs _ _).mono (fun r h c => ⟨(h c).1.trans kernel_out, (h c).2⟩) (Cert.RopeIdeal.Value.run_blocks m g)
  · refine (θ_run defs _ _).mono (fun r h c => ⟨?_, (h c).2⟩) (Cert.RopeRefIdeal.Value.run (F := Ideal) m' g')
    obtain ⟨i0, i1, i2⟩ := hin c
    refine (h c).1.trans ?_
    rw [val_main_v78_eq, i0, i1, i2]
    exact reference_out _ _ _

/-- The printed kernel runs to its end and leaves its arguments as they were. -/
theorem frame : Cert.quiescent_Rope (hRope := Cert.Rope.Gen.facts) := fun m ρ _ => Cert.Rope.Gen.frame m ρ

/-- So does the kernel over the reals. -/
theorem frame_ideal : Cert.quiescent_RopeIdeal (hRopeIdeal := Cert.RopeIdeal.Gen.facts) := fun m ρ _ => Cert.RopeIdeal.Gen.frame m ρ

/-- So does the reference over the reals. -/
theorem frame_reference : Cert.quiescent_RopeRefIdeal (hRopeRefIdeal := Cert.RopeRefIdeal.Gen.facts) :=
  fun m ρ _ => (θ_run defs _ _).mono
    (fun r h => ⟨fun c => (h c).2, sem_eq_zero_of_no_sems (by decide) r.2⟩) (Cert.RopeRefIdeal.Value.run m ρ)

end Cert.Roped

end
-- ==== Proof.Strided.lean ====
/-
  What a list of stores leaves, when each of them stores the values of one function.
-/
module

public import Idealize.ShloMosaic.Lib.Pipeline.FrameBody
public import Idealize.ShloMosaic.Lib.Pipeline.ValueKit

@[expose] public section

noncomputable section

namespace Cert.Strided

open Idealize.ShloMosaic

variable {Val : EltTy → Type} [∀ e, Nonempty (Val e)] {s : Shape} {e : EltTy}

/-- Where every store writes `g`'s own values, an index some store reaches holds `g`'s value, whatever the order. -/
theorem canon_apply (g : s.Idx → Val e) (y : s.Idx) : ∀ L : List (View.Piece Val s e),
    (∀ p ∈ L, ∀ x, p.2 x = g (p.1.emb x)) → (∃ p ∈ L, y ∈ p.1.set) → View.canon L y = g y
  | [], _, h => by obtain ⟨p, hp, _⟩ := h; simp at hp
  | p :: L, hv, h => by
    by_cases hy : y ∈ p.1.set
    · obtain ⟨x, rfl⟩ := p.1.exists_idx_of_mem hy
      exact (View.canon_cons_emb p.1 p.2 L x).trans (hv p (by simp) x)
    · rw [View.canon_cons_of_not_mem p L hy]
      refine canon_apply g y L (fun q hq => hv q (by simp [hq])) ?_
      obtain ⟨q, hq, hyq⟩ := h
      rcases List.mem_cons.mp hq with rfl | hq
      · exact absurd hyq hy
      · exact ⟨q, hq, hyq⟩

/-- A load of the whole buffer reads its contents. -/
theorem readAt_whole {sig : RefSig} {κ sp} (v : View sig κ sp s e) {off : Fin s.rank → Nat} (h : off = fun _ => 0)
    (inb : ∀ a, off a + s.size a ≤ s.size a) (f : v.ty.Contents Val) :
    v.readAt Val (Rect.unit off s.size inb).toLoadRect f = v.read Val f := View.ld_unit_zero h inb _

theorem zero_pair : (![0, 0] : Fin 2 → Nat) = fun _ => 0 := by funext a; fin_cases a <;> rfl

theorem zero_triple : (![0, 0, 0] : Fin 3 → Nat) = fun _ => 0 := by funext a; fin_cases a <;> rfl

end Cert.Strided

end
-- ==== Proof.Modulated.lean ====
/-
  The modulated norm of a row: it is a row of real numbers whenever its scale and its modulation are, whatever the row.
-/
module

public import proofs.«01_k».proof.Proof.Online

@[expose] public section

noncomputable section

namespace Cert.Projected

open Idealize.ShloMosaic

/-- A row's entry over the root of its mean square. -/
def normal (h : Fin 2048 → EReal) (j : Fin 2048) : EReal :=
  h j * Ideal.rsqrt (Ideal.div (∑ k : Fin 2048, h k * h k) (Ideal.ofBits .f32 0x45000000#32) + Ideal.ofBits .f32 0x358637BD#32)

/-- That entry scaled by `g` and modulated by `sc` and `sh`. -/
def modulated (h g sc sh : Fin 2048 → EReal) (j : Fin 2048) : EReal := normal h j * g j * (1 + sc j) + sh j

theorem width_pos : ∃ c : ℝ, 0 < c ∧ Ideal.ofBits .f32 0x45000000#32 = (c : EReal) := by
  refine ⟨8388608 * (2 ^ 12)⁻¹, by positivity, ?_⟩
  simp [Ideal.ofBits, Ideal.ieee]

theorem margin_pos : ∃ c : ℝ, 0 < c ∧ Ideal.ofBits .f32 0x358637BD#32 = (c : EReal) := by
  refine ⟨8796093 * (2 ^ 43)⁻¹, by positivity, ?_⟩
  simp [Ideal.ofBits, Ideal.ieee]

theorem square_nonneg (x : EReal) : 0 ≤ x * x := by
  induction x with
  | bot => simp
  | top => simp
  | coe r => rw [← EReal.coe_mul]; exact_mod_cast mul_self_nonneg r

/-- An infinite entry makes the sum of the squares infinite. -/
theorem squares_top (h : Fin 2048 → EReal) (k : Fin 2048) (e : h k * h k = ⊤) : ∑ k : Fin 2048, h k * h k = ⊤ :=
  top_le_iff.mp (e.symm.le.trans (Finset.single_le_sum (f := fun k => h k * h k) (fun i _ => square_nonneg (h i)) (Finset.mem_univ k)))

/-- Over the root of the mean square an entry is real: an infinite row has an infinite root, so it becomes zero. -/
theorem normal_real (h : Fin 2048 → EReal) (j : Fin 2048) : ∃ r : ℝ, normal h j = (r : EReal) := by
  obtain ⟨c, hc, ec⟩ := width_pos
  obtain ⟨e, he, ee⟩ := margin_pos
  unfold normal
  rw [ec, ee, Ideal.div_coe hc.ne']
  by_cases hr : ∀ k, ∃ r : ℝ, h k = (r : EReal)
  · choose f hf using hr
    have hs : ∑ k : Fin 2048, h k * h k = ((∑ k : Fin 2048, f k * f k : ℝ) : EReal) := by
      rw [Cert.Attn.coe_sum]
      exact Finset.sum_congr rfl fun k _ => by rw [hf k, EReal.coe_mul]
    have hp : 0 < (∑ k : Fin 2048, f k * f k) * (1 / c) + e := by
      have : 0 ≤ ∑ k : Fin 2048, f k * f k := Finset.sum_nonneg fun k _ => mul_self_nonneg _
      positivity
    rw [hs, hf j, ← EReal.coe_mul, ← EReal.coe_add, Ideal.rsqrt_coe, if_neg hp.le.not_gt, if_neg hp.ne', ← EReal.coe_mul]
    exact ⟨_, rfl⟩
  · push Not at hr
    obtain ⟨k, hk⟩ := hr
    have et : h k * h k = ⊤ := by
      generalize h k = x at hk ⊢
      induction x with
      | bot => simp
      | top => simp
      | coe r => exact absurd rfl (hk r)
    have ex : (⊤ : EReal) * ((1 / c : ℝ) : EReal) = ⊤ := EReal.top_mul_coe_of_pos (by positivity)
    rw [squares_top h k et, ex, EReal.top_add_coe, Ideal.rsqrt_top, mul_zero]
    exact ⟨0, rfl⟩

/-- The modulated norm of any row is real where the scale and the modulation are. -/
theorem modulated_real (h g sc sh : Fin 2048 → EReal) (j : Fin 2048) (eg : ((g j).toReal : EReal) = g j) (ec : ((sc j).toReal : EReal) = sc j)
    (es : ((sh j).toReal : EReal) = sh j) : ∃ r : ℝ, modulated h g sc sh j = (r : EReal) := by
  obtain ⟨r, hr⟩ := normal_real h j
  unfold modulated
  rw [hr, ← eg, ← ec, ← es]
  refine ⟨r * (g j).toReal * (1 + (sc j).toReal) + (sh j).toReal, ?_⟩
  push_cast
  rfl

end Cert.Projected

end
-- ==== Proof.OutRunIdeal.lean ====
/-
  The run of the output projection's body over the ideal numbers.
-/
module

public import proofs.«01_k».proof.Proof.Strided
public import proofs.«01_k».proof.Proof.Gen.OutProjIdeal.Frame
public import proofs.«01_k».proof.Proof.Gen.OutProjIdeal.Skeleton
public import Idealize.ShloMosaic.Lib.Claim
public import Idealize.ShloMosaic.Lib.Pointwise
public import Idealize.ShloMosaic.Lib.Pipeline.ValueKit

@[expose] public section

set_option maxRecDepth 16384

noncomputable section

namespace Cert.OutProjIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutProjIdeal.Gen Cert.Strided

variable {F : FTy → Type} [FloatOps F]

/-! ## What the body leaves in its three results -/

/-- The hidden rows: the input rows plus the gated projection. -/
def hiddenRow (x0 : Vec F S512x2048 .bf16) (x1 : Vec F S512x2048 .f32) (x2 : Vec F S1x1x2048 .f32) (x6 : Vec F S2048x2048 .bf16) :
    Vec F S512x2048 .f32 := k0_pay6 x1 x2 x0 x6

/-- Their modulated norm. -/
def normed (x0 : Vec F S512x2048 .bf16) (x1 : Vec F S512x2048 .f32) (x2 : Vec F S1x1x2048 .f32) (x3 : Vec F S1x2048 .f32)
    (x4 : Vec F S1x1x2048 .f32) (x5 : Vec F S1x1x2048 .f32) (x6 : Vec F S2048x2048 .bf16) : Vec F S512x2048 .f32 :=
  k0_pay9 (k0_pay7 x5) (k0_pay8 x1 x2 x0 x6 x3 x4)

/-- The routing scores of the normed rows. -/
def scores (u : Vec F S512x2048 .f32) (x7 x8 : Vec F S2048x128 .bf16) : Vec F S512x128 .f32 := k0_pay5 u x7 x7 x8

/-- Rows of 2048 lanes as sixteen rows of 128 lanes each. -/
def slabs (u : Vec F S512x2048 .f32) : Vec F S8192x128 .f32 := fun y =>
  u (ix2 ⟨(y 0).val / 16, by have := (y 0).isLt; change (y 0).val < 8192 at this; omega⟩
    ⟨128 * ((y 0).val % 16) + (y 1).val, by have := (y 1).isLt; change (y 1).val < 128 at this; omega⟩)

theorem every_inb (j : Fin 16) : ∀ a, S512x128.size a = 0 ∨ (![j.val, 0] : Fin 2 → Nat) a + (![16, 1] : Fin 2 → Nat) a * (S512x128.size a - 1) < S8192x128.size a := by
  revert j; decide

theorem every_pos : ∀ a, 0 < (![16, 1] : Fin 2 → Nat) a := by decide

/-- Every sixteenth row from row `j` on. -/
abbrev every (j : Fin 16) : Rect S8192x128 := ⟨(⟨![j.val, 0], S512x128.size, ![16, 1], every_inb j⟩ : LoadRect S8192x128), every_pos⟩

/-- Lanes `128j … 128j + 127` of rows of 2048. -/
abbrev lanes (u : Vec F S512x2048 .f32) (j : Fin 16) : Vec F S512x128 .f32 :=
  extractStridedSlice S512x128 ![0, 128 * j.val] u (by revert j; decide)

/-- The sixteen stores of the normed rows, the last first. -/
abbrev stores (u : Vec F S512x2048 .f32) : List (View.Piece (Elt F) S8192x128 .f32) :=
  ([15, 14, 13, 12, 11, 10, 9, 8, 7, 6, 5, 4, 3, 2, 1, 0] : List (Fin 16)).map fun j => ⟨every j, lanes u j⟩

theorem mem_stores (u : Vec F S512x2048 .f32) (j : Fin 16) : (⟨every j, lanes u j⟩ : View.Piece (Elt F) S8192x128 .f32) ∈ stores u :=
  List.mem_map.mpr ⟨j, by revert j; decide, rfl⟩

/-- The sixteen stores leave the rows cut into slabs. -/
theorem read_stores {κ sp} (v : View sig κ sp S8192x128 .f32) (f : v.ty.Contents (Elt F)) (u : Vec F S512x2048 .f32) :
    v.read (Elt F) (v.writes (Elt F) f (stores u)) = slabs u := by
  funext y
  have h0 : (y 0).val < 8192 := (y 0).isLt
  have h1 : (y 1).val < 128 := (y 1).isLt
  have hc : ∃ p ∈ stores u, y ∈ p.1.set := by
    refine ⟨_, mem_stores u ⟨(y 0).val % 16, by omega⟩, (LoadRect.mem_set _).mpr (Fin.forall_fin_two.mpr ⟨⟨(y 0).val / 16, ?_, ?_⟩, ⟨(y 1).val, ?_, ?_⟩⟩)⟩
    · show _ < 512; omega
    · show (y 0).val = (y 0).val % 16 + 16 * ((y 0).val / 16); omega
    · exact h1
    · show (y 1).val = 0 + 1 * (y 1).val; omega
  refine (View.read_writes_apply_eq_canon v f y _ hc).trans (Cert.Strided.canon_apply _ y _ (fun p hp x => ?_) hc)
  obtain ⟨j, -, rfl⟩ := List.mem_map.mp hp
  have hx0 : (x 0).val < 512 := (x 0).isLt
  have hx1 : (x 1).val < 128 := (x 1).isLt
  show u _ = u _
  congr 1
  funext a
  revert a
  refine Fin.forall_fin_two.mpr ⟨Fin.ext ?_, Fin.ext ?_⟩
  · show 0 + (x 0).val = (j.val + 16 * (x 0).val) / 16; omega
  · show 128 * j.val + (x 1).val = 128 * ((j.val + 16 * (x 0).val) % 16) + (0 + 1 * (x 1).val); omega

/-! ## The body's run -/

set_option maxHeartbeats 4000000 in
/-- The body on whole buffers: the inputs stay, and the three results hold the hidden rows, the slabs and the scores. -/
theorem sound_kernel (c : Dev nD) (E : Set ℕ) (i : grid0.Coords) (arg1 : Memref sig .tc .vmem S512x2048 .bf16) (harg1 : arg1.IsWhole) (arg2 : Memref sig .tc .vmem S512x2048 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x2048 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S512x2048 .f32) (harg10 : arg10.IsWhole) (arg11 : Memref sig .tc .vmem S8192x128 .f32) (harg11 : arg11.IsWhole) (arg12 : Memref sig .tc .vmem S512x128 .f32) (harg12 : arg12.IsWhole)
    (x0 : Vec F S512x2048 .bf16) (x1 : Vec F S512x2048 .f32) (x2 : Vec F S1x1x2048 .f32) (x3 : Vec F S1x2048 .f32) (x4 : Vec F S1x1x2048 .f32) (x5 : Vec F S1x1x2048 .f32) (x6 : Vec F S2048x2048 .bf16) (x7 : Vec F S2048x128 .bf16) (x8 : Vec F S2048x128 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (hiddenRow x0 x1 x2 x6) ∗ owns (c : Thread nD τ) arg11 fullShare (slabs (normed x0 x1 x2 x3 x4 x5 x6)) ∗ owns (c : Thread nD τ) arg12 fullShare (scores (normed x0 x1 x2 x3 x4 x5 x6) x7 x8)) -∗ K ⟨⟩))
      ⊢ wp frame (wpE (defs₀ (F := F)) Variants.none c none) E (cc0_outproj i arg1 harg1 arg2 harg2 arg3 harg3 arg4 harg4 arg5 harg5 arg6 harg6 arg7 harg7 arg8 harg8 arg9 harg9 arg10 harg10 arg11 harg11 arg12 harg12) K := by
  simp only [cc0_outproj_eq_skeleton]; unfold cc0_outproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (View.cover_of_tiled _ S512x2048.size (by rfl))).trans ((View.canon_unit_zero zero_pair _ _).trans ?_)
    unfold hiddenRow
    simp only [readAt_whole (s := S512x2048) _ zero_pair, readAt_whole (s := S2048x2048) _ zero_pair,
      readAt_whole (s := S1x2048) _ zero_pair, readAt_whole (s := S2048x128) _ zero_pair, readAt_whole (s := S1x1x2048) _ zero_triple]
  isplitl [H10]
  · iexists _; isplitr
    swap; · iexact H10
    ipureintro
    refine Eq.trans (read_stores _ _ (k0_pay9 _ _)) ?_
    show slabs (k0_pay9 (k0_pay7 _) (k0_pay8 _ _ _ _ _ _)) = _
    unfold normed
    simp only [readAt_whole (s := S512x2048) _ zero_pair, readAt_whole (s := S2048x2048) _ zero_pair,
      readAt_whole (s := S1x2048) _ zero_pair, readAt_whole (s := S2048x128) _ zero_pair, readAt_whole (s := S1x1x2048) _ zero_triple]
  iexists _; isplitr
  swap; · iexact H11
  ipureintro
  refine (View.read_writes_eq_canon _ _ _ (View.cover_of_tiled _ S512x128.size (by rfl))).trans ((View.canon_unit_zero zero_pair _ _).trans ?_)
  show k0_pay5 (k0_pay9 (k0_pay7 _) (k0_pay8 _ _ _ _ _ _)) _ _ _ = _
  unfold scores normed
  simp only [readAt_whole (s := S512x2048) _ zero_pair, readAt_whole (s := S2048x2048) _ zero_pair,
      readAt_whole (s := S1x2048) _ zero_pair, readAt_whole (s := S2048x128) _ zero_pair, readAt_whole (s := S1x1x2048) _ zero_triple]

/-! ## The pipeline's data and the body at every point -/

/-- Each input's buffer holds its block after the body; the results hold what the body stored. -/
def dats (m : (ℓ : Loc nD τ sig) → Buf (Elt F) ℓ) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => hiddenRow (iblk m c 0 t) (iblk m c 1 t) (iblk m c 2 t) (iblk m c 6 t)
    | ⟨10, _⟩ => slabs (normed (iblk m c 0 t) (iblk m c 1 t) (iblk m c 2 t) (iblk m c 3 t) (iblk m c 4 t) (iblk m c 5 t) (iblk m c 6 t))
    | ⟨11, _⟩ => scores (normed (iblk m c 0 t) (iblk m c 1 t) (iblk m c 2 t) (iblk m c 3 t) (iblk m c 4 t) (iblk m c 5 t) (iblk m c 6 t)) (iblk m c 7 t) (iblk m c 8 t)
  Φ _ := Pipeline.ΦA spec0 c
  q _ := fullShare
  owed _ := 0

variable (m : (ℓ : Loc nD τ sig) → Buf (Elt F) ℓ) (ρ : Dev nD → PrngReg)

theorem A_eq (c : Dev nD) (w : Fin cfg0.W) : (dats m 0 c).A w = V m c (Pipeline.arrRef spec0 w) := by dsimp only [dats]

/-- What each buffer holds after the body. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_hidden (c : Dev nD) (t : Fin cfg0.N) : (dats m 0 c).after 9 t = hiddenRow (iblk m c 0 t) (iblk m c 1 t) (iblk m c 2 t) (iblk m c 6 t) := by dsimp only [dats]
theorem after_slabs (c : Dev nD) (t : Fin cfg0.N) : (dats m 0 c).after 10 t = slabs (normed (iblk m c 0 t) (iblk m c 1 t) (iblk m c 2 t) (iblk m c 3 t) (iblk m c 4 t) (iblk m c 5 t) (iblk m c 6 t)) := by dsimp only [dats]
theorem after_scores (c : Dev nD) (t : Fin cfg0.N) : (dats m 0 c).after 11 t = scores (normed (iblk m c 0 t) (iblk m c 1 t) (iblk m c 2 t) (iblk m c 3 t) (iblk m c 4 t) (iblk m c 5 t) (iblk m c 6 t)) (iblk m c 7 t) (iblk m c 8 t) := by dsimp only [dats]

/-- Each input's buffer holds its block before the body. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The body at point `t`: from the inputs' blocks to the results' contents, the invariant untouched. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare ((dats m 0 c).before 11 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t)
        ∗ owns (c : Thread nD τ) (st0_5 t) fullShare ((dats m 0 c).after 5 t)
        ∗ owns (c : Thread nD τ) (st0_6 t) fullShare ((dats m 0 c).after 6 t)
        ∗ owns (c : Thread nD τ) (st0_7 t) fullShare ((dats m 0 c).after 7 t)
        ∗ owns (c : Thread nD τ) (st0_8 t) fullShare ((dats m 0 c).after 8 t)
        ∗ owns (c : Thread nD τ) (st0_9 t) fullShare ((dats m 0 c).after 9 t)
        ∗ owns (c : Thread nD τ) (st0_10 t) fullShare ((dats m 0 c).after 10 t)
        ∗ owns (c : Thread nD τ) (st0_11 t) fullShare ((dats m 0 c).after 11 t))) := by
  unfold bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_hidden, after_slabs, after_scores]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- Every execution ends, with every array at what the data says and every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_zero m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_zero m ρ))

end Cert.OutProjIdeal.Hand

end
-- ==== Proof.Projected.lean ====
/-
  The output projection: the hidden rows, their modulated norm and the routing scores.
-/
module

public import proofs.«01_k».proof.Defs
public import proofs.«01_k».proof.Proof.OutRun
public import proofs.«01_k».proof.Proof.Modulated
public import proofs.«01_k».proof.Proof.Pins
public import proofs.«01_k».proof.Proof.OutRunIdeal
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Pre_out_finite
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Projected

open Idealize.ShloMosaic Idealize.SL.Sem
open Cert.OutProjIdeal Cert.OutProjIdeal.Gen Cert.OutProjIdeal.Hand

/-- Entry `(r, j)` of the hidden rows: the input plus the gated projection of the merged branches. -/
def hid (M : S8192x2048.Idx → EReal) (X : S2x4096x2048.Idx → EReal) (G : S2x1x2048.Idx → EReal) (W : S1x2048x2048.Idx → EReal)
    (r : Fin 8192) (j : Fin 2048) : EReal :=
  X (ix3 ⟨r.val / 4096, by omega⟩ ⟨r.val % 4096, by omega⟩ j) + G (ix3 ⟨r.val / 4096, by omega⟩ 0 j) * ∑ k : Fin 2048, M (ix2 r k) * W (ix3 0 k j)

/-- What the rounded routing weights leave of the given ones. -/
def rest (w : S2048x128.Idx → EReal) (k : Fin 2048) (j : Fin 128) : EReal := w (ix2 k j) - w (ix2 k j)

theorem hidden_at (x0 : FVec Ideal S512x2048 .bf16) (x1 : FVec Ideal S512x2048 .f32) (x2 : FVec Ideal S1x1x2048 .f32) (x6 : FVec Ideal S2048x2048 .bf16) (r : Fin 512) (j : Fin 2048) :
    (hiddenRow (F := Ideal) x0 x1 x2 x6 : S512x2048.Idx → EReal) (ix2 r j)
      = (x1 : S512x2048.Idx → EReal) (ix2 r j) + (x2 : S1x1x2048.Idx → EReal) (ix3 0 0 j) * ∑ k : Fin 2048, (x0 : S512x2048.Idx → EReal) (ix2 r k) * (x6 : S2048x2048.Idx → EReal) (ix2 k j) := by
  unfold hiddenRow
  pointwise [k0_pay6]

theorem normed_at (x0 : FVec Ideal S512x2048 .bf16) (x1 : FVec Ideal S512x2048 .f32) (x2 : FVec Ideal S1x1x2048 .f32) (x3 : FVec Ideal S1x2048 .f32)
    (x4 x5 : FVec Ideal S1x1x2048 .f32) (x6 : FVec Ideal S2048x2048 .bf16) (r : Fin 512) (j : Fin 2048) :
    (normed (F := Ideal) x0 x1 x2 x3 x4 x5 x6 : S512x2048.Idx → EReal) (ix2 r j)
      = modulated (fun k => (hiddenRow (F := Ideal) x0 x1 x2 x6 : S512x2048.Idx → EReal) (ix2 r k)) (fun k => (x3 : S1x2048.Idx → EReal) (ix2 0 k))
          (fun k => (x4 : S1x1x2048.Idx → EReal) (ix3 0 0 k)) (fun k => (x5 : S1x1x2048.Idx → EReal) (ix3 0 0 k)) j := by
  unfold normed modulated normal hiddenRow
  pointwise [k0_pay9, k0_pay8, k0_pay7]

theorem scores_at (u : FVec Ideal S512x2048 .f32) (x7 x8 : FVec Ideal S2048x128 .bf16) (r : Fin 512) (j : Fin 128) :
    (scores (F := Ideal) u x7 x8 : S512x128.Idx → EReal) (ix2 r j)
      = (∑ k : Fin 2048, (u : S512x2048.Idx → EReal) (ix2 r k) * (x7 : S2048x128.Idx → EReal) (ix2 k j))
        + (∑ k : Fin 2048, ((u : S512x2048.Idx → EReal) (ix2 r k) - (u : S512x2048.Idx → EReal) (ix2 r k)) * (x7 : S2048x128.Idx → EReal) (ix2 k j))
        + ∑ k : Fin 2048, (u : S512x2048.Idx → EReal) (ix2 r k) * (x8 : S2048x128.Idx → EReal) (ix2 k j) := by
  unfold scores
  pointwise [k0_pay5]

/-- The argument arrays of one device, as functions of their indices. -/
abbrev hidM (m : (ℓ : Loc nD τ sig) → Buf (Elt Ideal) ℓ) (d : Dev nD) : Fin 8192 → Fin 2048 → EReal :=
  hid (m (d.tc.loc main_arg0)) (m (d.tc.loc main_arg1)) (m (d.tc.loc main_arg2)) (m (d.tc.loc main_arg6))

variable {m : (ℓ : Loc nD τ sig) → Buf (Elt Ideal) ℓ} {d : Dev nD}

/-! What the call is given. -/

theorem flat_x (r : Fin 8192) (j : Fin 2048) :
    (V m d main_v0 : S8192x2048.Idx → EReal) (ix2 r j)
      = (m (d.tc.loc main_arg1) : S2x4096x2048.Idx → EReal) (ix3 ⟨r.val / 4096, by omega⟩ ⟨r.val % 4096, by omega⟩ j) := by
  entry_read
  pointwise

theorem scale (j : Fin 2048) :
    (V m d main_v2 : S1x2048.Idx → EReal) (ix2 0 j) = (m (d.tc.loc main_arg3) : S1x2048.Idx → EReal) (ix2 0 j) := by
  entry_read
  pointwise

theorem weights (k j : Fin 2048) :
    (V m d main_v4 : S2048x2048.Idx → EReal) (ix2 k j) = (m (d.tc.loc main_arg6) : S1x2048x2048.Idx → EReal) (ix3 0 k j) := by
  entry_read
  pointwise

theorem route_high (k : Fin 2048) (j : Fin 128) :
    (V m d main_v5 : S2048x128.Idx → EReal) (ix2 k j) = (m (d.tc.loc main_arg7) : S2048x128.Idx → EReal) (ix2 k j) := by
  entry_read
  pointwise

theorem route_low (k : Fin 2048) (j : Fin 128) :
    (V m d main_v8 : S2048x128.Idx → EReal) (ix2 k j)
      = rest (m (d.tc.loc main_arg7)) k j := by
  unfold rest
  entry_read
  pointwise

/-! Where each window's block stands. -/

theorem index0 (t : Fin cfg0.N) : (cfg0.win 0).index t 0 = t.val ∧ (cfg0.win 0).index t 1 = 0 := by
  revert t
  decide +kernel

theorem index1 (t : Fin cfg0.N) : (cfg0.win 1).index t 0 = t.val ∧ (cfg0.win 1).index t 1 = 0 := by
  revert t
  decide +kernel

theorem index2 (t : Fin cfg0.N) : (cfg0.win 2).index t 0 = t.val / 8 ∧ (cfg0.win 2).index t 1 = 0 ∧ (cfg0.win 2).index t 2 = 0 := by
  revert t
  decide +kernel

theorem index3 (t : Fin cfg0.N) : (cfg0.win 3).index t 0 = 0 ∧ (cfg0.win 3).index t 1 = 0 := by
  revert t
  decide +kernel

theorem index4 (t : Fin cfg0.N) : (cfg0.win 4).index t 0 = t.val / 8 ∧ (cfg0.win 4).index t 1 = 0 ∧ (cfg0.win 4).index t 2 = 0 := by
  revert t
  decide +kernel

theorem index5 (t : Fin cfg0.N) : (cfg0.win 5).index t 0 = t.val / 8 ∧ (cfg0.win 5).index t 1 = 0 ∧ (cfg0.win 5).index t 2 = 0 := by
  revert t
  decide +kernel

theorem index6 (t : Fin cfg0.N) : (cfg0.win 6).index t 0 = 0 ∧ (cfg0.win 6).index t 1 = 0 := by
  revert t
  decide +kernel

theorem index7 (t : Fin cfg0.N) : (cfg0.win 7).index t 0 = 0 ∧ (cfg0.win 7).index t 1 = 0 := by
  revert t
  decide +kernel

theorem index8 (t : Fin cfg0.N) : (cfg0.win 8).index t 0 = 0 ∧ (cfg0.win 8).index t 1 = 0 := by
  revert t
  decide +kernel

theorem index9 (t : Fin cfg0.N) : (cfg0.win 9).index t 0 = t.val ∧ (cfg0.win 9).index t 1 = 0 := by
  revert t
  decide +kernel

theorem index10 (t : Fin cfg0.N) : (cfg0.win 10).index t 0 = t.val ∧ (cfg0.win 10).index t 1 = 0 := by
  revert t
  decide +kernel

theorem index11 (t : Fin cfg0.N) : (cfg0.win 11).index t 0 = t.val ∧ (cfg0.win 11).index t 1 = 0 := by
  revert t
  decide +kernel

theorem step_lt (t : Fin cfg0.N) : t.val < 16 := t.isLt

theorem row_lt (t : Fin cfg0.N) (r : Fin 512) : 512 * t.val + r.val < 8192 := by
  have := step_lt t
  omega

/-- Row `r` of step `t`. -/
abbrev row (t : Fin cfg0.N) (r : Fin 512) : Fin 8192 := ⟨512 * t.val + r.val, row_lt t r⟩

/-- The batch entry of a row. -/
abbrev batch (r : Fin 8192) : Fin 2 := ⟨r.val / 4096, by omega⟩

theorem batch_row (t : Fin cfg0.N) (r : Fin 512) : (batch (row t r)).val = t.val / 8 := by
  show (512 * t.val + r.val) / 4096 = t.val / 8
  omega

theorem rows_merged (t : Fin cfg0.N) (r : Fin 512) (k : Fin 2048) :
    (iblk m d 0 t : S512x2048.Idx → EReal) (ix2 r k) = (m (d.tc.loc main_arg0) : S8192x2048.Idx → EReal) (ix2 (row t r) k) := by
  obtain ⟨e0, e1⟩ := index0 t
  rw [← V_main_arg0 m d]
  blk_ext [iblk, e0, e1]

theorem rows_x (t : Fin cfg0.N) (r : Fin 512) (k : Fin 2048) :
    (iblk m d 1 t : S512x2048.Idx → EReal) (ix2 r k) = (V m d main_v0 : S8192x2048.Idx → EReal) (ix2 (row t r) k) := by
  obtain ⟨e0, e1⟩ := index1 t
  blk_ext [iblk, e0, e1]

theorem gates (t : Fin cfg0.N) (r : Fin 512) (k : Fin 2048) :
    (iblk m d 2 t : S1x1x2048.Idx → EReal) (ix3 0 0 k) = (m (d.tc.loc main_arg2) : S2x1x2048.Idx → EReal) (ix3 (batch (row t r)) 0 k) := by
  obtain ⟨e0, e1, e2⟩ := index2 t
  have eb := batch_row t r
  rw [← V_main_arg2 m d]
  blk_ext [iblk, e0, e1, e2, eb]

theorem scales (t : Fin cfg0.N) (k : Fin 2048) :
    (iblk m d 3 t : S1x2048.Idx → EReal) (ix2 0 k) = (V m d main_v2 : S1x2048.Idx → EReal) (ix2 0 k) := by
  obtain ⟨e0, e1⟩ := index3 t
  blk_ext [iblk, e0, e1]

theorem gains (t : Fin cfg0.N) (r : Fin 512) (k : Fin 2048) :
    (iblk m d 4 t : S1x1x2048.Idx → EReal) (ix3 0 0 k) = (m (d.tc.loc main_arg4) : S2x1x2048.Idx → EReal) (ix3 (batch (row t r)) 0 k) := by
  obtain ⟨e0, e1, e2⟩ := index4 t
  have eb := batch_row t r
  rw [← V_main_arg4 m d]
  blk_ext [iblk, e0, e1, e2, eb]

theorem shifts (t : Fin cfg0.N) (r : Fin 512) (k : Fin 2048) :
    (iblk m d 5 t : S1x1x2048.Idx → EReal) (ix3 0 0 k) = (m (d.tc.loc main_arg5) : S2x1x2048.Idx → EReal) (ix3 (batch (row t r)) 0 k) := by
  obtain ⟨e0, e1, e2⟩ := index5 t
  have eb := batch_row t r
  rw [← V_main_arg5 m d]
  blk_ext [iblk, e0, e1, e2, eb]

theorem whole_weights (t : Fin cfg0.N) (k j : Fin 2048) :
    (iblk m d 6 t : S2048x2048.Idx → EReal) (ix2 k j) = (V m d main_v4 : S2048x2048.Idx → EReal) (ix2 k j) := by
  obtain ⟨e0, e1⟩ := index6 t
  blk_ext [iblk, e0, e1]

theorem whole_high (t : Fin cfg0.N) (k : Fin 2048) (j : Fin 128) :
    (iblk m d 7 t : S2048x128.Idx → EReal) (ix2 k j) = (V m d main_v5 : S2048x128.Idx → EReal) (ix2 k j) := by
  obtain ⟨e0, e1⟩ := index7 t
  blk_ext [iblk, e0, e1]

theorem whole_low (t : Fin cfg0.N) (k : Fin 2048) (j : Fin 128) :
    (iblk m d 8 t : S2048x128.Idx → EReal) (ix2 k j) = (V m d main_v8 : S2048x128.Idx → EReal) (ix2 k j) := by
  obtain ⟨e0, e1⟩ := index8 t
  blk_ext [iblk, e0, e1]

/-- Entry `(r, j)` of the modulated norm of the hidden rows. -/
def nrm (M : S8192x2048.Idx → EReal) (X : S2x4096x2048.Idx → EReal) (G : S2x1x2048.Idx → EReal) (g : S1x2048.Idx → EReal) (sc sh : S2x1x2048.Idx → EReal)
    (W : S1x2048x2048.Idx → EReal) (r : Fin 8192) : Fin 2048 → EReal :=
  modulated (hid M X G W r) (fun k => g (ix2 0 k)) (fun k => sc (ix3 (batch r) 0 k)) (fun k => sh (ix3 (batch r) 0 k))

/-- The hidden rows the kernel returns. -/
def hidOut (M : S8192x2048.Idx → EReal) (X : S2x4096x2048.Idx → EReal) (G : S2x1x2048.Idx → EReal) (W : S1x2048x2048.Idx → EReal) :
    S8192x2048.Idx → EReal := fun i => hid M X G W (i 0) (i 1)

/-- Their modulated norm, each row cut into sixteen rows of 128 lanes. -/
def nrmOut (M : S8192x2048.Idx → EReal) (X : S2x4096x2048.Idx → EReal) (G : S2x1x2048.Idx → EReal) (g : S1x2048.Idx → EReal) (sc sh : S2x1x2048.Idx → EReal)
    (W : S1x2048x2048.Idx → EReal) : S131072x128.Idx → EReal :=
  fun i => nrm M X G g sc sh W ⟨(i 0).val / 16, by have : (i 0).val < 131072 := (i 0).isLt; omega⟩
    ⟨128 * ((i 0).val % 16) + (i 1).val, by have : (i 1).val < 128 := (i 1).isLt; omega⟩

/-- The routing scores. -/
def routeOut (M : S8192x2048.Idx → EReal) (X : S2x4096x2048.Idx → EReal) (G : S2x1x2048.Idx → EReal) (g : S1x2048.Idx → EReal) (sc sh : S2x1x2048.Idx → EReal)
    (W : S1x2048x2048.Idx → EReal) (R : S2048x128.Idx → EReal) : S8192x128.Idx → EReal :=
  fun i => ∑ k : Fin 2048, nrm M X G g sc sh W (i 0) k * R (ix2 k (i 1))

/-- The modulated norm of the arguments of one device. -/
abbrev nrmM (m : (ℓ : Loc nD τ sig) → Buf (Elt Ideal) ℓ) (d : Dev nD) : Fin 8192 → Fin 2048 → EReal :=
  nrm (m (d.tc.loc main_arg0)) (m (d.tc.loc main_arg1)) (m (d.tc.loc main_arg2)) (m (d.tc.loc main_arg3)) (m (d.tc.loc main_arg4)) (m (d.tc.loc main_arg5)) (m (d.tc.loc main_arg6))

/-- The hidden rows of step `t`. -/
theorem step_hidden (t : Fin cfg0.N) (r : Fin 512) (j : Fin 2048) :
    (hiddenRow (F := Ideal) (iblk m d 0 t) (iblk m d 1 t) (iblk m d 2 t) (iblk m d 6 t) : S512x2048.Idx → EReal) (ix2 r j) = hidM m d (row t r) j := by
  refine (hidden_at _ _ _ _ r j).trans ?_
  rw [rows_x, flat_x, gates t r]
  refine congrArg (fun z : EReal => (_ : EReal) + (_ : EReal) * z) (Finset.sum_congr rfl fun k _ => ?_)
  rw [rows_merged, whole_weights, weights]

/-- The modulated norm of step `t`. -/
theorem step_normed (t : Fin cfg0.N) (r : Fin 512) (j : Fin 2048) :
    (normed (F := Ideal) (iblk m d 0 t) (iblk m d 1 t) (iblk m d 2 t) (iblk m d 3 t) (iblk m d 4 t) (iblk m d 5 t) (iblk m d 6 t) : S512x2048.Idx → EReal) (ix2 r j)
      = nrmM m d (row t r) j := by
  refine (normed_at _ _ _ _ _ _ _ r j).trans ?_
  simp only [step_hidden, fun k => (scales (m := m) (d := d) t k).trans (scale k), gains t r, shifts t r]
  rfl

/-- What the proof needs of the arguments: real numbers where the modulated norm and the routing read them. -/
structure Real (m : (ℓ : Loc nD τ sig) → Buf (Elt Ideal) ℓ) (d : Dev nD) : Prop where
  scale : ∀ k : Fin 2048, (((m (d.tc.loc main_arg3) : S1x2048.Idx → EReal) (ix2 0 k)).toReal : EReal) = (m (d.tc.loc main_arg3) : S1x2048.Idx → EReal) (ix2 0 k)
  gain : ∀ (b : Fin 2) (k : Fin 2048), (((m (d.tc.loc main_arg4) : S2x1x2048.Idx → EReal) (ix3 b 0 k)).toReal : EReal) = (m (d.tc.loc main_arg4) : S2x1x2048.Idx → EReal) (ix3 b 0 k)
  shift : ∀ (b : Fin 2) (k : Fin 2048), (((m (d.tc.loc main_arg5) : S2x1x2048.Idx → EReal) (ix3 b 0 k)).toReal : EReal) = (m (d.tc.loc main_arg5) : S2x1x2048.Idx → EReal) (ix3 b 0 k)
  route : ∀ (k : Fin 2048) (j : Fin 128), (((m (d.tc.loc main_arg7) : S2048x128.Idx → EReal) (ix2 k j)).toReal : EReal) = (m (d.tc.loc main_arg7) : S2048x128.Idx → EReal) (ix2 k j)

/-- A real number less itself. -/
theorem sub_self_real {x : EReal} (h : ∃ r : ℝ, x = (r : EReal)) : x - x = 0 := by
  obtain ⟨r, rfl⟩ := h
  rw [← EReal.coe_sub, _root_.sub_self]
  rfl

/-- The scores of step `t`: both rounding remainders are zero. -/
theorem step_scores (hr : Real m d) (t : Fin cfg0.N) (r : Fin 512) (j : Fin 128) :
    (scores (F := Ideal) (normed (F := Ideal) (iblk m d 0 t) (iblk m d 1 t) (iblk m d 2 t) (iblk m d 3 t) (iblk m d 4 t) (iblk m d 5 t) (iblk m d 6 t)) (iblk m d 7 t) (iblk m d 8 t) : S512x128.Idx → EReal) (ix2 r j)
      = ∑ k : Fin 2048, nrmM m d (row t r) k * (m (d.tc.loc main_arg7) : S2048x128.Idx → EReal) (ix2 k j) := by
  have hu : ∀ k, nrmM m d (row t r) k - nrmM m d (row t r) k = 0 := fun k =>
    sub_self_real (modulated_real _ _ _ _ k (hr.scale k) (hr.gain _ k) (hr.shift _ k))
  have hw : ∀ k, rest (m (d.tc.loc main_arg7)) k j = 0 := fun k => sub_self_real ⟨_, (hr.route k j).symm⟩
  refine (scores_at _ _ _ r j).trans ?_
  simp only [step_normed, fun k j => (whole_high (m := m) (d := d) t k j).trans (route_high k j), fun k j => (whole_low (m := m) (d := d) t k j).trans (route_low k j), hu, hw, zero_mul, mul_zero, Finset.sum_const_zero, add_zero]

/-- The precondition's reading. -/
theorem real_of_finite (h : Cert.Pre_OutProjIdeal_out_finite (hPre_out_finite := Cert.Pre_out_finite.Gen.facts) m) : Real m d := by
  have e2 := Cert.Attn.andi_both (congrFun (h d) (fun a => a.elim0))
  have e1 := Cert.Attn.andi_both e2.1
  have e0 := Cert.Attn.andi_both e1.1
  refine ⟨fun k => ?_, fun b k => ?_, fun b k => ?_, fun k j => ?_⟩
  · refine Cert.Attn.coe_of_abs_lt ((?_ : _ = _).trans (Host.reduce_andi_all _ _ _ _ _ e0.1 (ix2 0 k)))
    pointwise
    rfl
  · refine Cert.Attn.coe_of_abs_lt ((?_ : _ = _).trans (Host.reduce_andi_all _ _ _ _ _ e0.2 (ix3 b 0 k)))
    pointwise
    rfl
  · refine Cert.Attn.coe_of_abs_lt ((?_ : _ = _).trans (Host.reduce_andi_all _ _ _ _ _ e1.2 (ix3 b 0 k)))
    pointwise
    rfl
  · refine Cert.Attn.coe_of_abs_lt ((?_ : _ = _).trans (Host.reduce_andi_all _ _ _ _ _ e2.2 (ix2 k j)))
    pointwise
    rfl

theorem slab_lt (t : Fin cfg0.N) (q : Fin 8192) : 8192 * t.val + q.val < 131072 := by
  have := step_lt t
  omega

/-- The hidden rows the call returns. -/
theorem kernel_hidden :
    (dats m 0 d).arrAt 9 cfg0.N = hidOut (m (d.tc.loc main_arg0)) (m (d.tc.loc main_arg1)) (m (d.tc.loc main_arg2)) (m (d.tc.loc main_arg6)) := by
  refine (dats m 0 d).arrAt_eq_of_covers 9 _ (by decide +kernel) fun t hf y => ?_
  obtain ⟨e0, e1⟩ := index9 t
  have ey : y = (ix2 (y 0) (y 1) : S512x2048.Idx) := by
    funext a
    match a with
    | ⟨0, _⟩ => rfl
    | ⟨1, _⟩ => rfl
  have g0 : (((cfg0.win 9).blk t).view.emb y 0 : ℕ) = 512 * t.val + (y 0).val := by
    blk_simp [e0]
    omega
  have g1 : (((cfg0.win 9).blk t).view.emb y 1 : ℕ) = (y 1).val := by
    blk_simp [e1]
  have ez : (ix2 (row t (y 0)) (y 1) : S8192x2048.Idx) = ((cfg0.win 9).blk t).view.emb y := by
    funext a
    match a with
    | ⟨0, _⟩ => exact Fin.ext g0.symm
    | ⟨1, _⟩ => exact Fin.ext g1.symm
  have h := step_hidden (m := m) (d := d) t (y 0) (y 1)
  have h' : hidM m d (row t (y 0)) (y 1) = hidOut (m (d.tc.loc main_arg0)) (m (d.tc.loc main_arg1)) (m (d.tc.loc main_arg2)) (m (d.tc.loc main_arg6)) (ix2 (row t (y 0)) (y 1)) := rfl
  rw [h', ez, ← ey] at h
  blk_simp
  rw [after_hidden]
  exact h

/-- The slabs of the modulated norm the call returns. -/
theorem kernel_slabs :
    (dats m 0 d).arrAt 10 cfg0.N = nrmOut (m (d.tc.loc main_arg0)) (m (d.tc.loc main_arg1)) (m (d.tc.loc main_arg2)) (m (d.tc.loc main_arg3)) (m (d.tc.loc main_arg4)) (m (d.tc.loc main_arg5)) (m (d.tc.loc main_arg6)) := by
  refine (dats m 0 d).arrAt_eq_of_covers 10 _ (by decide +kernel) fun t hf y => ?_
  obtain ⟨e0, e1⟩ := index10 t
  have y0 : (y 0).val < 8192 := (y 0).isLt
  have y1 : (y 1).val < 128 := (y 1).isLt
  have g0 : (((cfg0.win 10).blk t).view.emb y 0 : ℕ) = 8192 * t.val + (y 0).val := by
    blk_simp [e0]
    omega
  have g1 : (((cfg0.win 10).blk t).view.emb y 1 : ℕ) = (y 1).val := by
    blk_simp [e1]
  have h := step_normed (m := m) (d := d) t ⟨(y 0).val / 16, by omega⟩ ⟨128 * ((y 0).val % 16) + (y 1).val, by omega⟩
  have h' : nrmM m d (row t ⟨(y 0).val / 16, by omega⟩) ⟨128 * ((y 0).val % 16) + (y 1).val, by omega⟩
      = nrmOut (m (d.tc.loc main_arg0)) (m (d.tc.loc main_arg1)) (m (d.tc.loc main_arg2)) (m (d.tc.loc main_arg3)) (m (d.tc.loc main_arg4)) (m (d.tc.loc main_arg5)) (m (d.tc.loc main_arg6))
          (((cfg0.win 10).blk t).view.emb y) := by
    unfold nrmOut
    refine congrArg₂ (nrmM m d) (Fin.ext ?_) (Fin.ext ?_)
    · show 512 * t.val + (y 0).val / 16 = (((cfg0.win 10).blk t).view.emb y 0 : ℕ) / 16
      rw [g0]
      omega
    · show 128 * ((y 0).val % 16) + (y 1).val = 128 * ((((cfg0.win 10).blk t).view.emb y 0 : ℕ) % 16) + (((cfg0.win 10).blk t).view.emb y 1 : ℕ)
      rw [g0, g1]
      omega
  rw [h'] at h
  blk_simp
  rw [after_slabs]
  exact h

/-- The routing scores the call returns. -/
theorem kernel_scores (hr : Real m d) :
    (dats m 0 d).arrAt 11 cfg0.N = routeOut (m (d.tc.loc main_arg0)) (m (d.tc.loc main_arg1)) (m (d.tc.loc main_arg2)) (m (d.tc.loc main_arg3)) (m (d.tc.loc main_arg4)) (m (d.tc.loc main_arg5)) (m (d.tc.loc main_arg6)) (m (d.tc.loc main_arg7)) := by
  refine (dats m 0 d).arrAt_eq_of_covers 11 _ (by decide +kernel) fun t hf y => ?_
  obtain ⟨e0, e1⟩ := index11 t
  have ey : y = (ix2 (y 0) (y 1) : S512x128.Idx) := by
    funext a
    match a with
    | ⟨0, _⟩ => rfl
    | ⟨1, _⟩ => rfl
  have g0 : (((cfg0.win 11).blk t).view.emb y 0 : ℕ) = 512 * t.val + (y 0).val := by
    blk_simp [e0]
    omega
  have g1 : (((cfg0.win 11).blk t).view.emb y 1 : ℕ) = (y 1).val := by
    blk_simp [e1]
  have ez : (ix2 (row t (y 0)) (y 1) : S8192x128.Idx) = ((cfg0.win 11).blk t).view.emb y := by
    funext a
    match a with
    | ⟨0, _⟩ => exact Fin.ext g0.symm
    | ⟨1, _⟩ => exact Fin.ext g1.symm
  have h := step_scores hr t (y 0) (y 1)
  have h' : ∑ k : Fin 2048, nrmM m d (row t (y 0)) k * (m (d.tc.loc main_arg7) : S2048x128.Idx → EReal) (ix2 k (y 1))
      = routeOut (m (d.tc.loc main_arg0)) (m (d.tc.loc main_arg1)) (m (d.tc.loc main_arg2)) (m (d.tc.loc main_arg3)) (m (d.tc.loc main_arg4)) (m (d.tc.loc main_arg5)) (m (d.tc.loc main_arg6)) (m (d.tc.loc main_arg7))
          (ix2 (row t (y 0)) (y 1)) := rfl
  rw [h', ez, ← ey] at h
  blk_simp
  rw [after_scores]
  exact h

open Cert.OutProjRefIdeal.Read in
/-- The reference's hidden rows. -/
theorem reference_hidden (M : S8192x2048.Idx → EReal) (X : S2x4096x2048.Idx → EReal) (G : S2x1x2048.Idx → EReal) (W : S1x2048x2048.Idx → EReal) (b : Fin 2) (s : Fin 4096) (j : Fin 2048) :
    val_main_v6 (F := Ideal) M X G W (ix3 b s j) = hid M X G W ⟨4096 * b.val + s.val, by omega⟩ j := by
  have eb : (4096 * b.val + s.val) / 4096 = b.val := by omega
  have es : (4096 * b.val + s.val) % 4096 = s.val := by omega
  have ex : b.val * 4096 + s.val = 4096 * b.val + s.val := by omega
  pointwise [val_main_v6, val_main_v5, val_main_v4, val_main_v3, val_main_v2, val_main_v1, val_main_v0, hid]
  simp only [eb, es, ex, Fin.eta]

open Cert.OutProjRefIdeal.Read in
/-- The reference's modulated norm. -/
theorem reference_normed (M : S8192x2048.Idx → EReal) (X : S2x4096x2048.Idx → EReal) (G : S2x1x2048.Idx → EReal) (g : S1x2048.Idx → EReal) (sc sh : S2x1x2048.Idx → EReal)
    (W : S1x2048x2048.Idx → EReal) (b : Fin 2) (s : Fin 4096) (j : Fin 2048) :
    val_main_v26 (F := Ideal) M X G g sc sh W (ix3 b s j) = nrm M X G g sc sh W ⟨4096 * b.val + s.val, by omega⟩ j := by
  have eb : batch ⟨4096 * b.val + s.val, by omega⟩ = b := Fin.ext (by show (4096 * b.val + s.val) / 4096 = b.val; omega)
  unfold nrm modulated normal
  simp only [eb, ← reference_hidden]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, val_main_cst_2]

open Cert.OutProjRefIdeal.Read in
/-- The hidden rows the reference returns. -/
theorem reference_hidOut (M : S8192x2048.Idx → EReal) (X : S2x4096x2048.Idx → EReal) (G : S2x1x2048.Idx → EReal) (W : S1x2048x2048.Idx → EReal) :
    val_main_v28 (F := Ideal) M X G W = hidOut M X G W := by
  funext i
  have hi : (i 0).val < 8192 := (i 0).isLt
  have e : val_main_v28 (F := Ideal) M X G W i = val_main_v6 (F := Ideal) M X G W (ix3 ⟨(i 0).val / 4096, by omega⟩ ⟨(i 0).val % 4096, by omega⟩ (i 1)) := by
    pointwise [val_main_v28]
  refine e.trans ((reference_hidden M X G W _ _ _).trans ?_)
  exact congrArg (hid M X G W · (i 1)) (Fin.ext (by show 4096 * ((i 0).val / 4096) + (i 0).val % 4096 = (i 0).val; omega))

open Cert.OutProjRefIdeal.Read in
/-- The modulated norm the reference returns. -/
theorem reference_nrmOut (M : S8192x2048.Idx → EReal) (X : S2x4096x2048.Idx → EReal) (G : S2x1x2048.Idx → EReal) (g : S1x2048.Idx → EReal) (sc sh : S2x1x2048.Idx → EReal)
    (W : S1x2048x2048.Idx → EReal) : val_main_v29 (F := Ideal) M X G g sc sh W = nrmOut M X G g sc sh W := by
  funext i
  have hi : (i 0).val < 131072 := (i 0).isLt
  have hj : (i 1).val < 128 := (i 1).isLt
  have e : val_main_v29 (F := Ideal) M X G g sc sh W i
      = val_main_v26 (F := Ideal) M X G g sc sh W (ix3 ⟨(i 0).val / 65536, by omega⟩ ⟨(i 0).val / 16 % 4096, by omega⟩ ⟨128 * ((i 0).val % 16) + (i 1).val, by omega⟩) := by
    rw [val_main_v29_apply]
    refine congrArg (val_main_v26 (F := Ideal) M X G g sc sh W) (funext fun a => Fin.ext ?_)
    match a with
    | ⟨0, _⟩ =>
      show ((i 0).val * 128 + (i 1).val) / 8388608 = (i 0).val / 65536
      omega
    | ⟨1, _⟩ =>
      show ((i 0).val * 128 + (i 1).val) / 2048 % 4096 = (i 0).val / 16 % 4096
      omega
    | ⟨2, _⟩ =>
      show ((i 0).val * 128 + (i 1).val) % 2048 = 128 * ((i 0).val % 16) + (i 1).val
      omega
  refine e.trans ((reference_normed M X G g sc sh W _ _ _).trans ?_)
  exact congrArg (nrm M X G g sc sh W · _) (Fin.ext (by show 4096 * ((i 0).val / 65536) + (i 0).val / 16 % 4096 = (i 0).val / 16; omega))

open Cert.OutProjRefIdeal.Read in
/-- The scores the reference returns. -/
theorem reference_routeOut (M : S8192x2048.Idx → EReal) (X : S2x4096x2048.Idx → EReal) (G : S2x1x2048.Idx → EReal) (g : S1x2048.Idx → EReal) (sc sh : S2x1x2048.Idx → EReal)
    (W : S1x2048x2048.Idx → EReal) (R : S2048x128.Idx → EReal) : val_main_v30 (F := Ideal) M X G g sc sh W R = routeOut M X G g sc sh W R := by
  funext i
  have hi : (i 0).val < 8192 := (i 0).isLt
  have e : val_main_v30 (F := Ideal) M X G g sc sh W R i
      = ∑ k : Fin 2048, val_main_v26 (F := Ideal) M X G g sc sh W (ix3 ⟨(i 0).val / 4096, by omega⟩ ⟨(i 0).val % 4096, by omega⟩ k) * R (ix2 k (i 1)) := by
    pointwise [val_main_v30, val_main_v27]
  rw [e]
  refine Finset.sum_congr rfl fun k _ => ?_
  rw [reference_normed]
  exact congrArg (nrm M X G g sc sh W · k * _) (Fin.ext (by show 4096 * ((i 0).val / 4096) + (i 0).val % 4096 = (i 0).val; omega))

/-- The kernel over the reals equals the reference over the reals. -/
theorem algebraic : Cert.algebraic_OutProjIdeal_OutProjRefIdeal_pre_out_finite (hOutProjIdeal := Cert.OutProjIdeal.Gen.facts) (hOutProjRefIdeal := Cert.OutProjRefIdeal.Gen.facts)
    (hPre_out_finite := Cert.Pre_out_finite.Gen.facts) := by
  intro m g m' g' hp hin
  refine ⟨fun c => hidOut (m (c.tc.loc main_arg0)) (m (c.tc.loc main_arg1)) (m (c.tc.loc main_arg2)) (m (c.tc.loc main_arg6)),
    fun c => nrmOut (m (c.tc.loc main_arg0)) (m (c.tc.loc main_arg1)) (m (c.tc.loc main_arg2)) (m (c.tc.loc main_arg3)) (m (c.tc.loc main_arg4)) (m (c.tc.loc main_arg5)) (m (c.tc.loc main_arg6)),
    fun c => routeOut (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)), ?_, ?_⟩
  · refine (θ_run defs _ _).mono (fun r h c => ⟨?_, ?_, ?_, h.2.1 c⟩) (θ_run_and (Hand.run m g) (Hand.frame m g))
    · exact ((h.1 c).1 9).trans kernel_hidden
    · exact ((h.1 c).1 10).trans kernel_slabs
    · exact ((h.1 c).1 11).trans (kernel_scores (real_of_finite hp))
  · refine (θ_run Cert.OutProjRefIdeal.defs _ _).mono (fun r h c => ⟨?_, ?_, ?_, (h c).2.2.2⟩) (Cert.OutProjRefIdeal.Value.run (F := Ideal) m' g')
    all_goals obtain ⟨i0, i1, i2, i3, i4, i5, i6, i7⟩ := hin c
    · refine (h c).1.trans ?_
      rw [Cert.OutProjRefIdeal.Read.val_main_v28_eq, i0, i1, i2, i6]
      exact reference_hidOut _ _ _ _
    · refine (h c).2.1.trans ?_
      rw [Cert.OutProjRefIdeal.Read.val_main_v29_eq, i0, i1, i2, i3, i4, i5, i6]
      exact reference_nrmOut _ _ _ _ _ _ _
    · refine (h c).2.2.1.trans ?_
      rw [Cert.OutProjRefIdeal.Read.val_main_v30_eq, i0, i1, i2, i3, i4, i5, i6, i7]
      exact reference_routeOut _ _ _ _ _ _ _ _

/-- The printed kernel runs to its end and leaves its arguments as they were. -/
theorem frame : Cert.quiescent_OutProj (hOutProj := Cert.OutProj.Gen.facts) := fun m ρ _ => Cert.OutProj.Hand.frame m ρ

/-- So does the kernel over the reals. -/
theorem frame_ideal : Cert.quiescent_OutProjIdeal (hOutProjIdeal := Cert.OutProjIdeal.Gen.facts) := fun m ρ _ => Hand.frame m ρ

/-- And from finite data. -/
theorem frame_ideal_finite : Cert.quiescent_OutProjIdeal_pre_out_finite (hOutProjIdeal := Cert.OutProjIdeal.Gen.facts) (hPre_out_finite := Cert.Pre_out_finite.Gen.facts) :=
  fun m ρ _ => Hand.frame m ρ

/-- So does the reference over the reals. -/
theorem frame_reference : Cert.quiescent_OutProjRefIdeal (hOutProjRefIdeal := Cert.OutProjRefIdeal.Gen.facts) :=
  fun m ρ _ => (θ_run Cert.OutProjRefIdeal.defs _ _).mono
    (fun r h => ⟨fun c => (h c).2.2.2, sem_eq_zero_of_no_sems (by decide) r.2⟩) (Cert.OutProjRefIdeal.Value.run m ρ)

/-- And from finite data. -/
theorem frame_reference_finite : Cert.quiescent_OutProjRefIdeal_pre_out_finite (hOutProjRefIdeal := Cert.OutProjRefIdeal.Gen.facts) (hPre_out_finite := Cert.Pre_out_finite.Gen.facts) :=
  fun m ρ _ => (θ_run Cert.OutProjRefIdeal.defs _ _).mono
    (fun r h => ⟨fun c => (h c).2.2.2, sem_eq_zero_of_no_sems (by decide) r.2⟩) (Cert.OutProjRefIdeal.Value.run m ρ)

end Cert.Projected

end
-- ==== Proof.Normed.lean ====
/-
  The norm before the projections: every step normalises and modulates 512 rows.
-/
module

public import proofs.«01_k».proof.Defs
public import proofs.«01_k».proof.Proof.Modulated
public import proofs.«01_k».proof.Proof.Gen.Norm
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Normed

open Idealize.ShloMosaic Idealize.SL.Sem
open Cert.NormIdeal Cert.NormIdeal.Gen Cert.NormIdeal.Value
open Cert.Projected (modulated normal)

/-- The batch entry of a row, and its place in the sequence. -/
abbrev batch (r : Fin 8192) : Fin 2 := ⟨r.val / 4096, by omega⟩
abbrev place (r : Fin 8192) : Fin 4096 := ⟨r.val % 4096, by omega⟩

/-- Every row's modulated norm. -/
def normed (x : S2x4096x2048.Idx → EReal) (g : S1x2048.Idx → EReal) (sc sh : S2x1x2048.Idx → EReal) : S8192x2048.Idx → EReal := fun i =>
  modulated (fun k => x (ix3 (batch (i 0)) (place (i 0)) k)) (fun k => g (ix2 0 k)) (fun k => sc (ix3 (batch (i 0)) 0 k)) (fun k => sh (ix3 (batch (i 0)) 0 k)) (i 1)

variable {m : (ℓ : Loc nD τ sig) → Buf (Elt Ideal) ℓ} {d : Dev nD}

/-- The rows the call is given. -/
theorem flat_x (r : Fin 8192) (j : Fin 2048) :
    (V m d main_v0 : S8192x2048.Idx → EReal) (ix2 r j) = (m (d.tc.loc main_arg0) : S2x4096x2048.Idx → EReal) (ix3 (batch r) (place r) j) := by
  entry_read
  pointwise

/-- The scale the call is given. -/
theorem scale (j : Fin 2048) :
    (V m d main_v2 : S1x2048.Idx → EReal) (ix2 0 j) = (m (d.tc.loc main_arg1) : S1x2048.Idx → EReal) (ix2 0 j) := by
  entry_read
  pointwise

/-! Where each window's block stands. -/

theorem index0 (t : Fin cfg0.N) : (cfg0.win 0).index t 0 = t.val ∧ (cfg0.win 0).index t 1 = 0 := by
  revert t
  decide +kernel

theorem index1 (t : Fin cfg0.N) : (cfg0.win 1).index t 0 = 0 ∧ (cfg0.win 1).index t 1 = 0 := by
  revert t
  decide +kernel

theorem index2 (t : Fin cfg0.N) : (cfg0.win 2).index t 0 = t.val / 8 ∧ (cfg0.win 2).index t 1 = 0 ∧ (cfg0.win 2).index t 2 = 0 := by
  revert t
  decide +kernel

theorem index3 (t : Fin cfg0.N) : (cfg0.win 3).index t 0 = t.val / 8 ∧ (cfg0.win 3).index t 1 = 0 ∧ (cfg0.win 3).index t 2 = 0 := by
  revert t
  decide +kernel

theorem index4 (t : Fin cfg0.N) : (cfg0.win 4).index t 0 = t.val ∧ (cfg0.win 4).index t 1 = 0 := by
  revert t
  decide +kernel

theorem row_lt (t : Fin cfg0.N) (r : Fin 512) : 512 * t.val + r.val < 8192 := by
  have : t.val < 16 := t.isLt
  omega

/-- Row `r` of step `t`. -/
abbrev row (t : Fin cfg0.N) (r : Fin 512) : Fin 8192 := ⟨512 * t.val + r.val, row_lt t r⟩

theorem batch_row (t : Fin cfg0.N) (r : Fin 512) : (batch (row t r)).val = t.val / 8 := by
  show (512 * t.val + r.val) / 4096 = t.val / 8
  omega

theorem rows_x (t : Fin cfg0.N) (r : Fin 512) (k : Fin 2048) :
    (iblk m d (0 : Fin 5) t : S512x2048.Idx → EReal) (ix2 r k) = (V m d main_v0 : S8192x2048.Idx → EReal) (ix2 (row t r) k) := by
  obtain ⟨e0, e1⟩ := index0 t
  blk_ext [iblk, e0, e1]

theorem scales (t : Fin cfg0.N) (k : Fin 2048) :
    (iblk m d (1 : Fin 5) t : S1x2048.Idx → EReal) (ix2 0 k) = (V m d main_v2 : S1x2048.Idx → EReal) (ix2 0 k) := by
  obtain ⟨e0, e1⟩ := index1 t
  blk_ext [iblk, e0, e1]

theorem gains (t : Fin cfg0.N) (r : Fin 512) (k : Fin 2048) :
    (iblk m d (2 : Fin 5) t : S1x1x2048.Idx → EReal) (ix3 0 0 k) = (m (d.tc.loc main_arg2) : S2x1x2048.Idx → EReal) (ix3 (batch (row t r)) 0 k) := by
  obtain ⟨e0, e1, e2⟩ := index2 t
  have eb := batch_row t r
  rw [← V_main_arg2 m d]
  blk_ext [iblk, e0, e1, e2, eb]

theorem shifts (t : Fin cfg0.N) (r : Fin 512) (k : Fin 2048) :
    (iblk m d (3 : Fin 5) t : S1x1x2048.Idx → EReal) (ix3 0 0 k) = (m (d.tc.loc main_arg3) : S2x1x2048.Idx → EReal) (ix3 (batch (row t r)) 0 k) := by
  obtain ⟨e0, e1, e2⟩ := index3 t
  have eb := batch_row t r
  rw [← V_main_arg3 m d]
  blk_ext [iblk, e0, e1, e2, eb]

/-- The step's body: an entry of the block it stores. -/
theorem block_at (x : FVec Ideal S512x2048 .f32) (g : FVec Ideal S1x2048 .f32) (sc sh : FVec Ideal S1x1x2048 .f32) (r : Fin 512) (j : Fin 2048) :
    (out0_4 (F := Ideal) x g sc sh : S512x2048.Idx → EReal) (ix2 r j)
      = modulated (fun k => (x : S512x2048.Idx → EReal) (ix2 r k)) (fun k => (g : S1x2048.Idx → EReal) (ix2 0 k))
          (fun k => (sc : S1x1x2048.Idx → EReal) (ix3 0 0 k)) (fun k => (sh : S1x1x2048.Idx → EReal) (ix3 0 0 k)) j := by
  unfold out0_4 modulated normal
  simp only [View.canon_unit_zero (S := S512x2048) (off := ![0, 0]) (by decide), View.ld_unit_zero (S := S512x2048) (off := ![0, 0]) (by decide), View.ld_unit_zero (S := S1x2048) (off := ![0, 0]) (by decide), View.ld_unit_zero (S := S1x1x2048) (off := ![0, 0, 0]) (by decide)]
  pointwise [k0_pay1]

/-- The block step `t` writes is that part of `normed`. -/
theorem block_value (t : Fin cfg0.N) (r : Fin 512) (j : Fin 2048) :
    (out0_4 (F := Ideal) (iblk m d (0 : Fin 5) t) (iblk m d (1 : Fin 5) t) (iblk m d (2 : Fin 5) t) (iblk m d (3 : Fin 5) t) : S512x2048.Idx → EReal) (ix2 r j)
      = normed (m (d.tc.loc main_arg0)) (m (d.tc.loc main_arg1)) (m (d.tc.loc main_arg2)) (m (d.tc.loc main_arg3)) (ix2 (row t r) j) := by
  refine (block_at _ _ _ _ r j).trans ?_
  simp only [fun k => (rows_x (m := m) (d := d) t r k).trans (flat_x (row t r) k), fun k => (scales (m := m) (d := d) t k).trans (scale k), gains t r, shifts t r]
  rfl

/-- The array the kernel returns. -/
theorem kernel_out :
    (dats m 0 d).arrAt 4 cfg0.N = normed (m (d.tc.loc main_arg0)) (m (d.tc.loc main_arg1)) (m (d.tc.loc main_arg2)) (m (d.tc.loc main_arg3)) := by
  refine (dats m 0 d).arrAt_eq_of_covers 4 _ (by decide +kernel) fun t hf y => ?_
  obtain ⟨e0, e1⟩ := index4 t
  have ey : y = (ix2 (y 0) (y 1) : S512x2048.Idx) := by
    funext a
    match a with
    | ⟨0, _⟩ => rfl
    | ⟨1, _⟩ => rfl
  have g0 : (((cfg0.win 4).blk t).view.emb y 0 : ℕ) = 512 * t.val + (y 0).val := by
    blk_simp [e0]
    omega
  have g1 : (((cfg0.win 4).blk t).view.emb y 1 : ℕ) = (y 1).val := by
    blk_simp [e1]
  have ez : (ix2 (row t (y 0)) (y 1) : S8192x2048.Idx) = ((cfg0.win 4).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  rw [after0_4]
  exact h

open Cert.NormRefIdeal.Read in
/-- The reference's result. -/
theorem reference_out (x : S2x4096x2048.Idx → EReal) (g : S1x2048.Idx → EReal) (sc sh : S2x1x2048.Idx → EReal) :
    val_main_v21 (F := Ideal) x g sc sh = normed x g sc sh := by
  funext i
  unfold normed modulated normal
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The kernel over the reals equals the reference over the reals. -/
theorem algebraic : Cert.algebraic_NormIdeal_NormRefIdeal (hNormIdeal := Cert.NormIdeal.Gen.facts) (hNormRefIdeal := Cert.NormRefIdeal.Gen.facts) := by
  intro m g m' g' _ hin
  refine ⟨fun c => normed (m (c.tc.loc main_arg0)) (m (c.tc.loc main_arg1)) (m (c.tc.loc main_arg2)) (m (c.tc.loc main_arg3)), ?_, ?_⟩
  · exact (θ_run defs _ _).mono (fun r h c => ⟨(h c).1.trans kernel_out, (h c).2⟩) (run_blocks m g)
  · refine (θ_run Cert.NormRefIdeal.defs _ _).mono (fun r h c => ⟨?_, (h c).2⟩) (Cert.NormRefIdeal.Value.run (F := Ideal) m' g')
    obtain ⟨i0, i1, i2, i3⟩ := hin c
    refine (h c).1.trans ?_
    rw [Cert.NormRefIdeal.Read.val_main_v21_eq, i0, i1, i2, i3]
    exact reference_out _ _ _ _

/-- The printed kernel runs to its end and leaves its arguments as they were. -/
theorem frame : Cert.quiescent_Norm (hNorm := Cert.Norm.Gen.facts) := fun m ρ _ => Cert.Norm.Gen.frame m ρ

/-- So does the kernel over the reals. -/
theorem frame_ideal : Cert.quiescent_NormIdeal (hNormIdeal := Cert.NormIdeal.Gen.facts) := fun m ρ _ => Cert.NormIdeal.Gen.frame m ρ

/-- So does the reference over the reals. -/
theorem frame_reference : Cert.quiescent_NormRefIdeal (hNormRefIdeal := Cert.NormRefIdeal.Gen.facts) :=
  fun m ρ _ => (θ_run Cert.NormRefIdeal.defs _ _).mono
    (fun r h => ⟨fun c => (h c).2, sem_eq_zero_of_no_sems (by decide) r.2⟩) (Cert.NormRefIdeal.Value.run m ρ)

end Cert.Normed

end
-- ==== Proof.Conditioned.lean ====
/-
  The conditioning: every step computes 1024 columns of the modulation of all eight rows.
-/
module

public import proofs.«01_k».proof.Defs
public import proofs.«01_k».proof.Proof.Merged
public import proofs.«01_k».proof.Proof.Gen.Ada
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Conditioned

open Idealize.ShloMosaic Idealize.SL.Sem
open Cert.AdaIdeal Cert.AdaIdeal.Gen Cert.AdaIdeal.Value

open Cert.Merged (gate)

/-- Entry `(r, j)` of the conditioning: the row's values times their gates, against column `j`, plus the bias. -/
def cond (c : S8x2048.Idx → EReal) (W : S1x2048x12288.Idx → EReal) (b : S1x12288.Idx → EReal) : S8x12288.Idx → EReal := fun i =>
  (∑ k : Fin 2048, c (ix2 (i 0) k) * gate (c (ix2 (i 0) k)) * W (ix3 0 k (i 1))) + b (ix2 0 (i 1))

variable {m : (ℓ : Loc nD τ sig) → Buf (Elt Ideal) ℓ} {d : Dev nD}

/-- The weights the call is given. -/
theorem weights (k : Fin 2048) (j : Fin 12288) :
    (V m d main_v0 : S2048x12288.Idx → EReal) (ix2 k j) = (m (d.tc.loc main_arg1) : S1x2048x12288.Idx → EReal) (ix3 0 k j) := by
  entry_read
  pointwise

/-- The bias the call is given. -/
theorem bias (j : Fin 12288) :
    (V m d main_v2 : S1x12288.Idx → EReal) (ix2 0 j) = (m (d.tc.loc main_arg2) : S1x12288.Idx → EReal) (ix2 0 j) := by
  entry_read
  pointwise

/-! Where each window's block stands. -/

theorem index0 (t : Fin cfg0.N) : (cfg0.win 0).index t 0 = 0 ∧ (cfg0.win 0).index t 1 = 0 := by
  revert t
  decide +kernel

theorem index1 (t : Fin cfg0.N) : (cfg0.win 1).index t 0 = 0 ∧ (cfg0.win 1).index t 1 = t.val := by
  revert t
  decide +kernel

theorem index2 (t : Fin cfg0.N) : (cfg0.win 2).index t 0 = 0 ∧ (cfg0.win 2).index t 1 = t.val := by
  revert t
  decide +kernel

theorem index3 (t : Fin cfg0.N) : (cfg0.win 3).index t 0 = 0 ∧ (cfg0.win 3).index t 1 = t.val := by
  revert t
  decide +kernel

theorem col_lt (t : Fin cfg0.N) (j : Fin 1024) : 1024 * t.val + j.val < 12288 := by
  have : t.val < 12 := t.isLt
  omega

/-- Column `j` of step `t`. -/
abbrev col (t : Fin cfg0.N) (j : Fin 1024) : Fin 12288 := ⟨1024 * t.val + j.val, col_lt t j⟩

theorem rows_c (t : Fin cfg0.N) (r : Fin 8) (k : Fin 2048) :
    (iblk m d (0 : Fin 4) t : S8x2048.Idx → EReal) (ix2 r k) = (m (d.tc.loc main_arg0) : S8x2048.Idx → EReal) (ix2 r k) := by
  obtain ⟨e0, e1⟩ := index0 t
  rw [← V_main_arg0 m d]
  blk_ext [iblk, e0, e1]

theorem cols_w (t : Fin cfg0.N) (k : Fin 2048) (j : Fin 1024) :
    (iblk m d (1 : Fin 4) t : S2048x1024.Idx → EReal) (ix2 k j) = (V m d main_v0 : S2048x12288.Idx → EReal) (ix2 k (col t j)) := by
  obtain ⟨e0, e1⟩ := index1 t
  blk_ext [iblk, e0, e1]

theorem cols_b (t : Fin cfg0.N) (j : Fin 1024) :
    (iblk m d (2 : Fin 4) t : S1x1024.Idx → EReal) (ix2 0 j) = (V m d main_v2 : S1x12288.Idx → EReal) (ix2 0 (col t j)) := by
  obtain ⟨e0, e1⟩ := index2 t
  blk_ext [iblk, e0, e1]

/-- The step's body: an entry of the block it stores. -/
theorem block_at (c : FVec Ideal S8x2048 .f32) (w : FVec Ideal S2048x1024 .f32) (b : FVec Ideal S1x1024 .f32) (r : Fin 8) (j : Fin 1024) :
    (out0_3 (F := Ideal) c w b : S8x1024.Idx → EReal) (ix2 r j)
      = (∑ k : Fin 2048, (c : S8x2048.Idx → EReal) (ix2 r k) * gate ((c : S8x2048.Idx → EReal) (ix2 r k)) * (w : S2048x1024.Idx → EReal) (ix2 k j))
        + (b : S1x1024.Idx → EReal) (ix2 0 j) := by
  unfold out0_3 gate
  simp only [View.canon_unit_zero (S := S8x1024) (off := ![0, 0]) (by decide), View.ld_unit_zero (S := S8x2048) (off := ![0, 0]) (by decide), View.ld_unit_zero (S := S2048x1024) (off := ![0, 0]) (by decide), View.ld_unit_zero (S := S1x1024) (off := ![0, 0]) (by decide)]
  pointwise [k0_pay1]
  simp only [zero_sub]

/-- The block step `t` writes is that part of `cond`. -/
theorem block_value (t : Fin cfg0.N) (r : Fin 8) (j : Fin 1024) :
    (out0_3 (F := Ideal) (iblk m d (0 : Fin 4) t) (iblk m d (1 : Fin 4) t) (iblk m d (2 : Fin 4) t) : S8x1024.Idx → EReal) (ix2 r j)
      = cond (m (d.tc.loc main_arg0)) (m (d.tc.loc main_arg1)) (m (d.tc.loc main_arg2)) (ix2 r (col t j)) := by
  refine (block_at _ _ _ r j).trans ?_
  rw [cols_b, bias]
  refine congrArg (fun z : EReal => z + (_ : EReal)) (Finset.sum_congr rfl fun k _ => ?_)
  rw [rows_c, cols_w, weights]
  rfl

/-- The array the kernel returns. -/
theorem kernel_out :
    (dats m 0 d).arrAt 3 cfg0.N = cond (m (d.tc.loc main_arg0)) (m (d.tc.loc main_arg1)) (m (d.tc.loc main_arg2)) := by
  refine (dats m 0 d).arrAt_eq_of_covers 3 _ (by decide +kernel) fun t hf y => ?_
  obtain ⟨e0, e1⟩ := index3 t
  have ey : y = (ix2 (y 0) (y 1) : S8x1024.Idx) := by
    funext a
    match a with
    | ⟨0, _⟩ => rfl
    | ⟨1, _⟩ => rfl
  have g0 : (((cfg0.win 3).blk t).view.emb y 0 : ℕ) = (y 0).val := by
    blk_simp [e0]
  have g1 : (((cfg0.win 3).blk t).view.emb y 1 : ℕ) = 1024 * t.val + (y 1).val := by
    blk_simp [e1]
    omega
  have ez : (ix2 (y 0) (col t (y 1)) : S8x12288.Idx) = ((cfg0.win 3).blk t).view.emb y := by
    funext a
    match a with
    | ⟨0, _⟩ => exact Fin.ext g0.symm
    | ⟨1, _⟩ => exact Fin.ext g1.symm
  have h := block_value (m := m) (d := d) t (y 0) (y 1)
  rw [ez, ← ey] at h
  blk_simp
  rw [after0_3]
  exact h

open Cert.AdaRefIdeal.Read in
/-- The reference's result. -/
theorem reference_out (c : S8x2048.Idx → EReal) (W : S1x2048x12288.Idx → EReal) (b : S1x12288.Idx → EReal) :
    val_main_v6 (F := Ideal) c W b = cond c W b := by
  funext i
  pointwise [val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0, cond, gate]

/-- The kernel over the reals equals the reference over the reals. -/
theorem algebraic : Cert.algebraic_AdaIdeal_AdaRefIdeal (hAdaIdeal := Cert.AdaIdeal.Gen.facts) (hAdaRefIdeal := Cert.AdaRefIdeal.Gen.facts) := by
  intro m g m' g' _ hin
  refine ⟨fun c => cond (m (c.tc.loc main_arg0)) (m (c.tc.loc main_arg1)) (m (c.tc.loc main_arg2)), ?_, ?_⟩
  · exact (θ_run defs _ _).mono (fun r h c => ⟨(h c).1.trans kernel_out, (h c).2⟩) (run_blocks m g)
  · refine (θ_run Cert.AdaRefIdeal.defs _ _).mono (fun r h c => ⟨?_, (h c).2⟩) (Cert.AdaRefIdeal.Value.run (F := Ideal) m' g')
    obtain ⟨i0, i1, i2⟩ := hin c
    refine (h c).1.trans ?_
    rw [Cert.AdaRefIdeal.Read.val_main_v6_eq, i0, i1, i2]
    exact reference_out _ _ _

/-- The printed kernel runs to its end and leaves its arguments as they were. -/
theorem frame : Cert.quiescent_Ada (hAda := Cert.Ada.Gen.facts) := fun m ρ _ => Cert.Ada.Gen.frame m ρ

/-- So does the kernel over the reals. -/
theorem frame_ideal : Cert.quiescent_AdaIdeal (hAdaIdeal := Cert.AdaIdeal.Gen.facts) := fun m ρ _ => Cert.AdaIdeal.Gen.frame m ρ

/-- So does the reference over the reals. -/
theorem frame_reference : Cert.quiescent_AdaRefIdeal (hAdaRefIdeal := Cert.AdaRefIdeal.Gen.facts) :=
  fun m ρ _ => (θ_run Cert.AdaRefIdeal.defs _ _).mono
    (fun r h => ⟨fun c => (h c).2, sem_eq_zero_of_no_sems (by decide) r.2⟩) (Cert.AdaRefIdeal.Value.run m ρ)

end Cert.Conditioned

end
-- ==== Proof.HeadNorm.lean ====
/-
  The norm per head after the recurrence: every step takes 64 places of one sequence, and in them the eight pairs of heads in turn.
-/
module

public import proofs.«01_k».proof.Defs
public import proofs.«01_k».proof.Proof.Strided
public import proofs.«01_k».proof.Proof.Gen.Post
public import proofs.«01_k».proof.Proof.Gen.Post.Frame
public import proofs.«01_k».proof.Proof.Gen.PostIdeal.Value
public import proofs.«01_k».proof.Proof.Gen.PostRefIdeal.Run
public import proofs.«01_k».proof.Proof.Gen.PostRefIdeal.Read
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.HeadNorm

open Idealize.ShloMosaic Idealize.SL.Sem
open Cert.PostIdeal Cert.PostIdeal.Gen Cert.PostIdeal.Value

/-- The mean of a head's 64 entries. -/
def mean (x : Fin 64 → EReal) : EReal := Ideal.div (∑ k : Fin 64, x k) (Ideal.ofBits .f32 0x42800000#32)

/-- A head's entry, centred and over the root of the variance. -/
def settled (x : Fin 64 → EReal) (n : Fin 64) : EReal :=
  (x n - mean x) * Ideal.rsqrt (mean (fun k => (x k - mean x) * (x k - mean x)) + Ideal.ofBits .f32 0x3A27C5AC#32)

/-- One pair of heads of a step: what is stored from what is loaded. -/
def slab (x : Vec Ideal S1x1x1x64x128 .f32) (g b : Vec Ideal S1x128 .f32) (bon gate : Vec Ideal S1x64x128 .f32) : FVec Ideal S1x64x128 .bf16 :=
  k0_pay3 (k0_pay2 x g b bon gate)

/-- The lane of a pair's head at a place of the chunk. -/
abbrev lane (t : Fin 64) (l : Fin 128) : Fin 128 := ⟨64 * (l.val / 64) + t.val, by omega⟩

/-- An entry of that. -/
theorem slab_at (x : Vec Ideal S1x1x1x64x128 .f32) (g b : Vec Ideal S1x128 .f32) (bon gate : Vec Ideal S1x64x128 .f32) (t : Fin 64) (l : Fin 128) :
    (slab x g b bon gate : S1x64x128.Idx → EReal) (ix3 0 t l)
      = (settled (fun n => (x : S1x1x1x64x128.Idx → EReal) (ix5 0 0 0 n (lane t l))) ⟨l.val % 64, by omega⟩ * (g : S1x128.Idx → EReal) (ix2 0 l)
          + (b : S1x128.Idx → EReal) (ix2 0 l) + (bon : S1x64x128.Idx → EReal) (ix3 0 t l)) * (gate : S1x64x128.Idx → EReal) (ix3 0 t l) := by
  unfold slab settled mean
  by_cases hl : l.val < 64
  · have e1 : l.val / 64 = 0 := by omega
    have e2 : l.val % 64 = l.val := by omega
    have e3 : lane t l = ⟨t.val, by omega⟩ := Fin.ext (by simp only [e1]; omega)
    rw [e3]
    simp only [e2]
    pointwise [k0_pay3, k0_pay2]
    rw [dif_pos hl]
  · have e1 : l.val / 64 = 1 := by omega
    have e2 : l.val % 64 = l.val - 64 := by omega
    have e3 : lane t l = ⟨64 + t.val, by omega⟩ := Fin.ext (by simp only [e1])
    rw [e3]
    simp only [e2]
    pointwise [k0_pay3, k0_pay2]
    rw [dif_neg hl]

/-- The block a step leaves, from the blocks it reads. -/
def settledBlock (x : S1x1x8x64x128.Idx → EReal) (bon gate : S1x64x1024.Idx → EReal) (g b : S1x1024.Idx → EReal) : S1x64x1024.Idx → EReal := fun y =>
  (settled (fun n => x (ix5 0 0 ⟨(y 2).val / 128, Nat.div_lt_of_lt_mul (y 2).isLt⟩ n (lane (y 1) ⟨(y 2).val % 128, Nat.mod_lt _ (by decide)⟩)))
      ⟨(y 2).val % 64, Nat.mod_lt _ (by decide)⟩ * g (ix2 0 (y 2)) + b (ix2 0 (y 2)) + bon y) * gate y

theorem settledBlock_at (x : S1x1x8x64x128.Idx → EReal) (bon gate : S1x64x1024.Idx → EReal) (g b : S1x1024.Idx → EReal) (r : Fin 64) (j : Fin 1024) :
    settledBlock x bon gate g b (ix3 0 r j)
      = (settled (fun n => x (ix5 0 0 ⟨j.val / 128, by omega⟩ n (lane r ⟨j.val % 128, by omega⟩))) ⟨j.val % 64, by omega⟩ * g (ix2 0 j) + b (ix2 0 j) + bon (ix3 0 r j))
          * gate (ix3 0 r j) := rfl

/-- Pair `p` of a step stores that block's own values. -/
theorem slab_emb (x : Vec Ideal S1x1x8x64x128 .f32) (bon gate : Vec Ideal S1x64x1024 .f32) (g b : Vec Ideal S1x1024 .f32) (p : Fin 8)
    (h0 : ∀ a, (![0, 0, p.val, 0, 0] : Fin 5 → Nat) a + S1x1x1x64x128.size a ≤ S1x1x8x64x128.size a)
    (h1 : ∀ a, (![0, 128 * p.val] : Fin 2 → Nat) a + S1x128.size a ≤ S1x1024.size a)
    (h2 : ∀ a, (![0, 0, 128 * p.val] : Fin 3 → Nat) a + S1x64x128.size a ≤ S1x64x1024.size a) (z : S1x64x128.Idx) :
    slab (View.ld x (Rect.unit (s := S1x1x8x64x128) ![0, 0, p.val, 0, 0] S1x1x1x64x128.size h0)) (View.ld g (Rect.unit (s := S1x1024) ![0, 128 * p.val] S1x128.size h1))
        (View.ld b (Rect.unit (s := S1x1024) ![0, 128 * p.val] S1x128.size h1)) (View.ld bon (Rect.unit (s := S1x64x1024) ![0, 0, 128 * p.val] S1x64x128.size h2))
        (View.ld gate (Rect.unit (s := S1x64x1024) ![0, 0, 128 * p.val] S1x64x128.size h2)) z
      = settledBlock x bon gate g b ((Rect.unit (s := S1x64x1024) ![0, 0, 128 * p.val] S1x64x128.size h2).emb z) := by
  obtain ⟨t, l, rfl⟩ : ∃ (t : Fin 64) (l : Fin 128), z = ix3 0 t l := ⟨z 1, z 2, by
    funext a
    match a with
    | ⟨0, _⟩ => exact Fin.ext (by have h : (z 0).val < 1 := (z 0).isLt; show (z 0).val = 0; omega)
    | ⟨1, _⟩ => rfl
    | ⟨2, _⟩ => rfl⟩
  have ez : (Rect.unit (s := S1x64x1024) ![0, 0, 128 * p.val] S1x64x128.size h2).emb (ix3 0 t l : S1x64x128.Idx)
      = (ix3 0 t ⟨128 * p.val + l.val, by omega⟩ : S1x64x1024.Idx) := by
    funext a
    match a with
    | ⟨0, _⟩ => rfl
    | ⟨1, _⟩ => exact Fin.ext (by show 0 + 1 * t.val = t.val; omega)
    | ⟨2, _⟩ => exact Fin.ext (by show 128 * p.val + 1 * l.val = 128 * p.val + l.val; omega)
  have eg : (Rect.unit (s := S1x1024) ![0, 128 * p.val] S1x128.size h1).emb (ix2 0 l : S1x128.Idx) = (ix2 0 ⟨128 * p.val + l.val, by omega⟩ : S1x1024.Idx) := by
    funext a
    match a with
    | ⟨0, _⟩ => rfl
    | ⟨1, _⟩ => exact Fin.ext (by show 128 * p.val + 1 * l.val = 128 * p.val + l.val; omega)
  have ex (n : Fin 64) (j : Fin 128) : (Rect.unit (s := S1x1x8x64x128) ![0, 0, p.val, 0, 0] S1x1x1x64x128.size h0).emb (ix5 0 0 0 n j : S1x1x1x64x128.Idx)
      = (ix5 0 0 p n j : S1x1x8x64x128.Idx) := by
    funext a
    match a with
    | ⟨0, _⟩ => rfl
    | ⟨1, _⟩ => rfl
    | ⟨2, _⟩ => exact Fin.ext (by show p.val + 1 * 0 = p.val; omega)
    | ⟨3, _⟩ => exact Fin.ext (by show 0 + 1 * n.val = n.val; omega)
    | ⟨4, _⟩ => exact Fin.ext (by show 0 + 1 * j.val = j.val; omega)
  refine (slab_at _ _ _ _ _ t l).trans ?_
  rw [ez]
  have f1 (n : Fin 64) (j : Fin 128) : View.ld x (Rect.unit (s := S1x1x8x64x128) ![0, 0, p.val, 0, 0] S1x1x1x64x128.size h0) (ix5 0 0 0 n j : S1x1x1x64x128.Idx)
      = x (ix5 0 0 p n j : S1x1x8x64x128.Idx) := congrArg x (ex n j)
  have f2 (w : Vec Ideal S1x1024 .f32) : View.ld w (Rect.unit (s := S1x1024) ![0, 128 * p.val] S1x128.size h1) (ix2 0 l : S1x128.Idx)
      = w (ix2 0 ⟨128 * p.val + l.val, by omega⟩ : S1x1024.Idx) := congrArg w eg
  have f3 (w : Vec Ideal S1x64x1024 .f32) : View.ld w (Rect.unit (s := S1x64x1024) ![0, 0, 128 * p.val] S1x64x128.size h2) (ix3 0 t l : S1x64x128.Idx)
      = w (ix3 0 t ⟨128 * p.val + l.val, by omega⟩ : S1x64x1024.Idx) := congrArg w ez
  rw [f2, f2, f3, f3]
  simp only [f1]
  have q1 : (⟨(128 * p.val + l.val) / 128, by omega⟩ : Fin 8) = p := Fin.ext (by simp only []; omega)
  have q2 : (⟨(128 * p.val + l.val) % 128, by omega⟩ : Fin 128) = l := Fin.ext (by simp only []; omega)
  have q3 : (⟨(128 * p.val + l.val) % 64, by omega⟩ : Fin 64) = ⟨l.val % 64, by omega⟩ := Fin.ext (by simp only []; omega)
  show _ = (settled (fun n => x (ix5 0 0 ⟨(128 * p.val + l.val) / 128, by omega⟩ n (lane t ⟨(128 * p.val + l.val) % 128, by omega⟩) : S1x1x8x64x128.Idx))
      ⟨(128 * p.val + l.val) % 64, by omega⟩ * _ + _ + _) * _
  rw [q1, q2, q3]
  rfl

/-- The step's body: the block it stores. -/
theorem block_at (x : Vec Ideal S1x1x8x64x128 .f32) (bon gate : Vec Ideal S1x64x1024 .f32) (g b : Vec Ideal S1x1024 .f32) (y : S1x64x1024.Idx) :
    out0_5 (F := Ideal) x bon gate g b y = settledBlock x bon gate g b y := by
  unfold out0_5
  refine Cert.Strided.canon_apply (Val := Elt Ideal) (e := .bf16) (settledBlock x bon gate g b) y _ (fun q hq z => ?_) (cover0_5 _ _ _ _ _ _ _ _ y)
  simp only [List.mem_cons, List.not_mem_nil, or_false] at hq
  rcases hq with rfl | rfl | rfl | rfl | rfl | rfl | rfl | rfl
  · exact slab_emb x bon gate g b 7 _ _ _ z
  · exact slab_emb x bon gate g b 6 _ _ _ z
  · exact slab_emb x bon gate g b 5 _ _ _ z
  · exact slab_emb x bon gate g b 4 _ _ _ z
  · exact slab_emb x bon gate g b 3 _ _ _ z
  · exact slab_emb x bon gate g b 2 _ _ _ z
  · exact slab_emb x bon gate g b 1 _ _ _ z
  · exact slab_emb x bon gate g b 0 _ _ _ z

/-- The result: head `j / 64` at place `n`, in which chunk `n / 64` and lane `64 * (j % 128 / 64) + n % 64` hold its entries. -/
def result (o : S64x16x64x128.Idx → EReal) (bon gate : S2x4096x1024.Idx → EReal) (g b : S1x1024.Idx → EReal) : S2x4096x1024.Idx → EReal := fun i =>
  (settled (fun n => o (ix4 ⟨(i 1).val / 64, Nat.div_lt_of_lt_mul (i 1).isLt⟩ ⟨8 * (i 0).val + (i 2).val / 128, by
      have h0 : (i 0).val < 2 := (i 0).isLt
      have h2 : (i 2).val < 1024 := (i 2).isLt
      omega⟩ n (lane ⟨(i 1).val % 64, Nat.mod_lt _ (by decide)⟩ ⟨(i 2).val % 128, Nat.mod_lt _ (by decide)⟩)))
      ⟨(i 2).val % 64, Nat.mod_lt _ (by decide)⟩ * g (ix2 0 (i 2)) + b (ix2 0 (i 2)) + bon i) * gate i

theorem result_at (o : S64x16x64x128.Idx → EReal) (bon gate : S2x4096x1024.Idx → EReal) (g b : S1x1024.Idx → EReal) (q : Fin 2) (n : Fin 4096) (j : Fin 1024) :
    result o bon gate g b (ix3 q n j)
      = (settled (fun k => o (ix4 ⟨n.val / 64, by omega⟩ ⟨8 * q.val + j.val / 128, by omega⟩ k (lane ⟨n.val % 64, by omega⟩ ⟨j.val % 128, by omega⟩))) ⟨j.val % 64, by omega⟩
          * g (ix2 0 j) + b (ix2 0 j) + bon (ix3 q n j)) * gate (ix3 q n j) := rfl

variable {m : (ℓ : Loc nD τ sig) → Buf (Elt Ideal) ℓ} {d : Dev nD}

/-- The recurrence's output as the call is given it. -/
theorem states (c : Fin 64) (q : Fin 2) (p : Fin 8) (n : Fin 64) (l : Fin 128) :
    (V m d main_v2 : S64x2x8x64x128.Idx → EReal) (ix5 c q p n l)
      = (m (d.tc.loc main_arg0) : S64x16x64x128.Idx → EReal) (ix4 c ⟨8 * q.val + p.val, by omega⟩ n l) := by
  have e : (⟨8 * q.val + p.val, by omega⟩ : Fin 16) = ⟨q.val * 8 + p.val, by omega⟩ := Fin.ext (by simp only []; omega)
  rw [e]
  entry_read
  pointwise

/-- The gain the call is given. -/
theorem gain (j : Fin 1024) :
    (V m d main_v3 : S1x1024.Idx → EReal) (ix2 0 j) = (m (d.tc.loc main_arg3) : S1x1024.Idx → EReal) (ix2 0 j) := by
  entry_read
  pointwise

/-- The bias the call is given. -/
theorem bias (j : Fin 1024) :
    (V m d main_v4 : S1x1024.Idx → EReal) (ix2 0 j) = (m (d.tc.loc main_arg4) : S1x1024.Idx → EReal) (ix2 0 j) := by
  entry_read
  pointwise

/-! Where each window's block stands. -/

theorem index0 (t : Fin cfg0.N) : (cfg0.win 0).index t 0 = t.val % 64 ∧ (cfg0.win 0).index t 1 = t.val / 64 ∧ (cfg0.win 0).index t 2 = 0
    ∧ (cfg0.win 0).index t 3 = 0 ∧ (cfg0.win 0).index t 4 = 0 := by
  revert t
  decide +kernel

theorem index1 (t : Fin cfg0.N) : (cfg0.win 1).index t 0 = t.val / 64 ∧ (cfg0.win 1).index t 1 = t.val % 64 ∧ (cfg0.win 1).index t 2 = 0 := by
  revert t
  decide +kernel

theorem index2 (t : Fin cfg0.N) : (cfg0.win 2).index t 0 = t.val / 64 ∧ (cfg0.win 2).index t 1 = t.val % 64 ∧ (cfg0.win 2).index t 2 = 0 := by
  revert t
  decide +kernel

theorem index3 (t : Fin cfg0.N) : (cfg0.win 3).index t 0 = 0 ∧ (cfg0.win 3).index t 1 = 0 := by
  revert t
  decide +kernel

theorem index4 (t : Fin cfg0.N) : (cfg0.win 4).index t 0 = 0 ∧ (cfg0.win 4).index t 1 = 0 := by
  revert t
  decide +kernel

theorem index5 (t : Fin cfg0.N) : (cfg0.win 5).index t 0 = t.val / 64 ∧ (cfg0.win 5).index t 1 = t.val % 64 ∧ (cfg0.win 5).index t 2 = 0 := by
  revert t
  decide +kernel

theorem step_lt (t : Fin cfg0.N) : t.val / 64 < 2 := by
  have : t.val < 128 := t.isLt
  omega

/-- The sequence of step `t`, its chunk and a place in that. -/
abbrev seq (t : Fin cfg0.N) : Fin 2 := ⟨t.val / 64, step_lt t⟩
abbrev chunk (t : Fin cfg0.N) : Fin 64 := ⟨t.val % 64, by omega⟩
abbrev place (t : Fin cfg0.N) (r : Fin 64) : Fin 4096 := ⟨64 * (t.val % 64) + r.val, by omega⟩

theorem block_states (t : Fin cfg0.N) (p : Fin 8) (n : Fin 64) (l : Fin 128) :
    (iblk m d (0 : Fin 6) t : S1x1x8x64x128.Idx → EReal) (ix5 0 0 p n l) = (V m d main_v2 : S64x2x8x64x128.Idx → EReal) (ix5 (chunk t) (seq t) p n l) := by
  obtain ⟨e0, e1, e2, e3, e4⟩ := index0 t
  blk_ext [iblk, e0, e1, e2, e3, e4]

theorem block_bonus (t : Fin cfg0.N) (r : Fin 64) (j : Fin 1024) :
    (iblk m d (1 : Fin 6) t : S1x64x1024.Idx → EReal) (ix3 0 r j) = (m (d.tc.loc main_arg1) : S2x4096x1024.Idx → EReal) (ix3 (seq t) (place t r) j) := by
  obtain ⟨e0, e1, e2⟩ := index1 t
  rw [← V_main_arg1 m d]
  blk_ext [iblk, e0, e1, e2]

theorem block_gate (t : Fin cfg0.N) (r : Fin 64) (j : Fin 1024) :
    (iblk m d (2 : Fin 6) t : S1x64x1024.Idx → EReal) (ix3 0 r j) = (m (d.tc.loc main_arg2) : S2x4096x1024.Idx → EReal) (ix3 (seq t) (place t r) j) := by
  obtain ⟨e0, e1, e2⟩ := index2 t
  rw [← V_main_arg2 m d]
  blk_ext [iblk, e0, e1, e2]

theorem block_gain (t : Fin cfg0.N) (j : Fin 1024) :
    (iblk m d (3 : Fin 6) t : S1x1024.Idx → EReal) (ix2 0 j) = (V m d main_v3 : S1x1024.Idx → EReal) (ix2 0 j) := by
  obtain ⟨e0, e1⟩ := index3 t
  blk_ext [iblk, e0, e1]

theorem block_bias (t : Fin cfg0.N) (j : Fin 1024) :
    (iblk m d (4 : Fin 6) t : S1x1024.Idx → EReal) (ix2 0 j) = (V m d main_v4 : S1x1024.Idx → EReal) (ix2 0 j) := by
  obtain ⟨e0, e1⟩ := index4 t
  blk_ext [iblk, e0, e1]

/-- The block step `t` writes is that part of the result. -/
theorem block_value (t : Fin cfg0.N) (r : Fin 64) (j : Fin 1024) :
    (out0_5 (F := Ideal) (iblk m d (0 : Fin 6) t) (iblk m d (1 : Fin 6) t) (iblk m d (2 : Fin 6) t) (iblk m d (3 : Fin 6) t) (iblk m d (4 : Fin 6) t) : S1x64x1024.Idx → EReal)
        (ix3 0 r j)
      = result (m (d.tc.loc main_arg0)) (m (d.tc.loc main_arg1)) (m (d.tc.loc main_arg2)) (m (d.tc.loc main_arg3)) (m (d.tc.loc main_arg4)) (ix3 (seq t) (place t r) j) := by
  refine (block_at _ _ _ _ _ _).trans ((settledBlock_at _ _ _ _ _ r j).trans (Eq.trans ?_ (result_at _ _ _ _ _ (seq t) (place t r) j).symm))
  have q1 : (⟨(64 * (t.val % 64) + r.val) / 64, by omega⟩ : Fin 64) = chunk t := Fin.ext (by simp only []; omega)
  have q2 : (⟨(64 * (t.val % 64) + r.val) % 64, by omega⟩ : Fin 64) = r := Fin.ext (by simp only []; omega)
  simp only [fun p n l => (block_states (m := m) (d := d) t p n l).trans (states (chunk t) (seq t) p n l), fun j => (block_gain (m := m) (d := d) t j).trans (gain j),
    fun j => (block_bias (m := m) (d := d) t j).trans (bias j), block_bonus t r j, block_gate t r j, q1, q2]

/-- The array the kernel returns. -/
theorem kernel_out :
    (dats m 0 d).arrAt 5 cfg0.N
      = result (m (d.tc.loc main_arg0)) (m (d.tc.loc main_arg1)) (m (d.tc.loc main_arg2)) (m (d.tc.loc main_arg3)) (m (d.tc.loc main_arg4)) := by
  refine (dats m 0 d).arrAt_eq_of_covers 5 _ (by decide +kernel) fun t hf y => ?_
  obtain ⟨e0, e1, e2⟩ := index5 t
  have hy : (y 0).val < 1 := (y 0).isLt
  have ey : y = (ix3 0 (y 1) (y 2) : S1x64x1024.Idx) := by
    funext a
    match a with
    | ⟨0, _⟩ => exact Fin.ext (by show (y 0).val = 0; omega)
    | ⟨1, _⟩ => rfl
    | ⟨2, _⟩ => rfl
  have g0 : (((cfg0.win 5).blk t).view.emb y 0 : ℕ) = t.val / 64 := by
    blk_simp [e0]
  have g1 : (((cfg0.win 5).blk t).view.emb y 1 : ℕ) = 64 * (t.val % 64) + (y 1).val := by
    blk_simp [e1]
    omega
  have g2 : (((cfg0.win 5).blk t).view.emb y 2 : ℕ) = (y 2).val := by
    blk_simp [e2]
  have ez : (ix3 (seq t) (place t (y 1)) (y 2) : S2x4096x1024.Idx) = ((cfg0.win 5).blk t).view.emb y := by
    funext a
    match a with
    | ⟨0, _⟩ => exact Fin.ext g0.symm
    | ⟨1, _⟩ => exact Fin.ext g1.symm
    | ⟨2, _⟩ => exact Fin.ext g2.symm
  have h := block_value (m := m) (d := d) t (y 1) (y 2)
  rw [ez, ← ey] at h
  blk_simp
  rw [after0_5]
  exact h

open Cert.PostRefIdeal.Read in
/-- The reference's heads. -/
theorem reference_heads (o : S64x16x64x128.Idx → EReal) (q : Fin 2) (n : Fin 4096) (h : Fin 16) (k : Fin 64) :
    val_main_v2 (F := Ideal) o (ix4 q n h k)
      = o (ix4 ⟨n.val / 64, by omega⟩ ⟨8 * q.val + h.val / 2, by omega⟩ k ⟨64 * (h.val % 2) + n.val % 64, by omega⟩) := by
  have e1 : (⟨8 * q.val + h.val / 2, by omega⟩ : Fin 16) = ⟨q.val * 8 + h.val / 2, by omega⟩ := Fin.ext (by simp only []; omega)
  have e2 : (⟨64 * (h.val % 2) + n.val % 64, by omega⟩ : Fin 128) = ⟨h.val % 2 * 64 + n.val % 64, by omega⟩ := Fin.ext (by simp only []; omega)
  rw [e1, e2]
  pointwise [val_main_v2, val_main_v1, val_main_v0]

open Cert.PostRefIdeal.Read in
/-- Each of them settled. -/
theorem reference_settled (o : S64x16x64x128.Idx → EReal) (q : Fin 2) (n : Fin 4096) (h : Fin 16) (k : Fin 64) :
    val_main_v20 (F := Ideal) o (ix4 q n h k) = settled (fun k => val_main_v2 (F := Ideal) o (ix4 q n h k)) k := by
  unfold settled mean
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3]

open Cert.PostRefIdeal.Read in
/-- The reference's result. -/
theorem reference_out (o : S64x16x64x128.Idx → EReal) (bon gate : S2x4096x1024.Idx → EReal) (g b : S1x1024.Idx → EReal) :
    val_main_v32 (F := Ideal) o bon gate g b = result o bon gate g b := by
  funext i
  obtain ⟨q, n, j, rfl⟩ : ∃ (q : Fin 2) (n : Fin 4096) (j : Fin 1024), i = ix3 q n j := ⟨i 0, i 1, i 2, by
    funext a
    match a with
    | ⟨0, _⟩ => rfl
    | ⟨1, _⟩ => rfl
    | ⟨2, _⟩ => rfl⟩
  pointwise [val_main_v32, val_main_v31, val_main_v30, val_main_v29, val_main_v28, val_main_v27, val_main_v26, val_main_v25, val_main_v24, val_main_v23, val_main_v22, val_main_v21]
  rw [reference_settled]
  simp only [reference_heads]
  have q1 : j.val / 64 / 2 = j.val / 128 := by omega
  have q2 : j.val / 64 % 2 = j.val % 128 / 64 := by omega
  simp only [q1, q2]
  rfl

/-- The kernel over the reals equals the reference over the reals. -/
theorem algebraic : Cert.algebraic_PostIdeal_PostRefIdeal (hPostIdeal := Cert.PostIdeal.Gen.facts) (hPostRefIdeal := Cert.PostRefIdeal.Gen.facts) := by
  intro m g m' g' _ hin
  refine ⟨fun c => result (m (c.tc.loc main_arg0)) (m (c.tc.loc main_arg1)) (m (c.tc.loc main_arg2)) (m (c.tc.loc main_arg3)) (m (c.tc.loc main_arg4)), ?_, ?_⟩
  · exact (θ_run defs _ _).mono (fun r h c => ⟨(h c).1.trans kernel_out, (h c).2⟩) (run_blocks m g)
  · refine (θ_run Cert.PostRefIdeal.defs _ _).mono (fun r h c => ⟨?_, (h c).2⟩) (Cert.PostRefIdeal.Value.run (F := Ideal) m' g')
    obtain ⟨i0, i1, i2, i3, i4⟩ := hin c
    refine (h c).1.trans ?_
    rw [Cert.PostRefIdeal.Read.val_main_v32_eq, i0, i1, i2, i3, i4]
    exact reference_out _ _ _ _ _

/-- The printed kernel runs to its end and leaves its arguments as they were. -/
theorem frame : Cert.quiescent_Post (hPost := Cert.Post.Gen.facts) := fun m ρ _ => Cert.Post.Gen.frame m ρ

/-- So does the kernel over the reals. -/
theorem frame_ideal : Cert.quiescent_PostIdeal (hPostIdeal := Cert.PostIdeal.Gen.facts) := fun m ρ _ => Cert.PostIdeal.Gen.frame m ρ

/-- So does the reference over the reals. -/
theorem frame_reference : Cert.quiescent_PostRefIdeal (hPostRefIdeal := Cert.PostRefIdeal.Gen.facts) :=
  fun m ρ _ => (θ_run Cert.PostRefIdeal.defs _ _).mono
    (fun r h => ⟨fun c => (h c).2, sem_eq_zero_of_no_sems (by decide) r.2⟩) (Cert.PostRefIdeal.Value.run m ρ)

end Cert.HeadNorm

end
-- ==== Proof.FedPack.lean ====
/-
  Two blocks of weights written into a table of zeros, one at the table's start and one at its end.
-/
module

public import proofs.«01_k».proof.Defs
public import proofs.«01_k».proof.Proof.Gen.PrepIdeal
public import proofs.«01_k».proof.Proof.Gen.PrepIdeal.Value
public import Idealize.ShloMosaic.Lib.Pointwise
public import Idealize.ShloMosaic.Lib.Pipeline.ValueKit
public import Idealize.ShloMosaic.Lib.Routing.OpsOne

@[expose] public section

noncomputable section

namespace Cert.Fed

open Idealize.ShloMosaic Idealize.SL.Sem Idealize.ShloMosaic.Routing
open Cert.PrepIdeal Cert.PrepIdeal.Gen Cert.PrepIdeal.Value

theorem pick {l : List (Fin 2)} (h : l = [0, 1]) {n : ℕ} (hn : n < l.length) (q : Fin 2) (e : n = q.val) : l[n] = q := by
  subst h
  subst e
  fin_cases q <;> rfl

/-- An entry `(a, b)` of a block lands at `(r, c)` exactly when the block's corner plus `(a, b)` is that. -/
theorem lands_block {R C A B w : Nat} (d : ScatterDims (shape2 R C) (shape1 2) (shape2 A B)) (hw : d.updateWindowDims = [0, 1]) (hiw : d.insertedWindowDims = [])
    (hsd : d.scatterDimsToOperandDims = [0, 1]) (hivd : d.indexVectorDim = 0) (idx : IVec (shape1 2) w) (a : Fin A) (b : Fin B) (r : Fin R) (c : Fin C) :
    d.resultIdx? (ValueIdx.ix2 a b) idx = some (ValueIdx.ix2 r c) ↔ (idx (ValueIdx.ix1 (0 : Fin 2))).toInt + (a.val : Int) = r.val ∧ (idx (ValueIdx.ix1 (1 : Fin 2))).toInt + (b.val : Int) = c.val := by
  have hk : d.sKept = [0, 1] := by
    show (shape2 R C).kept d.insertedWindowDims = _
    rw [hiw]
    rfl
  have hwin0 : d.window (ValueIdx.ix2 a b) 0 = a.val := by
    unfold ScatterDims.window
    rw [dif_pos (by rw [hk]; simp)]
    exact congrArg (fun t : Fin 2 => ((ValueIdx.ix2 a b : (shape2 A B).Idx) t).val) (pick hw _ 0 (by rw [hk]; rfl))
  have hwin1 : d.window (ValueIdx.ix2 a b) 1 = b.val := by
    unfold ScatterDims.window
    rw [dif_pos (by rw [hk]; simp)]
    exact congrArg (fun t : Fin 2 => ((ValueIdx.ix2 a b : (shape2 A B).Idx) t).val) (pick hw _ 1 (by rw [hk]; rfl))
  rw [resultIdx?_ix2, start_pair d hsd hivd, start_pair d hsd hivd, hwin0, hwin1]

/-- Inside the block the table holds the block's entry. -/
theorem block_hit {α : Type} {R C A B w : Nat} (d : ScatterDims (shape2 R C) (shape1 2) (shape2 A B)) (hw : d.updateWindowDims = [0, 1]) (hiw : d.insertedWindowDims = [])
    (hsd : d.scatterDimsToOperandDims = [0, 1]) (hivd : d.indexVectorDim = 0) (x : (shape2 R C).Idx → α) (idx : IVec (shape1 2) w) (upd : (shape2 A B).Idx → α)
    (a : Fin A) (b : Fin B) (r : Fin R) (c : Fin C) (h0 : (idx (ValueIdx.ix1 (0 : Fin 2))).toInt + (a.val : Int) = r.val) (h1 : (idx (ValueIdx.ix1 (1 : Fin 2))).toInt + (b.val : Int) = c.val) :
    Host.scatter d (fun _ b => b) x idx upd (ValueIdx.ix2 r c) = upd (ValueIdx.ix2 a b) := by
  refine scatter_set_hit d x idx upd _ _ (fun k hk => ?_) (ValueIdx.ix2 a b) ((lands_block d hw hiw hsd hivd idx a b r c).2 ⟨h0, h1⟩)
  obtain ⟨a', b', rfl⟩ : ∃ (a' : Fin A) (b' : Fin B), k = ValueIdx.ix2 a' b' := ⟨k 0, k 1, ValueIdx.eq_ix2 k⟩
  obtain ⟨q0, q1⟩ := (lands_block d hw hiw hsd hivd idx a' b' r c).1 hk
  exact congrArg₂ (fun a b => upd (ValueIdx.ix2 a b)) (Fin.ext (by omega)) (Fin.ext (by omega))

/-- Outside it, what it held. -/
theorem block_miss {α : Type} {R C A B w : Nat} (d : ScatterDims (shape2 R C) (shape1 2) (shape2 A B)) (hw : d.updateWindowDims = [0, 1]) (hiw : d.insertedWindowDims = [])
    (hsd : d.scatterDimsToOperandDims = [0, 1]) (hivd : d.indexVectorDim = 0) (x : (shape2 R C).Idx → α) (idx : IVec (shape1 2) w) (upd : (shape2 A B).Idx → α)
    (r : Fin R) (c : Fin C) (h : ∀ (a : Fin A) (b : Fin B), ¬((idx (ValueIdx.ix1 (0 : Fin 2))).toInt + (a.val : Int) = r.val ∧ (idx (ValueIdx.ix1 (1 : Fin 2))).toInt + (b.val : Int) = c.val)) :
    Host.scatter d (fun _ b => b) x idx upd (ValueIdx.ix2 r c) = x (ValueIdx.ix2 r c) := by
  refine scatter_set_miss d x idx upd _ fun k hk => ?_
  obtain ⟨a', b', rfl⟩ : ∃ (a' : Fin A) (b' : Fin B), k = ValueIdx.ix2 a' b' := ⟨k 0, k 1, ValueIdx.eq_ix2 k⟩
  exact h a' b' ((lands_block d hw hiw hsd hivd idx a' b' r c).1 hk)

variable {m : (ℓ : Loc nD τ sig) → Buf (Elt Ideal) ℓ} {d : Dev nD}

/-- The two corners. -/
def corner (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

theorem corner_first (a b : BitVec 32) : corner a b (ValueIdx.ix1 (0 : Fin 2)) = a := by
  show corner a b (ix1 (0 : Fin 2)) = a
  pointwise [corner]

theorem corner_second (a b : BitVec 32) : corner a b (ValueIdx.ix1 (1 : Fin 2)) = b := by
  show corner a b (ix1 (1 : Fin 2)) = b
  pointwise [corner]

/-- The decay's weights stand first. -/
theorem packed_decay (k : Fin 64) (j : Fin 1024) :
    (V m d main_v11 : S128x2048.Idx → EReal) (ix2 ⟨k.val, by omega⟩ ⟨j.val, by omega⟩) = (m (d.tc.loc main_arg4) : S1x64x1024.Idx → EReal) (ix3 0 k j) := by
  entry_read
  pointwise
  refine (block_miss scatter_S128x2048_S2_S64x1024_01_n_01_0 rfl rfl rfl rfl _ (corner 64#32 1024#32) _ _ _ fun a b h => ?_).trans ?_
  · rw [corner_first, corner_second] at h
    simp at h
    omega
  · refine (block_hit scatter_S128x2048_S2_S64x1024_01_n_01_0 rfl rfl rfl rfl _ (corner 0#32 0#32) _ k j _ _ ?_ ?_).trans rfl
    · rw [corner_first]; simp
    · rw [corner_second]; simp

/-- The rates' last. -/
theorem packed_rate (k : Fin 64) (j : Fin 1024) :
    (V m d main_v11 : S128x2048.Idx → EReal) (ix2 ⟨64 + k.val, by omega⟩ ⟨1024 + j.val, by omega⟩) = (m (d.tc.loc main_arg6) : S1x64x1024.Idx → EReal) (ix3 0 k j) := by
  entry_read
  pointwise
  refine (block_hit scatter_S128x2048_S2_S64x1024_01_n_01_0 rfl rfl rfl rfl _ (corner 64#32 1024#32) _ k j _ _ ?_ ?_).trans rfl
  · rw [corner_first]; simp
  · rw [corner_second]; simp

/-- The other two quarters are zeros. -/
theorem packed_below (k : Fin 64) (j : Fin 1024) :
    (V m d main_v11 : S128x2048.Idx → EReal) (ix2 ⟨64 + k.val, by omega⟩ ⟨j.val, by omega⟩) = (0 : EReal) := by
  entry_read
  pointwise
  refine (block_miss scatter_S128x2048_S2_S64x1024_01_n_01_0 rfl rfl rfl rfl _ (corner 64#32 1024#32) _ _ _ fun a b h => ?_).trans
    ((block_miss scatter_S128x2048_S2_S64x1024_01_n_01_0 rfl rfl rfl rfl _ (corner 0#32 0#32) _ _ _ fun a b h => ?_).trans ?_)
  · rw [corner_first, corner_second] at h
    simp at h
    omega
  · rw [corner_first, corner_second] at h
    simp at h
    omega
  · pointwise

theorem packed_beside (k : Fin 64) (j : Fin 1024) :
    (V m d main_v11 : S128x2048.Idx → EReal) (ix2 ⟨k.val, by omega⟩ ⟨1024 + j.val, by omega⟩) = (0 : EReal) := by
  entry_read
  pointwise
  refine (block_miss scatter_S128x2048_S2_S64x1024_01_n_01_0 rfl rfl rfl rfl _ (corner 64#32 1024#32) _ _ _ fun a b h => ?_).trans
    ((block_miss scatter_S128x2048_S2_S64x1024_01_n_01_0 rfl rfl rfl rfl _ (corner 0#32 0#32) _ _ _ fun a b h => ?_).trans ?_)
  · rw [corner_first, corner_second] at h
    simp at h
    omega
  · rw [corner_first, corner_second] at h
    simp at h
    omega
  · pointwise

end Cert.Fed

end
-- ==== Proof.FedRows.lean ====
/-
  What the recurrence reads, row by row: receptances, decays, keys, values, removal, rates, gates and bonus, and that the reference computes them.
-/
module

public import proofs.«01_k».proof.Defs
public import proofs.«01_k».proof.Proof.Gen.PrepRefIdeal
public import proofs.«01_k».proof.Proof.Gen.PrepRefIdeal.Run
public import proofs.«01_k».proof.Proof.Gen.PrepRefIdeal.Read
public import Idealize.ShloMosaic.Lib.Pointwise
public import Idealize.ShloMosaic.Lib.Pipeline.ValueKit

@[expose] public section

noncomputable section

namespace Cert.Fed

open Idealize.ShloMosaic Idealize.SL.Sem
open Cert.PrepRefIdeal Cert.PrepRefIdeal.Gen Cert.PrepRefIdeal.Read

/-- Row `r` of the projected columns, mixed with the row before it; a sequence's first row has zeros before it. -/
def shifted (P : S8192x3328.Idx → EReal) (M : S1x3328.Idx → EReal) (r : Fin 8192) (j : Fin 3328) : EReal :=
  P (ix2 r j) + ((if r.val % 4096 = 0 then 0 else P (ix2 ⟨r.val - 1, by omega⟩ j)) - P (ix2 r j)) * M (ix2 0 j)

/-- Entry `e` of the head that column `j` is in. -/
abbrev mate (j : Fin 1024) (e : Fin 64) : Fin 1024 := ⟨j.val / 64 * 64 + e.val, by omega⟩

/-- The logarithm of one plus the exponential. -/
def soft (y : EReal) : EReal := max y 0 + Ideal.log (1 + Ideal.exp (-(max y (-y))))

variable (s : Fin 3328 → EReal)

/-- The decay of a column, from the mixed row. -/
def decay (w0 : Fin 1024 → EReal) (w2 : Fin 64 → Fin 1024 → EReal) (j : Fin 1024) : EReal :=
  Ideal.exp (-Ideal.exp (-soft (-(w0 j + ∑ k : Fin 64, Ideal.tanh (s ⟨3072 + k.val, by omega⟩) * w2 k j)) - Ideal.ofBits .f32 0x3F000000#32))

/-- The rate at which it learns. -/
def rate (a0 : Fin 1024 → EReal) (a2 : Fin 64 → Fin 1024 → EReal) (j : Fin 1024) : EReal :=
  Ideal.div 1 (1 + Ideal.exp (-(a0 j + ∑ k : Fin 64, s ⟨3136 + k.val, by omega⟩ * a2 k j)))

/-- The gate. -/
def gate (g2 : Fin 128 → Fin 1024 → EReal) (j : Fin 1024) : EReal :=
  ∑ k : Fin 128, Ideal.div 1 (1 + Ideal.exp (-s ⟨3200 + k.val, by omega⟩)) * g2 k j

/-- The key by which the state is emptied, before it is brought to length one. -/
def raw (kk : Fin 1024 → EReal) (j : Fin 1024) : EReal := s ⟨1024 + j.val, by omega⟩ * kk j

/-- That key at length one in its head. -/
def direction (kk : Fin 1024 → EReal) (j : Fin 1024) : EReal :=
  raw s kk j * Ideal.rsqrt (max (∑ e : Fin 64, raw s kk (mate j e) * raw s kk (mate j e)) (Ideal.ofBits .f32 0x179ABE15#32))

/-- The key by which it is filled, from the rates. -/
def key (a : Fin 1024 → EReal) (ka : Fin 1024 → EReal) (j : Fin 1024) : EReal := s ⟨1024 + j.val, by omega⟩ * (1 + (a j - 1) * ka j)

/-- The bonus, from the keys. -/
def bonus (k : Fin 1024 → EReal) (rk : Fin 1024 → EReal) (j : Fin 1024) : EReal :=
  (∑ e : Fin 64, s ⟨(mate j e).val, by omega⟩ * k (mate j e) * rk (mate j e)) * s ⟨2048 + j.val, by omega⟩

variable (P : S8192x3328.Idx → EReal) (M : S1x3328.Idx → EReal) (w0 a0 kk ka : S1x1024.Idx → EReal) (w2 a2 : S1x64x1024.Idx → EReal)
  (g2 : S1x128x1024.Idx → EReal) (rk : S1x16x64.Idx → EReal)

/-- A weight of one row, one of several rows, and the bonus's factors, as functions of the column. -/
def line (w : S1x1024.Idx → EReal) (j : Fin 1024) : EReal := w (ix2 0 j)
def lines64 (w : S1x64x1024.Idx → EReal) (k : Fin 64) (j : Fin 1024) : EReal := w (ix3 0 k j)
def lines128 (w : S1x128x1024.Idx → EReal) (k : Fin 128) (j : Fin 1024) : EReal := w (ix3 0 k j)
def heads (w : S1x16x64.Idx → EReal) (j : Fin 1024) : EReal := w (ix3 0 ⟨j.val / 64, by omega⟩ ⟨j.val % 64, by omega⟩)

theorem zero_word : (FloatOps.sitofp (F := Ideal) .f32 0#32 : EReal) = 0 := by
  show ((((0#32 : BitVec 32).toInt : ℤ) : ℝ) : EReal) = 0
  simp

/-- The reference's mixed rows. -/
theorem reference_row (b : Fin 2) (n : Fin 4096) (j : Fin 3328) :
    val_main_v8 (F := Ideal) P M (ix3 b n j) = shifted P M ⟨b.val * 4096 + n.val, by omega⟩ j := by
  unfold shifted
  pointwise [val_main_v8, val_main_v7, val_main_v6, val_main_v5, val_main_v4, val_main_v3, val_main_v2, val_main_v1, val_main_v0, val_main_call0_v0, val_main_c]
  by_cases hn : n.val = 0
  · rw [dif_neg (by omega), if_pos (by omega), zero_word]
  · rw [dif_pos (by omega), if_neg (by omega)]
    have e : (⟨b.val * 4096 + (n.val - 1), by omega⟩ : Fin 8192) = ⟨b.val * 4096 + n.val - 1, by omega⟩ := Fin.ext (by simp only []; omega)
    rw [e]

/-- Row `r` of the two sequences in one. -/
theorem reference_rows (r : Fin 8192) :
    (fun j => val_main_v8 (F := Ideal) P M (ix3 ⟨r.val / 4096, by omega⟩ ⟨r.val % 4096, by omega⟩ j)) = shifted P M r := by
  funext j
  have e : (⟨r.val / 4096 * 4096 + r.val % 4096, by omega⟩ : Fin 8192) = r := Fin.ext (by simp only []; omega)
  rw [reference_row, e]

/-- The reference's decays. -/
theorem reference_decay (b : Fin 2) (n : Fin 4096) (j : Fin 1024) :
    val_main_v29 (F := Ideal) P M w0 w2 (ix3 b n j) = decay (fun j => val_main_v8 (F := Ideal) P M (ix3 b n j)) (line w0) (lines64 w2) j := by
  unfold decay soft line lines64
  pointwise [val_main_v29, val_main_v28, val_main_v27, val_main_v26, val_main_v25, val_main_cst, val_main_v24, val_main_v23, val_main_call1_v11, val_main_call1_v10, val_main_call1_v9, val_main_call1_v8,
    val_main_call1_v7, val_main_call1_v6, val_main_call1_v5, val_main_call1_v4, val_main_call1_v3, val_main_call1_v2, val_main_call1_v1, val_main_call1_v0, val_main_call1_cst,
    val_main_v22, val_main_v21, val_main_v20, val_main_v19, val_main_v18, val_main_v17, val_main_v16, val_main_v15, val_main_v12]
  rw [if_neg fun h => h rfl]
  rfl

/-- The reference's rates. -/
theorem reference_rate (b : Fin 2) (n : Fin 4096) (j : Fin 1024) :
    val_main_v41 (F := Ideal) P M a0 a2 (ix3 b n j) = rate (fun j => val_main_v8 (F := Ideal) P M (ix3 b n j)) (line a0) (lines64 a2) j := by
  unfold rate line lines64
  pointwise [val_main_v41, val_main_v40, val_main_v39, val_main_v38, val_main_v37, val_main_v36, val_main_v35, val_main_v34, val_main_v33, val_main_v32, val_main_v31, val_main_v30, val_main_v13,
    val_main_cst_0, val_main_cst_1]

/-- Its gates. -/
theorem reference_gate (b : Fin 2) (n : Fin 4096) (j : Fin 1024) :
    val_main_v49 (F := Ideal) P M g2 (ix3 b n j) = gate (fun j => val_main_v8 (F := Ideal) P M (ix3 b n j)) (lines128 g2) j := by
  unfold gate lines128
  pointwise [val_main_v49, val_main_v48, val_main_v47, val_main_v46, val_main_v45, val_main_v44, val_main_v43, val_main_v42, val_main_v14, val_main_cst_2, val_main_cst_3]

/-- Its keys. -/
theorem reference_key (b : Fin 2) (n : Fin 4096) (j : Fin 1024) :
    val_main_v71 (F := Ideal) P M a0 a2 ka (ix3 b n j)
      = key (fun j => val_main_v8 (F := Ideal) P M (ix3 b n j)) (fun j => val_main_v41 (F := Ideal) P M a0 a2 (ix3 b n j)) (line ka) j := by
  unfold key line
  pointwise [val_main_v71, val_main_v70, val_main_v69, val_main_v68, val_main_v67, val_main_v66, val_main_v65, val_main_v64, val_main_v63, val_main_v10, val_main_cst_6, val_main_cst_7]

/-- Its keys at length one. -/
theorem reference_direction (b : Fin 2) (n : Fin 4096) (j : Fin 1024) :
    val_main_v62 (F := Ideal) P M kk (ix4 b n ⟨j.val / 64, by omega⟩ ⟨j.val % 64, by omega⟩)
      = direction (fun j => val_main_v8 (F := Ideal) P M (ix3 b n j)) (line kk) j := by
  unfold direction raw line
  pointwise [val_main_v62, val_main_v61, val_main_v60, val_main_v59, val_main_v58, val_main_v57, val_main_v56, val_main_v55, val_main_v54, val_main_v53, val_main_v52, val_main_v51, val_main_v50,
    val_main_v10, val_main_cst_4, val_main_cst_5]

/-- Its bonus. -/
theorem reference_bonus (b : Fin 2) (n : Fin 4096) (j : Fin 1024) :
    val_main_v84 (F := Ideal) P M a0 a2 ka rk (ix4 b n ⟨j.val / 64, by omega⟩ ⟨j.val % 64, by omega⟩)
      = bonus (fun j => val_main_v8 (F := Ideal) P M (ix3 b n j)) (fun j => val_main_v71 (F := Ideal) P M a0 a2 ka (ix3 b n j)) (heads rk) j := by
  unfold bonus heads
  pointwise [val_main_v84, val_main_v83, val_main_v82, val_main_v81, val_main_v80, val_main_v79, val_main_v78, val_main_v77, val_main_v76, val_main_v74, val_main_v73, val_main_v72, val_main_v11,
    val_main_v9, val_main_cst_8]
  have q1 : ∀ x : Fin 64, (j.val / 64 * 64 + x.val) / 64 = j.val / 64 := fun x => by omega
  have q2 : ∀ x : Fin 64, (j.val / 64 * 64 + x.val) % 64 = x.val := fun x => by omega
  simp only [q1, q2]

/-! The eight results. -/

def receptances : S8192x1024.Idx → EReal := fun i => shifted P M (i 0) ⟨(i 1).val, lt_of_lt_of_le (i 1).isLt (by decide)⟩
def decays : S8192x1024.Idx → EReal := fun i => decay (shifted P M (i 0)) (line w0) (lines64 w2) (i 1)
def keys : S8192x1024.Idx → EReal := fun i => key (shifted P M (i 0)) (rate (shifted P M (i 0)) (line a0) (lines64 a2)) (line ka) (i 1)
def contents : S8192x1024.Idx → EReal := fun i => shifted P M (i 0) ⟨2048 + (i 1).val, lt_of_lt_of_le (Nat.add_lt_add_left (i 1).isLt 2048) (by decide)⟩
def removals : S8192x1024.Idx → EReal := fun i => -direction (shifted P M (i 0)) (line kk) (i 1)
def refills : S8192x1024.Idx → EReal := fun i => direction (shifted P M (i 0)) (line kk) (i 1) * rate (shifted P M (i 0)) (line a0) (lines64 a2) (i 1)
def gates : S8192x1024.Idx → EReal := fun i => gate (shifted P M (i 0)) (lines128 g2) (i 1)
def bonuses : S8192x1024.Idx → EReal := fun i =>
  bonus (shifted P M (i 0)) (key (shifted P M (i 0)) (rate (shifted P M (i 0)) (line a0) (lines64 a2)) (line ka)) (heads rk) (i 1)

theorem row_column (i : S8192x1024.Idx) : ∃ (r : Fin 8192) (j : Fin 1024), i = ix2 r j := ⟨i 0, i 1, by
  funext a
  match a with
  | ⟨0, _⟩ => rfl
  | ⟨1, _⟩ => rfl⟩

/-- The rates of a row of the two sequences in one. -/
theorem reference_rates (r : Fin 8192) :
    (fun j => val_main_v41 (F := Ideal) P M a0 a2 (ix3 ⟨r.val / 4096, by omega⟩ ⟨r.val % 4096, by omega⟩ j)) = rate (shifted P M r) (line a0) (lines64 a2) := by
  funext j
  rw [reference_rate, reference_rows]

/-- Its keys. -/
theorem reference_keys (r : Fin 8192) :
    (fun j => val_main_v71 (F := Ideal) P M a0 a2 ka (ix3 ⟨r.val / 4096, by omega⟩ ⟨r.val % 4096, by omega⟩ j))
      = key (shifted P M r) (rate (shifted P M r) (line a0) (lines64 a2)) (line ka) := by
  funext j
  rw [reference_key, reference_rows, reference_rates]

theorem results85 : val_main_v85 (F := Ideal) P M = receptances P M := by
  funext i
  obtain ⟨r, j, rfl⟩ := row_column i
  pointwise [val_main_v85, val_main_v9]
  exact congrFun (reference_rows P M r) _

theorem results86 : val_main_v86 (F := Ideal) P M w0 w2 = decays P M w0 w2 := by
  funext i
  obtain ⟨r, j, rfl⟩ := row_column i
  pointwise [val_main_v86]
  rw [reference_decay, reference_rows]
  rfl

theorem results87 : val_main_v87 (F := Ideal) P M a0 a2 ka = keys P M a0 ka a2 := by
  funext i
  obtain ⟨r, j, rfl⟩ := row_column i
  pointwise [val_main_v87]
  exact congrFun (reference_keys P M a0 ka a2 r) _

theorem results88 : val_main_v88 (F := Ideal) P M = contents P M := by
  funext i
  obtain ⟨r, j, rfl⟩ := row_column i
  pointwise [val_main_v88, val_main_v11]
  exact congrFun (reference_rows P M r) _

theorem results90 : val_main_v90 (F := Ideal) P M kk = removals P M kk := by
  funext i
  obtain ⟨r, j, rfl⟩ := row_column i
  pointwise [val_main_v90, val_main_v89]
  rw [reference_direction, reference_rows]
  rfl

theorem results92 : val_main_v92 (F := Ideal) P M a0 a2 kk = refills P M a0 kk a2 := by
  funext i
  obtain ⟨r, j, rfl⟩ := row_column i
  pointwise [val_main_v92, val_main_v91, val_main_v75]
  rw [reference_direction, reference_rate, reference_rows]
  rfl

theorem results93 : val_main_v93 (F := Ideal) P M g2 = gates P M g2 := by
  funext i
  obtain ⟨r, j, rfl⟩ := row_column i
  pointwise [val_main_v93]
  rw [reference_gate, reference_rows]
  rfl

theorem results94 : val_main_v94 (F := Ideal) P M a0 a2 ka rk = bonuses P M a0 ka a2 rk := by
  funext i
  obtain ⟨r, j, rfl⟩ := row_column i
  pointwise [val_main_v94]
  rw [reference_bonus, reference_rows, reference_keys]
  rfl

end Cert.Fed

end
-- ==== Proof.FedStep.lean ====
/-
  One step of what the recurrence reads: the eight blocks stored, entry by entry, from the blocks loaded.
-/
module

public import proofs.«01_k».proof.Defs
public import proofs.«01_k».proof.Proof.FedRows
public import proofs.«01_k».proof.Proof.Gen.PrepIdeal
public import proofs.«01_k».proof.Proof.Gen.PrepIdeal.Value
public import Idealize.ShloMosaic.Lib.Pointwise
public import Idealize.ShloMosaic.Lib.Pipeline.ValueKit

@[expose] public section

noncomputable section

namespace Cert.Fed

open Idealize.ShloMosaic Idealize.SL.Sem
open Cert.PrepIdeal Cert.PrepIdeal.Gen Cert.PrepIdeal.Value

/-! The mixed rows. -/

/-- The body's question whether its tile starts a sequence. -/
def starts (n : BitVec 32) : BitVec 1 :=
  Scalar.cmpi .eq
    (Scalar.select
      (Scalar.andi
        (Scalar.xori (Scalar.cmpi .slt (Scalar.remsi n (Scalar.select (Scalar.cmpi .eq 16#32 0#32) 1#32 16#32)) 0#32)
          (Scalar.cmpi .slt (Scalar.select (Scalar.cmpi .eq 16#32 0#32) 1#32 16#32) 0#32))
        (Scalar.cmpi .ne (Scalar.remsi n (Scalar.select (Scalar.cmpi .eq 16#32 0#32) 1#32 16#32)) 0#32))
      (Scalar.addi (Scalar.remsi n (Scalar.select (Scalar.cmpi .eq 16#32 0#32) 1#32 16#32)) (Scalar.select (Scalar.cmpi .eq 16#32 0#32) 1#32 16#32))
      (Scalar.remsi n (Scalar.select (Scalar.cmpi .eq 16#32 0#32) 1#32 16#32)))
    0#32

theorem starts_at (t : Fin 32) : starts (BitVec.ofNat 32 t.val) = if t.val % 16 = 0 then 1#1 else 0#1 := by
  revert t
  decide +kernel

theorem first_row (r : Fin 256) : IntOp.cmpi .eq (BitVec.ofNat 32 r.val) 0#32 = if r.val = 0 then 1#1 else 0#1 := by
  revert r
  decide +kernel

/-- Row `r` of a tile, mixed with the row before it. -/
def blockRow (n : ℕ) (x : S256x3328.Idx → EReal) (p : S1x3328.Idx → EReal) (mu : S1x3328.Idx → EReal) (r : Fin 256) (j : Fin 3328) : EReal :=
  x (ix2 r j) + ((if r.val = 0 then (if n % 16 = 0 then 0 else p (ix2 0 j)) else x (ix2 ⟨r.val - 1, by omega⟩ j)) - x (ix2 r j)) * mu (ix2 0 j)

theorem mixed (i : grid0.Coords) (x : Vec Ideal S256x3328 .f32) (p mu : Vec Ideal S1x3328 .f32) (r : Fin 256) (j : Fin 3328) :
    (k0_pay2 i x p mu : S256x3328.Idx → EReal) (ix2 r j) = blockRow (i 0).val x p mu r j := by
  unfold blockRow
  pointwise [k0_pay2]
  have h := starts_at (i 0)
  unfold starts at h
  rw [h, first_row]
  by_cases hr : r.val = 0
  · by_cases hi : (i 0).val % 16 = 0 <;> simp [hr, hi, Scalar.select]
  · have e : (⟨(r.val + 256 - 1) % 256, by omega⟩ : Fin 256) = ⟨r.val - 1, by omega⟩ := Fin.ext (by simp only []; omega)
    rw [e]
    simp [hr, Scalar.select]

/-! The products of low rank. -/

theorem halves (f : Fin 128 → EReal) : ∑ x : Fin 128, f x = ∑ k : Fin 64, f ⟨k.val, by omega⟩ + ∑ k : Fin 64, f ⟨64 + k.val, by omega⟩ :=
  Fin.sum_univ_add (a := 64) (b := 64) f

theorem below (k : Fin 64) : IntOp.cmpi .slt (BitVec.ofNat 32 k.val) 64#32 = 1#1 := by
  revert k
  decide +kernel

theorem above (k : Fin 64) : IntOp.cmpi .slt (BitVec.ofNat 32 (64 + k.val)) 64#32 = 0#1 := by
  revert k
  decide +kernel

section row

variable (i : grid0.Coords) (x : Vec Ideal S256x3328 .f32) (p mu : Vec Ideal S1x3328 .f32) (r : Fin 256)

/-- The mixed row of the step. -/
abbrev row : Fin 3328 → EReal := fun j => (k0_pay2 i x p mu : S256x3328.Idx → EReal) (ix2 r j)

theorem low_first (k : Fin 64) : (k0_pay7 i x p mu : S256x128.Idx → EReal) (ix2 r ⟨k.val, by omega⟩) = Ideal.tanh (row i x p mu r ⟨3072 + k.val, by omega⟩) := by
  pointwise [k0_pay7]
  rw [below]
  rfl

theorem low_last (k : Fin 64) : (k0_pay7 i x p mu : S256x128.Idx → EReal) (ix2 r ⟨64 + k.val, by omega⟩) = row i x p mu r ⟨3136 + k.val, by omega⟩ := by
  have e : (⟨3136 + k.val, by omega⟩ : Fin 3328) = ⟨3072 + (64 + k.val), by omega⟩ := Fin.ext (by simp only []; omega)
  rw [e]
  pointwise [k0_pay7]
  rw [above]
  rfl

variable (q : Vec Ideal S128x2048 .bf16) (w : Vec Ideal S1x1024 .f32) (u : Fin 64 → Fin 1024 → EReal) (j : Fin 1024)

theorem product_first (h0 : ∀ k j, (q : S128x2048.Idx → EReal) (ix2 ⟨k.val, by omega⟩ ⟨j.val, by omega⟩) = u k j)
    (h1 : ∀ (k : Fin 64) (j : Fin 1024), (q : S128x2048.Idx → EReal) (ix2 ⟨64 + k.val, by omega⟩ ⟨j.val, by omega⟩) = 0) :
    (k0_pay8 (k0_pay7 i x p mu) q : S256x2048.Idx → EReal) (ix2 r ⟨j.val, by omega⟩) = ∑ k : Fin 64, Ideal.tanh (row i x p mu r ⟨3072 + k.val, by omega⟩) * u k j := by
  pointwise [k0_pay8]
  rw [halves]
  simp only [low_first, h0, h1, mul_zero, Finset.sum_const_zero, add_zero]

theorem product_last (h0 : ∀ (k : Fin 64) (j : Fin 1024), (q : S128x2048.Idx → EReal) (ix2 ⟨k.val, by omega⟩ ⟨1024 + j.val, by omega⟩) = 0)
    (h1 : ∀ k j, (q : S128x2048.Idx → EReal) (ix2 ⟨64 + k.val, by omega⟩ ⟨1024 + j.val, by omega⟩) = u k j) :
    (k0_pay8 (k0_pay7 i x p mu) q : S256x2048.Idx → EReal) (ix2 r ⟨1024 + j.val, by omega⟩) = ∑ k : Fin 64, row i x p mu r ⟨3136 + k.val, by omega⟩ * u k j := by
  pointwise [k0_pay8]
  rw [halves]
  simp only [low_last, h0, h1, mul_zero, Finset.sum_const_zero, zero_add]

/-- The decays stored. -/
theorem decay_at (h0 : ∀ k j, (q : S128x2048.Idx → EReal) (ix2 ⟨k.val, by omega⟩ ⟨j.val, by omega⟩) = u k j)
    (h1 : ∀ (k : Fin 64) (j : Fin 1024), (q : S128x2048.Idx → EReal) (ix2 ⟨64 + k.val, by omega⟩ ⟨j.val, by omega⟩) = 0) :
    (k0_pay9 (k0_pay7 i x p mu) q w : S256x1024.Idx → EReal) (ix2 r j) = decay (row i x p mu r) (fun j => (w : S1x1024.Idx → EReal) (ix2 0 j)) u j := by
  unfold decay soft
  pointwise [k0_pay9]
  rw [product_first i x p mu r q u j h0 h1]
  simp only [zero_sub]
  rfl

/-- The rates. -/
theorem rate_at (h0 : ∀ (k : Fin 64) (j : Fin 1024), (q : S128x2048.Idx → EReal) (ix2 ⟨k.val, by omega⟩ ⟨1024 + j.val, by omega⟩) = 0)
    (h1 : ∀ k j, (q : S128x2048.Idx → EReal) (ix2 ⟨64 + k.val, by omega⟩ ⟨1024 + j.val, by omega⟩) = u k j) :
    (k0_pay10 (k0_pay7 i x p mu) q w : S256x1024.Idx → EReal) (ix2 r j) = rate (row i x p mu r) (fun j => (w : S1x1024.Idx → EReal) (ix2 0 j)) u j := by
  unfold rate
  pointwise [k0_pay10]
  rw [product_last i x p mu r q u j h0 h1]
  simp only [zero_sub]

/-- The gates. -/
theorem gate_at (g : Vec Ideal S128x1024 .bf16) :
    (k0_pay12 (k0_pay11 (k0_pay6 i x p mu)) g : S256x1024.Idx → EReal) (ix2 r j) = gate (row i x p mu r) (fun k j => (g : S128x1024.Idx → EReal) (ix2 k j)) j := by
  unfold gate
  pointwise [k0_pay12, k0_pay11, k0_pay6]
  simp only [zero_sub]

/-- The receptances. -/
theorem receptance_at : (k0_pay3 i x p mu : S256x1024.Idx → EReal) (ix2 r j) = row i x p mu r ⟨j.val, by omega⟩ := by
  pointwise [k0_pay3]

/-- The values. -/
theorem content_at : (k0_pay5 i x p mu : S256x1024.Idx → EReal) (ix2 r j) = row i x p mu r ⟨2048 + j.val, by omega⟩ := by
  pointwise [k0_pay5]

/-- The keys. -/
theorem key_at (A : FVec Ideal S256x1024 .f32) :
    (k0_pay14 (k0_pay4 i x p mu) A w : S256x1024.Idx → EReal) (ix2 r j)
      = key (row i x p mu r) (fun j => (A : S256x1024.Idx → EReal) (ix2 r j)) (fun j => (w : S1x1024.Idx → EReal) (ix2 0 j)) j := by
  unfold key
  pointwise [k0_pay14, k0_pay4]

/-- The keys to be brought to length one. -/
theorem raw_at : (k0_pay13 (k0_pay4 i x p mu) w : S256x1024.Idx → EReal) (ix2 r j) = raw (row i x p mu r) (fun j => (w : S1x1024.Idx → EReal) (ix2 0 j)) j := by
  unfold raw
  pointwise [k0_pay13, k0_pay4]

end row

/-! The sums over a head. -/

/-- The matrix of the lanes of one head: one where row and column are in the same head of the two. -/
abbrev same : FVec Ideal S128x128 .bf16 := k0_pay17 (F := Ideal) k0_pay15 k0_pay16

/-- The head a lane is in, as the body finds it. -/
def headOf (n : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi ArithUnit.vector n 64#32) 0#32))
    (IntOp.subi (IntOp.divsi ArithUnit.vector n 64#32) 1#32)
    (IntOp.divsi ArithUnit.vector n 64#32)

theorem headOf_at (l : Fin 128) : headOf (BitVec.ofNat 32 l.val) = BitVec.ofNat 32 (l.val / 64) := by
  revert l
  decide +kernel

theorem same_word (a b : Fin 2) : IntOp.cmpi .eq (BitVec.ofNat 32 a.val) (BitVec.ofNat 32 b.val) = if a.val = b.val then 1#1 else 0#1 := by
  revert a b
  decide +kernel

theorem same_at (a b : Fin 128) : (same : S128x128.Idx → EReal) (ix2 a b) = if a.val / 64 = b.val / 64 then 1 else 0 := by
  unfold same
  pointwise [k0_pay17, k0_pay15, k0_pay16]
  have ha := headOf_at a
  have hb := headOf_at b
  unfold headOf at ha hb
  rw [ha, hb]
  have h := same_word ⟨a.val / 64, by omega⟩ ⟨b.val / 64, by omega⟩
  simp only [] at h
  rw [h]
  by_cases e : a.val / 64 = b.val / 64 <;> simp [e, Scalar.select]

/-- The two products with it, of the rounded entries and of what rounding leaves, add up to the sum over the head. -/
theorem head_sum (f : Fin 128 → EReal) (hf : ∀ x, f x - f x = 0) (l : Fin 128) :
    ∑ x : Fin 128, f x * (same : S128x128.Idx → EReal) (ix2 x l) + ∑ x : Fin 128, (f x - f x) * (same : S128x128.Idx → EReal) (ix2 x l)
      = ∑ e : Fin 64, f ⟨l.val / 64 * 64 + e.val, by omega⟩ := by
  simp only [hf, zero_mul, Finset.sum_const_zero, add_zero, same_at]
  rw [halves]
  have a0 : ∀ k : Fin 64, k.val / 64 = 0 := fun k => by omega
  have a1 : ∀ k : Fin 64, (64 + k.val) / 64 = 1 := fun k => by omega
  simp only [a0, a1]
  have hl : l.val / 64 = 0 ∨ l.val / 64 = 1 := by omega
  rcases hl with hl | hl
  · simp [hl]
  · simp [hl]

/-- Columns `128 g` to `128 g + 127` of a block. -/
def part (A : FVec Ideal S256x1024 .f32) (g : Fin 8) : FVec Ideal S256x128 .f32 :=
  extractStridedSlice S256x128 ![0, 128 * g.val] A (by revert g; decide)

theorem part_at (A : FVec Ideal S256x1024 .f32) (g : Fin 8) (r : Fin 256) (l : Fin 128) :
    (part A g : S256x128.Idx → EReal) (ix2 r l) = (A : S256x1024.Idx → EReal) (ix2 r ⟨128 * g.val + l.val, by omega⟩) := by
  pointwise [part]

theorem joined_at {α : Type} (f : Fin 8 → S256x128.Idx → α) (xs : List ((s : Shape) × (s.Idx → α)))
    (hx : xs = List.ofFn fun g : Fin 8 => (⟨S256x128, f g⟩ : (s : Shape) × (s.Idx → α)))
    (h : Shape.Concatenates (xs.map (·.1)) S256x1024 1) (r : Fin 256) (g : Fin 8) (l : Fin 128) :
    concatenate S256x1024 1 xs h (ix2 r ⟨128 * g.val + l.val, by omega⟩) = f g (ix2 r l) := by
  subst hx
  refine concatenate_ofFn_apply (t := S256x1024) 1 f h rfl 128 rfl _ g ?_ _ ?_ ?_
  · show (128 * g.val + l.val) / 128 = g.val
    omega
  · show l.val = (128 * g.val + l.val) % 128
    omega
  · intro b hb
    match b with
    | ⟨0, _⟩ => rfl
    | ⟨1, _⟩ => exact absurd rfl hb

/-- The sums over the heads of a strip. -/
def headSums (t : FVec Ideal S256x128 .f32) (q : FVec Ideal S128x128 .bf16) : FVec Ideal S256x128 .f32 :=
  addf (matmul dot_S256x128_S128x128_S256x128_1_0_0_1_n_n none (truncf .bf16 t bitsLt_bf16_f32) q (constant S256x128 .f32 0x00000000#32))
    (matmul dot_S256x128_S128x128_S256x128_1_0_0_1_n_n none (truncf .bf16 (subf t (extf .f32 (truncf .bf16 t bitsLt_bf16_f32) bitsLt_bf16_f32)) bitsLt_bf16_f32) q
      (constant S256x128 .f32 0x00000000#32))

theorem headSums_at (t : FVec Ideal S256x128 .f32) (r : Fin 256) (ht : ∀ x : Fin 128, (t : S256x128.Idx → EReal) (ix2 r x) - (t : S256x128.Idx → EReal) (ix2 r x) = 0) (l : Fin 128) :
    (headSums t same : S256x128.Idx → EReal) (ix2 r l) = ∑ e : Fin 64, (t : S256x128.Idx → EReal) (ix2 r ⟨l.val / 64 * 64 + e.val, by omega⟩) := by
  refine Eq.trans ?_ (head_sum (fun x => (t : S256x128.Idx → EReal) (ix2 r x)) ht l)
  generalize same = q
  pointwise [headSums]

/-- A strip's keys at length one. -/
def unitStrip (t : FVec Ideal S256x128 .f32) (q : FVec Ideal S128x128 .bf16) : FVec Ideal S256x128 .f32 :=
  mulf t (rsqrt (maximumf (headSums (mulf t t) q) (broadcast S256x128 (Scalar.ofBits .f32 0x179ABE15#32))))

/-- The eight strips. -/
def unitBlock (A : FVec Ideal S256x1024 .f32) : FVec Ideal S256x1024 .f32 :=
  k0_pay46 same (k0_pay18 A k0_pay15 k0_pay16) (k0_pay21 A same) (k0_pay27 same (k0_pay23 A) (k0_pay25 A) (k0_pay26 A)) (k0_pay29 A same) (k0_pay34 A same) (k0_pay36 A same)
    (k0_pay39 A same) (k0_pay41 A) (k0_pay43 A) (k0_pay44 A)

theorem unitBlock_strip (A : FVec Ideal S256x1024 .f32) (r : Fin 256) (g : Fin 8) (l : Fin 128) :
    (unitBlock A : S256x1024.Idx → EReal) (ix2 r ⟨128 * g.val + l.val, by omega⟩) = (unitStrip (part A g) same : S256x128.Idx → EReal) (ix2 r l) :=
  joined_at (fun g => unitStrip (part A g) same) _ rfl
    concatenates_S256x128_S256x128_S256x128_S256x128_S256x128_S256x128_S256x128_S256x128_S256x1024_d1 r g l

/-- A strip's bonus. -/
def bonusStrip (a k v : FVec Ideal S256x128 .f32) (w : Vec Ideal S1x128 .f32) (q : FVec Ideal S128x128 .bf16) : FVec Ideal S256x128 .f32 :=
  mulf (headSums (mulf (mulf a k) (broadcastTo S256x128 (shapeCast S1x128 w shapeCasts_S1x128_S1x128) broadcasts_S1x128_S256x128)) q) v

/-- The factors of strip `g`. -/
def factors (w : Vec Ideal S1x1024 .f32) (g : Fin 8) : Vec Ideal S1x128 .f32 :=
  View.ld w (Rect.unit (s := S1x1024) ![0, 128 * g.val] S1x128.size (by revert g; decide))

theorem factors_at (w : Vec Ideal S1x1024 .f32) (g : Fin 8) (l : Fin 128) :
    (factors w g : S1x128.Idx → EReal) (ix2 0 l) = (w : S1x1024.Idx → EReal) (ix2 0 ⟨128 * g.val + l.val, by omega⟩) := by
  refine congrArg (w : S1x1024.Idx → EReal) ?_
  funext a
  match a with
  | ⟨0, _⟩ => rfl
  | ⟨1, _⟩ => exact Fin.ext (by show 128 * g.val + 1 * l.val = 128 * g.val + l.val; omega)

/-- The eight strips of the bonus. -/
def bonusBlock (a k v : FVec Ideal S256x1024 .f32) (w : Vec Ideal S1x1024 .f32) : FVec Ideal S256x1024 .f32 :=
  k0_pay1 (k0_pay20 v k same (k0_pay19 a) (View.ld w r0_6)) (k0_pay22 a v k same (View.ld w r0_7)) (k0_pay28 a v k same (View.ld w r0_8))
    (k0_pay33 v same (k0_pay31 a k (View.ld w r0_9)) (k0_pay32 a k (View.ld w r0_9))) (k0_pay35 a v k same (View.ld w r0_10))
    (k0_pay38 v k same (k0_pay37 a) (View.ld w r0_11)) (k0_pay40 a v k same (View.ld w r0_12)) (k0_pay45 a v k same (View.ld w r0_13))

theorem bonusBlock_strip (a k v : FVec Ideal S256x1024 .f32) (w : Vec Ideal S1x1024 .f32) (r : Fin 256) (g : Fin 8) (l : Fin 128) :
    (bonusBlock a k v w : S256x1024.Idx → EReal) (ix2 r ⟨128 * g.val + l.val, by omega⟩)
      = (bonusStrip (part a g) (part k g) (part v g) (factors w g) same : S256x128.Idx → EReal) (ix2 r l) :=
  joined_at (fun g => bonusStrip (part a g) (part k g) (part v g) (factors w g) same) _ rfl
    concatenates_S256x128_S256x128_S256x128_S256x128_S256x128_S256x128_S256x128_S256x128_S256x1024_d1 r g l

/-- A column is in a strip. -/
theorem strip_of (j : Fin 1024) : ∃ (g : Fin 8) (l : Fin 128), j = ⟨128 * g.val + l.val, by omega⟩ :=
  ⟨⟨j.val / 128, by omega⟩, ⟨j.val % 128, by omega⟩, Fin.ext (by simp only []; omega)⟩

theorem mate_strip (g : Fin 8) (l : Fin 128) (e : Fin 64) :
    (⟨128 * g.val + (l.val / 64 * 64 + e.val), by omega⟩ : Fin 1024) = mate ⟨128 * g.val + l.val, by omega⟩ e := Fin.ext (by simp only []; omega)

/-- The keys at length one stored, from the keys. -/
theorem unitBlock_at (A : FVec Ideal S256x1024 .f32) (r : Fin 256) (f : Fin 1024 → EReal) (hA : ∀ j, (A : S256x1024.Idx → EReal) (ix2 r j) = f j)
    (hf : ∀ j, f j * f j - f j * f j = 0) (j : Fin 1024) :
    (unitBlock A : S256x1024.Idx → EReal) (ix2 r j) = f j * Ideal.rsqrt (max (∑ e : Fin 64, f (mate j e) * f (mate j e)) (Ideal.ofBits .f32 0x179ABE15#32)) := by
  obtain ⟨g, l, rfl⟩ := strip_of j
  rw [unitBlock_strip]
  have h := headSums_at (mulf (part A g) (part A g)) r (fun x => by
    pointwise
    simp only [part_at, hA]
    exact hf _) l
  unfold unitStrip
  generalize headSums (mulf (part A g) (part A g)) same = S at h ⊢
  pointwise
  rw [h]
  have h' : ∀ x : Fin 128, (mulf (part A g) (part A g) : S256x128.Idx → EReal) (ix2 r x) = f ⟨128 * g.val + x.val, by omega⟩ * f ⟨128 * g.val + x.val, by omega⟩ := fun x => by
    pointwise
    simp only [part_at, hA]
  simp only [h', part_at, hA, mate_strip]

/-- The bonus stored, from receptances, keys and values. -/
theorem bonusBlock_at (a k v : FVec Ideal S256x1024 .f32) (w : Vec Ideal S1x1024 .f32) (r : Fin 256) (f : Fin 1024 → EReal)
    (hA : ∀ j, (a : S256x1024.Idx → EReal) (ix2 r j) * (k : S256x1024.Idx → EReal) (ix2 r j) * (w : S1x1024.Idx → EReal) (ix2 0 j) = f j)
    (hf : ∀ j, f j - f j = 0) (j : Fin 1024) :
    (bonusBlock a k v w : S256x1024.Idx → EReal) (ix2 r j) = (∑ e : Fin 64, f (mate j e)) * (v : S256x1024.Idx → EReal) (ix2 r j) := by
  obtain ⟨g, l, rfl⟩ := strip_of j
  rw [bonusBlock_strip]
  have h' : ∀ x : Fin 128, (mulf (mulf (part a g) (part k g)) (broadcastTo S256x128 (shapeCast S1x128 (factors w g) shapeCasts_S1x128_S1x128) broadcasts_S1x128_S256x128)
      : S256x128.Idx → EReal) (ix2 r x) = f ⟨128 * g.val + x.val, by omega⟩ := fun x => by
    pointwise
    simp only [part_at, factors_at, hA]
  unfold bonusStrip
  generalize mulf (mulf (part a g) (part k g)) (broadcastTo S256x128 (shapeCast S1x128 (factors w g) shapeCasts_S1x128_S1x128) broadcasts_S1x128_S256x128) = t at h' ⊢
  have h := headSums_at t r (fun x => by rw [h']; exact hf _) l
  generalize headSums t same = S at h ⊢
  pointwise
  rw [h]
  simp only [h', part_at, mate_strip]

end Cert.Fed

end
-- ==== Proof.FedStored.lean ====
/-
  What a step of the recurrence's preparation leaves in each of its eight blocks, in the words of its arithmetic.
-/
module

public import proofs.«01_k».proof.Defs
public import proofs.«01_k».proof.Proof.FedStep
public import Idealize.ShloMosaic.Lib.Pipeline.ValueKit

@[expose] public section

noncomputable section

namespace Cert.Fed

open Idealize.ShloMosaic Idealize.SL.Sem
open Cert.PrepIdeal Cert.PrepIdeal.Gen Cert.PrepIdeal.Value

variable (i : grid0.Coords) (x0 : Vec Ideal S256x3328 .f32) (x1 : Vec Ideal S8x3328 .f32) (x2 : Vec Ideal S1x3328 .f32) (x3 : Vec Ideal S128x2048 .bf16)
  (x4 : Vec Ideal S128x1024 .bf16) (x5 x6 x7 x8 x9 : Vec Ideal S1x1024 .f32)

theorem stored10 : out0_10 (F := Ideal) i x0 x1 x2 x3 x4 x5 x6 x7 x8 x9 = k0_pay3 i x0 (View.ld x1 r0_1) x2 := by
  unfold_out out0_10
  simp only [View.canon_unit_zero (S := S256x1024) (off := ![0, 0]) (by decide), View.ld_unit_zero (S := S256x3328) (off := ![0, 0]) (by decide),
    View.ld_unit_zero (S := S1x3328) (off := ![0, 0]) (by decide)]

theorem stored11 : out0_11 (F := Ideal) i x0 x1 x2 x3 x4 x5 x6 x7 x8 x9 = k0_pay9 (k0_pay7 i x0 (View.ld x1 r0_1) x2) x3 x5 := by
  unfold_out out0_11
  simp only [View.canon_unit_zero (S := S256x1024) (off := ![0, 0]) (by decide), View.ld_unit_zero (S := S256x3328) (off := ![0, 0]) (by decide),
    View.ld_unit_zero (S := S1x3328) (off := ![0, 0]) (by decide), View.ld_unit_zero (S := S128x2048) (off := ![0, 0]) (by decide),
    View.ld_unit_zero (S := S1x1024) (off := ![0, 0]) (by decide)]

/-- The step's rates and its keys. -/
abbrev stepRate : FVec Ideal S256x1024 .f32 := k0_pay10 (k0_pay7 i x0 (View.ld x1 r0_1) x2) x3 x6
abbrev stepKey : FVec Ideal S256x1024 .f32 := k0_pay14 (k0_pay4 i x0 (View.ld x1 r0_1) x2) (stepRate i x0 x1 x2 x3 x6) x8

theorem stored12 : out0_12 (F := Ideal) i x0 x1 x2 x3 x4 x5 x6 x7 x8 x9 = stepKey i x0 x1 x2 x3 x6 x8 := by
  unfold_out out0_12
  simp only [View.canon_unit_zero (S := S256x1024) (off := ![0, 0]) (by decide), View.ld_unit_zero (S := S256x3328) (off := ![0, 0]) (by decide),
    View.ld_unit_zero (S := S1x3328) (off := ![0, 0]) (by decide), View.ld_unit_zero (S := S128x2048) (off := ![0, 0]) (by decide),
    View.ld_unit_zero (S := S1x1024) (off := ![0, 0]) (by decide)]

theorem stored13 : out0_13 (F := Ideal) i x0 x1 x2 x3 x4 x5 x6 x7 x8 x9 = k0_pay5 i x0 (View.ld x1 r0_1) x2 := by
  unfold_out out0_13
  simp only [View.canon_unit_zero (S := S256x1024) (off := ![0, 0]) (by decide), View.ld_unit_zero (S := S256x3328) (off := ![0, 0]) (by decide),
    View.ld_unit_zero (S := S1x3328) (off := ![0, 0]) (by decide)]

theorem stored14 : out0_14 (F := Ideal) i x0 x1 x2 x3 x4 x5 x6 x7 x8 x9
    = subf (broadcast S256x1024 (Scalar.ofBits .f32 0x00000000#32)) (unitBlock (k0_pay13 (k0_pay4 i x0 (View.ld x1 r0_1) x2) x7)) := by
  unfold_out out0_14
  simp only [View.canon_unit_zero (S := S256x1024) (off := ![0, 0]) (by decide), View.ld_unit_zero (S := S256x3328) (off := ![0, 0]) (by decide),
    View.ld_unit_zero (S := S1x3328) (off := ![0, 0]) (by decide), View.ld_unit_zero (S := S1x1024) (off := ![0, 0]) (by decide)]
  rfl

theorem stored15 : out0_15 (F := Ideal) i x0 x1 x2 x3 x4 x5 x6 x7 x8 x9
    = mulf (unitBlock (k0_pay13 (k0_pay4 i x0 (View.ld x1 r0_1) x2) x7)) (stepRate i x0 x1 x2 x3 x6) := by
  unfold_out out0_15
  simp only [View.canon_unit_zero (S := S256x1024) (off := ![0, 0]) (by decide), View.ld_unit_zero (S := S256x3328) (off := ![0, 0]) (by decide),
    View.ld_unit_zero (S := S1x3328) (off := ![0, 0]) (by decide), View.ld_unit_zero (S := S128x2048) (off := ![0, 0]) (by decide),
    View.ld_unit_zero (S := S1x1024) (off := ![0, 0]) (by decide)]
  rfl

theorem stored16 : out0_16 (F := Ideal) i x0 x1 x2 x3 x4 x5 x6 x7 x8 x9 = k0_pay12 (k0_pay11 (k0_pay6 i x0 (View.ld x1 r0_1) x2)) x4 := by
  unfold_out out0_16
  simp only [View.canon_unit_zero (S := S256x1024) (off := ![0, 0]) (by decide), View.ld_unit_zero (S := S256x3328) (off := ![0, 0]) (by decide),
    View.ld_unit_zero (S := S1x3328) (off := ![0, 0]) (by decide), View.ld_unit_zero (S := S128x1024) (off := ![0, 0]) (by decide)]

theorem stored17 : out0_17 (F := Ideal) i x0 x1 x2 x3 x4 x5 x6 x7 x8 x9
    = bonusBlock (k0_pay3 i x0 (View.ld x1 r0_1) x2) (stepKey i x0 x1 x2 x3 x6 x8) (k0_pay5 i x0 (View.ld x1 r0_1) x2) x9 := by
  unfold_out out0_17
  simp only [View.canon_unit_zero (S := S256x1024) (off := ![0, 0]) (by decide), View.ld_unit_zero (S := S256x3328) (off := ![0, 0]) (by decide),
    View.ld_unit_zero (S := S1x3328) (off := ![0, 0]) (by decide), View.ld_unit_zero (S := S128x2048) (off := ![0, 0]) (by decide),
    View.ld_unit_zero (S := S1x1024) (off := ![0, 0]) (by decide)]
  rfl

/-- The row before the tile, as the body reads it: the last of the eight of its second window. -/
theorem before_at (j : Fin 3328) : (View.ld x1 r0_1 : S1x3328.Idx → EReal) (ix2 0 j) = (x1 : S8x3328.Idx → EReal) (ix2 7 j) := by
  refine congrArg (x1 : S8x3328.Idx → EReal) ?_
  funext a
  match a with
  | ⟨0, _⟩ => rfl
  | ⟨1, _⟩ => exact Fin.ext (by show 0 + 1 * j.val = j.val; omega)

end Cert.Fed

end
-- ==== Proof.Fed.lean ====
/-
  What the recurrence reads: every step takes 256 rows of the projected columns, mixes each with the row before it, and makes of
  them the receptances, decays, keys, values, the two keys of the state's correction, the gates and the bonus.
-/
module

public import proofs.«01_k».proof.Defs
public import proofs.«01_k».proof.Proof.Pins
public import proofs.«01_k».proof.Proof.FedPack
public import proofs.«01_k».proof.Proof.FedStored
public import proofs.«01_k».proof.Proof.Gen.Prep
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Pre_prep_finite
public import Idealize.ShloMosaic.Lib.Quiescent
public import Idealize.ShloMosaic.Lib.Pointwise
public import Idealize.ShloMosaic.Lib.Claim
public import Idealize.ShloMosaic.Lib.Pipeline.ValueKit

@[expose] public section

noncomputable section

namespace Cert.Fed

open Idealize.ShloMosaic Idealize.SL.Sem
open Cert.PrepIdeal Cert.PrepIdeal.Gen Cert.PrepIdeal.Value

/-! Real numbers among the extended ones. -/

def IsReal (x : EReal) : Prop := ∃ r : ℝ, x = (r : EReal)

theorem IsReal.sub_self {x : EReal} (h : IsReal x) : x - x = 0 := by
  obtain ⟨r, rfl⟩ := h
  rw [← EReal.coe_sub, _root_.sub_self]
  rfl

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_zero : IsReal 0 := ⟨0, rfl⟩

theorem isReal_one : IsReal 1 := ⟨1, rfl⟩

/-- The logistic of anything is real. -/
theorem isReal_logistic (y : EReal) : IsReal (Ideal.div 1 (1 + Ideal.exp y)) := by
  induction y with
  | bot =>
    refine ⟨1, ?_⟩
    show Ideal.div 1 (1 + 0) = _
    simp [Ideal.div]
  | top =>
    refine ⟨0, ?_⟩
    show Ideal.div 1 (1 + ⊤) = _
    rw [show (1 : EReal) + ⊤ = ⊤ from EReal.coe_add_top 1]
    simp [Ideal.div]
  | coe r =>
    have hp : (1 : ℝ) + Real.exp r ≠ 0 := (add_pos one_pos (Real.exp_pos r)).ne'
    have e : (1 : EReal) + Ideal.exp (r : EReal) = ((1 + Real.exp r : ℝ) : EReal) := by
      show (1 : EReal) + (Real.exp r : EReal) = _
      rw [EReal.coe_add]
      rfl
    refine ⟨(1 + Real.exp r)⁻¹, ?_⟩
    rw [e]
    unfold Ideal.div
    rw [if_neg (EReal.coe_ne_zero.2 hp), one_mul, EReal.coe_inv]

/-- Two extended reals that compare equal. -/
theorem eq_of_oeq {x y : EReal} (h : Ideal.cmp .oeq x y = 1#1) : x = y := by
  by_contra hne
  simp [Ideal.cmp, hne] at h

/-! Where each window's block stands. -/

theorem place_index (t : Fin cfg0.N) : ((grid0.coords t) 0).val = t.val := by
  revert t
  decide +kernel

theorem index0 (t : Fin cfg0.N) : (cfg0.win 0).index t 0 = t.val ∧ (cfg0.win 0).index t 1 = 0 := by
  revert t
  decide +kernel

theorem index1 (t : Fin cfg0.N) : (cfg0.win 1).index t 0 = 32 * t.val - 1 ∧ (cfg0.win 1).index t 1 = 0 := by
  revert t
  decide +kernel

theorem index2 (t : Fin cfg0.N) : (cfg0.win 2).index t 0 = 0 ∧ (cfg0.win 2).index t 1 = 0 := by
  revert t
  decide +kernel

theorem index3 (t : Fin cfg0.N) : (cfg0.win 3).index t 0 = 0 ∧ (cfg0.win 3).index t 1 = 0 := by
  revert t
  decide +kernel

theorem index4 (t : Fin cfg0.N) : (cfg0.win 4).index t 0 = 0 ∧ (cfg0.win 4).index t 1 = 0 := by
  revert t
  decide +kernel

theorem index5 (t : Fin cfg0.N) : (cfg0.win 5).index t 0 = 0 ∧ (cfg0.win 5).index t 1 = 0 := by
  revert t
  decide +kernel

theorem index6 (t : Fin cfg0.N) : (cfg0.win 6).index t 0 = 0 ∧ (cfg0.win 6).index t 1 = 0 := by
  revert t
  decide +kernel

theorem index7 (t : Fin cfg0.N) : (cfg0.win 7).index t 0 = 0 ∧ (cfg0.win 7).index t 1 = 0 := by
  revert t
  decide +kernel

theorem index8 (t : Fin cfg0.N) : (cfg0.win 8).index t 0 = 0 ∧ (cfg0.win 8).index t 1 = 0 := by
  revert t
  decide +kernel

theorem index9 (t : Fin cfg0.N) : (cfg0.win 9).index t 0 = 0 ∧ (cfg0.win 9).index t 1 = 0 := by
  revert t
  decide +kernel

theorem index10 (t : Fin cfg0.N) : (cfg0.win 10).index t 0 = t.val ∧ (cfg0.win 10).index t 1 = 0 := by
  revert t
  decide +kernel

theorem index11 (t : Fin cfg0.N) : (cfg0.win 11).index t 0 = t.val ∧ (cfg0.win 11).index t 1 = 0 := by
  revert t
  decide +kernel

theorem index12 (t : Fin cfg0.N) : (cfg0.win 12).index t 0 = t.val ∧ (cfg0.win 12).index t 1 = 0 := by
  revert t
  decide +kernel

theorem index13 (t : Fin cfg0.N) : (cfg0.win 13).index t 0 = t.val ∧ (cfg0.win 13).index t 1 = 0 := by
  revert t
  decide +kernel

theorem index14 (t : Fin cfg0.N) : (cfg0.win 14).index t 0 = t.val ∧ (cfg0.win 14).index t 1 = 0 := by
  revert t
  decide +kernel

theorem index15 (t : Fin cfg0.N) : (cfg0.win 15).index t 0 = t.val ∧ (cfg0.win 15).index t 1 = 0 := by
  revert t
  decide +kernel

theorem index16 (t : Fin cfg0.N) : (cfg0.win 16).index t 0 = t.val ∧ (cfg0.win 16).index t 1 = 0 := by
  revert t
  decide +kernel

theorem index17 (t : Fin cfg0.N) : (cfg0.win 17).index t 0 = t.val ∧ (cfg0.win 17).index t 1 = 0 := by
  revert t
  decide +kernel

theorem step_lt (t : Fin cfg0.N) : t.val < 32 := t.isLt

/-- Row `r` of step `t`. -/
abbrev place (t : Fin cfg0.N) (r : Fin 256) : Fin 8192 := ⟨256 * t.val + r.val, by have := step_lt t; omega⟩

variable {m : (ℓ : Loc nD τ sig) → Buf (Elt Ideal) ℓ} {d : Dev nD}

/-! What the call is given, and the blocks of it. -/

theorem block_rows (t : Fin cfg0.N) (r : Fin 256) (j : Fin 3328) :
    (iblk m d (0 : Fin 18) t : S256x3328.Idx → EReal) (ix2 r j) = (m (d.tc.loc main_arg0) : S8192x3328.Idx → EReal) (ix2 (place t r) j) := by
  obtain ⟨e0, e1⟩ := index0 t
  rw [← V_main_arg0 m d]
  blk_ext [iblk, e0, e1]

theorem block_before (t : Fin cfg0.N) (q : Fin 8) (j : Fin 3328) :
    (iblk m d (1 : Fin 18) t : S8x3328.Idx → EReal) (ix2 q j)
      = (m (d.tc.loc main_arg1) : S8192x3328.Idx → EReal) (ix2 ⟨8 * (32 * t.val - 1) + q.val, by have := step_lt t; omega⟩ j) := by
  obtain ⟨e0, e1⟩ := index1 t
  rw [← V_main_arg1 m d]
  blk_ext [iblk, e0, e1]

theorem block_shift (t : Fin cfg0.N) (j : Fin 3328) :
    (iblk m d (2 : Fin 18) t : S1x3328.Idx → EReal) (ix2 0 j) = (m (d.tc.loc main_arg2) : S1x3328.Idx → EReal) (ix2 0 j) := by
  obtain ⟨e0, e1⟩ := index2 t
  have h : (V m d main_v21 : S1x3328.Idx → EReal) (ix2 0 j) = (m (d.tc.loc main_arg2) : S1x3328.Idx → EReal) (ix2 0 j) := by
    entry_read
    pointwise
  refine Eq.trans ?_ h
  blk_ext [iblk, e0, e1]

theorem block_low (t : Fin cfg0.N) (k : Fin 128) (j : Fin 2048) :
    (iblk m d (3 : Fin 18) t : S128x2048.Idx → EReal) (ix2 k j) = (V m d main_v11 : S128x2048.Idx → EReal) (ix2 k j) := by
  obtain ⟨e0, e1⟩ := index3 t
  have g0 : (((cfg0.win 3).blk t).view.emb (ix2 k j : S128x2048.Idx) 0 : ℕ) = k.val := by
    blk_simp [e0]
  have g1 : (((cfg0.win 3).blk t).view.emb (ix2 k j : S128x2048.Idx) 1 : ℕ) = j.val := by
    blk_simp [e1]
  refine congrArg (V m d main_v11 : S128x2048.Idx → EReal) ?_
  funext a
  match a with
  | ⟨0, _⟩ => exact Fin.ext g0
  | ⟨1, _⟩ => exact Fin.ext g1

theorem block_gate (t : Fin cfg0.N) (k : Fin 128) (j : Fin 1024) :
    (iblk m d (4 : Fin 18) t : S128x1024.Idx → EReal) (ix2 k j) = lines128 (m (d.tc.loc main_arg7)) k j := by
  obtain ⟨e0, e1⟩ := index4 t
  have h : (V m d main_v14 : S128x1024.Idx → EReal) (ix2 k j) = (m (d.tc.loc main_arg7) : S1x128x1024.Idx → EReal) (ix3 0 k j) := by
    entry_read
    pointwise
  refine Eq.trans ?_ h
  blk_ext [iblk, e0, e1]

theorem block_decay (t : Fin cfg0.N) (j : Fin 1024) :
    (iblk m d (5 : Fin 18) t : S1x1024.Idx → EReal) (ix2 0 j) = line (m (d.tc.loc main_arg3)) j := by
  obtain ⟨e0, e1⟩ := index5 t
  have h : (V m d main_v22 : S1x1024.Idx → EReal) (ix2 0 j) = (m (d.tc.loc main_arg3) : S1x1024.Idx → EReal) (ix2 0 j) := by
    entry_read
    pointwise
  refine Eq.trans ?_ h
  blk_ext [iblk, e0, e1]

theorem block_rate (t : Fin cfg0.N) (j : Fin 1024) :
    (iblk m d (6 : Fin 18) t : S1x1024.Idx → EReal) (ix2 0 j) = line (m (d.tc.loc main_arg5)) j := by
  obtain ⟨e0, e1⟩ := index6 t
  have h : (V m d main_v23 : S1x1024.Idx → EReal) (ix2 0 j) = (m (d.tc.loc main_arg5) : S1x1024.Idx → EReal) (ix2 0 j) := by
    entry_read
    pointwise
  refine Eq.trans ?_ h
  blk_ext [iblk, e0, e1]

theorem block_raw (t : Fin cfg0.N) (j : Fin 1024) :
    (iblk m d (7 : Fin 18) t : S1x1024.Idx → EReal) (ix2 0 j) = line (m (d.tc.loc main_arg8)) j := by
  obtain ⟨e0, e1⟩ := index7 t
  have h : (V m d main_v24 : S1x1024.Idx → EReal) (ix2 0 j) = (m (d.tc.loc main_arg8) : S1x1024.Idx → EReal) (ix2 0 j) := by
    entry_read
    pointwise
  refine Eq.trans ?_ h
  blk_ext [iblk, e0, e1]

theorem block_key (t : Fin cfg0.N) (j : Fin 1024) :
    (iblk m d (8 : Fin 18) t : S1x1024.Idx → EReal) (ix2 0 j) = line (m (d.tc.loc main_arg9)) j := by
  obtain ⟨e0, e1⟩ := index8 t
  have h : (V m d main_v25 : S1x1024.Idx → EReal) (ix2 0 j) = (m (d.tc.loc main_arg9) : S1x1024.Idx → EReal) (ix2 0 j) := by
    entry_read
    pointwise
  refine Eq.trans ?_ h
  blk_ext [iblk, e0, e1]

theorem block_bonus (t : Fin cfg0.N) (j : Fin 1024) :
    (iblk m d (9 : Fin 18) t : S1x1024.Idx → EReal) (ix2 0 j) = heads (m (d.tc.loc main_arg10)) j := by
  obtain ⟨e0, e1⟩ := index9 t
  have h : (V m d main_v26 : S1x1024.Idx → EReal) (ix2 0 j)
      = (m (d.tc.loc main_arg10) : S1x16x64.Idx → EReal) (ix3 0 ⟨j.val / 64, by omega⟩ ⟨j.val % 64, by omega⟩) := by
    entry_read
    pointwise
  refine Eq.trans ?_ h
  blk_ext [iblk, e0, e1]

/-- What the proof needs of the arguments. -/
structure Real (m : (ℓ : Loc nD τ sig) → Buf (Elt Ideal) ℓ) (d : Dev nD) : Prop where
  twice : ∀ (r : Fin 8192) (j : Fin 3328), (m (d.tc.loc main_arg0) : S8192x3328.Idx → EReal) (ix2 r j) = (m (d.tc.loc main_arg1) : S8192x3328.Idx → EReal) (ix2 r j)
  rows : ∀ (r : Fin 8192) (j : Fin 2048), IsReal ((m (d.tc.loc main_arg0) : S8192x3328.Idx → EReal) (ix2 r ⟨j.val, by omega⟩))
  shift : ∀ j : Fin 2048, IsReal ((m (d.tc.loc main_arg2) : S1x3328.Idx → EReal) (ix2 0 ⟨j.val, by omega⟩))
  raw : ∀ j : Fin 1024, IsReal (line (m (d.tc.loc main_arg8)) j)
  key : ∀ j : Fin 1024, IsReal (line (m (d.tc.loc main_arg9)) j)
  bonus : ∀ j : Fin 1024, IsReal (heads (m (d.tc.loc main_arg10)) j)

/-- The mixed rows of the arguments, and their rates and keys. -/
abbrev rowM (m : (ℓ : Loc nD τ sig) → Buf (Elt Ideal) ℓ) (d : Dev nD) : Fin 8192 → Fin 3328 → EReal := shifted (m (d.tc.loc main_arg0)) (m (d.tc.loc main_arg2))
abbrev rateM (m : (ℓ : Loc nD τ sig) → Buf (Elt Ideal) ℓ) (d : Dev nD) (r : Fin 8192) : Fin 1024 → EReal :=
  rate (rowM m d r) (line (m (d.tc.loc main_arg5))) (lines64 (m (d.tc.loc main_arg6)))
abbrev keyM (m : (ℓ : Loc nD τ sig) → Buf (Elt Ideal) ℓ) (d : Dev nD) (r : Fin 8192) : Fin 1024 → EReal :=
  key (rowM m d r) (rateM m d r) (line (m (d.tc.loc main_arg9)))

/-- The blocks of a step, in the order its body takes them. -/
abbrev rowsOf (m : (ℓ : Loc nD τ sig) → Buf (Elt Ideal) ℓ) (d : Dev nD) (t : Fin cfg0.N) (r : Fin 256) : Fin 3328 → EReal :=
  row (grid0.coords t) (iblk m d (0 : Fin 18) t) (View.ld (iblk m d (1 : Fin 18) t : Vec Ideal S8x3328 .f32) r0_1) (iblk m d (2 : Fin 18) t) r

/-- A step's mixed rows are those of the arguments. -/
theorem rows_mixed (hr : Real m d) (t : Fin cfg0.N) (r : Fin 256) : rowsOf m d t r = rowM m d (place t r) := by
  funext j
  refine (mixed _ _ _ _ r j).trans ?_
  unfold blockRow rowM shifted
  have ht := step_lt t
  have hb : (View.ld (iblk m d (1 : Fin 18) t : Vec Ideal S8x3328 .f32) r0_1 : S1x3328.Idx → EReal) (ix2 0 j)
      = (m (d.tc.loc main_arg0) : S8192x3328.Idx → EReal) (ix2 ⟨8 * (32 * t.val - 1) + 7, by omega⟩ j) :=
    (before_at _ j).trans ((block_before t 7 j).trans (hr.twice _ j).symm)
  rw [hb, block_rows, block_rows, block_shift, place_index]
  refine congrArg (fun z : EReal => _ + (z - _) * _) ?_
  by_cases h0 : r.val = 0
  · rw [if_pos h0]
    by_cases h1 : t.val % 16 = 0
    · rw [if_pos h1, if_pos (by show (256 * t.val + r.val) % 4096 = 0; omega)]
    · rw [if_neg h1, if_neg (by show ¬(256 * t.val + r.val) % 4096 = 0; omega)]
      refine congrArg (fun z : Fin 8192 => (m (d.tc.loc main_arg0) : S8192x3328.Idx → EReal) (ix2 z j)) (Fin.ext ?_)
      show 8 * (32 * t.val - 1) + 7 = 256 * t.val + r.val - 1
      omega
  · rw [if_neg h0, if_neg (by show ¬(256 * t.val + r.val) % 4096 = 0; omega)]
    refine congrArg (fun z : Fin 8192 => (m (d.tc.loc main_arg0) : S8192x3328.Idx → EReal) (ix2 z j)) (Fin.ext ?_)
    show 256 * t.val + (r.val - 1) = 256 * t.val + r.val - 1
    omega

/-! The first 2048 of its columns are real. -/

theorem row_real (hr : Real m d) (r : Fin 8192) (j : Fin 2048) : IsReal (rowM m d r ⟨j.val, by omega⟩) := by
  unfold rowM shifted
  refine (hr.rows r j).add ((IsReal.sub ?_ (hr.rows r j)).mul (hr.shift j))
  split
  · exact isReal_zero
  · exact hr.rows _ j

theorem raw_real (hr : Real m d) (r : Fin 8192) (j : Fin 1024) : IsReal (raw (rowM m d r) (line (m (d.tc.loc main_arg8))) j) :=
  (row_real hr r ⟨1024 + j.val, by omega⟩).mul (hr.raw j)

theorem key_real (hr : Real m d) (r : Fin 8192) (j : Fin 1024) : IsReal (keyM m d r j) :=
  (row_real hr r ⟨1024 + j.val, by omega⟩).mul (isReal_one.add (((isReal_logistic _).sub isReal_one).mul (hr.key j)))

theorem bonus_real (hr : Real m d) (r : Fin 8192) (j : Fin 1024) :
    IsReal (rowM m d r ⟨j.val, by omega⟩ * keyM m d r j * heads (m (d.tc.loc main_arg10)) j) :=
  ((row_real hr r ⟨j.val, by omega⟩).mul (key_real hr r j)).mul (hr.bonus j)

/-! The eight blocks a step writes. -/

/-- What a step leaves in a block, from the blocks of its ten windows. -/
abbrev leaves (f : grid0.Coords → Vec Ideal S256x3328 .f32 → Vec Ideal S8x3328 .f32 → Vec Ideal S1x3328 .f32 → Vec Ideal S128x2048 .bf16 → Vec Ideal S128x1024 .bf16 →
      Vec Ideal S1x1024 .f32 → Vec Ideal S1x1024 .f32 → Vec Ideal S1x1024 .f32 → Vec Ideal S1x1024 .f32 → Vec Ideal S1x1024 .f32 → Vec Ideal S256x1024 .f32)
    (m : (ℓ : Loc nD τ sig) → Buf (Elt Ideal) ℓ) (d : Dev nD) (t : Fin cfg0.N) : S256x1024.Idx → EReal :=
  f (grid0.coords t) (iblk m d (0 : Fin 18) t) (iblk m d (1 : Fin 18) t) (iblk m d (2 : Fin 18) t) (iblk m d (3 : Fin 18) t) (iblk m d (4 : Fin 18) t)
    (iblk m d (5 : Fin 18) t) (iblk m d (6 : Fin 18) t) (iblk m d (7 : Fin 18) t) (iblk m d (8 : Fin 18) t) (iblk m d (9 : Fin 18) t)

theorem value10 (hr : Real m d) (t : Fin cfg0.N) (r : Fin 256) (j : Fin 1024) :
    leaves (out0_10 (F := Ideal)) m d t (ix2 r j) = receptances (m (d.tc.loc main_arg0)) (m (d.tc.loc main_arg2)) (ix2 (place t r) j) := by
  unfold leaves
  rw [stored10]
  exact (receptance_at _ _ _ _ r j).trans (congrFun (rows_mixed hr t r) _)

theorem value11 (hr : Real m d) (t : Fin cfg0.N) (r : Fin 256) (j : Fin 1024) :
    leaves (out0_11 (F := Ideal)) m d t (ix2 r j)
      = decays (m (d.tc.loc main_arg0)) (m (d.tc.loc main_arg2)) (m (d.tc.loc main_arg3)) (m (d.tc.loc main_arg4)) (ix2 (place t r) j) := by
  unfold leaves
  rw [stored11]
  refine (decay_at _ _ _ _ r _ _ (lines64 (m (d.tc.loc main_arg4))) j (fun k j => (block_low t _ _).trans (packed_decay k j)) (fun k j => (block_low t _ _).trans (packed_below k j))).trans ?_
  rw [funext (block_decay (m := m) (d := d) t)]
  exact congrArg (fun s => decay s _ _ j) (rows_mixed hr t r)

theorem step_rate (hr : Real m d) (t : Fin cfg0.N) (r : Fin 256) (j : Fin 1024) :
    (stepRate (grid0.coords t) (iblk m d (0 : Fin 18) t) (iblk m d (1 : Fin 18) t) (iblk m d (2 : Fin 18) t) (iblk m d (3 : Fin 18) t) (iblk m d (6 : Fin 18) t) : S256x1024.Idx → EReal) (ix2 r j)
      = rateM m d (place t r) j := by
  refine (rate_at _ _ _ _ r _ _ (lines64 (m (d.tc.loc main_arg6))) j (fun k j => (block_low t _ _).trans (packed_beside k j)) (fun k j => (block_low t _ _).trans (packed_rate k j))).trans ?_
  rw [funext (block_rate (m := m) (d := d) t)]
  exact congrArg (fun s => rate s _ _ j) (rows_mixed hr t r)

theorem step_key (hr : Real m d) (t : Fin cfg0.N) (r : Fin 256) (j : Fin 1024) :
    (stepKey (grid0.coords t) (iblk m d (0 : Fin 18) t) (iblk m d (1 : Fin 18) t) (iblk m d (2 : Fin 18) t) (iblk m d (3 : Fin 18) t) (iblk m d (6 : Fin 18) t) (iblk m d (8 : Fin 18) t)
        : S256x1024.Idx → EReal) (ix2 r j)
      = keyM m d (place t r) j := by
  refine (key_at _ _ _ _ r _ j _).trans ?_
  rw [funext (block_key (m := m) (d := d) t), funext (step_rate hr t r)]
  exact congrArg (fun s => key s _ _ j) (rows_mixed hr t r)

theorem value12 (hr : Real m d) (t : Fin cfg0.N) (r : Fin 256) (j : Fin 1024) :
    leaves (out0_12 (F := Ideal)) m d t (ix2 r j)
      = keys (m (d.tc.loc main_arg0)) (m (d.tc.loc main_arg2)) (m (d.tc.loc main_arg5)) (m (d.tc.loc main_arg9)) (m (d.tc.loc main_arg6)) (ix2 (place t r) j) := by
  unfold leaves
  rw [stored12]
  exact step_key hr t r j

theorem value13 (hr : Real m d) (t : Fin cfg0.N) (r : Fin 256) (j : Fin 1024) :
    leaves (out0_13 (F := Ideal)) m d t (ix2 r j) = contents (m (d.tc.loc main_arg0)) (m (d.tc.loc main_arg2)) (ix2 (place t r) j) := by
  unfold leaves
  rw [stored13]
  exact (content_at _ _ _ _ r j).trans (congrFun (rows_mixed hr t r) _)

/-- The keys at length one of a step. -/
theorem step_direction (hr : Real m d) (t : Fin cfg0.N) (r : Fin 256) (j : Fin 1024) :
    (unitBlock (k0_pay13 (k0_pay4 (grid0.coords t) (iblk m d (0 : Fin 18) t) (View.ld (iblk m d (1 : Fin 18) t : Vec Ideal S8x3328 .f32) r0_1) (iblk m d (2 : Fin 18) t))
        (iblk m d (7 : Fin 18) t)) : S256x1024.Idx → EReal) (ix2 r j)
      = direction (rowM m d (place t r)) (line (m (d.tc.loc main_arg8))) j := by
  refine unitBlock_at _ r (raw (rowM m d (place t r)) (line (m (d.tc.loc main_arg8)))) (fun j => ?_) (fun j => ((raw_real hr _ j).mul (raw_real hr _ j)).sub_self) j
  refine (raw_at _ _ _ _ r _ j).trans ?_
  rw [funext (block_raw (m := m) (d := d) t)]
  exact congrArg (fun s => raw s _ j) (rows_mixed hr t r)

theorem value14 (hr : Real m d) (t : Fin cfg0.N) (r : Fin 256) (j : Fin 1024) :
    leaves (out0_14 (F := Ideal)) m d t (ix2 r j)
      = removals (m (d.tc.loc main_arg0)) (m (d.tc.loc main_arg2)) (m (d.tc.loc main_arg8)) (ix2 (place t r) j) := by
  unfold leaves
  rw [stored14]
  have h := step_direction hr t r j
  generalize unitBlock _ = U at h ⊢
  pointwise
  rw [h, zero_sub]
  rfl

theorem value15 (hr : Real m d) (t : Fin cfg0.N) (r : Fin 256) (j : Fin 1024) :
    leaves (out0_15 (F := Ideal)) m d t (ix2 r j)
      = refills (m (d.tc.loc main_arg0)) (m (d.tc.loc main_arg2)) (m (d.tc.loc main_arg5)) (m (d.tc.loc main_arg8)) (m (d.tc.loc main_arg6)) (ix2 (place t r) j) := by
  unfold leaves
  rw [stored15]
  have h := step_direction hr t r j
  have h' := step_rate hr t r j
  generalize unitBlock _ = U at h ⊢
  generalize stepRate _ _ _ _ _ _ = R at h' ⊢
  pointwise
  rw [h, h']
  rfl

theorem value16 (hr : Real m d) (t : Fin cfg0.N) (r : Fin 256) (j : Fin 1024) :
    leaves (out0_16 (F := Ideal)) m d t (ix2 r j)
      = gates (m (d.tc.loc main_arg0)) (m (d.tc.loc main_arg2)) (m (d.tc.loc main_arg7)) (ix2 (place t r) j) := by
  unfold leaves
  rw [stored16]
  refine (gate_at _ _ _ _ r j _).trans ?_
  rw [funext fun k => funext (block_gate (m := m) (d := d) t k)]
  exact congrArg (fun s => gate s _ j) (rows_mixed hr t r)

theorem value17 (hr : Real m d) (t : Fin cfg0.N) (r : Fin 256) (j : Fin 1024) :
    leaves (out0_17 (F := Ideal)) m d t (ix2 r j)
      = bonuses (m (d.tc.loc main_arg0)) (m (d.tc.loc main_arg2)) (m (d.tc.loc main_arg5)) (m (d.tc.loc main_arg9)) (m (d.tc.loc main_arg6)) (m (d.tc.loc main_arg10)) (ix2 (place t r) j) := by
  unfold leaves
  rw [stored17]
  refine (bonusBlock_at _ _ _ _ r (fun j => rowM m d (place t r) ⟨j.val, by omega⟩ * keyM m d (place t r) j * heads (m (d.tc.loc main_arg10)) j) (fun j => ?_)
    (fun j => (bonus_real hr _ j).sub_self) j).trans ?_
  · rw [step_key hr t r j, block_bonus t j]
    exact congrArg (fun z : EReal => z * _ * _) ((receptance_at _ _ _ _ r j).trans (congrFun (rows_mixed hr t r) _))
  · exact congrArg (fun z : EReal => _ * z) ((content_at _ _ _ _ r j).trans (congrFun (rows_mixed hr t r) _))

/-! The eight arrays. -/

/-- A block that agrees with the rows of its step, where it stands. -/
theorem on_block {f : S256x1024.Idx → EReal} {g : S8192x1024.Idx → EReal} {t : Fin cfg0.N} (h : ∀ r j, f (ix2 r j) = g (ix2 (place t r) j))
    {z : S8192x1024.Idx} {y : S256x1024.Idx} (h0 : (z 0).val = t.val * 256 + (y 0).val) (h1 : (z 1).val = (y 1).val) : f y = g z := by
  have ey : y = ix2 (y 0) (y 1) := by
    funext a
    match a with
    | ⟨0, _⟩ => rfl
    | ⟨1, _⟩ => rfl
  have ez : z = ix2 (place t (y 0)) (y 1) := by
    funext a
    match a with
    | ⟨0, _⟩ => exact Fin.ext (by show (z 0).val = 256 * t.val + (y 0).val; omega)
    | ⟨1, _⟩ => exact Fin.ext h1
  rw [ez]
  exact (congrArg f ey).trans (h (y 0) (y 1))

theorem array10 (hr : Real m d) : (dats m 0 d).arrAt 10 cfg0.N = receptances (m (d.tc.loc main_arg0)) (m (d.tc.loc main_arg2)) := by
  refine (dats m 0 d).arrAt_eq_of_covers 10 _ (by decide +kernel) fun t hf y => ?_
  obtain ⟨e0, e1⟩ := index10 t
  blk_simp
  rw [after0_10]
  exact on_block (value10 hr t) (by blk_simp [e0]) (by blk_simp [e1])

theorem array11 (hr : Real m d) : (dats m 0 d).arrAt 11 cfg0.N = decays (m (d.tc.loc main_arg0)) (m (d.tc.loc main_arg2)) (m (d.tc.loc main_arg3)) (m (d.tc.loc main_arg4)) := by
  refine (dats m 0 d).arrAt_eq_of_covers 11 _ (by decide +kernel) fun t hf y => ?_
  obtain ⟨e0, e1⟩ := index11 t
  blk_simp
  rw [after0_11]
  exact on_block (value11 hr t) (by blk_simp [e0]) (by blk_simp [e1])

theorem array12 (hr : Real m d) : (dats m 0 d).arrAt 12 cfg0.N = keys (m (d.tc.loc main_arg0)) (m (d.tc.loc main_arg2)) (m (d.tc.loc main_arg5)) (m (d.tc.loc main_arg9)) (m (d.tc.loc main_arg6)) := by
  refine (dats m 0 d).arrAt_eq_of_covers 12 _ (by decide +kernel) fun t hf y => ?_
  obtain ⟨e0, e1⟩ := index12 t
  blk_simp
  rw [after0_12]
  exact on_block (value12 hr t) (by blk_simp [e0]) (by blk_simp [e1])

theorem array13 (hr : Real m d) : (dats m 0 d).arrAt 13 cfg0.N = contents (m (d.tc.loc main_arg0)) (m (d.tc.loc main_arg2)) := by
  refine (dats m 0 d).arrAt_eq_of_covers 13 _ (by decide +kernel) fun t hf y => ?_
  obtain ⟨e0, e1⟩ := index13 t
  blk_simp
  rw [after0_13]
  exact on_block (value13 hr t) (by blk_simp [e0]) (by blk_simp [e1])

theorem array14 (hr : Real m d) : (dats m 0 d).arrAt 14 cfg0.N = removals (m (d.tc.loc main_arg0)) (m (d.tc.loc main_arg2)) (m (d.tc.loc main_arg8)) := by
  refine (dats m 0 d).arrAt_eq_of_covers 14 _ (by decide +kernel) fun t hf y => ?_
  obtain ⟨e0, e1⟩ := index14 t
  blk_simp
  rw [after0_14]
  exact on_block (value14 hr t) (by blk_simp [e0]) (by blk_simp [e1])

theorem array15 (hr : Real m d) : (dats m 0 d).arrAt 15 cfg0.N = refills (m (d.tc.loc main_arg0)) (m (d.tc.loc main_arg2)) (m (d.tc.loc main_arg5)) (m (d.tc.loc main_arg8)) (m (d.tc.loc main_arg6)) := by
  refine (dats m 0 d).arrAt_eq_of_covers 15 _ (by decide +kernel) fun t hf y => ?_
  obtain ⟨e0, e1⟩ := index15 t
  blk_simp
  rw [after0_15]
  exact on_block (value15 hr t) (by blk_simp [e0]) (by blk_simp [e1])

theorem array16 (hr : Real m d) : (dats m 0 d).arrAt 16 cfg0.N = gates (m (d.tc.loc main_arg0)) (m (d.tc.loc main_arg2)) (m (d.tc.loc main_arg7)) := by
  refine (dats m 0 d).arrAt_eq_of_covers 16 _ (by decide +kernel) fun t hf y => ?_
  obtain ⟨e0, e1⟩ := index16 t
  blk_simp
  rw [after0_16]
  exact on_block (value16 hr t) (by blk_simp [e0]) (by blk_simp [e1])

theorem array17 (hr : Real m d) : (dats m 0 d).arrAt 17 cfg0.N = bonuses (m (d.tc.loc main_arg0)) (m (d.tc.loc main_arg2)) (m (d.tc.loc main_arg5)) (m (d.tc.loc main_arg9)) (m (d.tc.loc main_arg6)) (m (d.tc.loc main_arg10)) := by
  refine (dats m 0 d).arrAt_eq_of_covers 17 _ (by decide +kernel) fun t hf y => ?_
  obtain ⟨e0, e1⟩ := index17 t
  blk_simp
  rw [after0_17]
  exact on_block (value17 hr t) (by blk_simp [e0]) (by blk_simp [e1])

/-- The precondition's reading. -/
theorem real_of_finite (h : Cert.Pre_PrepIdeal_prep_finite (hPre_prep_finite := Cert.Pre_prep_finite.Gen.facts) m) : Real m d := by
  have e5 := Cert.Attn.andi_both (congrFun (h d) (fun a => a.elim0))
  have e4 := Cert.Attn.andi_both e5.1
  have e3 := Cert.Attn.andi_both e4.1
  have e2 := Cert.Attn.andi_both e3.1
  have e1 := Cert.Attn.andi_both e2.1
  refine ⟨fun r j => ?_, fun r j => ⟨_, (Cert.Attn.coe_of_abs_lt ((?_ : _ = _).trans (Host.reduce_andi_all _ _ _ _ _ e1.2 (ix2 r j)))).symm⟩,
    fun j => ⟨_, (Cert.Attn.coe_of_abs_lt ((?_ : _ = _).trans (Host.reduce_andi_all _ _ _ _ _ e2.2 (ix2 0 j)))).symm⟩,
    fun j => ⟨_, (Cert.Attn.coe_of_abs_lt ((?_ : _ = _).trans (Host.reduce_andi_all _ _ _ _ _ e3.2 (ix2 0 j)))).symm⟩,
    fun j => ⟨_, (Cert.Attn.coe_of_abs_lt ((?_ : _ = _).trans (Host.reduce_andi_all _ _ _ _ _ e4.2 (ix2 0 j)))).symm⟩,
    fun j => ⟨_, (Cert.Attn.coe_of_abs_lt ((?_ : _ = _).trans (Host.reduce_andi_all _ _ _ _ _ e5.2 (ix3 0 ⟨j.val / 64, by omega⟩ ⟨j.val % 64, by omega⟩)))).symm⟩⟩
  · have q := Host.reduce_andi_all _ _ _ _ _ e1.1 (ix2 r j)
    refine eq_of_oeq (Eq.trans ?_ q)
    rfl
  all_goals
    pointwise
    rfl

/-- The kernel over the reals equals the reference over the reals. -/
theorem algebraic : Cert.algebraic_PrepIdeal_PrepRefIdeal_pre_prep_finite (hPrepIdeal := Cert.PrepIdeal.Gen.facts) (hPrepRefIdeal := Cert.PrepRefIdeal.Gen.facts)
    (hPre_prep_finite := Cert.Pre_prep_finite.Gen.facts) := by
  intro m g m' g' hp hin
  refine ⟨fun c => receptances (m (c.tc.loc main_arg0)) (m (c.tc.loc main_arg2)),
    fun c => decays (m (c.tc.loc main_arg0)) (m (c.tc.loc main_arg2)) (m (c.tc.loc main_arg3)) (m (c.tc.loc main_arg4)),
    fun c => keys (m (c.tc.loc main_arg0)) (m (c.tc.loc main_arg2)) (m (c.tc.loc main_arg5)) (m (c.tc.loc main_arg9)) (m (c.tc.loc main_arg6)),
    fun c => contents (m (c.tc.loc main_arg0)) (m (c.tc.loc main_arg2)),
    fun c => removals (m (c.tc.loc main_arg0)) (m (c.tc.loc main_arg2)) (m (c.tc.loc main_arg8)),
    fun c => refills (m (c.tc.loc main_arg0)) (m (c.tc.loc main_arg2)) (m (c.tc.loc main_arg5)) (m (c.tc.loc main_arg8)) (m (c.tc.loc main_arg6)),
    fun c => gates (m (c.tc.loc main_arg0)) (m (c.tc.loc main_arg2)) (m (c.tc.loc main_arg7)),
    fun c => bonuses (m (c.tc.loc main_arg0)) (m (c.tc.loc main_arg2)) (m (c.tc.loc main_arg5)) (m (c.tc.loc main_arg9)) (m (c.tc.loc main_arg6)) (m (c.tc.loc main_arg10)), ?_, ?_⟩
  · refine (θ_run defs _ _).mono (fun r h c => ?_) (run_blocks m g)
    obtain ⟨h0, h1, h2, h3, h4, h5, h6, h7, h8⟩ := h c
    have hr : Real m c := real_of_finite hp
    exact ⟨h0.trans (array10 hr), h1.trans (array11 hr), h2.trans (array12 hr), h3.trans (array13 hr), h4.trans (array14 hr), h5.trans (array15 hr), h6.trans (array16 hr), h7.trans (array17 hr), h8⟩
  · refine (θ_run Cert.PrepRefIdeal.defs _ _).mono (fun r h c => ?_) (Cert.PrepRefIdeal.Value.run (F := Ideal) m' g')
    obtain ⟨h0, h1, h2, h3, h4, h5, h6, h7, h8⟩ := h c
    obtain ⟨i0, i1, i2, i3, i4, i5, i6, i7, i8, i9, i10⟩ := hin c
    refine ⟨h0.trans ?_, h1.trans ?_, h2.trans ?_, h3.trans ?_, h4.trans ?_, h5.trans ?_, h6.trans ?_, h7.trans ?_, h8⟩
    · rw [Cert.PrepRefIdeal.Read.val_main_v85_eq, i0, i2]
      exact results85 _ _
    · rw [Cert.PrepRefIdeal.Read.val_main_v86_eq, i0, i2, i3, i4]
      exact results86 _ _ _ _
    · rw [Cert.PrepRefIdeal.Read.val_main_v87_eq, i0, i2, i5, i6, i9]
      exact results87 _ _ _ _ _
    · rw [Cert.PrepRefIdeal.Read.val_main_v88_eq, i0, i2]
      exact results88 _ _
    · rw [Cert.PrepRefIdeal.Read.val_main_v90_eq, i0, i2, i8]
      exact results90 _ _ _
    · rw [Cert.PrepRefIdeal.Read.val_main_v92_eq, i0, i2, i5, i6, i8]
      exact results92 _ _ _ _ _
    · rw [Cert.PrepRefIdeal.Read.val_main_v93_eq, i0, i2, i7]
      exact results93 _ _ _
    · rw [Cert.PrepRefIdeal.Read.val_main_v94_eq, i0, i2, i5, i6, i9, i10]
      exact results94 _ _ _ _ _ _

/-- The printed kernel runs to its end and leaves its arguments as they were. -/
theorem frame : Cert.quiescent_Prep (hPrep := Cert.Prep.Gen.facts) := fun m ρ _ => Cert.Prep.Gen.frame m ρ

/-- So does the kernel over the reals. -/
theorem frame_ideal : Cert.quiescent_PrepIdeal (hPrepIdeal := Cert.PrepIdeal.Gen.facts) := fun m ρ _ => Cert.PrepIdeal.Gen.frame m ρ

/-- And from the data of the precondition. -/
theorem frame_ideal_finite : Cert.quiescent_PrepIdeal_pre_prep_finite (hPrepIdeal := Cert.PrepIdeal.Gen.facts) (hPre_prep_finite := Cert.Pre_prep_finite.Gen.facts) :=
  fun m ρ _ => Cert.PrepIdeal.Gen.frame m ρ

/-- So does the reference over the reals. -/
theorem frame_reference : Cert.quiescent_PrepRefIdeal (hPrepRefIdeal := Cert.PrepRefIdeal.Gen.facts) :=
  fun m ρ _ => (θ_run Cert.PrepRefIdeal.defs _ _).mono
    (fun r h => ⟨fun c => (h c).2.2.2.2.2.2.2.2, sem_eq_zero_of_no_sems (by decide) r.2⟩) (Cert.PrepRefIdeal.Value.run m ρ)

/-- And from the data of the precondition. -/
theorem frame_reference_finite : Cert.quiescent_PrepRefIdeal_pre_prep_finite (hPrepRefIdeal := Cert.PrepRefIdeal.Gen.facts) (hPre_prep_finite := Cert.Pre_prep_finite.Gen.facts) :=
  fun m ρ _ => (θ_run Cert.PrepRefIdeal.defs _ _).mono
    (fun r h => ⟨fun c => (h c).2.2.2.2.2.2.2.2, sem_eq_zero_of_no_sems (by decide) r.2⟩) (Cert.PrepRefIdeal.Value.run m ρ)

end Cert.Fed

end
-- ==== Proof.lean ====
/-
  The claims of the calls: kernel, idealization and reference end with the arguments unchanged and every counter at zero, the
  idealization rewrote nothing, and over the ideal numbers kernel and reference leave the same output.
-/
module

public import proofs.«01_k».proof.Defs
public import proofs.«01_k».proof.Proof.Gen.Kernel
public import proofs.«01_k».proof.Proof.Frames
public import proofs.«01_k».proof.Proof.Value
public import proofs.«01_k».proof.Proof.Gates
public import proofs.«01_k».proof.Proof.RwkvCols
public import proofs.«01_k».proof.Proof.ValueCols
public import proofs.«01_k».proof.Proof.Merged
public import proofs.«01_k».proof.Proof.RopedRef
public import proofs.«01_k».proof.Proof.Projected
public import proofs.«01_k».proof.Proof.Normed
public import proofs.«01_k».proof.Proof.Conditioned
public import proofs.«01_k».proof.Proof.HeadNorm
public import proofs.«01_k».proof.Proof.Fed
public import proofs.«01_k».proof.Proof.Gen.Gate
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.Gen.Rwkv
public import proofs.«01_k».proof.Proof.Gen.Rwkv.Frame
public import proofs.«01_k».proof.Proof.Gen.RwkvIdeal.Value
public import proofs.«01_k».proof.Proof.Gen.RwkvRefIdeal.Run
public import proofs.«01_k».proof.Proof.Gen.RwkvRefIdeal.Read
public import proofs.«01_k».proof.Proof.Gen.Values
public import proofs.«01_k».proof.Proof.Gen.Values.Frame
public import proofs.«01_k».proof.Proof.Gen.ValuesIdeal.Value
public import proofs.«01_k».proof.Proof.Gen.ValuesRefIdeal.Run
public import proofs.«01_k».proof.Proof.Gen.ValuesRefIdeal.Read
public import proofs.«01_k».proof.Proof.Gen.Merge
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Norm
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Ada
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Post
public import proofs.«01_k».proof.Proof.Gen.Post.Frame
public import proofs.«01_k».proof.Proof.Gen.PostIdeal.Value
public import proofs.«01_k».proof.Proof.Gen.PostRefIdeal.Run
public import proofs.«01_k».proof.Proof.Gen.PostRefIdeal.Read
public import proofs.«01_k».proof.Proof.Gen.Prep
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Pre_prep_finite
public import proofs.«01_k».proof.Proof.Gen.Rope
public import proofs.«01_k».proof.Proof.Gen.Rope.Frame
public import proofs.«01_k».proof.Proof.Gen.RopeIdeal
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.OutProj
public import proofs.«01_k».proof.Proof.Gen.OutProj.Frame
public import proofs.«01_k».proof.Proof.Gen.OutProj.Skeleton
public import proofs.«01_k».proof.Proof.Gen.OutProjIdeal.Skeleton
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Pre_out_finite

@[expose] public section

noncomputable section

namespace Cert.Proof

theorem claim : Cert.Claim :=
  ⟨Cert.Kernel.Gen.facts, Cert.KernelIdeal.Gen.facts, Cert.ReferenceIdeal.Gen.facts,
    Cert.Gate.Gen.facts, Cert.GateIdeal.Gen.facts, Cert.GateRefIdeal.Gen.facts,
    Cert.Rwkv.Gen.facts, Cert.RwkvIdeal.Gen.facts, Cert.RwkvRefIdeal.Gen.facts,
    Cert.Values.Gen.facts, Cert.ValuesIdeal.Gen.facts, Cert.ValuesRefIdeal.Gen.facts,
    Cert.Merge.Gen.facts, Cert.MergeIdeal.Gen.facts, Cert.MergeRefIdeal.Gen.facts,
    Cert.Rope.Gen.facts, Cert.RopeIdeal.Gen.facts, Cert.RopeRefIdeal.Gen.facts,
    Cert.OutProj.Gen.facts, Cert.OutProjIdeal.Gen.facts, Cert.OutProjRefIdeal.Gen.facts,
    Cert.Norm.Gen.facts, Cert.NormIdeal.Gen.facts, Cert.NormRefIdeal.Gen.facts,
    Cert.Ada.Gen.facts, Cert.AdaIdeal.Gen.facts, Cert.AdaRefIdeal.Gen.facts,
    Cert.Post.Gen.facts, Cert.PostIdeal.Gen.facts, Cert.PostRefIdeal.Gen.facts,
    Cert.Prep.Gen.facts, Cert.PrepIdeal.Gen.facts, Cert.PrepRefIdeal.Gen.facts,
    Cert.Pre_triangle.Gen.facts, Cert.Pre_triangle_finite.Gen.facts, Cert.Pre_out_finite.Gen.facts, Cert.Pre_prep_finite.Gen.facts,
    Cert.Attn.frame_kernel, Cert.Attn.frame_ideal, Cert.Attn.frame_finite, Cert.Attn.frame_reference, Cert.Attn.frame_reference_finite,
    Cert.Gates.frame, Cert.Gates.frame_ideal, Cert.Gates.frame_reference,
    Cert.RwkvCols.frame, Cert.RwkvCols.frame_ideal, Cert.RwkvCols.frame_reference,
    Cert.ValueCols.frame, Cert.ValueCols.frame_ideal, Cert.ValueCols.frame_reference,
    Cert.Merged.frame, Cert.Merged.frame_ideal, Cert.Merged.frame_reference,
    Cert.Roped.frame, Cert.Roped.frame_ideal, Cert.Roped.frame_reference,
    Cert.Projected.frame, Cert.Projected.frame_ideal, Cert.Projected.frame_ideal_finite, Cert.Projected.frame_reference, Cert.Projected.frame_reference_finite,
    Cert.Normed.frame, Cert.Normed.frame_ideal, Cert.Normed.frame_reference,
    Cert.Conditioned.frame, Cert.Conditioned.frame_ideal, Cert.Conditioned.frame_reference,
    Cert.HeadNorm.frame, Cert.HeadNorm.frame_ideal, Cert.HeadNorm.frame_reference,
    Cert.Fed.frame, Cert.Fed.frame_ideal, Cert.Fed.frame_ideal_finite, Cert.Fed.frame_reference, Cert.Fed.frame_reference_finite,
    trivial, Cert.Attn.algebraic, trivial, Cert.Gates.algebraic, trivial, Cert.RwkvCols.algebraic, trivial, Cert.ValueCols.algebraic, trivial, Cert.Merged.algebraic,
    trivial, Cert.Roped.algebraic, trivial, Cert.Projected.algebraic, trivial, Cert.Normed.algebraic, trivial, Cert.Conditioned.algebraic,
    trivial, Cert.HeadNorm.algebraic, trivial, Cert.Fed.algebraic⟩

end Cert.Proof

end
